-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.PackStatement Cert.KernelIdeal.S8x128
  ∧ IdealRules.bf16_pair.Statement Cert.KernelIdeal.S1x16x128 Cert.KernelIdeal.S1x8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v23)) (v3 : (c : Dev Cert.KernelIdeal.nD) → Buf (Elt Ideal) ((c.tc : Thread Cert.KernelIdeal.nD Cert.KernelIdeal.τ).loc Cert.KernelIdeal.main_v24)) (v4 : (c : Dev Cert.KernelIdeal.nD) → Buf (Elt Ideal) ((c.tc : Thread Cert.KernelIdeal.nD Cert.KernelIdeal.τ).loc Cert.KernelIdeal.main_v17_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_v24) = v3 c
          ∧ r.2.mem ((c.tc : Thread Cert.KernelIdeal.nD Cert.KernelIdeal.τ).loc Cert.KernelIdeal.main_v17_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v8_3) = v3 c
          ∧ r.2.mem ((c.tc : Thread Cert.ReferenceIdeal.nD Cert.ReferenceIdeal.τ).loc Cert.ReferenceIdeal.main_v8_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x256x3072 : Shape := ⟨3, ![3, 256, 3072]⟩
abbrev S3072 : Shape := ⟨1, ![3072]⟩
abbrev S3x256 : Shape := ⟨2, ![3, 256]⟩
abbrev S2304x96x16 : Shape := ⟨3, ![2304, 96, 16]⟩
abbrev S2304 : Shape := ⟨1, ![2304]⟩
abbrev S768x96x16 : Shape := ⟨3, ![768, 96, 16]⟩
abbrev S768 : Shape := ⟨1, ![768]⟩
abbrev S768x3072 : Shape := ⟨2, ![768, 3072]⟩
abbrev S48 : Shape := ⟨1, ![48]⟩
abbrev S_ : Shape := ⟨0, ![]⟩
abbrev S48x1 : Shape := ⟨2, ![48, 1]⟩
abbrev S48x128 : Shape := ⟨2, ![48, 128]⟩
abbrev S3840 : Shape := ⟨1, ![3840]⟩
abbrev S15x1x256 : Shape := ⟨3, ![15, 1, 256]⟩
abbrev S96x16x2304 : Shape := ⟨3, ![96, 16, 2304]⟩
abbrev S96x16x768 : Shape := ⟨3, ![96, 16, 768]⟩
abbrev S1x3072 : Shape := ⟨2, ![1, 3072]⟩
abbrev S3x2304x256 : Shape := ⟨3, ![3, 2304, 256]⟩
abbrev S3x768x256 : Shape := ⟨3, ![3, 768, 256]⟩
abbrev S96x16x128 : Shape := ⟨3, ![96, 16, 128]⟩
abbrev S1x1x256 : Shape := ⟨3, ![1, 1, 256]⟩
abbrev S3x256x256 : Shape := ⟨3, ![3, 256, 256]⟩
abbrev S3072x256 : Shape := ⟨2, ![3072, 256]⟩
abbrev S768x128 : Shape := ⟨2, ![768, 128]⟩
abbrev S3x48x256 : Shape := ⟨3, ![3, 48, 256]⟩
abbrev S2x256x128 : Shape := ⟨3, ![2, 256, 128]⟩
abbrev S32x3072 : Shape := ⟨2, ![32, 3072]⟩
abbrev S32 : Shape := ⟨1, ![32]⟩
abbrev S32x1 : Shape := ⟨2, ![32, 1]⟩
abbrev S32x128 : Shape := ⟨2, ![32, 128]⟩
abbrev S256x128 : Shape := ⟨2, ![256, 128]⟩
abbrev S128x256 : Shape := ⟨2, ![128, 256]⟩
abbrev S1x256 : Shape := ⟨2, ![1, 256]⟩
abbrev S48x256 : Shape := ⟨2, ![48, 256]⟩
abbrev S1x48x256 : Shape := ⟨3, ![1, 48, 256]⟩
abbrev S2x16x128 : Shape := ⟨3, ![2, 16, 128]⟩
abbrev S8x128 : Shape := ⟨2, ![8, 128]⟩
abbrev S16x128 : Shape := ⟨2, ![16, 128]⟩
abbrev S256x3072 : Shape := ⟨2, ![256, 3072]⟩
abbrev S256x256 : Shape := ⟨2, ![256, 256]⟩
abbrev S1x256x128 : Shape := ⟨3, ![1, 256, 128]⟩
abbrev S1x128 : Shape := ⟨2, ![1, 128]⟩
abbrev S1x8x128 : Shape := ⟨3, ![1, 8, 128]⟩
abbrev S3x128x256 : Shape := ⟨3, ![3, 128, 256]⟩
abbrev S1x16x128 : Shape := ⟨3, ![1, 16, 128]⟩
abbrev S3x24x96x256 : Shape := ⟨4, ![3, 24, 96, 256]⟩
abbrev S3x256x24x96 : Shape := ⟨4, ![3, 256, 24, 96]⟩
abbrev S3x8x96x256 : Shape := ⟨4, ![3, 8, 96, 256]⟩
abbrev S3x256x8x96 : Shape := ⟨4, ![3, 256, 8, 96]⟩

abbrev nBuf : Space → Nat
  | .hbm => 41
  | .vmem => 33
  | .smem => 0
  | _ => 0

abbrev bufTy : (tb : Table) → Fin (tcTables nBuf tb) → BufTy
  | .hbm, ⟨0, _⟩ => ⟨S3x256x3072, .bf16⟩
  | .hbm, ⟨1, _⟩ => ⟨S3072, .f32⟩
  | .hbm, ⟨2, _⟩ => ⟨S3x256, .i32⟩
  | .hbm, ⟨3, _⟩ => ⟨S2304x96x16, .i8⟩
  | .hbm, ⟨4, _⟩ => ⟨S2304, .f32⟩
  | .hbm, ⟨5, _⟩ => ⟨S768x96x16, .i8⟩
  | .hbm, ⟨6, _⟩ => ⟨S768, .f32⟩
  | .hbm, ⟨7, _⟩ => ⟨S768x96x16, .i8⟩
  | .hbm, ⟨8, _⟩ => ⟨S768, .f32⟩
  | .hbm, ⟨9, _⟩ => ⟨S768x3072, .bf16⟩
  | .hbm, ⟨10, _⟩ => ⟨S48, .f32⟩
  | .hbm, ⟨11, _⟩ => ⟨S_, .f32⟩
  | .hbm, ⟨12, _⟩ => ⟨S48, .f32⟩
  | .hbm, ⟨13, _⟩ => ⟨S48, .f32⟩
  | .hbm, ⟨14, _⟩ => ⟨S48, .f32⟩
  | .hbm, ⟨15, _⟩ => ⟨S_, .f32⟩
  | .hbm, ⟨16, _⟩ => ⟨S48, .f32⟩
  | .hbm, ⟨17, _⟩ => ⟨S48, .f32⟩
  | .hbm, ⟨18, _⟩ => ⟨S_, .f32⟩
  | .hbm, ⟨19, _⟩ => ⟨S48, .f32⟩
  | .hbm, ⟨20, _⟩ => ⟨S48, .f32⟩
  | .hbm, ⟨21, _⟩ => ⟨S48x1, .f32⟩
  | .hbm, ⟨22, _⟩ => ⟨S48x128, .f32⟩
  | .hbm, ⟨23, _⟩ => ⟨S3840, .f32⟩
  | .hbm, ⟨24, _⟩ => ⟨S15x1x256, .f32⟩
  | .hbm, ⟨25, _⟩ => ⟨S96x16x2304, .i8⟩
  | .hbm, ⟨26, _⟩ => ⟨S96x16x768, .i8⟩
  | .hbm, ⟨27, _⟩ => ⟨S96x16x768, .i8⟩
  | .hbm, ⟨28, _⟩ => ⟨S1x3072, .f32⟩
  | .hbm, ⟨29, _⟩ => ⟨S3x2304x256, .bf16⟩
  | .hbm, ⟨30, _⟩ => ⟨S3x768x256, .bf16⟩
  | .hbm, ⟨31, _⟩ => ⟨S3x768x256, .bf16⟩
  | .hbm, ⟨32, _⟩ => ⟨S768x3072, .i8⟩
  | .hbm, ⟨33, _⟩ => ⟨S3x256, .f32⟩
  | .hbm, ⟨34, _⟩ => ⟨S3x24x96x256, .bf16⟩
  | .hbm, ⟨35, _⟩ => ⟨S3x256x24x96, .bf16⟩
  | .hbm, ⟨36, _⟩ => ⟨S3x8x96x256, .bf16⟩
  | .hbm, ⟨37, _⟩ => ⟨S3x256x8x96, .bf16⟩
  | .hbm, ⟨38, _⟩ => ⟨S3x8x96x256, .bf16⟩
  | .hbm, ⟨39, _⟩ => ⟨S3x256x8x96, .bf16⟩
  | .hbm, ⟨40, _⟩ => ⟨S3x256x3072, .i8⟩
  | .local _ .vmem, ⟨0, _⟩ => ⟨S768x3072, .bf16⟩
  | .local _ .vmem, ⟨1, _⟩ => ⟨S1x3072, .f32⟩
  | .local _ .vmem, ⟨2, _⟩ => ⟨S3x256, .i32⟩
  | .local _ .vmem, ⟨3, _⟩ => ⟨S48x128, .f32⟩
  | .local _ .vmem, ⟨4, _⟩ => ⟨S96x16x128, .i8⟩
  | .local _ .vmem, ⟨5, _⟩ => ⟨S96x16x128, .i8⟩
  | .local _ .vmem, ⟨6, _⟩ => ⟨S96x16x128, .i8⟩
  | .local _ .vmem, ⟨7, _⟩ => ⟨S96x16x128, .i8⟩
  | .local _ .vmem, ⟨8, _⟩ => ⟨S96x16x128, .i8⟩
  | .local _ .vmem, ⟨9, _⟩ => ⟨S96x16x128, .i8⟩
  | .local _ .vmem, ⟨10, _⟩ => ⟨S96x16x128, .i8⟩
  | .local _ .vmem, ⟨11, _⟩ => ⟨S96x16x128, .i8⟩
  | .local _ .vmem, ⟨12, _⟩ => ⟨S96x16x128, .i8⟩
  | .local _ .vmem, ⟨13, _⟩ => ⟨S96x16x128, .i8⟩
  | .local _ .vmem, ⟨14, _⟩ => ⟨S96x16x128, .i8⟩
  | .local _ .vmem, ⟨15, _⟩ => ⟨S96x16x128, .i8⟩
  | .local _ .vmem, ⟨16, _⟩ => ⟨S1x1x256, .f32⟩
  | .local _ .vmem, ⟨17, _⟩ => ⟨S1x1x256, .f32⟩
  | .local _ .vmem, ⟨18, _⟩ => ⟨S3x256x256, .bf16⟩
  | .local _ .vmem, ⟨19, _⟩ => ⟨S3x256x256, .bf16⟩
  | .local _ .vmem, ⟨20, _⟩ => ⟨S3x256x256, .bf16⟩
  | .local _ .vmem, ⟨21, _⟩ => ⟨S3x256x256, .bf16⟩
  | .local _ .vmem, ⟨22, _⟩ => ⟨S3x256x256, .bf16⟩
  | .local _ .vmem, ⟨23, _⟩ => ⟨S3x256x256, .bf16⟩
  | .local _ .vmem, ⟨24, _⟩ => ⟨S768x3072, .i8⟩
  | .local _ .vmem, ⟨25, _⟩ => ⟨S3x256, .f32⟩
  | .local _ .vmem, ⟨26, _⟩ => ⟨S768x3072, .bf16⟩
  | .local _ .vmem, ⟨27, _⟩ => ⟨S3072x256, .bf16⟩
  | .local _ .vmem, ⟨28, _⟩ => ⟨S768x128, .f32⟩
  | .local _ .vmem, ⟨29, _⟩ => ⟨S3x256, .f32⟩
  | .local _ .vmem, ⟨30, _⟩ => ⟨S3x48x256, .f32⟩
  | .local _ .vmem, ⟨31, _⟩ => ⟨S3x48x256, .f32⟩
  | .local _ .vmem, ⟨32, _⟩ => ⟨S2x256x128, .f32⟩
  | _, _ => ⟨S3x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v17_3 : Ref sig .tc := ⟨.hbm, 32, rfl⟩
abbrev main_v17_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [BitOps F]

abbrev grid0 : Pipeline.Grid := ⟨1, ![15], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c24_i32 : BitVec 32 := 24#32
  let v14 : BitVec 32 := Scalar.addi c0_i32_6 c24_i32
  let c1_i32 : BitVec 32 := 1#32
  ⟨c0_i32_6, v14, c1_i32⟩
def k0_off1 (k0_t1 : Fin k0_t1_loop.trips) : Fin 2 → Nat :=
  let c0_i32_6 : BitVec 32 := 0#32
  let c1_i32 : BitVec 32 := 1#32
  let arg24 : BitVec 32 := Scf.iv c0_i32_6 c1_i32 k0_t1
  let c32_i32 : BitVec 32 := 32#32
  let v81 : BitVec 32 := Scalar.muli arg24 c32_i32
  let v82 : Index := Scalar.indexCast v81
  let c0_51 : Index := 0#32
  ![v82.toNat, 0]
def k0_off2 (k0_t1 : Fin k0_t1_loop.trips) : Fin 2 → Nat :=
  let c0_i32_6 : BitVec 32 := 0#32
  let c1_i32 : BitVec 32 := 1#32
  let arg24 : BitVec 32 := Scf.iv c0_i32_6 c1_i32 k0_t1
  let c32_i32 : BitVec 32 := 32#32
  let v81 : BitVec 32 := Scalar.muli arg24 c32_i32
  let v126 : Index := Scalar.indexCast v81
  let c0_64 : Index := 0#32
  ![v126.toNat, 0]
def k0_cond2 (i : grid0.Coords) : BitVec 1 :=
  let arg0 : BitVec 32 := BitVec.ofNat 32 (i 0).val
  let c9_i32 : BitVec 32 := 9#32
  let v3 : BitVec 1 := Scalar.cmpi .slt arg0 c9_i32
  let v4 : BitVec 32 := Scalar.extui v3
  let c0_i32_1 : BitVec 32 := 0#32
  let v5 : BitVec 1 := Scalar.cmpi .ne v4 c0_i32_1
  v5

@[reducible] def k0_t2_loop : Scf.Loop 32 :=
  let c0_i32_6 : BitVec 32 := 0#32
  let c48_i32 : BitVec 32 := 48#32
  let v14 : BitVec 32 := Scalar.addi c0_i32_6 c48_i32
  let c1_i32 : BitVec 32 := 1#32
  ⟨c0_i32_6, v14, c1_i32⟩
def k0_off3 (k0_t2 : Fin k0_t2_loop.trips) : Fin 3 → Nat :=
  let c2_i32 : BitVec 32 := 2#32
  let c0_i32_6 : BitVec 32 := 0#32
  let c1_i32 : BitVec 32 := 1#32
  let arg24 : BitVec 32 := Scf.iv c0_i32_6 c1_i32 k0_t2
  let v74 : BitVec 32 := Scalar.muli c2_i32 arg24
  let v75 : Index := Scalar.indexCast v74
  let c0_78 : Index := 0#32
  let c0_79 : Index := 0#32
  ![v75.toNat, 0, 0]
def k0_off4 (k0_t2 : Fin k0_t2_loop.trips) (c0_i32_80 : BitVec 32) : Fin 2 → Nat :=
  let c64_i32 : BitVec 32 := 64#32
  let c0_i32_6 : BitVec 32 := 0#32
  let c1_i32 : BitVec 32 := 1#32
  let arg24 : BitVec 32 := Scf.iv c0_i32_6 c1_i32 k0_t2
  let v92 : BitVec 32 := Scalar.muli c64_i32 arg24
  let v93 : BitVec 32 := Scalar.addi v92 c0_i32_80
  let v95 : Index := Scalar.indexCast v93
  let c0_81 : Index := 0#32
  ![v95.toNat, 0]
def k0_off5 (k0_t2 : Fin k0_t2_loop.trips) (c0_i32_80 : BitVec 32) : Fin 2 → Nat :=
  let c64_i32 : BitVec 32 := 64#32
  let c0_i32_6 : BitVec 32 := 0#32
  let c1_i32 : BitVec 32 := 1#32
  let arg24 : BitVec 32 := Scf.iv c0_i32_6 c1_i32 k0_t2
  let v92 : BitVec 32 := Scalar.muli c64_i32 arg24
  let v93 : BitVec 32 := Scalar.addi v92 c0_i32_80
  let c16_i32_82 : BitVec 32 := 16#32
  let v100 : BitVec 32 := Scalar.addi v93 c16_i32_82
  let v101 : Index := Scalar.indexCast v100
  let c0_83 : Index := 0#32
  ![v101.toNat, 0]
@[reducible] def k0_t3_loop : Scf.Loop 32 :=
  let c0_i32_9 : BitVec 32 := 0#32
  let c48_i32_10 : BitVec 32 := 48#32
  let v15 : BitVec 32 := Scalar.addi c0_i32_9 c48_i32_10
  let c1_i32_11 : BitVec 32 := 1#32
  ⟨c0_i32_9, v15, c1_i32_11⟩
def k0_off6 (k0_t3 : Fin k0_t3_loop.trips) : Fin 3 → Nat :=
  let c2_i32 : BitVec 32 := 2#32
  let c0_i32_9 : BitVec 32 := 0#32
  let c1_i32_11 : BitVec 32 := 1#32
  let arg24 : BitVec 32 := Scf.iv c0_i32_9 c1_i32_11 k0_t3
  let v74 : BitVec 32 := Scalar.muli c2_i32 arg24
  let v75 : Index := Scalar.indexCast v74
  let c0_78 : Index := 0#32
  let c0_79 : Index := 0#32
  ![v75.toNat, 0, 0]
def k0_off7 (k0_t3 : Fin k0_t3_loop.trips) (c0_i32_80 : BitVec 32) : Fin 2 → Nat :=
  let c64_i32 : BitVec 32 := 64#32
  let c0_i32_9 : BitVec 32 := 0#32
  let c1_i32_11 : BitVec 32 := 1#32
  let arg24 : BitVec 32 := Scf.iv c0_i32_9 c1_i32_11 k0_t3
  let v92 : BitVec 32 := Scalar.muli c64_i32 arg24
  let v93 : BitVec 32 := Scalar.addi v92 c0_i32_80
  let v95 : Index := Scalar.indexCast v93
  let c128_81 : Index := 128#32
  ![v95.toNat, 128]
def k0_off8 (k0_t3 : Fin k0_t3_loop.trips) (c0_i32_80 : BitVec 32) : Fin 2 → Nat :=
  let c64_i32 : BitVec 32 := 64#32
  let c0_i32_9 : BitVec 32 := 0#32
  let c1_i32_11 : BitVec 32 := 1#32
  let arg24 : BitVec 32 := Scf.iv c0_i32_9 c1_i32_11 k0_t3
  let v92 : BitVec 32 := Scalar.muli c64_i32 arg24
  let v93 : BitVec 32 := Scalar.addi v92 c0_i32_80
  let c16_i32_82 : BitVec 32 := 16#32
  let v100 : BitVec 32 := Scalar.addi v93 c16_i32_82
  let v101 : Index := Scalar.indexCast v100
  let c128_83 : Index := 128#32
  ![v101.toNat, 128]
@[reducible] def k0_t4_loop : Scf.Loop 32 :=
  let c0_i32_27 : BitVec 32 := 0#32
  let c16_i32 : BitVec 32 := 16#32
  let v35 : BitVec 32 := Scalar.addi c0_i32_27 c16_i32
  let c1_i32_28 : BitVec 32 := 1#32
  ⟨c0_i32_27, v35, c1_i32_28⟩
def k0_off9 (k0_t4 : Fin k0_t4_loop.trips) : Fin 3 → Nat :=
  let c0_79 : Index := 0#32
  let c16_i32_78 : BitVec 32 := 16#32
  let c0_i32_27 : BitVec 32 := 0#32
  let c1_i32_28 : BitVec 32 := 1#32
  let arg24 : BitVec 32 := Scf.iv c0_i32_27 c1_i32_28 k0_t4
  let v74 : BitVec 32 := Scalar.muli c16_i32_78 arg24
  let v75 : Index := Scalar.indexCast v74
  let c0_80 : Index := 0#32
  ![0, v75.toNat, 0]
def k0_off10 (k0_t4 : Fin k0_t4_loop.trips) : Fin 3 → Nat :=
  let c0_83 : Index := 0#32
  let c16_i32_81 : BitVec 32 := 16#32
  let c0_i32_27 : BitVec 32 := 0#32
  let c1_i32_28 : BitVec 32 := 1#32
  let arg24 : BitVec 32 := Scf.iv c0_i32_27 c1_i32_28 k0_t4
  let v80 : BitVec 32 := Scalar.muli c16_i32_81 arg24
  let c1_i32_82 : BitVec 32 := 1#32
  let v81 : BitVec 32 := Scalar.addi v80 c1_i32_82
  let v82 : Index := Scalar.indexCast v81
  let c0_84 : Index := 0#32
  ![0, v82.toNat, 0]
def k0_mult1 (i : grid0.Coords) (k0_t4 : Fin k0_t4_loop.trips) : BitVec 32 :=
  let c4_i32 : BitVec 32 := 4#32
  let arg0 : BitVec 32 := BitVec.ofNat 32 (i 0).val
  let v87 : BitVec 32 := Scalar.muli c4_i32 arg0
  let c0_i32_27 : BitVec 32 := 0#32
  let c1_i32_28 : BitVec 32 := 1#32
  let arg24 : BitVec 32 := Scf.iv c0_i32_27 c1_i32_28 k0_t4
  let v88 : BitVec 32 := Scalar.addi v87 arg24
  let c6_i32 : BitVec 32 := 6#32
  let v89 : BitVec 32 := Scalar.remsi v88 c6_i32
  let c8_i32 : BitVec 32 := 8#32
  let v90 : BitVec 32 := Scalar.muli v89 c8_i32
  v90
def k0_off11 (i : grid0.Coords) (k0_t4 : Fin k0_t4_loop.trips) : Fin 3 → Nat :=
  let c0_85 : Index := 0#32
  let c4_i32 : BitVec 32 := 4#32
  let arg0 : BitVec 32 := BitVec.ofNat 32 (i 0).val
  let v87 : BitVec 32 := Scalar.muli c4_i32 arg0
  let c0_i32_27 : BitVec 32 := 0#32
  let c1_i32_28 : BitVec 32 := 1#32
  let arg24 : BitVec 32 := Scf.iv c0_i32_27 c1_i32_28 k0_t4
  let v88 : BitVec 32 := Scalar.addi v87 arg24
  let c6_i32 : BitVec 32 := 6#32
  let v89 : BitVec 32 := Scalar.remsi v88 c6_i32
  let c8_i32 : BitVec 32 := 8#32
  let v90 : BitVec 32 := Scalar.muli v89 c8_i32
  let v91 : BitVec 32 := v90
  let v92 : Index := Scalar.indexCast v91
  let c0_86 : Index := 0#32
  ![0, v92.toNat, 0]
def k0_off12 (k0_t4 : Fin k0_t4_loop.trips) : Fin 3 → Nat :=
  let c0_90 : Index := 0#32
  let c8_i32_89 : BitVec 32 := 8#32
  let c0_i32_27 : BitVec 32 := 0#32
  let c1_i32_28 : BitVec 32 := 1#32
  let arg24 : BitVec 32 := Scf.iv c0_i32_27 c1_i32_28 k0_t4
  let v105 : BitVec 32 := Scalar.muli c8_i32_89 arg24
  let v107 : Index := Scalar.indexCast v105
  let c0_91 : Index := 0#32
  ![0, Nat.mul 2 v107.toNat, 0]
@[reducible] def k0_t5_loop : Scf.Loop 32 :=
  let c0_i32_31 : BitVec 32 := 0#32
  let c16_i32_32 : BitVec 32 := 16#32
  let v37 : BitVec 32 := Scalar.addi c0_i32_31 c16_i32_32
  let c1_i32_33 : BitVec 32 := 1#32
  ⟨c0_i32_31, v37, c1_i32_33⟩
def k0_off13 (k0_t5 : Fin k0_t5_loop.trips) : Fin 3 → Nat :=
  let c1_79 : Index := 1#32
  let c16_i32_78 : BitVec 32 := 16#32
  let c0_i32_31 : BitVec 32 := 0#32
  let c1_i32_33 : BitVec 32 := 1#32
  let arg24 : BitVec 32 := Scf.iv c0_i32_31 c1_i32_33 k0_t5
  let v74 : BitVec 32 := Scalar.muli c16_i32_78 arg24
  let v75 : Index := Scalar.indexCast v74
  let c0_80 : Index := 0#32
  ![1, v75.toNat, 0]
def k0_off14 (k0_t5 : Fin k0_t5_loop.trips) : Fin 3 → Nat :=
  let c1_83 : Index := 1#32
  let c16_i32_81 : BitVec 32 := 16#32
  let c0_i32_31 : BitVec 32 := 0#32
  let c1_i32_33 : BitVec 32 := 1#32
  let arg24 : BitVec 32 := Scf.iv c0_i32_31 c1_i32_33 k0_t5
  let v80 : BitVec 32 := Scalar.muli c16_i32_81 arg24
  let c1_i32_82 : BitVec 32 := 1#32
  let v81 : BitVec 32 := Scalar.addi v80 c1_i32_82
  let v82 : Index := Scalar.indexCast v81
  let c0_84 : Index := 0#32
  ![1, v82.toNat, 0]
def k0_mult2 (i : grid0.Coords) (k0_t5 : Fin k0_t5_loop.trips) : BitVec 32 :=
  let c4_i32 : BitVec 32 := 4#32
  let arg0 : BitVec 32 := BitVec.ofNat 32 (i 0).val
  let v87 : BitVec 32 := Scalar.muli c4_i32 arg0
  let c0_i32_31 : BitVec 32 := 0#32
  let c1_i32_33 : BitVec 32 := 1#32
  let arg24 : BitVec 32 := Scf.iv c0_i32_31 c1_i32_33 k0_t5
  let v88 : BitVec 32 := Scalar.addi v87 arg24
  let c6_i32 : BitVec 32 := 6#32
  let v89 : BitVec 32 := Scalar.remsi v88 c6_i32
  let c8_i32 : BitVec 32 := 8#32
  let v90 : BitVec 32 := Scalar.muli v89 c8_i32
  v90
def k0_off15 (i : grid0.Coords) (k0_t5 : Fin k0_t5_loop.trips) : Fin 3 → Nat :=
  let c0_85 : Index := 0#32
  let c4_i32 : BitVec 32 := 4#32
  let arg0 : BitVec 32 := BitVec.ofNat 32 (i 0).val
  let v87 : BitVec 32 := Scalar.muli c4_i32 arg0
  let c0_i32_31 : BitVec 32 := 0#32
  let c1_i32_33 : BitVec 32 := 1#32
  let arg24 : BitVec 32 := Scf.iv c0_i32_31 c1_i32_33 k0_t5
  let v88 : BitVec 32 := Scalar.addi v87 arg24
  let c6_i32 : BitVec 32 := 6#32
  let v89 : BitVec 32 := Scalar.remsi v88 c6_i32
  let c8_i32 : BitVec 32 := 8#32
  let v90 : BitVec 32 := Scalar.muli v89 c8_i32
  let v91 : BitVec 32 := v90
  let v92 : Index := Scalar.indexCast v91
  let c128_86 : Index := 128#32
  ![0, v92.toNat, 128]
def k0_off16 (k0_t5 : Fin k0_t5_loop.trips) : Fin 3 → Nat :=
  let c0_90 : Index := 0#32
  let c8_i32_89 : BitVec 32 := 8#32
  let c0_i32_31 : BitVec 32 := 0#32
  let c1_i32_33 : BitVec 32 := 1#32
  let arg24 : BitVec 32 := Scf.iv c0_i32_31 c1_i32_33 k0_t5
  let v105 : BitVec 32 := Scalar.muli c8_i32_89 arg24
  let v107 : Index := Scalar.indexCast v105
  let c128_91 : Index := 128#32
  ![0, Nat.mul 2 v107.toNat, 128]
@[reducible] def k0_t6_loop : Scf.Loop 32 :=
  let c0_i32_47 : BitVec 32 := 0#32
  let c16_i32_48 : BitVec 32 := 16#32
  let v53 : BitVec 32 := Scalar.addi c0_i32_47 c16_i32_48
  let c1_i32_49 : BitVec 32 := 1#32
  ⟨c0_i32_47, v53, c1_i32_49⟩
def k0_off17 (k0_t6 : Fin k0_t6_loop.trips) : Fin 3 → Nat :=
  let c0_79 : Index := 0#32
  let c16_i32_78 : BitVec 32 := 16#32
  let c0_i32_47 : BitVec 32 := 0#32
  let c1_i32_49 : BitVec 32 := 1#32
  let arg24 : BitVec 32 := Scf.iv c0_i32_47 c1_i32_49 k0_t6
  let v74 : BitVec 32 := Scalar.muli c16_i32_78 arg24
  let v75 : Index := Scalar.indexCast v74
  let c0_80 : Index := 0#32
  ![0, v75.toNat, 0]
def k0_off18 (k0_t6 : Fin k0_t6_loop.trips) : Fin 3 → Nat :=
  let c0_83 : Index := 0#32
  let c16_i32_81 : BitVec 32 := 16#32
  let c0_i32_47 : BitVec 32 := 0#32
  let c1_i32_49 : BitVec 32 := 1#32
  let arg24 : BitVec 32 := Scf.iv c0_i32_47 c1_i32_49 k0_t6
  let v80 : BitVec 32 := Scalar.muli c16_i32_81 arg24
  let c1_i32_82 : BitVec 32 := 1#32
  let v81 : BitVec 32 := Scalar.addi v80 c1_i32_82
  let v82 : Index := Scalar.indexCast v81
  let c0_84 : Index := 0#32
  ![0, v82.toNat, 0]
def k0_mult3 (i : grid0.Coords) (k0_t6 : Fin k0_t6_loop.trips) : BitVec 32 :=
  let c4_i32 : BitVec 32 := 4#32
  let arg0 : BitVec 32 := BitVec.ofNat 32 (i 0).val
  let v87 : BitVec 32 := Scalar.muli c4_i32 arg0
  let c0_i32_47 : BitVec 32 := 0#32
  let c1_i32_49 : BitVec 32 := 1#32
  let arg24 : BitVec 32 := Scf.iv c0_i32_47 c1_i32_49 k0_t6
  let v88 : BitVec 32 := Scalar.addi v87 arg24
  let c6_i32 : BitVec 32 := 6#32
  let v89 : BitVec 32 := Scalar.remsi v88 c6_i32
  let c8_i32 : BitVec 32 := 8#32
  let v90 : BitVec 32 := Scalar.muli v89 c8_i32
  v90
def k0_off19 (i : grid0.Coords) (k0_t6 : Fin k0_t6_loop.trips) : Fin 3 → Nat :=
  let c1_85 : Index := 1#32
  let c4_i32 : BitVec 32 := 4#32
  let arg0 : BitVec 32 := BitVec.ofNat 32 (i 0).val
  let v87 : BitVec 32 := Scalar.muli c4_i32 arg0
  let c0_i32_47 : BitVec 32 := 0#32
  let c1_i32_49 : BitVec 32 := 1#32
  let arg24 : BitVec 32 := Scf.iv c0_i32_47 c1_i32_49 k0_t6
  let v88 : BitVec 32 := Scalar.addi v87 arg24
  let c6_i32 : BitVec 32 := 6#32
  let v89 : BitVec 32 := Scalar.remsi v88 c6_i32
  let c8_i32 : BitVec 32 := 8#32
  let v90 : BitVec 32 := Scalar.muli v89 c8_i32
  let v91 : BitVec 32 := v90
  let v92 : Index := Scalar.indexCast v91
  let c0_86 : Index := 0#32
  ![1, v92.toNat, 0]
def k0_off20 (k0_t6 : Fin k0_t6_loop.trips) : Fin 3 → Nat :=
  let c1_90 : Index := 1#32
  let c8_i32_89 : BitVec 32 := 8#32
  let c0_i32_47 : BitVec 32 := 0#32
  let c1_i32_49 : BitVec 32 := 1#32
  let arg24 : BitVec 32 := Scf.iv c0_i32_47 c1_i32_49 k0_t6
  let v105 : BitVec 32 := Scalar.muli c8_i32_89 arg24
  let v107 : Index := Scalar.indexCast v105
  let c0_91 : Index := 0#32
  ![1, Nat.mul 2 v107.toNat, 0]
@[reducible] def k0_t7_loop : Scf.Loop 32 :=
  let c0_i32_53 : BitVec 32 := 0#32
  let c16_i32_54 : BitVec 32 := 16#32
  let v55 : BitVec 32 := Scalar.addi c0_i32_53 c16_i32_54
  let c1_i32_55 : BitVec 32 := 1#32
  ⟨c0_i32_53, v55, c1_i32_55⟩
def k0_off21 (k0_t7 : Fin k0_t7_loop.trips) : Fin 3 → Nat :=
  let c1_79 : Index := 1#32
  let c16_i32_78 : BitVec 32 := 16#32
  let c0_i32_53 : BitVec 32 := 0#32
  let c1_i32_55 : BitVec 32 := 1#32
  let arg24 : BitVec 32 := Scf.iv c0_i32_53 c1_i32_55 k0_t7
  let v74 : BitVec 32 := Scalar.muli c16_i32_78 arg24
  let v75 : Index := Scalar.indexCast v74
  let c0_80 : Index := 0#32
  ![1, v75.toNat, 0]
def k0_off22 (k0_t7 : Fin k0_t7_loop.trips) : Fin 3 → Nat :=
  let c1_83 : Index := 1#32
  let c16_i32_81 : BitVec 32 := 16#32
  let c0_i32_53 : BitVec 32 := 0#32
  let c1_i32_55 : BitVec 32 := 1#32
  let arg24 : BitVec 32 := Scf.iv c0_i32_53 c1_i32_55 k0_t7
  let v80 : BitVec 32 := Scalar.muli c16_i32_81 arg24
  let c1_i32_82 : BitVec 32 := 1#32
  let v81 : BitVec 32 := Scalar.addi v80 c1_i32_82
  let v82 : Index := Scalar.indexCast v81
  let c0_84 : Index := 0#32
  ![1, v82.toNat, 0]
def k0_mult4 (i : grid0.Coords) (k0_t7 : Fin k0_t7_loop.trips) : BitVec 32 :=
  let c4_i32 : BitVec 32 := 4#32
  let arg0 : BitVec 32 := BitVec.ofNat 32 (i 0).val
  let v87 : BitVec 32 := Scalar.muli c4_i32 arg0
  let c0_i32_53 : BitVec 32 := 0#32
  let c1_i32_55 : BitVec 32 := 1#32
  let arg24 : BitVec 32 := Scf.iv c0_i32_53 c1_i32_55 k0_t7
  let v88 : BitVec 32 := Scalar.addi v87 arg24
  let c6_i32 : BitVec 32 := 6#32
  let v89 : BitVec 32 := Scalar.remsi v88 c6_i32
  let c8_i32 : BitVec 32 := 8#32
  let v90 : BitVec 32 := Scalar.muli v89 c8_i32
  v90
def k0_off23 (i : grid0.Coords) (k0_t7 : Fin k0_t7_loop.trips) : Fin 3 → Nat :=
  let c1_85 : Index := 1#32
  let c4_i32 : BitVec 32 := 4#32
  let arg0 : BitVec 32 := BitVec.ofNat 32 (i 0).val
  let v87 : BitVec 32 := Scalar.muli c4_i32 arg0
  let c0_i32_53 : BitVec 32 := 0#32
  let c1_i32_55 : BitVec 32 := 1#32
  let arg24 : BitVec 32 := Scf.iv c0_i32_53 c1_i32_55 k0_t7
  let v88 : BitVec 32 := Scalar.addi v87 arg24
  let c6_i32 : BitVec 32 := 6#32
  let v89 : BitVec 32 := Scalar.remsi v88 c6_i32
  let c8_i32 : BitVec 32 := 8#32
  let v90 : BitVec 32 := Scalar.muli v89 c8_i32
  let v91 : BitVec 32 := v90
  let v92 : Index := Scalar.indexCast v91
  let c128_86 : Index := 128#32
  ![1, v92.toNat, 128]
def k0_off24 (k0_t7 : Fin k0_t7_loop.trips) : Fin 3 → Nat :=
  let c1_90 : Index := 1#32
  let c8_i32_89 : BitVec 32 := 8#32
  let c0_i32_53 : BitVec 32 := 0#32
  let c1_i32_55 : BitVec 32 := 1#32
  let arg24 : BitVec 32 := Scf.iv c0_i32_53 c1_i32_55 k0_t7
  let v105 : BitVec 32 := Scalar.muli c8_i32_89 arg24
  let v107 : Index := Scalar.indexCast v105
  let c128_91 : Index := 128#32
  ![1, Nat.mul 2 v107.toNat, 128]
@[reducible] def k0_t8_loop : Scf.Loop 32 :=
  let c0_i32_68 : BitVec 32 := 0#32
  let c16_i32_69 : BitVec 32 := 16#32
  let v71 : BitVec 32 := Scalar.addi c0_i32_68 c16_i32_69
  let c1_i32_70 : BitVec 32 := 1#32
  ⟨c0_i32_68, v71, c1_i32_70⟩
def k0_off25 (k0_t8 : Fin k0_t8_loop.trips) : Fin 3 → Nat :=
  let c0_79 : Index := 0#32
  let c16_i32_78 : BitVec 32 := 16#32
  let c0_i32_68 : BitVec 32 := 0#32
  let c1_i32_70 : BitVec 32 := 1#32
  let arg24 : BitVec 32 := Scf.iv c0_i32_68 c1_i32_70 k0_t8
  let v74 : BitVec 32 := Scalar.muli c16_i32_78 arg24
  let v75 : Index := Scalar.indexCast v74
  let c0_80 : Index := 0#32
  ![0, v75.toNat, 0]
def k0_off26 (k0_t8 : Fin k0_t8_loop.trips) : Fin 3 → Nat :=
  let c0_83 : Index := 0#32
  let c16_i32_81 : BitVec 32 := 16#32
  let c0_i32_68 : BitVec 32 := 0#32
  let c1_i32_70 : BitVec 32 := 1#32
  let arg24 : BitVec 32 := Scf.iv c0_i32_68 c1_i32_70 k0_t8
  let v80 : BitVec 32 := Scalar.muli c16_i32_81 arg24
  let c1_i32_82 : BitVec 32 := 1#32
  let v81 : BitVec 32 := Scalar.addi v80 c1_i32_82
  let v82 : Index := Scalar.indexCast v81
  let c0_84 : Index := 0#32
  ![0, v82.toNat, 0]
def k0_mult5 (i : grid0.Coords) (k0_t8 : Fin k0_t8_loop.trips) : BitVec 32 :=
  let c4_i32 : BitVec 32 := 4#32
  let arg0 : BitVec 32 := BitVec.ofNat 32 (i 0).val
  let v87 : BitVec 32 := Scalar.muli c4_i32 arg0
  let c0_i32_68 : BitVec 32 := 0#32
  let c1_i32_70 : BitVec 32 := 1#32
  let arg24 : BitVec 32 := Scf.iv c0_i32_68 c1_i32_70 k0_t8
  let v88 : BitVec 32 := Scalar.addi v87 arg24
  let c6_i32 : BitVec 32 := 6#32
  let v89 : BitVec 32 := Scalar.remsi v88 c6_i32
  let c8_i32 : BitVec 32 := 8#32
  let v90 : BitVec 32 := Scalar.muli v89 c8_i32
  v90
def k0_off27 (i : grid0.Coords) (k0_t8 : Fin k0_t8_loop.trips) : Fin 3 → Nat :=
  let c2_85 : Index := 2#32
  let c4_i32 : BitVec 32 := 4#32
  let arg0 : BitVec 32 := BitVec.ofNat 32 (i 0).val
  let v87 : BitVec 32 := Scalar.muli c4_i32 arg0
  let c0_i32_68 : BitVec 32 := 0#32
  let c1_i32_70 : BitVec 32 := 1#32
  let arg24 : BitVec 32 := Scf.iv c0_i32_68 c1_i32_70 k0_t8
  let v88 : BitVec 32 := Scalar.addi v87 arg24
  let c6_i32 : BitVec 32 := 6#32
  let v89 : BitVec 32 := Scalar.remsi v88 c6_i32
  let c8_i32 : BitVec 32 := 8#32
  let v90 : BitVec 32 := Scalar.muli v89 c8_i32
  let v91 : BitVec 32 := v90
  let v92 : Index := Scalar.indexCast v91
  let c0_86 : Index := 0#32
  ![2, v92.toNat, 0]
def k0_off28 (k0_t8 : Fin k0_t8_loop.trips) : Fin 3 → Nat :=
  let c2_90 : Index := 2#32
  let c8_i32_89 : BitVec 32 := 8#32
  let c0_i32_68 : BitVec 32 := 0#32
  let c1_i32_70 : BitVec 32 := 1#32
  let arg24 : BitVec 32 := Scf.iv c0_i32_68 c1_i32_70 k0_t8
  let v105 : BitVec 32 := Scalar.muli c8_i32_89 arg24
  let v107 : Index := Scalar.indexCast v105
  let c0_91 : Index := 0#32
  ![2, Nat.mul 2 v107.toNat, 0]
@[reducible] def k0_t9_loop : Scf.Loop 32 :=
  let c0_i32_74 : BitVec 32 := 0#32
  let c16_i32_75 : BitVec 32 := 16#32
  let v73 : BitVec 32 := Scalar.addi c0_i32_74 c16_i32_75
  let c1_i32_76 : BitVec 32 := 1#32
  ⟨c0_i32_74, v73, c1_i32_76⟩
def k0_off29 (k0_t9 : Fin k0_t9_loop.trips) : Fin 3 → Nat :=
  let c1_79 : Index := 1#32
  let c16_i32_78 : BitVec 32 := 16#32
  let c0_i32_74 : BitVec 32 := 0#32
  let c1_i32_76 : BitVec 32 := 1#32
  let arg24 : BitVec 32 := Scf.iv c0_i32_74 c1_i32_76 k0_t9
  let v74 : BitVec 32 := Scalar.muli c16_i32_78 arg24
  let v75 : Index := Scalar.indexCast v74
  let c0_80 : Index := 0#32
  ![1, v75.toNat, 0]
def k0_off30 (k0_t9 : Fin k0_t9_loop.trips) : Fin 3 → Nat :=
  let c1_83 : Index := 1#32
  let c16_i32_81 : BitVec 32 := 16#32
  let c0_i32_74 : BitVec 32 := 0#32
  let c1_i32_76 : BitVec 32 := 1#32
  let arg24 : BitVec 32 := Scf.iv c0_i32_74 c1_i32_76 k0_t9
  let v80 : BitVec 32 := Scalar.muli c16_i32_81 arg24
  let c1_i32_82 : BitVec 32 := 1#32
  let v81 : BitVec 32 := Scalar.addi v80 c1_i32_82
  let v82 : Index := Scalar.indexCast v81
  let c0_84 : Index := 0#32
  ![1, v82.toNat, 0]
def k0_mult6 (i : grid0.Coords) (k0_t9 : Fin k0_t9_loop.trips) : BitVec 32 :=
  let c4_i32 : BitVec 32 := 4#32
  let arg0 : BitVec 32 := BitVec.ofNat 32 (i 0).val
  let v87 : BitVec 32 := Scalar.muli c4_i32 arg0
  let c0_i32_74 : BitVec 32 := 0#32
  let c1_i32_76 : BitVec 32 := 1#32
  let arg24 : BitVec 32 := Scf.iv c0_i32_74 c1_i32_76 k0_t9
  let v88 : BitVec 32 := Scalar.addi v87 arg24
  let c6_i32 : BitVec 32 := 6#32
  let v89 : BitVec 32 := Scalar.remsi v88 c6_i32
  let c8_i32 : BitVec 32 := 8#32
  let v90 : BitVec 32 := Scalar.muli v89 c8_i32
  v90
def k0_off31 (i : grid0.Coords) (k0_t9 : Fin k0_t9_loop.trips) : Fin 3 → Nat :=
  let c2_85 : Index := 2#32
  let c4_i32 : BitVec 32 := 4#32
  let arg0 : BitVec 32 := BitVec.ofNat 32 (i 0).val
  let v87 : BitVec 32 := Scalar.muli c4_i32 arg0
  let c0_i32_74 : BitVec 32 := 0#32
  let c1_i32_76 : BitVec 32 := 1#32
  let arg24 : BitVec 32 := Scf.iv c0_i32_74 c1_i32_76 k0_t9
  let v88 : BitVec 32 := Scalar.addi v87 arg24
  let c6_i32 : BitVec 32 := 6#32
  let v89 : BitVec 32 := Scalar.remsi v88 c6_i32
  let c8_i32 : BitVec 32 := 8#32
  let v90 : BitVec 32 := Scalar.muli v89 c8_i32
  let v91 : BitVec 32 := v90
  let v92 : Index := Scalar.indexCast v91
  let c128_86 : Index := 128#32
  ![2, v92.toNat, 128]
def k0_off32 (k0_t9 : Fin k0_t9_loop.trips) : Fin 3 → Nat :=
  let c2_90 : Index := 2#32
  let c8_i32_89 : BitVec 32 := 8#32
  let c0_i32_74 : BitVec 32 := 0#32
  let c1_i32_76 : BitVec 32 := 1#32
  let arg24 : BitVec 32 := Scf.iv c0_i32_74 c1_i32_76 k0_t9
  let v105 : BitVec 32 := Scalar.muli c8_i32_89 arg24
  let v107 : Index := Scalar.indexCast v105
  let c128_91 : Index := 128#32
  ![2, Nat.mul 2 v107.toNat, 128]
def k0_cond3 (i : grid0.Coords) : BitVec 1 :=
  let arg0 : BitVec 32 := BitVec.ofNat 32 (i 0).val
  let c9_i32_2 : BitVec 32 := 9#32
  let v6 : BitVec 1 := Scalar.cmpi .sge arg0 c9_i32_2
  let c12_i32 : BitVec 32 := 12#32
  let v7 : BitVec 1 := Scalar.cmpi .slt arg0 c12_i32
  let v8 : BitVec 1 := Scalar.andi v6 v7
  let v9 : BitVec 32 := Scalar.extui v8
  let c0_i32_3 : BitVec 32 := 0#32
  let v10 : BitVec 1 := Scalar.cmpi .ne v9 c0_i32_3
  v10

@[reducible] def k0_t10_loop : Scf.Loop 32 :=
  let c0_i32_7 : BitVec 32 := 0#32
  let c48_i32 : BitVec 32 := 48#32
  let v15 : BitVec 32 := Scalar.addi c0_i32_7 c48_i32
  let c1_i32 : BitVec 32 := 1#32
  ⟨c0_i32_7, v15, c1_i32⟩
def k0_off33 (k0_t10 : Fin k0_t10_loop.trips) : Fin 3 → Nat :=
  let c2_i32 : BitVec 32 := 2#32
  let c0_i32_7 : BitVec 32 := 0#32
  let c1_i32 : BitVec 32 := 1#32
  let arg24 : BitVec 32 := Scf.iv c0_i32_7 c1_i32 k0_t10
  let v75 : BitVec 32 := Scalar.muli c2_i32 arg24
  let v76 : Index := Scalar.indexCast v75
  let c0_79 : Index := 0#32
  let c0_80 : Index := 0#32
  ![v76.toNat, 0, 0]
def k0_off34 (k0_t10 : Fin k0_t10_loop.trips) (c0_i32_81 : BitVec 32) : Fin 2 → Nat :=
  let c64_i32 : BitVec 32 := 64#32
  let c0_i32_7 : BitVec 32 := 0#32
  let c1_i32 : BitVec 32 := 1#32
  let arg24 : BitVec 32 := Scf.iv c0_i32_7 c1_i32 k0_t10
  let v93 : BitVec 32 := Scalar.muli c64_i32 arg24
  let v94 : BitVec 32 := Scalar.addi v93 c0_i32_81
  let v96 : Index := Scalar.indexCast v94
  let c0_82 : Index := 0#32
  ![v96.toNat, 0]
def k0_off35 (k0_t10 : Fin k0_t10_loop.trips) (c0_i32_81 : BitVec 32) : Fin 2 → Nat :=
  let c64_i32 : BitVec 32 := 64#32
  let c0_i32_7 : BitVec 32 := 0#32
  let c1_i32 : BitVec 32 := 1#32
  let arg24 : BitVec 32 := Scf.iv c0_i32_7 c1_i32 k0_t10
  let v93 : BitVec 32 := Scalar.muli c64_i32 arg24
  let v94 : BitVec 32 := Scalar.addi v93 c0_i32_81
  let c16_i32_83 : BitVec 32 := 16#32
  let v101 : BitVec 32 := Scalar.addi v94 c16_i32_83
  let v102 : Index := Scalar.indexCast v101
  let c0_84 : Index := 0#32
  ![v102.toNat, 0]
@[reducible] def k0_t11_loop : Scf.Loop 32 :=
  let c0_i32_10 : BitVec 32 := 0#32
  let c48_i32_11 : BitVec 32 := 48#32
  let v16 : BitVec 32 := Scalar.addi c0_i32_10 c48_i32_11
  let c1_i32_12 : BitVec 32 := 1#32
  ⟨c0_i32_10, v16, c1_i32_12⟩
def k0_off36 (k0_t11 : Fin k0_t11_loop.trips) : Fin 3 → Nat :=
  let c2_i32 : BitVec 32 := 2#32
  let c0_i32_10 : BitVec 32 := 0#32
  let c1_i32_12 : BitVec 32 := 1#32
  let arg24 : BitVec 32 := Scf.iv c0_i32_10 c1_i32_12 k0_t11
  let v75 : BitVec 32 := Scalar.muli c2_i32 arg24
  let v76 : Index := Scalar.indexCast v75
  let c0_79 : Index := 0#32
  let c0_80 : Index := 0#32
  ![v76.toNat, 0, 0]
def k0_off37 (k0_t11 : Fin k0_t11_loop.trips) (c0_i32_81 : BitVec 32) : Fin 2 → Nat :=
  let c64_i32 : BitVec 32 := 64#32
  let c0_i32_10 : BitVec 32 := 0#32
  let c1_i32_12 : BitVec 32 := 1#32
  let arg24 : BitVec 32 := Scf.iv c0_i32_10 c1_i32_12 k0_t11
  let v93 : BitVec 32 := Scalar.muli c64_i32 arg24
  let v94 : BitVec 32 := Scalar.addi v93 c0_i32_81
  let v96 : Index := Scalar.indexCast v94
  let c128_82 : Index := 128#32
  ![v96.toNat, 128]
def k0_off38 (k0_t11 : Fin k0_t11_loop.trips) (c0_i32_81 : BitVec 32) : Fin 2 → Nat :=
  let c64_i32 : BitVec 32 := 64#32
  let c0_i32_10 : BitVec 32 := 0#32
  let c1_i32_12 : BitVec 32 := 1#32
  let arg24 : BitVec 32 := Scf.iv c0_i32_10 c1_i32_12 k0_t11
  let v93 : BitVec 32 := Scalar.muli c64_i32 arg24
  let v94 : BitVec 32 := Scalar.addi v93 c0_i32_81
  let c16_i32_83 : BitVec 32 := 16#32
  let v101 : BitVec 32 := Scalar.addi v94 c16_i32_83
  let v102 : Index := Scalar.indexCast v101
  let c128_84 : Index := 128#32
  ![v102.toNat, 128]
@[reducible] def k0_t12_loop : Scf.Loop 32 :=
  let c0_i32_28 : BitVec 32 := 0#32
  let c16_i32 : BitVec 32 := 16#32
  let v36 : BitVec 32 := Scalar.addi c0_i32_28 c16_i32
  let c1_i32_29 : BitVec 32 := 1#32
  ⟨c0_i32_28, v36, c1_i32_29⟩
def k0_off39 (k0_t12 : Fin k0_t12_loop.trips) : Fin 3 → Nat :=
  let c0_80 : Index := 0#32
  let c16_i32_79 : BitVec 32 := 16#32
  let c0_i32_28 : BitVec 32 := 0#32
  let c1_i32_29 : BitVec 32 := 1#32
  let arg24 : BitVec 32 := Scf.iv c0_i32_28 c1_i32_29 k0_t12
  let v75 : BitVec 32 := Scalar.muli c16_i32_79 arg24
  let v76 : Index := Scalar.indexCast v75
  let c0_81 : Index := 0#32
  ![0, v76.toNat, 0]
def k0_off40 (k0_t12 : Fin k0_t12_loop.trips) : Fin 3 → Nat :=
  let c0_84 : Index := 0#32
  let c16_i32_82 : BitVec 32 := 16#32
  let c0_i32_28 : BitVec 32 := 0#32
  let c1_i32_29 : BitVec 32 := 1#32
  let arg24 : BitVec 32 := Scf.iv c0_i32_28 c1_i32_29 k0_t12
  let v81 : BitVec 32 := Scalar.muli c16_i32_82 arg24
  let c1_i32_83 : BitVec 32 := 1#32
  let v82 : BitVec 32 := Scalar.addi v81 c1_i32_83
  let v83 : Index := Scalar.indexCast v82
  let c0_85 : Index := 0#32
  ![0, v83.toNat, 0]
def k0_mult7 (i : grid0.Coords) (k0_t12 : Fin k0_t12_loop.trips) : BitVec 32 :=
  let c4_i32 : BitVec 32 := 4#32
  let arg0 : BitVec 32 := BitVec.ofNat 32 (i 0).val
  let c9_i32_6 : BitVec 32 := 9#32
  let v14 : BitVec 32 := Scalar.subi arg0 c9_i32_6
  let v88 : BitVec 32 := Scalar.muli c4_i32 v14
  let c0_i32_28 : BitVec 32 := 0#32
  let c1_i32_29 : BitVec 32 := 1#32
  let arg24 : BitVec 32 := Scf.iv c0_i32_28 c1_i32_29 k0_t12
  let v89 : BitVec 32 := Scalar.addi v88 arg24
  let c6_i32 : BitVec 32 := 6#32
  let v90 : BitVec 32 := Scalar.remsi v89 c6_i32
  let c8_i32 : BitVec 32 := 8#32
  let v91 : BitVec 32 := Scalar.muli v90 c8_i32
  v91
def k0_off41 (i : grid0.Coords) (k0_t12 : Fin k0_t12_loop.trips) : Fin 3 → Nat :=
  let c0_86 : Index := 0#32
  let c4_i32 : BitVec 32 := 4#32
  let arg0 : BitVec 32 := BitVec.ofNat 32 (i 0).val
  let c9_i32_6 : BitVec 32 := 9#32
  let v14 : BitVec 32 := Scalar.subi arg0 c9_i32_6
  let v88 : BitVec 32 := Scalar.muli c4_i32 v14
  let c0_i32_28 : BitVec 32 := 0#32
  let c1_i32_29 : BitVec 32 := 1#32
  let arg24 : BitVec 32 := Scf.iv c0_i32_28 c1_i32_29 k0_t12
  let v89 : BitVec 32 := Scalar.addi v88 arg24
  let c6_i32 : BitVec 32 := 6#32
  let v90 : BitVec 32 := Scalar.remsi v89 c6_i32
  let c8_i32 : BitVec 32 := 8#32
  let v91 : BitVec 32 := Scalar.muli v90 c8_i32
  let v92 : BitVec 32 := v91
  let v93 : Index := Scalar.indexCast v92
  let c0_87 : Index := 0#32
  ![0, v93.toNat, 0]
def k0_off42 (k0_t12 : Fin k0_t12_loop.trips) : Fin 3 → Nat :=
  let c0_91 : Index := 0#32
  let c8_i32_90 : BitVec 32 := 8#32
  let c0_i32_28 : BitVec 32 := 0#32
  let c1_i32_29 : BitVec 32 := 1#32
  let arg24 : BitVec 32 := Scf.iv c0_i32_28 c1_i32_29 k0_t12
  let v106 : BitVec 32 := Scalar.muli c8_i32_90 arg24
  let v108 : Index := Scalar.indexCast v106
  let c0_92 : Index := 0#32
  ![0, Nat.mul 2 v108.toNat, 0]
@[reducible] def k0_t13_loop : Scf.Loop 32 :=
  let c0_i32_32 : BitVec 32 := 0#32
  let c16_i32_33 : BitVec 32 := 16#32
  let v38 : BitVec 32 := Scalar.addi c0_i32_32 c16_i32_33
  let c1_i32_34 : BitVec 32 := 1#32
  ⟨c0_i32_32, v38, c1_i32_34⟩
def k0_off43 (k0_t13 : Fin k0_t13_loop.trips) : Fin 3 → Nat :=
  let c1_80 : Index := 1#32
  let c16_i32_79 : BitVec 32 := 16#32
  let c0_i32_32 : BitVec 32 := 0#32
  let c1_i32_34 : BitVec 32 := 1#32
  let arg24 : BitVec 32 := Scf.iv c0_i32_32 c1_i32_34 k0_t13
  let v75 : BitVec 32 := Scalar.muli c16_i32_79 arg24
  let v76 : Index := Scalar.indexCast v75
  let c0_81 : Index := 0#32
  ![1, v76.toNat, 0]
def k0_off44 (k0_t13 : Fin k0_t13_loop.trips) : Fin 3 → Nat :=
  let c1_84 : Index := 1#32
  let c16_i32_82 : BitVec 32 := 16#32
  let c0_i32_32 : BitVec 32 := 0#32
  let c1_i32_34 : BitVec 32 := 1#32
  let arg24 : BitVec 32 := Scf.iv c0_i32_32 c1_i32_34 k0_t13
  let v81 : BitVec 32 := Scalar.muli c16_i32_82 arg24
  let c1_i32_83 : BitVec 32 := 1#32
  let v82 : BitVec 32 := Scalar.addi v81 c1_i32_83
  let v83 : Index := Scalar.indexCast v82
  let c0_85 : Index := 0#32
  ![1, v83.toNat, 0]
def k0_mult8 (i : grid0.Coords) (k0_t13 : Fin k0_t13_loop.trips) : BitVec 32 :=
  let c4_i32 : BitVec 32 := 4#32
  let arg0 : BitVec 32 := BitVec.ofNat 32 (i 0).val
  let c9_i32_6 : BitVec 32 := 9#32
  let v14 : BitVec 32 := Scalar.subi arg0 c9_i32_6
  let v88 : BitVec 32 := Scalar.muli c4_i32 v14
  let c0_i32_32 : BitVec 32 := 0#32
  let c1_i32_34 : BitVec 32 := 1#32
  let arg24 : BitVec 32 := Scf.iv c0_i32_32 c1_i32_34 k0_t13
  let v89 : BitVec 32 := Scalar.addi v88 arg24
  let c6_i32 : BitVec 32 := 6#32
  let v90 : BitVec 32 := Scalar.remsi v89 c6_i32
  let c8_i32 : BitVec 32 := 8#32
  let v91 : BitVec 32 := Scalar.muli v90 c8_i32
  v91
def k0_off45 (i : grid0.Coords) (k0_t13 : Fin k0_t13_loop.trips) : Fin 3 → Nat :=
  let c0_86 : Index := 0#32
  let c4_i32 : BitVec 32 := 4#32
  let arg0 : BitVec 32 := BitVec.ofNat 32 (i 0).val
  let c9_i32_6 : BitVec 32 := 9#32
  let v14 : BitVec 32 := Scalar.subi arg0 c9_i32_6
  let v88 : BitVec 32 := Scalar.muli c4_i32 v14
  let c0_i32_32 : BitVec 32 := 0#32
  let c1_i32_34 : BitVec 32 := 1#32
  let arg24 : BitVec 32 := Scf.iv c0_i32_32 c1_i32_34 k0_t13
  let v89 : BitVec 32 := Scalar.addi v88 arg24
  let c6_i32 : BitVec 32 := 6#32
  let v90 : BitVec 32 := Scalar.remsi v89 c6_i32
  let c8_i32 : BitVec 32 := 8#32
  let v91 : BitVec 32 := Scalar.muli v90 c8_i32
  let v92 : BitVec 32 := v91
  let v93 : Index := Scalar.indexCast v92
  let c128_87 : Index := 128#32
  ![0, v93.toNat, 128]
def k0_off46 (k0_t13 : Fin k0_t13_loop.trips) : Fin 3 → Nat :=
  let c0_91 : Index := 0#32
  let c8_i32_90 : BitVec 32 := 8#32
  let c0_i32_32 : BitVec 32 := 0#32
  let c1_i32_34 : BitVec 32 := 1#32
  let arg24 : BitVec 32 := Scf.iv c0_i32_32 c1_i32_34 k0_t13
  let v106 : BitVec 32 := Scalar.muli c8_i32_90 arg24
  let v108 : Index := Scalar.indexCast v106
  let c128_92 : Index := 128#32
  ![0, Nat.mul 2 v108.toNat, 128]
@[reducible] def k0_t14_loop : Scf.Loop 32 :=
  let c0_i32_48 : BitVec 32 := 0#32
  let c16_i32_49 : BitVec 32 := 16#32
  let v54 : BitVec 32 := Scalar.addi c0_i32_48 c16_i32_49
  let c1_i32_50 : BitVec 32 := 1#32
  ⟨c0_i32_48, v54, c1_i32_50⟩
def k0_off47 (k0_t14 : Fin k0_t14_loop.trips) : Fin 3 → Nat :=
  let c0_80 : Index := 0#32
  let c16_i32_79 : BitVec 32 := 16#32
  let c0_i32_48 : BitVec 32 := 0#32
  let c1_i32_50 : BitVec 32 := 1#32
  let arg24 : BitVec 32 := Scf.iv c0_i32_48 c1_i32_50 k0_t14
  let v75 : BitVec 32 := Scalar.muli c16_i32_79 arg24
  let v76 : Index := Scalar.indexCast v75
  let c0_81 : Index := 0#32
  ![0, v76.toNat, 0]
def k0_off48 (k0_t14 : Fin k0_t14_loop.trips) : Fin 3 → Nat :=
  let c0_84 : Index := 0#32
  let c16_i32_82 : BitVec 32 := 16#32
  let c0_i32_48 : BitVec 32 := 0#32
  let c1_i32_50 : BitVec 32 := 1#32
  let arg24 : BitVec 32 := Scf.iv c0_i32_48 c1_i32_50 k0_t14
  let v81 : BitVec 32 := Scalar.muli c16_i32_82 arg24
  let c1_i32_83 : BitVec 32 := 1#32
  let v82 : BitVec 32 := Scalar.addi v81 c1_i32_83
  let v83 : Index := Scalar.indexCast v82
  let c0_85 : Index := 0#32
  ![0, v83.toNat, 0]
def k0_mult9 (i : grid0.Coords) (k0_t14 : Fin k0_t14_loop.trips) : BitVec 32 :=
  let c4_i32 : BitVec 32 := 4#32
  let arg0 : BitVec 32 := BitVec.ofNat 32 (i 0).val
  let c9_i32_6 : BitVec 32 := 9#32
  let v14 : BitVec 32 := Scalar.subi arg0 c9_i32_6
  let v88 : BitVec 32 := Scalar.muli c4_i32 v14
  let c0_i32_48 : BitVec 32 := 0#32
  let c1_i32_50 : BitVec 32 := 1#32
  let arg24 : BitVec 32 := Scf.iv c0_i32_48 c1_i32_50 k0_t14
  let v89 : BitVec 32 := Scalar.addi v88 arg24
  let c6_i32 : BitVec 32 := 6#32
  let v90 : BitVec 32 := Scalar.remsi v89 c6_i32
  let c8_i32 : BitVec 32 := 8#32
  let v91 : BitVec 32 := Scalar.muli v90 c8_i32
  v91
def k0_off49 (i : grid0.Coords) (k0_t14 : Fin k0_t14_loop.trips) : Fin 3 → Nat :=
  let c1_86 : Index := 1#32
  let c4_i32 : BitVec 32 := 4#32
  let arg0 : BitVec 32 := BitVec.ofNat 32 (i 0).val
  let c9_i32_6 : BitVec 32 := 9#32
  let v14 : BitVec 32 := Scalar.subi arg0 c9_i32_6
  let v88 : BitVec 32 := Scalar.muli c4_i32 v14
  let c0_i32_48 : BitVec 32 := 0#32
  let c1_i32_50 : BitVec 32 := 1#32
  let arg24 : BitVec 32 := Scf.iv c0_i32_48 c1_i32_50 k0_t14
  let v89 : BitVec 32 := Scalar.addi v88 arg24
  let c6_i32 : BitVec 32 := 6#32
  let v90 : BitVec 32 := Scalar.remsi v89 c6_i32
  let c8_i32 : BitVec 32 := 8#32
  let v91 : BitVec 32 := Scalar.muli v90 c8_i32
  let v92 : BitVec 32 := v91
  let v93 : Index := Scalar.indexCast v92
  let c0_87 : Index := 0#32
  ![1, v93.toNat, 0]
def k0_off50 (k0_t14 : Fin k0_t14_loop.trips) : Fin 3 → Nat :=
  let c1_91 : Index := 1#32
  let c8_i32_90 : BitVec 32 := 8#32
  let c0_i32_48 : BitVec 32 := 0#32
  let c1_i32_50 : BitVec 32 := 1#32
  let arg24 : BitVec 32 := Scf.iv c0_i32_48 c1_i32_50 k0_t14
  let v106 : BitVec 32 := Scalar.muli c8_i32_90 arg24
  let v108 : Index := Scalar.indexCast v106
  let c0_92 : Index := 0#32
  ![1, Nat.mul 2 v108.toNat, 0]
@[reducible] def k0_t15_loop : Scf.Loop 32 :=
  let c0_i32_54 : BitVec 32 := 0#32
  let c16_i32_55 : BitVec 32 := 16#32
  let v56 : BitVec 32 := Scalar.addi c0_i32_54 c16_i32_55
  let c1_i32_56 : BitVec 32 := 1#32
  ⟨c0_i32_54, v56, c1_i32_56⟩
def k0_off51 (k0_t15 : Fin k0_t15_loop.trips) : Fin 3 → Nat :=
  let c1_80 : Index := 1#32
  let c16_i32_79 : BitVec 32 := 16#32
  let c0_i32_54 : BitVec 32 := 0#32
  let c1_i32_56 : BitVec 32 := 1#32
  let arg24 : BitVec 32 := Scf.iv c0_i32_54 c1_i32_56 k0_t15
  let v75 : BitVec 32 := Scalar.muli c16_i32_79 arg24
  let v76 : Index := Scalar.indexCast v75
  let c0_81 : Index := 0#32
  ![1, v76.toNat, 0]
def k0_off52 (k0_t15 : Fin k0_t15_loop.trips) : Fin 3 → Nat :=
  let c1_84 : Index := 1#32
  let c16_i32_82 : BitVec 32 := 16#32
  let c0_i32_54 : BitVec 32 := 0#32
  let c1_i32_56 : BitVec 32 := 1#32
  let arg24 : BitVec 32 := Scf.iv c0_i32_54 c1_i32_56 k0_t15
  let v81 : BitVec 32 := Scalar.muli c16_i32_82 arg24
  let c1_i32_83 : BitVec 32 := 1#32
  let v82 : BitVec 32 := Scalar.addi v81 c1_i32_83
  let v83 : Index := Scalar.indexCast v82
  let c0_85 : Index := 0#32
  ![1, v83.toNat, 0]
def k0_mult10 (i : grid0.Coords) (k0_t15 : Fin k0_t15_loop.trips) : BitVec 32 :=
  let c4_i32 : BitVec 32 := 4#32
  let arg0 : BitVec 32 := BitVec.ofNat 32 (i 0).val
  let c9_i32_6 : BitVec 32 := 9#32
  let v14 : BitVec 32 := Scalar.subi arg0 c9_i32_6
  let v88 : BitVec 32 := Scalar.muli c4_i32 v14
  let c0_i32_54 : BitVec 32 := 0#32
  let c1_i32_56 : BitVec 32 := 1#32
  let arg24 : BitVec 32 := Scf.iv c0_i32_54 c1_i32_56 k0_t15
  let v89 : BitVec 32 := Scalar.addi v88 arg24
  let c6_i32 : BitVec 32 := 6#32
  let v90 : BitVec 32 := Scalar.remsi v89 c6_i32
  let c8_i32 : BitVec 32 := 8#32
  let v91 : BitVec 32 := Scalar.muli v90 c8_i32
  v91
def k0_off53 (i : grid0.Coords) (k0_t15 : Fin k0_t15_loop.trips) : Fin 3 → Nat :=
  let c1_86 : Index := 1#32
  let c4_i32 : BitVec 32 := 4#32
  let arg0 : BitVec 32 := BitVec.ofNat 32 (i 0).val
  let c9_i32_6 : BitVec 32 := 9#32
  let v14 : BitVec 32 := Scalar.subi arg0 c9_i32_6
  let v88 : BitVec 32 := Scalar.muli c4_i32 v14
  let c0_i32_54 : BitVec 32 := 0#32
  let c1_i32_56 : BitVec 32 := 1#32
  let arg24 : BitVec 32 := Scf.iv c0_i32_54 c1_i32_56 k0_t15
  let v89 : BitVec 32 := Scalar.addi v88 arg24
  let c6_i32 : BitVec 32 := 6#32
  let v90 : BitVec 32 := Scalar.remsi v89 c6_i32
  let c8_i32 : BitVec 32 := 8#32
  let v91 : BitVec 32 := Scalar.muli v90 c8_i32
  let v92 : BitVec 32 := v91
  let v93 : Index := Scalar.indexCast v92
  let c128_87 : Index := 128#32
  ![1, v93.toNat, 128]
def k0_off54 (k0_t15 : Fin k0_t15_loop.trips) : Fin 3 → Nat :=
  let c1_91 : Index := 1#32
  let c8_i32_90 : BitVec 32 := 8#32
  let c0_i32_54 : BitVec 32 := 0#32
  let c1_i32_56 : BitVec 32 := 1#32
  let arg24 : BitVec 32 := Scf.iv c0_i32_54 c1_i32_56 k0_t15
  let v106 : BitVec 32 := Scalar.muli c8_i32_90 arg24
  let v108 : Index := Scalar.indexCast v106
  let c128_92 : Index := 128#32
  ![1, Nat.mul 2 v108.toNat, 128]
@[reducible] def k0_t16_loop : Scf.Loop 32 :=
  let c0_i32_69 : BitVec 32 := 0#32
  let c16_i32_70 : BitVec 32 := 16#32
  let v72 : BitVec 32 := Scalar.addi c0_i32_69 c16_i32_70
  let c1_i32_71 : BitVec 32 := 1#32
  ⟨c0_i32_69, v72, c1_i32_71⟩
def k0_off55 (k0_t16 : Fin k0_t16_loop.trips) : Fin 3 → Nat :=
  let c0_80 : Index := 0#32
  let c16_i32_79 : BitVec 32 := 16#32
  let c0_i32_69 : BitVec 32 := 0#32
  let c1_i32_71 : BitVec 32 := 1#32
  let arg24 : BitVec 32 := Scf.iv c0_i32_69 c1_i32_71 k0_t16
  let v75 : BitVec 32 := Scalar.muli c16_i32_79 arg24
  let v76 : Index := Scalar.indexCast v75
  let c0_81 : Index := 0#32
  ![0, v76.toNat, 0]
def k0_off56 (k0_t16 : Fin k0_t16_loop.trips) : Fin 3 → Nat :=
  let c0_84 : Index := 0#32
  let c16_i32_82 : BitVec 32 := 16#32
  let c0_i32_69 : BitVec 32 := 0#32
  let c1_i32_71 : BitVec 32 := 1#32
  let arg24 : BitVec 32 := Scf.iv c0_i32_69 c1_i32_71 k0_t16
  let v81 : BitVec 32 := Scalar.muli c16_i32_82 arg24
  let c1_i32_83 : BitVec 32 := 1#32
  let v82 : BitVec 32 := Scalar.addi v81 c1_i32_83
  let v83 : Index := Scalar.indexCast v82
  let c0_85 : Index := 0#32
  ![0, v83.toNat, 0]
def k0_mult11 (i : grid0.Coords) (k0_t16 : Fin k0_t16_loop.trips) : BitVec 32 :=
  let c4_i32 : BitVec 32 := 4#32
  let arg0 : BitVec 32 := BitVec.ofNat 32 (i 0).val
  let c9_i32_6 : BitVec 32 := 9#32
  let v14 : BitVec 32 := Scalar.subi arg0 c9_i32_6
  let v88 : BitVec 32 := Scalar.muli c4_i32 v14
  let c0_i32_69 : BitVec 32 := 0#32
  let c1_i32_71 : BitVec 32 := 1#32
  let arg24 : BitVec 32 := Scf.iv c0_i32_69 c1_i32_71 k0_t16
  let v89 : BitVec 32 := Scalar.addi v88 arg24
  let c6_i32 : BitVec 32 := 6#32
  let v90 : BitVec 32 := Scalar.remsi v89 c6_i32
  let c8_i32 : BitVec 32 := 8#32
  let v91 : BitVec 32 := Scalar.muli v90 c8_i32
  v91
def k0_off57 (i : grid0.Coords) (k0_t16 : Fin k0_t16_loop.trips) : Fin 3 → Nat :=
  let c2_86 : Index := 2#32
  let c4_i32 : BitVec 32 := 4#32
  let arg0 : BitVec 32 := BitVec.ofNat 32 (i 0).val
  let c9_i32_6 : BitVec 32 := 9#32
  let v14 : BitVec 32 := Scalar.subi arg0 c9_i32_6
  let v88 : BitVec 32 := Scalar.muli c4_i32 v14
  let c0_i32_69 : BitVec 32 := 0#32
  let c1_i32_71 : BitVec 32 := 1#32
  let arg24 : BitVec 32 := Scf.iv c0_i32_69 c1_i32_71 k0_t16
  let v89 : BitVec 32 := Scalar.addi v88 arg24
  let c6_i32 : BitVec 32 := 6#32
  let v90 : BitVec 32 := Scalar.remsi v89 c6_i32
  let c8_i32 : BitVec 32 := 8#32
  let v91 : BitVec 32 := Scalar.muli v90 c8_i32
  let v92 : BitVec 32 := v91
  let v93 : Index := Scalar.indexCast v92
  let c0_87 : Index := 0#32
  ![2, v93.toNat, 0]
def k0_off58 (k0_t16 : Fin k0_t16_loop.trips) : Fin 3 → Nat :=
  let c2_91 : Index := 2#32
  let c8_i32_90 : BitVec 32 := 8#32
  let c0_i32_69 : BitVec 32 := 0#32
  let c1_i32_71 : BitVec 32 := 1#32
  let arg24 : BitVec 32 := Scf.iv c0_i32_69 c1_i32_71 k0_t16
  let v106 : BitVec 32 := Scalar.muli c8_i32_90 arg24
  let v108 : Index := Scalar.indexCast v106
  let c0_92 : Index := 0#32
  ![2, Nat.mul 2 v108.toNat, 0]
@[reducible] def k0_t17_loop : Scf.Loop 32 :=
  let c0_i32_75 : BitVec 32 := 0#32
  let c16_i32_76 : BitVec 32 := 16#32
  let v74 : BitVec 32 := Scalar.addi c0_i32_75 c16_i32_76
  let c1_i32_77 : BitVec 32 := 1#32
  ⟨c0_i32_75, v74, c1_i32_77⟩
def k0_off59 (k0_t17 : Fin k0_t17_loop.trips) : Fin 3 → Nat :=
  let c1_80 : Index := 1#32
  let c16_i32_79 : BitVec 32 := 16#32
  let c0_i32_75 : BitVec 32 := 0#32
  let c1_i32_77 : BitVec 32 := 1#32
  let arg24 : BitVec 32 := Scf.iv c0_i32_75 c1_i32_77 k0_t17
  let v75 : BitVec 32 := Scalar.muli c16_i32_79 arg24
  let v76 : Index := Scalar.indexCast v75
  let c0_81 : Index := 0#32
  ![1, v76.toNat, 0]
def k0_off60 (k0_t17 : Fin k0_t17_loop.trips) : Fin 3 → Nat :=
  let c1_84 : Index := 1#32
  let c16_i32_82 : BitVec 32 := 16#32
  let c0_i32_75 : BitVec 32 := 0#32
  let c1_i32_77 : BitVec 32 := 1#32
  let arg24 : BitVec 32 := Scf.iv c0_i32_75 c1_i32_77 k0_t17
  let v81 : BitVec 32 := Scalar.muli c16_i32_82 arg24
  let c1_i32_83 : BitVec 32 := 1#32
  let v82 : BitVec 32 := Scalar.addi v81 c1_i32_83
  let v83 : Index := Scalar.indexCast v82
  let c0_85 : Index := 0#32
  ![1, v83.toNat, 0]
def k0_mult12 (i : grid0.Coords) (k0_t17 : Fin k0_t17_loop.trips) : BitVec 32 :=
  let c4_i32 : BitVec 32 := 4#32
  let arg0 : BitVec 32 := BitVec.ofNat 32 (i 0).val
  let c9_i32_6 : BitVec 32 := 9#32
  let v14 : BitVec 32 := Scalar.subi arg0 c9_i32_6
  let v88 : BitVec 32 := Scalar.muli c4_i32 v14
  let c0_i32_75 : BitVec 32 := 0#32
  let c1_i32_77 : BitVec 32 := 1#32
  let arg24 : BitVec 32 := Scf.iv c0_i32_75 c1_i32_77 k0_t17
  let v89 : BitVec 32 := Scalar.addi v88 arg24
  let c6_i32 : BitVec 32 := 6#32
  let v90 : BitVec 32 := Scalar.remsi v89 c6_i32
  let c8_i32 : BitVec 32 := 8#32
  let v91 : BitVec 32 := Scalar.muli v90 c8_i32
  v91
def k0_off61 (i : grid0.Coords) (k0_t17 : Fin k0_t17_loop.trips) : Fin 3 → Nat :=
  let c2_86 : Index := 2#32
  let c4_i32 : BitVec 32 := 4#32
  let arg0 : BitVec 32 := BitVec.ofNat 32 (i 0).val
  let c9_i32_6 : BitVec 32 := 9#32
  let v14 : BitVec 32 := Scalar.subi arg0 c9_i32_6
  let v88 : BitVec 32 := Scalar.muli c4_i32 v14
  let c0_i32_75 : BitVec 32 := 0#32
  let c1_i32_77 : BitVec 32 := 1#32
  let arg24 : BitVec 32 := Scf.iv c0_i32_75 c1_i32_77 k0_t17
  let v89 : BitVec 32 := Scalar.addi v88 arg24
  let c6_i32 : BitVec 32 := 6#32
  let v90 : BitVec 32 := Scalar.remsi v89 c6_i32
  let c8_i32 : BitVec 32 := 8#32
  let v91 : BitVec 32 := Scalar.muli v90 c8_i32
  let v92 : BitVec 32 := v91
  let v93 : Index := Scalar.indexCast v92
  let c128_87 : Index := 128#32
  ![2, v93.toNat, 128]
def k0_off62 (k0_t17 : Fin k0_t17_loop.trips) : Fin 3 → Nat :=
  let c2_91 : Index := 2#32
  let c8_i32_90 : BitVec 32 := 8#32
  let c0_i32_75 : BitVec 32 := 0#32
  let c1_i32_77 : BitVec 32 := 1#32
  let arg24 : BitVec 32 := Scf.iv c0_i32_75 c1_i32_77 k0_t17
  let v106 : BitVec 32 := Scalar.muli c8_i32_90 arg24
  let v108 : Index := Scalar.indexCast v106
  let c128_92 : Index := 128#32
  ![2, Nat.mul 2 v108.toNat, 128]
def k0_cond4 (i : grid0.Coords) : BitVec 1 :=
  let arg0 : BitVec 32 := BitVec.ofNat 32 (i 0).val
  let c12_i32_4 : BitVec 32 := 12#32
  let v11 : BitVec 1 := Scalar.cmpi .sge arg0 c12_i32_4
  let v12 : BitVec 32 := Scalar.extui v11
  let c0_i32_5 : BitVec 32 := 0#32
  let v13 : BitVec 1 := Scalar.cmpi .ne v12 c0_i32_5
  v13

@[reducible] def k0_t18_loop : Scf.Loop 32 :=
  let c0_i32_6 : BitVec 32 := 0#32
  let c48_i32 : BitVec 32 := 48#32
  let v14 : BitVec 32 := Scalar.addi c0_i32_6 c48_i32
  let c1_i32 : BitVec 32 := 1#32
  ⟨c0_i32_6, v14, c1_i32⟩
def k0_off63 (k0_t18 : Fin k0_t18_loop.trips) : Fin 3 → Nat :=
  let c2_i32 : BitVec 32 := 2#32
  let c0_i32_6 : BitVec 32 := 0#32
  let c1_i32 : BitVec 32 := 1#32
  let arg24 : BitVec 32 := Scf.iv c0_i32_6 c1_i32 k0_t18
  let v74 : BitVec 32 := Scalar.muli c2_i32 arg24
  let v75 : Index := Scalar.indexCast v74
  let c0_78 : Index := 0#32
  let c0_79 : Index := 0#32
  ![v75.toNat, 0, 0]
def k0_off64 (k0_t18 : Fin k0_t18_loop.trips) (c0_i32_80 : BitVec 32) : Fin 2 → Nat :=
  let c64_i32 : BitVec 32 := 64#32
  let c0_i32_6 : BitVec 32 := 0#32
  let c1_i32 : BitVec 32 := 1#32
  let arg24 : BitVec 32 := Scf.iv c0_i32_6 c1_i32 k0_t18
  let v92 : BitVec 32 := Scalar.muli c64_i32 arg24
  let v93 : BitVec 32 := Scalar.addi v92 c0_i32_80
  let v95 : Index := Scalar.indexCast v93
  let c0_81 : Index := 0#32
  ![v95.toNat, 0]
def k0_off65 (k0_t18 : Fin k0_t18_loop.trips) (c0_i32_80 : BitVec 32) : Fin 2 → Nat :=
  let c64_i32 : BitVec 32 := 64#32
  let c0_i32_6 : BitVec 32 := 0#32
  let c1_i32 : BitVec 32 := 1#32
  let arg24 : BitVec 32 := Scf.iv c0_i32_6 c1_i32 k0_t18
  let v92 : BitVec 32 := Scalar.muli c64_i32 arg24
  let v93 : BitVec 32 := Scalar.addi v92 c0_i32_80
  let c16_i32_82 : BitVec 32 := 16#32
  let v100 : BitVec 32 := Scalar.addi v93 c16_i32_82
  let v101 : Index := Scalar.indexCast v100
  let c0_83 : Index := 0#32
  ![v101.toNat, 0]
@[reducible] def k0_t19_loop : Scf.Loop 32 :=
  let c0_i32_9 : BitVec 32 := 0#32
  let c48_i32_10 : BitVec 32 := 48#32
  let v15 : BitVec 32 := Scalar.addi c0_i32_9 c48_i32_10
  let c1_i32_11 : BitVec 32 := 1#32
  ⟨c0_i32_9, v15, c1_i32_11⟩
def k0_off66 (k0_t19 : Fin k0_t19_loop.trips) : Fin 3 → Nat :=
  let c2_i32 : BitVec 32 := 2#32
  let c0_i32_9 : BitVec 32 := 0#32
  let c1_i32_11 : BitVec 32 := 1#32
  let arg24 : BitVec 32 := Scf.iv c0_i32_9 c1_i32_11 k0_t19
  let v74 : BitVec 32 := Scalar.muli c2_i32 arg24
  let v75 : Index := Scalar.indexCast v74
  let c0_78 : Index := 0#32
  let c0_79 : Index := 0#32
  ![v75.toNat, 0, 0]
def k0_off67 (k0_t19 : Fin k0_t19_loop.trips) (c0_i32_80 : BitVec 32) : Fin 2 → Nat :=
  let c64_i32 : BitVec 32 := 64#32
  let c0_i32_9 : BitVec 32 := 0#32
  let c1_i32_11 : BitVec 32 := 1#32
  let arg24 : BitVec 32 := Scf.iv c0_i32_9 c1_i32_11 k0_t19
  let v92 : BitVec 32 := Scalar.muli c64_i32 arg24
  let v93 : BitVec 32 := Scalar.addi v92 c0_i32_80
  let v95 : Index := Scalar.indexCast v93
  let c128_81 : Index := 128#32
  ![v95.toNat, 128]
def k0_off68 (k0_t19 : Fin k0_t19_loop.trips) (c0_i32_80 : BitVec 32) : Fin 2 → Nat :=
  let c64_i32 : BitVec 32 := 64#32
  let c0_i32_9 : BitVec 32 := 0#32
  let c1_i32_11 : BitVec 32 := 1#32
  let arg24 : BitVec 32 := Scf.iv c0_i32_9 c1_i32_11 k0_t19
  let v92 : BitVec 32 := Scalar.muli c64_i32 arg24
  let v93 : BitVec 32 := Scalar.addi v92 c0_i32_80
  let c16_i32_82 : BitVec 32 := 16#32
  let v100 : BitVec 32 := Scalar.addi v93 c16_i32_82
  let v101 : Index := Scalar.indexCast v100
  let c128_83 : Index := 128#32
  ![v101.toNat, 128]
@[reducible] def k0_t20_loop : Scf.Loop 32 :=
  let c0_i32_27 : BitVec 32 := 0#32
  let c16_i32 : BitVec 32 := 16#32
  let v35 : BitVec 32 := Scalar.addi c0_i32_27 c16_i32
  let c1_i32_28 : BitVec 32 := 1#32
  ⟨c0_i32_27, v35, c1_i32_28⟩
def k0_off69 (k0_t20 : Fin k0_t20_loop.trips) : Fin 3 → Nat :=
  let c0_79 : Index := 0#32
  let c16_i32_78 : BitVec 32 := 16#32
  let c0_i32_27 : BitVec 32 := 0#32
  let c1_i32_28 : BitVec 32 := 1#32
  let arg24 : BitVec 32 := Scf.iv c0_i32_27 c1_i32_28 k0_t20
  let v74 : BitVec 32 := Scalar.muli c16_i32_78 arg24
  let v75 : Index := Scalar.indexCast v74
  let c0_80 : Index := 0#32
  ![0, v75.toNat, 0]
def k0_off70 (k0_t20 : Fin k0_t20_loop.trips) : Fin 3 → Nat :=
  let c0_83 : Index := 0#32
  let c16_i32_81 : BitVec 32 := 16#32
  let c0_i32_27 : BitVec 32 := 0#32
  let c1_i32_28 : BitVec 32 := 1#32
  let arg24 : BitVec 32 := Scf.iv c0_i32_27 c1_i32_28 k0_t20
  let v80 : BitVec 32 := Scalar.muli c16_i32_81 arg24
  let c1_i32_82 : BitVec 32 := 1#32
  let v81 : BitVec 32 := Scalar.addi v80 c1_i32_82
  let v82 : Index := Scalar.indexCast v81
  let c0_84 : Index := 0#32
  ![0, v82.toNat, 0]
def k0_off71 (k0_t20 : Fin k0_t20_loop.trips) : Fin 3 → Nat :=
  let c0_85 : Index := 0#32
  let c8_i32 : BitVec 32 := 8#32
  let c0_i32_27 : BitVec 32 := 0#32
  let c1_i32_28 : BitVec 32 := 1#32
  let arg24 : BitVec 32 := Scf.iv c0_i32_27 c1_i32_28 k0_t20
  let v88 : BitVec 32 := Scalar.muli c8_i32 arg24
  let v90 : Index := Scalar.indexCast v88
  let c0_86 : Index := 0#32
  ![0, Nat.mul 2 v90.toNat, 0]
@[reducible] def k0_t21_loop : Scf.Loop 32 :=
  let c0_i32_31 : BitVec 32 := 0#32
  let c16_i32_32 : BitVec 32 := 16#32
  let v37 : BitVec 32 := Scalar.addi c0_i32_31 c16_i32_32
  let c1_i32_33 : BitVec 32 := 1#32
  ⟨c0_i32_31, v37, c1_i32_33⟩
def k0_off72 (k0_t21 : Fin k0_t21_loop.trips) : Fin 3 → Nat :=
  let c1_79 : Index := 1#32
  let c16_i32_78 : BitVec 32 := 16#32
  let c0_i32_31 : BitVec 32 := 0#32
  let c1_i32_33 : BitVec 32 := 1#32
  let arg24 : BitVec 32 := Scf.iv c0_i32_31 c1_i32_33 k0_t21
  let v74 : BitVec 32 := Scalar.muli c16_i32_78 arg24
  let v75 : Index := Scalar.indexCast v74
  let c0_80 : Index := 0#32
  ![1, v75.toNat, 0]
def k0_off73 (k0_t21 : Fin k0_t21_loop.trips) : Fin 3 → Nat :=
  let c1_83 : Index := 1#32
  let c16_i32_81 : BitVec 32 := 16#32
  let c0_i32_31 : BitVec 32 := 0#32
  let c1_i32_33 : BitVec 32 := 1#32
  let arg24 : BitVec 32 := Scf.iv c0_i32_31 c1_i32_33 k0_t21
  let v80 : BitVec 32 := Scalar.muli c16_i32_81 arg24
  let c1_i32_82 : BitVec 32 := 1#32
  let v81 : BitVec 32 := Scalar.addi v80 c1_i32_82
  let v82 : Index := Scalar.indexCast v81
  let c0_84 : Index := 0#32
  ![1, v82.toNat, 0]
def k0_off74 (k0_t21 : Fin k0_t21_loop.trips) : Fin 3 → Nat :=
  let c0_85 : Index := 0#32
  let c8_i32 : BitVec 32 := 8#32
  let c0_i32_31 : BitVec 32 := 0#32
  let c1_i32_33 : BitVec 32 := 1#32
  let arg24 : BitVec 32 := Scf.iv c0_i32_31 c1_i32_33 k0_t21
  let v88 : BitVec 32 := Scalar.muli c8_i32 arg24
  let v90 : Index := Scalar.indexCast v88
  let c128_86 : Index := 128#32
  ![0, Nat.mul 2 v90.toNat, 128]
@[reducible] def k0_t22_loop : Scf.Loop 32 :=
  let c0_i32_47 : BitVec 32 := 0#32
  let c16_i32_48 : BitVec 32 := 16#32
  let v53 : BitVec 32 := Scalar.addi c0_i32_47 c16_i32_48
  let c1_i32_49 : BitVec 32 := 1#32
  ⟨c0_i32_47, v53, c1_i32_49⟩
def k0_off75 (k0_t22 : Fin k0_t22_loop.trips) : Fin 3 → Nat :=
  let c0_79 : Index := 0#32
  let c16_i32_78 : BitVec 32 := 16#32
  let c0_i32_47 : BitVec 32 := 0#32
  let c1_i32_49 : BitVec 32 := 1#32
  let arg24 : BitVec 32 := Scf.iv c0_i32_47 c1_i32_49 k0_t22
  let v74 : BitVec 32 := Scalar.muli c16_i32_78 arg24
  let v75 : Index := Scalar.indexCast v74
  let c0_80 : Index := 0#32
  ![0, v75.toNat, 0]
def k0_off76 (k0_t22 : Fin k0_t22_loop.trips) : Fin 3 → Nat :=
  let c0_83 : Index := 0#32
  let c16_i32_81 : BitVec 32 := 16#32
  let c0_i32_47 : BitVec 32 := 0#32
  let c1_i32_49 : BitVec 32 := 1#32
  let arg24 : BitVec 32 := Scf.iv c0_i32_47 c1_i32_49 k0_t22
  let v80 : BitVec 32 := Scalar.muli c16_i32_81 arg24
  let c1_i32_82 : BitVec 32 := 1#32
  let v81 : BitVec 32 := Scalar.addi v80 c1_i32_82
  let v82 : Index := Scalar.indexCast v81
  let c0_84 : Index := 0#32
  ![0, v82.toNat, 0]
def k0_off77 (k0_t22 : Fin k0_t22_loop.trips) : Fin 3 → Nat :=
  let c1_85 : Index := 1#32
  let c8_i32 : BitVec 32 := 8#32
  let c0_i32_47 : BitVec 32 := 0#32
  let c1_i32_49 : BitVec 32 := 1#32
  let arg24 : BitVec 32 := Scf.iv c0_i32_47 c1_i32_49 k0_t22
  let v88 : BitVec 32 := Scalar.muli c8_i32 arg24
  let v90 : Index := Scalar.indexCast v88
  let c0_86 : Index := 0#32
  ![1, Nat.mul 2 v90.toNat, 0]
@[reducible] def k0_t23_loop : Scf.Loop 32 :=
  let c0_i32_53 : BitVec 32 := 0#32
  let c16_i32_54 : BitVec 32 := 16#32
  let v55 : BitVec 32 := Scalar.addi c0_i32_53 c16_i32_54
  let c1_i32_55 : BitVec 32 := 1#32
  ⟨c0_i32_53, v55, c1_i32_55⟩
def k0_off78 (k0_t23 : Fin k0_t23_loop.trips) : Fin 3 → Nat :=
  let c1_79 : Index := 1#32
  let c16_i32_78 : BitVec 32 := 16#32
  let c0_i32_53 : BitVec 32 := 0#32
  let c1_i32_55 : BitVec 32 := 1#32
  let arg24 : BitVec 32 := Scf.iv c0_i32_53 c1_i32_55 k0_t23
  let v74 : BitVec 32 := Scalar.muli c16_i32_78 arg24
  let v75 : Index := Scalar.indexCast v74
  let c0_80 : Index := 0#32
  ![1, v75.toNat, 0]
def k0_off79 (k0_t23 : Fin k0_t23_loop.trips) : Fin 3 → Nat :=
  let c1_83 : Index := 1#32
  let c16_i32_81 : BitVec 32 := 16#32
  let c0_i32_53 : BitVec 32 := 0#32
  let c1_i32_55 : BitVec 32 := 1#32
  let arg24 : BitVec 32 := Scf.iv c0_i32_53 c1_i32_55 k0_t23
  let v80 : BitVec 32 := Scalar.muli c16_i32_81 arg24
  let c1_i32_82 : BitVec 32 := 1#32
  let v81 : BitVec 32 := Scalar.addi v80 c1_i32_82
  let v82 : Index := Scalar.indexCast v81
  let c0_84 : Index := 0#32
  ![1, v82.toNat, 0]
def k0_off80 (k0_t23 : Fin k0_t23_loop.trips) : Fin 3 → Nat :=
  let c1_85 : Index := 1#32
  let c8_i32 : BitVec 32 := 8#32
  let c0_i32_53 : BitVec 32 := 0#32
  let c1_i32_55 : BitVec 32 := 1#32
  let arg24 : BitVec 32 := Scf.iv c0_i32_53 c1_i32_55 k0_t23
  let v88 : BitVec 32 := Scalar.muli c8_i32 arg24
  let v90 : Index := Scalar.indexCast v88
  let c128_86 : Index := 128#32
  ![1, Nat.mul 2 v90.toNat, 128]
@[reducible] def k0_t24_loop : Scf.Loop 32 :=
  let c0_i32_68 : BitVec 32 := 0#32
  let c16_i32_69 : BitVec 32 := 16#32
  let v71 : BitVec 32 := Scalar.addi c0_i32_68 c16_i32_69
  let c1_i32_70 : BitVec 32 := 1#32
  ⟨c0_i32_68, v71, c1_i32_70⟩
def k0_off81 (k0_t24 : Fin k0_t24_loop.trips) : Fin 3 → Nat :=
  let c0_79 : Index := 0#32
  let c16_i32_78 : BitVec 32 := 16#32
  let c0_i32_68 : BitVec 32 := 0#32
  let c1_i32_70 : BitVec 32 := 1#32
  let arg24 : BitVec 32 := Scf.iv c0_i32_68 c1_i32_70 k0_t24
  let v74 : BitVec 32 := Scalar.muli c16_i32_78 arg24
  let v75 : Index := Scalar.indexCast v74
  let c0_80 : Index := 0#32
  ![0, v75.toNat, 0]
def k0_off82 (k0_t24 : Fin k0_t24_loop.trips) : Fin 3 → Nat :=
  let c0_83 : Index := 0#32
  let c16_i32_81 : BitVec 32 := 16#32
  let c0_i32_68 : BitVec 32 := 0#32
  let c1_i32_70 : BitVec 32 := 1#32
  let arg24 : BitVec 32 := Scf.iv c0_i32_68 c1_i32_70 k0_t24
  let v80 : BitVec 32 := Scalar.muli c16_i32_81 arg24
  let c1_i32_82 : BitVec 32 := 1#32
  let v81 : BitVec 32 := Scalar.addi v80 c1_i32_82
  let v82 : Index := Scalar.indexCast v81
  let c0_84 : Index := 0#32
  ![0, v82.toNat, 0]
def k0_off83 (k0_t24 : Fin k0_t24_loop.trips) : Fin 3 → Nat :=
  let c2_85 : Index := 2#32
  let c8_i32 : BitVec 32 := 8#32
  let c0_i32_68 : BitVec 32 := 0#32
  let c1_i32_70 : BitVec 32 := 1#32
  let arg24 : BitVec 32 := Scf.iv c0_i32_68 c1_i32_70 k0_t24
  let v88 : BitVec 32 := Scalar.muli c8_i32 arg24
  let v90 : Index := Scalar.indexCast v88
  let c0_86 : Index := 0#32
  ![2, Nat.mul 2 v90.toNat, 0]
@[reducible] def k0_t25_loop : Scf.Loop 32 :=
  let c0_i32_74 : BitVec 32 := 0#32
  let c16_i32_75 : BitVec 32 := 16#32
  let v73 : BitVec 32 := Scalar.addi c0_i32_74 c16_i32_75
  let c1_i32_76 : BitVec 32 := 1#32
  ⟨c0_i32_74, v73, c1_i32_76⟩
def k0_off84 (k0_t25 : Fin k0_t25_loop.trips) : Fin 3 → Nat :=
  let c1_79 : Index := 1#32
  let c16_i32_78 : BitVec 32 := 16#32
  let c0_i32_74 : BitVec 32 := 0#32
  let c1_i32_76 : BitVec 32 := 1#32
  let arg24 : BitVec 32 := Scf.iv c0_i32_74 c1_i32_76 k0_t25
  let v74 : BitVec 32 := Scalar.muli c16_i32_78 arg24
  let v75 : Index := Scalar.indexCast v74
  let c0_80 : Index := 0#32
  ![1, v75.toNat, 0]
def k0_off85 (k0_t25 : Fin k0_t25_loop.trips) : Fin 3 → Nat :=
  let c1_83 : Index := 1#32
  let c16_i32_81 : BitVec 32 := 16#32
  let c0_i32_74 : BitVec 32 := 0#32
  let c1_i32_76 : BitVec 32 := 1#32
  let arg24 : BitVec 32 := Scf.iv c0_i32_74 c1_i32_76 k0_t25
  let v80 : BitVec 32 := Scalar.muli c16_i32_81 arg24
  let c1_i32_82 : BitVec 32 := 1#32
  let v81 : BitVec 32 := Scalar.addi v80 c1_i32_82
  let v82 : Index := Scalar.indexCast v81
  let c0_84 : Index := 0#32
  ![1, v82.toNat, 0]
def k0_off86 (k0_t25 : Fin k0_t25_loop.trips) : Fin 3 → Nat :=
  let c2_85 : Index := 2#32
  let c8_i32 : BitVec 32 := 8#32
  let c0_i32_74 : BitVec 32 := 0#32
  let c1_i32_76 : BitVec 32 := 1#32
  let arg24 : BitVec 32 := Scf.iv c0_i32_74 c1_i32_76 k0_t25
  let v88 : BitVec 32 := Scalar.muli c8_i32 arg24
  let v90 : Index := Scalar.indexCast v88
  let c128_86 : Index := 128#32
  ![2, Nat.mul 2 v90.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c2_i32 : BitVec 32 := 2#32
  let v3 : BitVec 32 := Scalar.muli c2_i32 v2
  let c0_i32_1 : BitVec 32 := 0#32
  let v4 : BitVec 32 := Scalar.addi v3 c0_i32_1
  let c0_i32_2 : BitVec 32 := 0#32
  let c0_i32_3 : BitVec 32 := 0#32
  let c0_i32_4 : BitVec 32 := 0#32
  ![c0_i32_2.toNat, c0_i32_3.toNat, v4.toNat]

def cc0_transform_5 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c2_i32 : BitVec 32 := 2#32
  let v3 : BitVec 32 := Scalar.muli c2_i32 v2
  let c1_i32 : BitVec 32 := 1#32
  let v4 : BitVec 32 := Scalar.addi v3 c1_i32
  let c0_i32_1 : BitVec 32 := 0#32
  let c0_i32_2 : BitVec 32 := 0#32
  let c0_i32_3 : BitVec 32 := 0#32
  ![c0_i32_1.toNat, c0_i32_2.toNat, v4.toNat]

def cc0_transform_6 (i : grid0.Coords) : Fin 3 → Nat :=
  let arg0 : BitVec 32 := BitVec.ofNat 32 (i 0).val
  let c9_i32 : BitVec 32 := 9#32
  let v0 : BitVec 32 := Scalar.subi arg0 c9_i32
  let c0_i32 : BitVec 32 := 0#32
  let c2_i32 : BitVec 32 := 2#32
  let v1 : BitVec 32 := Scalar.maxsi c0_i32 v0
  let v2 : BitVec 32 := Scalar.minsi c2_i32 v1
  let c2_i32_0 : BitVec 32 := 2#32
  let v3 : BitVec 32 := Scalar.muli c2_i32_0 v2
  let c0_i32_1 : BitVec 32 := 0#32
  let v4 : BitVec 32 := Scalar.addi v3 c0_i32_1
  let c0_i32_2 : BitVec 32 := 0#32
  let c0_i32_3 : BitVec 32 := 0#32
  let c0_i32_4 : BitVec 32 := 0#32
  ![c0_i32_2.toNat, c0_i32_3.toNat, v4.toNat]

def cc0_transform_7 (i : grid0.Coords) : Fin 3 → Nat :=
  let arg0 : BitVec 32 := BitVec.ofNat 32 (i 0).val
  let c9_i32 : BitVec 32 := 9#32
  let v0 : BitVec 32 := Scalar.subi arg0 c9_i32
  let c0_i32 : BitVec 32 := 0#32
  let c2_i32 : BitVec 32 := 2#32
  let v1 : BitVec 32 := Scalar.maxsi c0_i32 v0
  let v2 : BitVec 32 := Scalar.minsi c2_i32 v1
  let c2_i32_0 : BitVec 32 := 2#32
  let v3 : BitVec 32 := Scalar.muli c2_i32_0 v2
  let c1_i32 : BitVec 32 := 1#32
  let v4 : BitVec 32 := Scalar.addi v3 c1_i32
  let c0_i32_1 : BitVec 32 := 0#32
  let c0_i32_2 : BitVec 32 := 0#32
  let c0_i32_3 : BitVec 32 := 0#32
  ![c0_i32_1.toNat, c0_i32_2.toNat, v4.toNat]

def cc0_transform_8 (i : grid0.Coords) : Fin 3 → Nat :=
  let arg0 : BitVec 32 := BitVec.ofNat 32 (i 0).val
  let c12_i32 : BitVec 32 := 12#32
  let v0 : BitVec 32 := Scalar.subi arg0 c12_i32
  let c0_i32 : BitVec 32 := 0#32
  let c2_i32 : BitVec 32 := 2#32
  let v1 : BitVec 32 := Scalar.maxsi c0_i32 v0
  let v2 : BitVec 32 := Scalar.minsi c2_i32 v1
  let c2_i32_0 : BitVec 32 := 2#32
  let v3 : BitVec 32 := Scalar.muli c2_i32_0 v2
  let c0_i32_1 : BitVec 32 := 0#32
  let v4 : BitVec 32 := Scalar.addi v3 c0_i32_1
  let c0_i32_2 : BitVec 32 := 0#32
  let c0_i32_3 : BitVec 32 := 0#32
  let c0_i32_4 : BitVec 32 := 0#32
  ![c0_i32_2.toNat, c0_i32_3.toNat, v4.toNat]

def cc0_transform_9 (i : grid0.Coords) : Fin 3 → Nat :=
  let arg0 : BitVec 32 := BitVec.ofNat 32 (i 0).val
  let c12_i32 : BitVec 32 := 12#32
  let v0 : BitVec 32 := Scalar.subi arg0 c12_i32
  let c0_i32 : BitVec 32 := 0#32
  let c2_i32 : BitVec 32 := 2#32
  let v1 : BitVec 32 := Scalar.maxsi c0_i32 v0
  let v2 : BitVec 32 := Scalar.minsi c2_i32 v1
  let c2_i32_0 : BitVec 32 := 2#32
  let v3 : BitVec 32 := Scalar.muli c2_i32_0 v2
  let c1_i32 : BitVec 32 := 1#32
  let v4 : BitVec 32 := Scalar.addi v3 c1_i32
  let c0_i32_1 : BitVec 32 := 0#32
  let c0_i32_2 : BitVec 32 := 0#32
  let c0_i32_3 : BitVec 32 := 0#32
  ![c0_i32_1.toNat, c0_i32_2.toNat, v4.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c8_i32 : BitVec 32 := 8#32
  let v1 : BitVec 32 := Scalar.maxsi c0_i32_0 v0
  let v2 : BitVec 32 := Scalar.minsi c8_i32 v1
  let c0_i32_1 : BitVec 32 := 0#32
  let c0_i32_2 : BitVec 32 := 0#32
  let c0_i32_3 : BitVec 32 := 0#32
  ![c0_i32_1.toNat, v2.toNat, c0_i32_2.toNat]

def cc0_transform_12 (i : grid0.Coords) : Fin 3 → Nat :=
  let arg0 : BitVec 32 := BitVec.ofNat 32 (i 0).val
  let c9_i32 : BitVec 32 := 9#32
  let v0 : BitVec 32 := Scalar.subi arg0 c9_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  let c0_i32_2 : BitVec 32 := 0#32
  ![c0_i32_0.toNat, v2.toNat, c0_i32_1.toNat]

def cc0_transform_13 (i : grid0.Coords) : Fin 3 → Nat :=
  let arg0 : BitVec 32 := BitVec.ofNat 32 (i 0).val
  let c12_i32 : BitVec 32 := 12#32
  let v0 : BitVec 32 := Scalar.subi arg0 c12_i32
  let c0_i32 : BitVec 32 := 0#32
  let c2_i32 : BitVec 32 := 2#32
  let v1 : BitVec 32 := Scalar.maxsi c0_i32 v0
  let v2 : BitVec 32 := Scalar.minsi c2_i32 v1
  let c0_i32_0 : BitVec 32 := 0#32
  let c0_i32_1 : BitVec 32 := 0#32
  let c0_i32_2 : BitVec 32 := 0#32
  ![c0_i32_0.toNat, v2.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S768x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S96x16x128 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x16x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x16x128 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S96x16x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S96x16x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S96x16x128 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S3x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S3x256x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S768x3072 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S3x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== KernelIdeal.lean ====
variable {F : FTy → Type} [FloatOps F]
-- ==== ReferenceIdeal.lean ====
abbrev S3x256x3072 : Shape := ⟨3, ![3, 256, 3072]⟩
abbrev S3072 : Shape := ⟨1, ![3072]⟩
abbrev S3x256 : Shape := ⟨2, ![3, 256]⟩
abbrev S2304x96x16 : Shape := ⟨3, ![2304, 96, 16]⟩
abbrev S2304 : Shape := ⟨1, ![2304]⟩
abbrev S768x96x16 : Shape := ⟨3, ![768, 96, 16]⟩
abbrev S768 : Shape := ⟨1, ![768]⟩
abbrev S48 : Shape := ⟨1, ![48]⟩
abbrev S_ : Shape := ⟨0, ![]⟩
abbrev S3x256x24x96 : Shape := ⟨4, ![3, 256, 24, 96]⟩
abbrev S3x256x8x96 : Shape := ⟨4, ![3, 256, 8, 96]⟩
abbrev S3x256x1 : Shape := ⟨3, ![3, 256, 1]⟩
abbrev S1x1x3072 : Shape := ⟨3, ![1, 1, 3072]⟩
abbrev S768x96x2x16 : Shape := ⟨4, ![768, 96, 2, 16]⟩
abbrev S768x96x1x16 : Shape := ⟨4, ![768, 96, 1, 16]⟩
abbrev S768x1536 : Shape := ⟨2, ![768, 1536]⟩
abbrev S2304x1536 : Shape := ⟨2, ![2304, 1536]⟩
abbrev S768x2304 : Shape := ⟨2, ![768, 2304]⟩
abbrev S768x1 : Shape := ⟨2, ![768, 1]⟩
abbrev S1x2304 : Shape := ⟨2, ![1, 2304]⟩
abbrev S768x768 : Shape := ⟨2, ![768, 768]⟩
abbrev S1x768 : Shape := ⟨2, ![1, 768]⟩
abbrev S1x1x48 : Shape := ⟨3, ![1, 1, 48]⟩
abbrev S3x256x48 : Shape := ⟨3, ![3, 256, 48]⟩
abbrev S3x256x1x48 : Shape := ⟨4, ![3, 256, 1, 48]⟩
abbrev S3x256x24x48x2 : Shape := ⟨5, ![3, 256, 24, 48, 2]⟩
abbrev S3x256x24x48x1 : Shape := ⟨5, ![3, 256, 24, 48, 1]⟩
abbrev S3x256x24x48 : Shape := ⟨4, ![3, 256, 24, 48]⟩
abbrev S3x256x8x48x2 : Shape := ⟨5, ![3, 256, 8, 48, 2]⟩
abbrev S3x256x8x48x1 : Shape := ⟨5, ![3, 256, 8, 48, 1]⟩
abbrev S3x256x8x48 : Shape := ⟨4, ![3, 256, 8, 48]⟩

abbrev nBuf : Space → Nat
  | .hbm => 25
  | .vmem => 15
  | .smem => 0
  | _ => 0

abbrev bufTy : (tb : Table) → Fin (tcTables nBuf tb) → BufTy
  | .hbm, ⟨0, _⟩ => ⟨S3x256x3072, .bf16⟩
  | .hbm, ⟨1, _⟩ => ⟨S3072, .f32⟩
  | .hbm, ⟨2, _⟩ => ⟨S3x256, .i32⟩
  | .hbm, ⟨3, _⟩ => ⟨S2304x96x16, .i8⟩
  | .hbm, ⟨4, _⟩ => ⟨S2304, .f32⟩
  | .hbm, ⟨5, _⟩ => ⟨S768x96x16, .i8⟩
  | .hbm, ⟨6, _⟩ => ⟨S768, .f32⟩
  | .hbm, ⟨7, _⟩ => ⟨S768x96x16, .i8⟩
  | .hbm, ⟨8, _⟩ => ⟨S768, .f32⟩
  | .hbm, ⟨9, _⟩ => ⟨S48, .f32⟩
  | .hbm, ⟨10, _⟩ => ⟨S_, .f32⟩
  | .hbm, ⟨11, _⟩ => ⟨S48, .f32⟩
  | .hbm, ⟨12, _⟩ => ⟨S48, .f32⟩
  | .hbm, ⟨13, _⟩ => ⟨S48, .f32⟩
  | .hbm, ⟨14, _⟩ => ⟨S_, .f32⟩
  | .hbm, ⟨15, _⟩ => ⟨S48, .f32⟩
  | .hbm, ⟨16, _⟩ => ⟨S48, .f32⟩
  | .hbm, ⟨17, _⟩ => ⟨S_, .f32⟩
  | .hbm, ⟨18, _⟩ => ⟨S48, .f32⟩
  | .hbm, ⟨19, _⟩ => ⟨S48, .f32⟩
  | .hbm, ⟨20, _⟩ => ⟨S3x256x24x96, .bf16⟩
  | .hbm, ⟨21, _⟩ => ⟨S3x256x8x96, .bf16⟩
  | .hbm, ⟨22, _⟩ => ⟨S3x256x8x96, .bf16⟩
  | .hbm, ⟨23, _⟩ => ⟨S3x256x3072, .i8⟩
  | .hbm, ⟨24, _⟩ => ⟨S3x256, .f32⟩
  | .local _ .vmem, ⟨0, _⟩ => ⟨S3x256x3072, .bf16⟩
  | .local _ .vmem, ⟨1, _⟩ => ⟨S3072, .f32⟩
  | .local _ .vmem, ⟨2, _⟩ => ⟨S3x256, .i32⟩
  | .local _ .vmem, ⟨3, _⟩ => ⟨S48, .f32⟩
  | .local _ .vmem, ⟨4, _⟩ => ⟨S2304x96x16, .i8⟩
  | .local _ .vmem, ⟨5, _⟩ => ⟨S2304, .f32⟩
  | .local _ .vmem, ⟨6, _⟩ => ⟨S768x96x16, .i8⟩
  | .local _ .vmem, ⟨7, _⟩ => ⟨S768, .f32⟩
  | .local _ .vmem, ⟨8, _⟩ => ⟨S768x96x16, .i8⟩
  | .local _ .vmem, ⟨9, _⟩ => ⟨S768, .f32⟩
  | .local _ .vmem, ⟨10, _⟩ => ⟨S3x256x24x96, .bf16⟩
  | .local _ .vmem, ⟨11, _⟩ => ⟨S3x256x8x96, .bf16⟩
  | .local _ .vmem, ⟨12, _⟩ => ⟨S3x256x8x96, .bf16⟩
  | .local _ .vmem, ⟨13, _⟩ => ⟨S3x256x3072, .i8⟩
  | .local _ .vmem, ⟨14, _⟩ => ⟨S3x256, .f32⟩
  | _, _ => ⟨S3x256x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_v8_3 : Ref sig .tc := ⟨.hbm, 23, rfl⟩
abbrev main_v8_4 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S3x256x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2304x96x16 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S768x96x16 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S768x96x16 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x256x24x96 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x256x8x96 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x256x8x96 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x256x3072 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.KernelRuns.lean ====
/- The launch of the low-precision kernel: the arrays at the region, the conditions on the grid point, the staging buffers. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The lines before the region allocate nothing. -/
theorem hostOps0_fresh : (hostOps0 : List (HloOp τ sig (Elt F))).Forall fun op => op.fresh = ∅ := by
  simp only [List.Forall]; repeat' constructor
/-- The lines after the region allocate nothing. -/
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch₀0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 224000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v18, main_v19, main_v20, main_v21, main_v22, main_v23, main_v24}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb; cases Proc.devRef_injective _ hb; decide

/-- No host operation before the region writes an argument: the region finds it as launched. -/
theorem V_arg (c : Dev nD) (b : Ref sig .tc) (hb : b ∈ [main_arg0, main_arg1, main_arg2, main_arg3, main_arg4, main_arg5, main_arg6, main_arg7, main_arg8]) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (fun e => absurd (e ▸ hb) (by decide))))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, fetched there or not. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, fetched there or not. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Finset.mem_sdiff.mpr ⟨Pipeline.mem_restRefs_of main_arg0 (by decide) (by decide), by decide⟩)).trans (V_arg m c main_arg0 (by decide)),
      ((h c).2 main_arg1 (Finset.mem_sdiff.mpr ⟨Pipeline.mem_restRefs_of main_arg1 (by decide) (by decide), by decide⟩)).trans (V_arg m c main_arg1 (by decide)),
      (Pipeline.RDat.FramePostR.arr_in h c 2 rfl).trans ((hA c 2).trans (V_arg m c main_arg2 (by decide))),
      ((h c).2 main_arg3 (Finset.mem_sdiff.mpr ⟨Pipeline.mem_restRefs_of main_arg3 (by decide) (by decide), by decide⟩)).trans (V_arg m c main_arg3 (by decide)),
      ((h c).2 main_arg4 (Finset.mem_sdiff.mpr ⟨Pipeline.mem_restRefs_of main_arg4 (by decide) (by decide), by decide⟩)).trans (V_arg m c main_arg4 (by decide)),
      ((h c).2 main_arg5 (Finset.mem_sdiff.mpr ⟨Pipeline.mem_restRefs_of main_arg5 (by decide) (by decide), by decide⟩)).trans (V_arg m c main_arg5 (by decide)),
      ((h c).2 main_arg6 (Finset.mem_sdiff.mpr ⟨Pipeline.mem_restRefs_of main_arg6 (by decide) (by decide), by decide⟩)).trans (V_arg m c main_arg6 (by decide)),
      ((h c).2 main_arg7 (Finset.mem_sdiff.mpr ⟨Pipeline.mem_restRefs_of main_arg7 (by decide) (by decide), by decide⟩)).trans (V_arg m c main_arg7 (by decide)),
      ((h c).2 main_arg8 (Finset.mem_sdiff.mpr ⟨Pipeline.mem_restRefs_of main_arg8 (by decide) (by decide), by decide⟩)).trans (V_arg m c main_arg8 (by decide))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 15 = 0 :=
  (fun t => by
    have ht : t.val < 15 := Nat.lt_of_lt_of_eq t.isLt N_0
    have e0 : (grid0.coords t 0).val = t.val / 1 % 15 := Pipeline.Grid.coords_val t 0 (by decide) rfl
    simp only [cond0_0, k0_cond1, e0]
    word_cmp
   : ∀ t : Fin grid0.N, cond0_0 (grid0.coords t) ↔ t.val % 15 = 0)

/-- The condition of the body's `scf.if` 1 (`k0_h2`), from the grid coordinates (the skeleton's scalar
    chain substituted). -/
abbrev cond0_1 (i : grid0.Coords) : Prop := k0_cond2 i = 1#1
/-- It holds at the points before point 9 — decided over the grid. -/
theorem hcond0_1 : ∀ t : Fin cfg0.N, cond0_1 (grid0.coords t) ↔ t.val < 9 :=
  (by decide +kernel : ∀ t : Fin grid0.N, cond0_1 (grid0.coords t) ↔ t.val < 9)

/-- The condition of the body's `scf.if` 2 (`k0_h3`), from the grid coordinates (the skeleton's scalar
    chain substituted). -/
abbrev cond0_2 (i : grid0.Coords) : Prop := k0_cond3 i = 1#1
/-- It holds at the points whose coordinates have 9 ≤ i0 and i0 ≤ 11 — decided over the grid. -/
theorem hcond0_2 : ∀ t : Fin cfg0.N, cond0_2 (grid0.coords t) ↔ (9 ≤ t.val % 15 ∧ t.val % 15 ≤ 11) :=
  (by decide +kernel : ∀ t : Fin grid0.N, cond0_2 (grid0.coords t) ↔ (9 ≤ t.val % 15 ∧ t.val % 15 ≤ 11))

/-- The condition of the body's `scf.if` 3 (`k0_h4`), from the grid coordinates (the skeleton's scalar
    chain substituted). -/
abbrev cond0_3 (i : grid0.Coords) : Prop := k0_cond4 i = 1#1
/-- It holds at the points from point 12 on — decided over the grid. -/
theorem hcond0_3 : ∀ t : Fin cfg0.N, cond0_3 (grid0.coords t) ↔ 12 ≤ t.val :=
  (by decide +kernel : ∀ t : Fin grid0.N, cond0_3 (grid0.coords t) ↔ 12 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S768x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x16x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x16x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x16x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x16x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S96x16x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S96x16x128 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S3x256x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S3x256x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S3x256x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S768x3072 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S3x256 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S768x3072 .bf16 := Memref.whole cc0_scratch0
abbrev scM0_1 : Memref sig .tc .vmem S3072x256 .bf16 := Memref.whole cc0_scratch1
abbrev scM0_2 : Memref sig .tc .vmem S768x128 .f32 := Memref.whole cc0_scratch2
abbrev scM0_3 : Memref sig .tc .vmem S3x256 .f32 := Memref.whole cc0_scratch3
abbrev scM0_4 : Memref sig .tc .vmem S3x48x256 .f32 := Memref.whole cc0_scratch4
abbrev scM0_5 : Memref sig .tc .vmem S3x48x256 .f32 := Memref.whole cc0_scratch5
abbrev scM0_6 : Memref sig .tc .vmem S2x256x128 .f32 := Memref.whole cc0_scratch6
/-- The scratch `arg17` the kernel carries between points, as a view: what it holds is stated through it. -/
abbrev VS0_0 : View sig .tc .vmem S768x3072 .bf16 := scM0_0.view
/-- The scratch `arg21` the kernel carries between points, as a view: what it holds is stated through it. -/
abbrev VS0_4 : View sig .tc .vmem S3x48x256 .f32 := scM0_4.view
/-- The scratch `arg22` the kernel carries between points, as a view: what it holds is stated through it. -/
abbrev VS0_5 : View sig .tc .vmem S3x48x256 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Gen

end
-- ==== Proof.KernelRunA.lean ====
/- The body of the low-precision kernel at the first grid point. -/
module

public import proofs.«01_k».proof.Proof.KernelRuns

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1316000 in
/-- What the body's stores leave in each output's staging memref, as pieces (last first) IN CASE A (`scf.if` 0 taken, `scf.if` 1 taken, `scf.if` 2 not taken, `scf.if` 3 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (11, 12, 13, 14, 15) at anything, handed back at some contents nothing names. -/
noncomputable def kernelRun0_A (c : Dev nD) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole) (hc0 : cond0_0 i) (hc1 : cond0_1 i) (hc2 : ¬cond0_2 i) (hc3 : ¬cond0_3 i)
    (x0 : Vec F S768x3072 .bf16) (x1 : Vec F S1x3072 .f32) (x2 : Vec F S3x256 .i32) (x3 : Vec F S48x128 .f32) (x4 : Vec F S96x16x128 .i8) (x5 : Vec F S96x16x128 .i8) (x6 : Vec F S96x16x128 .i8) (x7 : Vec F S96x16x128 .i8) (x8 : Vec F S96x16x128 .i8) (x9 : Vec F S96x16x128 .i8) (x10 : Vec F S1x1x256 .f32) :
    Σ' (LS0 : List (View.Piece (Elt F) S768x3072 .bf16)), Σ' (LS4 : List (View.Piece (Elt F) S3x48x256 .f32)), { LS5 : List (View.Piece (Elt F) S3x48x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f LS0) ∗ (∃ d, owns (c : Thread nD τ) arg18 fullShare d) ∗ (∃ d, owns (c : Thread nD τ) arg19 fullShare d) ∗ (∃ d, owns (c : Thread nD τ) arg20 fullShare d) ∗ (∃ f, arg21.view.loc (c : Thread nD τ) ↦[arg21.view.set]{fullShare} arg21.view.writes (Elt F) f LS4) ∗ (∃ f, arg22.view.loc (c : Thread nD τ) ↦[arg22.view.set]{fullShare} arg22.view.writes (Elt F) f LS5) ∗ (∃ d, owns (c : Thread nD τ) arg23 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, fun E K => ?run⟩
  case run =>
    simp only [cc0_qkv_eq_skeleton]; unfold cc0_qkv_skel
    simp only [k0_part2_eq_skeleton, k0_part3_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]; · iexists _; iexact HS4
    isplitl [HS5]; · iexists _; iexact HS5
    iexists _, _; isplitr; swap; · iexact HS6
    ipureintro; rfl

end Cert.Kernel.Gen

end
-- ==== Proof.KernelRunB.lean ====
/- The body at a later query point. -/
module

public import proofs.«01_k».proof.Proof.KernelRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 taken, `scf.if` 2 not taken, `scf.if` 3 not taken: points 1, 2, … 8: 8 of 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (11, 12, 13, 14, 15) at anything, handed back at some contents nothing names. -/
noncomputable def kernelRun0_B (c : Dev nD) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole) (hc0 : ¬cond0_0 i) (hc1 : cond0_1 i) (hc2 : ¬cond0_2 i) (hc3 : ¬cond0_3 i)
    (x0 : Vec F S768x3072 .bf16) (x1 : Vec F S1x3072 .f32) (x2 : Vec F S3x256 .i32) (x3 : Vec F S48x128 .f32) (x4 : Vec F S96x16x128 .i8) (x5 : Vec F S96x16x128 .i8) (x6 : Vec F S96x16x128 .i8) (x7 : Vec F S96x16x128 .i8) (x8 : Vec F S96x16x128 .i8) (x9 : Vec F S96x16x128 .i8) (x10 : Vec F S1x1x256 .f32) (xs0 : Vec F S768x3072 .bf16) (xs4 : Vec F S3x48x256 .f32) (xs5 : Vec F S3x48x256 .f32) :
    Σ' (LS0 : List (View.Piece (Elt F) S768x3072 .bf16)), Σ' (LS4 : List (View.Piece (Elt F) S3x48x256 .f32)), { LS5 : List (View.Piece (Elt F) S3x48x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ (∃ d, owns (c : Thread nD τ) arg23 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], [], fun E K => ?run⟩
  case run =>
    simp only [cc0_qkv_eq_skeleton]; unfold cc0_qkv_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg17.eq_unread hfs0; obtain rfl := harg21.eq_unread hfs4; obtain rfl := harg22.eq_unread hfs5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _; isplitr; · ipureintro; exact harg17.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _; isplitr; · ipureintro; exact harg21.read_unread _
      iexact HS4
    isplitl [HS5]
    · iexists _; isplitr; · ipureintro; exact harg22.read_unread _
      iexact HS5
    iexists _, _; isplitr; swap; · iexact HS6
    ipureintro; rfl

end Cert.Kernel.Gen

end
-- ==== Proof.KernelRunC.lean ====
/- The body at a key point. -/
module

public import proofs.«01_k».proof.Proof.KernelRunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE C (`scf.if` 0 not taken, `scf.if` 1 not taken, `scf.if` 2 taken, `scf.if` 3 not taken: points 9, 10, 11), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (11, 12, 13, 14, 15) at anything, handed back at some contents nothing names. -/
noncomputable def kernelRun0_C (c : Dev nD) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole) (hc0 : ¬cond0_0 i) (hc1 : ¬cond0_1 i) (hc2 : cond0_2 i) (hc3 : ¬cond0_3 i)
    (x0 : Vec F S768x3072 .bf16) (x1 : Vec F S1x3072 .f32) (x2 : Vec F S3x256 .i32) (x3 : Vec F S48x128 .f32) (x4 : Vec F S96x16x128 .i8) (x5 : Vec F S96x16x128 .i8) (x6 : Vec F S96x16x128 .i8) (x7 : Vec F S96x16x128 .i8) (x8 : Vec F S96x16x128 .i8) (x9 : Vec F S96x16x128 .i8) (x10 : Vec F S1x1x256 .f32) (xs0 : Vec F S768x3072 .bf16) (xs4 : Vec F S3x48x256 .f32) (xs5 : Vec F S3x48x256 .f32) :
    Σ' (LS0 : List (View.Piece (Elt F) S768x3072 .bf16)), Σ' (LS4 : List (View.Piece (Elt F) S3x48x256 .f32)), { LS5 : List (View.Piece (Elt F) S3x48x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ (∃ d, owns (c : Thread nD τ) arg23 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], [], fun E K => ?run⟩
  case run =>
    simp only [cc0_qkv_eq_skeleton]; unfold cc0_qkv_skel
    simp only [k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg17.eq_unread hfs0; obtain rfl := harg21.eq_unread hfs4; obtain rfl := harg22.eq_unread hfs5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _; isplitr; · ipureintro; exact harg17.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _; isplitr; · ipureintro; exact harg21.read_unread _
      iexact HS4
    isplitl [HS5]
    · iexists _; isplitr; · ipureintro; exact harg22.read_unread _
      iexact HS5
    iexists _, _; isplitr; swap; · iexact HS6
    ipureintro; rfl

end Cert.Kernel.Gen

end
-- ==== Proof.KernelRunD.lean ====
/- The body at a value point. -/
module

public import proofs.«01_k».proof.Proof.KernelRunC

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE D (`scf.if` 0 not taken, `scf.if` 1 not taken, `scf.if` 2 not taken, `scf.if` 3 taken: points 12, 13, 14), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (11, 12, 13, 14, 15) at anything, handed back at some contents nothing names. -/
noncomputable def kernelRun0_D (c : Dev nD) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole) (hc0 : ¬cond0_0 i) (hc1 : ¬cond0_1 i) (hc2 : ¬cond0_2 i) (hc3 : cond0_3 i)
    (x0 : Vec F S768x3072 .bf16) (x1 : Vec F S1x3072 .f32) (x2 : Vec F S3x256 .i32) (x3 : Vec F S48x128 .f32) (x4 : Vec F S96x16x128 .i8) (x5 : Vec F S96x16x128 .i8) (x6 : Vec F S96x16x128 .i8) (x7 : Vec F S96x16x128 .i8) (x8 : Vec F S96x16x128 .i8) (x9 : Vec F S96x16x128 .i8) (x10 : Vec F S1x1x256 .f32) (xs0 : Vec F S768x3072 .bf16) (xs4 : Vec F S3x48x256 .f32) (xs5 : Vec F S3x48x256 .f32) :
    Σ' (LS0 : List (View.Piece (Elt F) S768x3072 .bf16)), Σ' (LS4 : List (View.Piece (Elt F) S3x48x256 .f32)), { LS5 : List (View.Piece (Elt F) S3x48x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs0 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xs4 ∗ owns (c : Thread nD τ) arg22 fullShare xs5 ∗ (∃ d, owns (c : Thread nD τ) arg23 fullShare d)) -∗ K ⟨⟩))
          ⊢ wp frame (wpE (defs₀ (F := F)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨[], [], [], fun E K => ?run⟩
  case run =>
    simp only [cc0_qkv_eq_skeleton]; unfold cc0_qkv_skel
    simp only [k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg17.eq_unread hfs0; obtain rfl := harg21.eq_unread hfs4; obtain rfl := harg22.eq_unread hfs5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [HS0]
    · iexists _; isplitr; · ipureintro; exact harg17.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _; isplitr; · ipureintro; exact harg21.read_unread _
      iexact HS4
    isplitl [HS5]
    · iexists _; isplitr; · ipureintro; exact harg22.read_unread _
      iexact HS5
    iexists _, _; isplitr; swap; · iexact HS6
    ipureintro; rfl

end Cert.Kernel.Gen

end
-- ==== Proof.FrameK.lean ====
/- The launch of the low-precision kernel: every run ends, with every input array as it was found and every semaphore
   counter at zero.  Of the outputs and of the scratch nothing is named. -/
module

public import proofs.«01_k».proof.Proof.KernelRunD
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- The output windows of which nothing is stated. -/
def forgets0 : Fin 16 → Bool := fun w => w.val == 11 || w.val == 12 || w.val == 13 || w.val == 14 || w.val == 15

/-- The proof data on core `c`: the arrays as the region finds them; each input buffer at its block after every point;
    the scratch at anything throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨_ + 16, h⟩ => absurd h (Nat.not_lt.2 (Nat.le_add_left _ _))
  Φ _ := Pipeline.ΦA spec0 c
  q w := Pipeline.shareOf spec0 w
  owed _ := 0

/-- The arrays of the proof data are the contents the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d))

set_option maxHeartbeats 8000000 in
/-- The body at a point of case A. -/
theorem sound_A (c : Dev nD) (t : Fin cfg0.N) (h0 : t.val % 15 = 0) (h1 : t.val < 9) (h2 : ¬(9 ≤ t.val % 15 ∧ t.val % 15 ≤ 11)) (h3 : ¬12 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun0_A c (grid0.coords t) _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, ⟨%es0, HS0⟩, HS1, HS2, HS3, ⟨%es4, HS4⟩, ⟨%es5, HS5⟩, HS6⟩
  isplitl [HS0 HS1 HS2 HS3 HS4 HS5 HS6 Hg]
  · isplitl [HS0 HS1 HS2 HS3 HS4 HS5 HS6]
    · isplitl [HS0]
      · unfold owns; iexists _, _; isplitr; swap; · iexact HS0
        ipureintro; rfl
      isplitl [HS1]
      · iexact HS1
      isplitl [HS2]
      · iexact HS2
      isplitl [HS3]
      · iexact HS3
      isplitl [HS4]
      · unfold owns; iexists _, _; isplitr; swap; · iexact HS4
        ipureintro; rfl
      isplitl [HS5]
      · unfold owns; iexists _, _; isplitr; swap; · iexact HS5
        ipureintro; rfl
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

set_option maxHeartbeats 8000000 in
/-- The body at a point of case B. -/
theorem sound_B (c : Dev nD) (t : Fin cfg0.N) (h0 : ¬t.val % 15 = 0) (h1 : t.val < 9) (h2 : ¬(9 ≤ t.val % 15 ∧ t.val % 15 ≤ 11)) (h3 : ¬12 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  iintro ⟨⟨⟨⟨%xs0, HS0⟩, HS1, HS2, HS3, ⟨%xs4, HS4⟩, ⟨%xs5, HS5⟩, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun0_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs4 xs5).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, HS0, HS1, HS2, HS3, HS4, HS5, HS6⟩
  isplitl [HS0 HS1 HS2 HS3 HS4 HS5 HS6 Hg]
  · isplitl [HS0 HS1 HS2 HS3 HS4 HS5 HS6]
    · isplitl [HS0]
      · iexists _; iexact HS0
      isplitl [HS1]
      · iexact HS1
      isplitl [HS2]
      · iexact HS2
      isplitl [HS3]
      · iexact HS3
      isplitl [HS4]
      · iexists _; iexact HS4
      isplitl [HS5]
      · iexists _; iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

set_option maxHeartbeats 8000000 in
/-- The body at a point of case C. -/
theorem sound_C (c : Dev nD) (t : Fin cfg0.N) (h0 : ¬t.val % 15 = 0) (h1 : ¬t.val < 9) (h2 : (9 ≤ t.val % 15 ∧ t.val % 15 ≤ 11)) (h3 : ¬12 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  iintro ⟨⟨⟨⟨%xs0, HS0⟩, HS1, HS2, HS3, ⟨%xs4, HS4⟩, ⟨%xs5, HS5⟩, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun0_C c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs4 xs5).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, HS0, HS1, HS2, HS3, HS4, HS5, HS6⟩
  isplitl [HS0 HS1 HS2 HS3 HS4 HS5 HS6 Hg]
  · isplitl [HS0 HS1 HS2 HS3 HS4 HS5 HS6]
    · isplitl [HS0]
      · iexists _; iexact HS0
      isplitl [HS1]
      · iexact HS1
      isplitl [HS2]
      · iexact HS2
      isplitl [HS3]
      · iexact HS3
      isplitl [HS4]
      · iexists _; iexact HS4
      isplitl [HS5]
      · iexists _; iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

set_option maxHeartbeats 8000000 in
/-- The body at a point of case D. -/
theorem sound_D (c : Dev nD) (t : Fin cfg0.N) (h0 : ¬t.val % 15 = 0) (h1 : ¬t.val < 9) (h2 : ¬(9 ≤ t.val % 15 ∧ t.val % 15 ≤ 11)) (h3 : 12 ≤ t.val) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  iintro ⟨⟨⟨⟨%xs0, HS0⟩, HS1, HS2, HS3, ⟨%xs4, HS4⟩, ⟨%xs5, HS5⟩, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((kernelRun0_D c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) xs0 xs4 xs5).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, HS0, HS1, HS2, HS3, HS4, HS5, HS6⟩
  isplitl [HS0 HS1 HS2 HS3 HS4 HS5 HS6 Hg]
  · isplitl [HS0 HS1 HS2 HS3 HS4 HS5 HS6]
    · isplitl [HS0]
      · iexists _; iexact HS0
      isplitl [HS1]
      · iexact HS1
      isplitl [HS2]
      · iexact HS2
      isplitl [HS3]
      · iexact HS3
      isplitl [HS4]
      · iexists _; iexact HS4
      isplitl [HS5]
      · iexists _; iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body at any point. -/
theorem sound_body (c : Dev nD) (t : Fin cfg0.N) :
    bodyPre m c t ⊢ wp frame (wpE (defs₀ (F := F)) Variants.none c none) Set.univ (bodyAt0 t) (fun _ => bodyPost m c t) := by
  have hN : t.val < 15 := lt_of_lt_of_eq t.isLt (show cfg0.N = 15 from N_0)
  by_cases h0 : t.val % 15 = 0
  · exact sound_A m c t h0 (by omega) (by omega) (by omega)
  · by_cases h1 : t.val < 9
    · exact sound_B m c t h0 h1 (by omega) (by omega)
    · by_cases h2 : (9 ≤ t.val % 15 ∧ t.val % 15 ≤ 11)
      · exact sound_C m c t h0 h1 h2 (by omega)
      · exact sound_D m c t h0 h1 h2 (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := .rfl

/-- The invariant after the last point is what the launch takes back. -/
theorem hout (c : Dev nD) : (dats m 0 c).Φ (Fin.last cfg0.N) ⊢ Pipeline.ΦA spec0 c := .rfl

-- `θ_run_frame_around_T_track_forget_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget_shared (Q' := _) cfgs (dats m) (0 : Fin 1) launch₀0 defs₀ Variants.none forgets0 T0 m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 11, 12, 13, 14, 15) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel.Gen

end
-- ==== Proof.Conds.lean ====
/- What the runs of the idealized kernel's body share: the branch conditions in closed form over the grid points,
   where the output windows are idle, and the staging and scratch memrefs. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 15 = 0 :=
  (fun t => by
    have ht : t.val < 15 := Nat.lt_of_lt_of_eq t.isLt N_0
    have e0 : (grid0.coords t 0).val = t.val / 1 % 15 := Pipeline.Grid.coords_val t 0 (by decide) rfl
    simp only [cond0_0, k0_cond1, e0]
    word_cmp
   : ∀ t : Fin grid0.N, cond0_0 (grid0.coords t) ↔ t.val % 15 = 0)

/-- The condition of the body's `scf.if` 1 (`k0_h2`), from the grid coordinates (the skeleton's scalar
    chain substituted). -/
abbrev cond0_1 (i : grid0.Coords) : Prop := k0_cond2 i = 1#1
/-- It holds at the points before point 9 — decided over the grid. -/
theorem hcond0_1 : ∀ t : Fin cfg0.N, cond0_1 (grid0.coords t) ↔ t.val < 9 :=
  (by decide +kernel : ∀ t : Fin grid0.N, cond0_1 (grid0.coords t) ↔ t.val < 9)

/-- The condition of the body's `scf.if` 2 (`k0_h3`), from the grid coordinates (the skeleton's scalar
    chain substituted). -/
abbrev cond0_2 (i : grid0.Coords) : Prop := k0_cond3 i = 1#1
/-- It holds at the points whose coordinates have 9 ≤ i0 and i0 ≤ 11 — decided over the grid. -/
theorem hcond0_2 : ∀ t : Fin cfg0.N, cond0_2 (grid0.coords t) ↔ (9 ≤ t.val % 15 ∧ t.val % 15 ≤ 11) :=
  (by decide +kernel : ∀ t : Fin grid0.N, cond0_2 (grid0.coords t) ↔ (9 ≤ t.val % 15 ∧ t.val % 15 ≤ 11))

/-- The condition of the body's `scf.if` 3 (`k0_h4`), from the grid coordinates (the skeleton's scalar
    chain substituted). -/
abbrev cond0_3 (i : grid0.Coords) : Prop := k0_cond4 i = 1#1
/-- It holds at the points from point 12 on — decided over the grid. -/
theorem hcond0_3 : ∀ t : Fin cfg0.N, cond0_3 (grid0.coords t) ↔ 12 ≤ t.val :=
  (by decide +kernel : ∀ t : Fin grid0.N, cond0_3 (grid0.coords t) ↔ 12 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
/-- Case D's branch conditions on the grid, as one proposition. -/
abbrev conds0_D (i : grid0.Coords) : Prop := ¬cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
/-- At the points of case A the printed configuration (`Cfg.idle`) calls output 11 live: the case stores into it. -/
theorem liveAt0_11_A : ∀ t : Fin cfg0.N, cond0_0 (grid0.coords t) → cond0_1 (grid0.coords t) → ¬cond0_2 (grid0.coords t) → ¬cond0_3 (grid0.coords t) → cfg0.idle 11 (grid0.coords t) = false :=
  fun t h0 h1 h2 h3 => (by decide +kernel : ∀ t : Fin cfg0.N, conds0_A (grid0.coords t) → cfg0.idle 11 (grid0.coords t) = false) t ⟨h0, h1, h2, h3⟩
/-- At the points of case B the printed configuration (`Cfg.idle`) calls output 11 live: the case stores into it. -/
theorem liveAt0_11_B : ∀ t : Fin cfg0.N, ¬cond0_0 (grid0.coords t) → cond0_1 (grid0.coords t) → ¬cond0_2 (grid0.coords t) → ¬cond0_3 (grid0.coords t) → cfg0.idle 11 (grid0.coords t) = false :=
  fun t h0 h1 h2 h3 => (by decide +kernel : ∀ t : Fin cfg0.N, conds0_B (grid0.coords t) → cfg0.idle 11 (grid0.coords t) = false) t ⟨h0, h1, h2, h3⟩
/-- At the points of case C the printed configuration (`Cfg.idle`) calls output 11 idle: the case stores nothing into it. -/
theorem idleAt0_11_C : ∀ t : Fin cfg0.N, ¬cond0_0 (grid0.coords t) → ¬cond0_1 (grid0.coords t) → cond0_2 (grid0.coords t) → ¬cond0_3 (grid0.coords t) → cfg0.idle 11 (grid0.coords t) = true :=
  fun t h0 h1 h2 h3 => (by decide +kernel : ∀ t : Fin cfg0.N, conds0_C (grid0.coords t) → cfg0.idle 11 (grid0.coords t) = true) t ⟨h0, h1, h2, h3⟩
/-- At the points of case C the pipeline does not write output 11's block back. -/
theorem noFlush0_11_C : ∀ t : Fin cfg0.N, ¬cond0_0 (grid0.coords t) → ¬cond0_1 (grid0.coords t) → cond0_2 (grid0.coords t) → ¬cond0_3 (grid0.coords t) → (cfg0.win 11).flush t = false :=
  fun t h0 h1 h2 h3 => (by decide +kernel : ∀ t : Fin cfg0.N, conds0_C (grid0.coords t) → (cfg0.win 11).flush t = false) t ⟨h0, h1, h2, h3⟩
/-- At the points of case D the printed configuration (`Cfg.idle`) calls output 11 idle: the case stores nothing into it. -/
theorem idleAt0_11_D : ∀ t : Fin cfg0.N, ¬cond0_0 (grid0.coords t) → ¬cond0_1 (grid0.coords t) → ¬cond0_2 (grid0.coords t) → cond0_3 (grid0.coords t) → cfg0.idle 11 (grid0.coords t) = true :=
  fun t h0 h1 h2 h3 => (by decide +kernel : ∀ t : Fin cfg0.N, conds0_D (grid0.coords t) → cfg0.idle 11 (grid0.coords t) = true) t ⟨h0, h1, h2, h3⟩
/-- At the points of case A the printed configuration (`Cfg.idle`) calls output 12 idle: the case stores nothing into it. -/
theorem idleAt0_12_A : ∀ t : Fin cfg0.N, cond0_0 (grid0.coords t) → cond0_1 (grid0.coords t) → ¬cond0_2 (grid0.coords t) → ¬cond0_3 (grid0.coords t) → cfg0.idle 12 (grid0.coords t) = true :=
  fun t h0 h1 h2 h3 => (by decide +kernel : ∀ t : Fin cfg0.N, conds0_A (grid0.coords t) → cfg0.idle 12 (grid0.coords t) = true) t ⟨h0, h1, h2, h3⟩
/-- At the points of case A the pipeline does not write output 12's block back. -/
theorem noFlush0_12_A : ∀ t : Fin cfg0.N, cond0_0 (grid0.coords t) → cond0_1 (grid0.coords t) → ¬cond0_2 (grid0.coords t) → ¬cond0_3 (grid0.coords t) → (cfg0.win 12).flush t = false :=
  fun t h0 h1 h2 h3 => (by decide +kernel : ∀ t : Fin cfg0.N, conds0_A (grid0.coords t) → (cfg0.win 12).flush t = false) t ⟨h0, h1, h2, h3⟩
/-- At the points of case B the printed configuration (`Cfg.idle`) calls output 12 idle: the case stores nothing into it. -/
theorem idleAt0_12_B : ∀ t : Fin cfg0.N, ¬cond0_0 (grid0.coords t) → cond0_1 (grid0.coords t) → ¬cond0_2 (grid0.coords t) → ¬cond0_3 (grid0.coords t) → cfg0.idle 12 (grid0.coords t) = true :=
  fun t h0 h1 h2 h3 => (by decide +kernel : ∀ t : Fin cfg0.N, conds0_B (grid0.coords t) → cfg0.idle 12 (grid0.coords t) = true) t ⟨h0, h1, h2, h3⟩
/-- At the points of case B the pipeline does not write output 12's block back. -/
theorem noFlush0_12_B : ∀ t : Fin cfg0.N, ¬cond0_0 (grid0.coords t) → cond0_1 (grid0.coords t) → ¬cond0_2 (grid0.coords t) → ¬cond0_3 (grid0.coords t) → (cfg0.win 12).flush t = false :=
  fun t h0 h1 h2 h3 => (by decide +kernel : ∀ t : Fin cfg0.N, conds0_B (grid0.coords t) → (cfg0.win 12).flush t = false) t ⟨h0, h1, h2, h3⟩
/-- At the points of case C the printed configuration (`Cfg.idle`) calls output 12 live: the case stores into it. -/
theorem liveAt0_12_C : ∀ t : Fin cfg0.N, ¬cond0_0 (grid0.coords t) → ¬cond0_1 (grid0.coords t) → cond0_2 (grid0.coords t) → ¬cond0_3 (grid0.coords t) → cfg0.idle 12 (grid0.coords t) = false :=
  fun t h0 h1 h2 h3 => (by decide +kernel : ∀ t : Fin cfg0.N, conds0_C (grid0.coords t) → cfg0.idle 12 (grid0.coords t) = false) t ⟨h0, h1, h2, h3⟩
/-- At the points of case D the printed configuration (`Cfg.idle`) calls output 12 idle: the case stores nothing into it. -/
theorem idleAt0_12_D : ∀ t : Fin cfg0.N, ¬cond0_0 (grid0.coords t) → ¬cond0_1 (grid0.coords t) → ¬cond0_2 (grid0.coords t) → cond0_3 (grid0.coords t) → cfg0.idle 12 (grid0.coords t) = true :=
  fun t h0 h1 h2 h3 => (by decide +kernel : ∀ t : Fin cfg0.N, conds0_D (grid0.coords t) → cfg0.idle 12 (grid0.coords t) = true) t ⟨h0, h1, h2, h3⟩
/-- At the points of case A the printed configuration (`Cfg.idle`) calls output 13 idle: the case stores nothing into it. -/
theorem idleAt0_13_A : ∀ t : Fin cfg0.N, cond0_0 (grid0.coords t) → cond0_1 (grid0.coords t) → ¬cond0_2 (grid0.coords t) → ¬cond0_3 (grid0.coords t) → cfg0.idle 13 (grid0.coords t) = true :=
  fun t h0 h1 h2 h3 => (by decide +kernel : ∀ t : Fin cfg0.N, conds0_A (grid0.coords t) → cfg0.idle 13 (grid0.coords t) = true) t ⟨h0, h1, h2, h3⟩
/-- At the points of case A the pipeline does not write output 13's block back. -/
theorem noFlush0_13_A : ∀ t : Fin cfg0.N, cond0_0 (grid0.coords t) → cond0_1 (grid0.coords t) → ¬cond0_2 (grid0.coords t) → ¬cond0_3 (grid0.coords t) → (cfg0.win 13).flush t = false :=
  fun t h0 h1 h2 h3 => (by decide +kernel : ∀ t : Fin cfg0.N, conds0_A (grid0.coords t) → (cfg0.win 13).flush t = false) t ⟨h0, h1, h2, h3⟩
/-- At the points of case B the printed configuration (`Cfg.idle`) calls output 13 idle: the case stores nothing into it. -/
theorem idleAt0_13_B : ∀ t : Fin cfg0.N, ¬cond0_0 (grid0.coords t) → cond0_1 (grid0.coords t) → ¬cond0_2 (grid0.coords t) → ¬cond0_3 (grid0.coords t) → cfg0.idle 13 (grid0.coords t) = true :=
  fun t h0 h1 h2 h3 => (by decide +kernel : ∀ t : Fin cfg0.N, conds0_B (grid0.coords t) → cfg0.idle 13 (grid0.coords t) = true) t ⟨h0, h1, h2, h3⟩
/-- At the points of case B the pipeline does not write output 13's block back. -/
theorem noFlush0_13_B : ∀ t : Fin cfg0.N, ¬cond0_0 (grid0.coords t) → cond0_1 (grid0.coords t) → ¬cond0_2 (grid0.coords t) → ¬cond0_3 (grid0.coords t) → (cfg0.win 13).flush t = false :=
  fun t h0 h1 h2 h3 => (by decide +kernel : ∀ t : Fin cfg0.N, conds0_B (grid0.coords t) → (cfg0.win 13).flush t = false) t ⟨h0, h1, h2, h3⟩
/-- At the points of case C the printed configuration (`Cfg.idle`) calls output 13 idle: the case stores nothing into it. -/
theorem idleAt0_13_C : ∀ t : Fin cfg0.N, ¬cond0_0 (grid0.coords t) → ¬cond0_1 (grid0.coords t) → cond0_2 (grid0.coords t) → ¬cond0_3 (grid0.coords t) → cfg0.idle 13 (grid0.coords t) = true :=
  fun t h0 h1 h2 h3 => (by decide +kernel : ∀ t : Fin cfg0.N, conds0_C (grid0.coords t) → cfg0.idle 13 (grid0.coords t) = true) t ⟨h0, h1, h2, h3⟩
/-- At the points of case C the pipeline does not write output 13's block back. -/
theorem noFlush0_13_C : ∀ t : Fin cfg0.N, ¬cond0_0 (grid0.coords t) → ¬cond0_1 (grid0.coords t) → cond0_2 (grid0.coords t) → ¬cond0_3 (grid0.coords t) → (cfg0.win 13).flush t = false :=
  fun t h0 h1 h2 h3 => (by decide +kernel : ∀ t : Fin cfg0.N, conds0_C (grid0.coords t) → (cfg0.win 13).flush t = false) t ⟨h0, h1, h2, h3⟩
/-- At the points of case D the printed configuration (`Cfg.idle`) calls output 13 live: the case stores into it. -/
theorem liveAt0_13_D : ∀ t : Fin cfg0.N, ¬cond0_0 (grid0.coords t) → ¬cond0_1 (grid0.coords t) → ¬cond0_2 (grid0.coords t) → cond0_3 (grid0.coords t) → cfg0.idle 13 (grid0.coords t) = false :=
  fun t h0 h1 h2 h3 => (by decide +kernel : ∀ t : Fin cfg0.N, conds0_D (grid0.coords t) → cfg0.idle 13 (grid0.coords t) = false) t ⟨h0, h1, h2, h3⟩
/-- At the points of case A the printed configuration (`Cfg.idle`) calls output 14 live: the case stores into it. -/
theorem liveAt0_14_A : ∀ t : Fin cfg0.N, cond0_0 (grid0.coords t) → cond0_1 (grid0.coords t) → ¬cond0_2 (grid0.coords t) → ¬cond0_3 (grid0.coords t) → cfg0.idle 14 (grid0.coords t) = false :=
  fun t h0 h1 h2 h3 => (by decide +kernel : ∀ t : Fin cfg0.N, conds0_A (grid0.coords t) → cfg0.idle 14 (grid0.coords t) = false) t ⟨h0, h1, h2, h3⟩
/-- At the points of case B the printed configuration (`Cfg.idle`) calls output 14 idle: the case stores nothing into it. -/
theorem idleAt0_14_B : ∀ t : Fin cfg0.N, ¬cond0_0 (grid0.coords t) → cond0_1 (grid0.coords t) → ¬cond0_2 (grid0.coords t) → ¬cond0_3 (grid0.coords t) → cfg0.idle 14 (grid0.coords t) = true :=
  fun t h0 h1 h2 h3 => (by decide +kernel : ∀ t : Fin cfg0.N, conds0_B (grid0.coords t) → cfg0.idle 14 (grid0.coords t) = true) t ⟨h0, h1, h2, h3⟩
/-- At the points of case B the pipeline does not write output 14's block back. -/
theorem noFlush0_14_B : ∀ t : Fin cfg0.N, ¬cond0_0 (grid0.coords t) → cond0_1 (grid0.coords t) → ¬cond0_2 (grid0.coords t) → ¬cond0_3 (grid0.coords t) → (cfg0.win 14).flush t = false :=
  fun t h0 h1 h2 h3 => (by decide +kernel : ∀ t : Fin cfg0.N, conds0_B (grid0.coords t) → (cfg0.win 14).flush t = false) t ⟨h0, h1, h2, h3⟩
/-- At the points of case C the printed configuration (`Cfg.idle`) calls output 14 idle: the case stores nothing into it. -/
theorem idleAt0_14_C : ∀ t : Fin cfg0.N, ¬cond0_0 (grid0.coords t) → ¬cond0_1 (grid0.coords t) → cond0_2 (grid0.coords t) → ¬cond0_3 (grid0.coords t) → cfg0.idle 14 (grid0.coords t) = true :=
  fun t h0 h1 h2 h3 => (by decide +kernel : ∀ t : Fin cfg0.N, conds0_C (grid0.coords t) → cfg0.idle 14 (grid0.coords t) = true) t ⟨h0, h1, h2, h3⟩
/-- At the points of case C the pipeline does not write output 14's block back. -/
theorem noFlush0_14_C : ∀ t : Fin cfg0.N, ¬cond0_0 (grid0.coords t) → ¬cond0_1 (grid0.coords t) → cond0_2 (grid0.coords t) → ¬cond0_3 (grid0.coords t) → (cfg0.win 14).flush t = false :=
  fun t h0 h1 h2 h3 => (by decide +kernel : ∀ t : Fin cfg0.N, conds0_C (grid0.coords t) → (cfg0.win 14).flush t = false) t ⟨h0, h1, h2, h3⟩
/-- At the points of case D the printed configuration (`Cfg.idle`) calls output 14 idle: the case stores nothing into it. -/
theorem idleAt0_14_D : ∀ t : Fin cfg0.N, ¬cond0_0 (grid0.coords t) → ¬cond0_1 (grid0.coords t) → ¬cond0_2 (grid0.coords t) → cond0_3 (grid0.coords t) → cfg0.idle 14 (grid0.coords t) = true :=
  fun t h0 h1 h2 h3 => (by decide +kernel : ∀ t : Fin cfg0.N, conds0_D (grid0.coords t) → cfg0.idle 14 (grid0.coords t) = true) t ⟨h0, h1, h2, h3⟩
/-- At the points of case A the printed configuration (`Cfg.idle`) calls output 15 live: the case stores into it. -/
theorem liveAt0_15_A : ∀ t : Fin cfg0.N, cond0_0 (grid0.coords t) → cond0_1 (grid0.coords t) → ¬cond0_2 (grid0.coords t) → ¬cond0_3 (grid0.coords t) → cfg0.idle 15 (grid0.coords t) = false :=
  fun t h0 h1 h2 h3 => (by decide +kernel : ∀ t : Fin cfg0.N, conds0_A (grid0.coords t) → cfg0.idle 15 (grid0.coords t) = false) t ⟨h0, h1, h2, h3⟩
/-- At the points of case B the printed configuration (`Cfg.idle`) calls output 15 idle: the case stores nothing into it. -/
theorem idleAt0_15_B : ∀ t : Fin cfg0.N, ¬cond0_0 (grid0.coords t) → cond0_1 (grid0.coords t) → ¬cond0_2 (grid0.coords t) → ¬cond0_3 (grid0.coords t) → cfg0.idle 15 (grid0.coords t) = true :=
  fun t h0 h1 h2 h3 => (by decide +kernel : ∀ t : Fin cfg0.N, conds0_B (grid0.coords t) → cfg0.idle 15 (grid0.coords t) = true) t ⟨h0, h1, h2, h3⟩
/-- At the points of case B the pipeline does not write output 15's block back. -/
theorem noFlush0_15_B : ∀ t : Fin cfg0.N, ¬cond0_0 (grid0.coords t) → cond0_1 (grid0.coords t) → ¬cond0_2 (grid0.coords t) → ¬cond0_3 (grid0.coords t) → (cfg0.win 15).flush t = false :=
  fun t h0 h1 h2 h3 => (by decide +kernel : ∀ t : Fin cfg0.N, conds0_B (grid0.coords t) → (cfg0.win 15).flush t = false) t ⟨h0, h1, h2, h3⟩
/-- At the points of case C the printed configuration (`Cfg.idle`) calls output 15 idle: the case stores nothing into it. -/
theorem idleAt0_15_C : ∀ t : Fin cfg0.N, ¬cond0_0 (grid0.coords t) → ¬cond0_1 (grid0.coords t) → cond0_2 (grid0.coords t) → ¬cond0_3 (grid0.coords t) → cfg0.idle 15 (grid0.coords t) = true :=
  fun t h0 h1 h2 h3 => (by decide +kernel : ∀ t : Fin cfg0.N, conds0_C (grid0.coords t) → cfg0.idle 15 (grid0.coords t) = true) t ⟨h0, h1, h2, h3⟩
/-- At the points of case C the pipeline does not write output 15's block back. -/
theorem noFlush0_15_C : ∀ t : Fin cfg0.N, ¬cond0_0 (grid0.coords t) → ¬cond0_1 (grid0.coords t) → cond0_2 (grid0.coords t) → ¬cond0_3 (grid0.coords t) → (cfg0.win 15).flush t = false :=
  fun t h0 h1 h2 h3 => (by decide +kernel : ∀ t : Fin cfg0.N, conds0_C (grid0.coords t) → (cfg0.win 15).flush t = false) t ⟨h0, h1, h2, h3⟩
/-- At the points of case D the printed configuration (`Cfg.idle`) calls output 15 idle: the case stores nothing into it. -/
theorem idleAt0_15_D : ∀ t : Fin cfg0.N, ¬cond0_0 (grid0.coords t) → ¬cond0_1 (grid0.coords t) → ¬cond0_2 (grid0.coords t) → cond0_3 (grid0.coords t) → cfg0.idle 15 (grid0.coords t) = true :=
  fun t h0 h1 h2 h3 => (by decide +kernel : ∀ t : Fin cfg0.N, conds0_D (grid0.coords t) → cfg0.idle 15 (grid0.coords t) = true) t ⟨h0, h1, h2, h3⟩

/-! ## The kernel body on any staging memrefs: a subtype the run finds -/

/-- One staging buffer of output window 11, through which its contents are stated (`View.read_writes_of_cover`: the
    choice does not matter). -/
abbrev VO0_11 : View sig .tc .vmem S3x256x256 .bf16 := (Memref.whole cc0_stg11_0 : Memref sig .tc .vmem S3x256x256 .bf16).view
/-- One staging buffer of output window 12, through which its contents are stated (`View.read_writes_of_cover`: the
    choice does not matter). -/
abbrev VO0_12 : View sig .tc .vmem S3x256x256 .bf16 := (Memref.whole cc0_stg12_0 : Memref sig .tc .vmem S3x256x256 .bf16).view
/-- One staging buffer of output window 13, through which its contents are stated (`View.read_writes_of_cover`: the
    choice does not matter). -/
abbrev VO0_13 : View sig .tc .vmem S3x256x256 .bf16 := (Memref.whole cc0_stg13_0 : Memref sig .tc .vmem S3x256x256 .bf16).view
/-- One staging buffer of output window 14, through which its contents are stated (`View.read_writes_of_cover`: the
    choice does not matter). -/
abbrev VO0_14 : View sig .tc .vmem S768x3072 .i8 := (Memref.whole cc0_stg14_0 : Memref sig .tc .vmem S768x3072 .i8).view
/-- One staging buffer of output window 15, through which its contents are stated (`View.read_writes_of_cover`: the
    choice does not matter). -/
abbrev VO0_15 : View sig .tc .vmem S3x256 .f32 := (Memref.whole cc0_stg15_0 : Memref sig .tc .vmem S3x256 .f32).view
/-- Each window's current staging memref at point `t`, spelled as the pipeline passes it (`bodyAt0`), and its wholeness. -/
abbrev ms0_0 (t : Fin cfg0.N) : Memref sig .tc .vmem S768x3072 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3072 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S3x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S48x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S96x16x128 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S96x16x128 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S96x16x128 .i8 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S96x16x128 .i8 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S96x16x128 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S96x16x128 .i8 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S3x256x256 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S3x256x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S3x256x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S768x3072 .i8 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S3x256 .f32 := win0_15.stage (cfg0.slots t 15)
abbrev hs0_15 (t : Fin cfg0.N) : (ms0_15 t).IsWhole := hstage0_15 ((cfg0.slots t 15).cast nbuf0_15)
/-- The scratch operands: whole scoped buffers of the kernel's own, passed beside the windows. -/
abbrev scM0_0 : Memref sig .tc .vmem S768x3072 .bf16 := Memref.whole cc0_scratch0
abbrev scM0_1 : Memref sig .tc .vmem S3072x256 .bf16 := Memref.whole cc0_scratch1
abbrev scM0_2 : Memref sig .tc .vmem S768x128 .f32 := Memref.whole cc0_scratch2
abbrev scM0_3 : Memref sig .tc .vmem S3x256 .f32 := Memref.whole cc0_scratch3
abbrev scM0_4 : Memref sig .tc .vmem S3x48x256 .f32 := Memref.whole cc0_scratch4
abbrev scM0_5 : Memref sig .tc .vmem S3x48x256 .f32 := Memref.whole cc0_scratch5
abbrev scM0_6 : Memref sig .tc .vmem S2x256x128 .f32 := Memref.whole cc0_scratch6
/-- The scratch `arg17` the kernel carries between points, as a view: what it holds is stated through it. -/
abbrev VS0_0 : View sig .tc .vmem S768x3072 .bf16 := scM0_0.view
/-- The scratch `arg20` the kernel carries between points, as a view: what it holds is stated through it. -/
abbrev VS0_3 : View sig .tc .vmem S3x256 .f32 := scM0_3.view
/-- The scratch `arg21` the kernel carries between points, as a view: what it holds is stated through it. -/
abbrev VS0_4 : View sig .tc .vmem S3x48x256 .f32 := scM0_4.view
/-- The scratch `arg22` the kernel carries between points, as a view: what it holds is stated through it. -/
abbrev VS0_5 : View sig .tc .vmem S3x48x256 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Gen

end
-- ==== Proof.Base.lean ====
/- Reading arrays at natural-number coordinates, and lists of stores whose payloads all agree with one function of the
   buffer's index. -/
module

public import Idealize.ShloMosaic.Lib.Pointwise.Tactic
public import Idealize.ShloMosaic.Lib.Pointwise.Reshape
public import Idealize.ShloMosaic.Lib.Pointwise.Reduce
public import Idealize.ShloMosaic.Lib.Pointwise.Contract
public import Idealize.ShloMosaic.Lib.Pipeline.FrameBody
public import Idealize.ShloMosaic.Lib.Pipeline.Value
public import Idealize.ShloMosaic.Lib.Pipeline.CanonAppend

@[expose] public section

noncomputable section

namespace Cert.Nat01

open Idealize.ShloMosaic

variable {α : Type} [Nonempty α]

/-- A vector at a natural-number coordinate (an arbitrary value outside the vector). -/
def g1 {n0 : Nat} (X : (⟨1, ![n0]⟩ : Shape).Idx → α) (a : Nat) : α :=
  if h : a < n0 then X (ix1 ⟨a, h⟩) else Classical.arbitrary α
/-- A matrix at natural-number coordinates. -/
def g2 {n0 n1 : Nat} (X : (⟨2, ![n0, n1]⟩ : Shape).Idx → α) (a b : Nat) : α :=
  if h : a < n0 ∧ b < n1 then X (ix2 ⟨a, h.1⟩ ⟨b, h.2⟩) else Classical.arbitrary α
/-- An array of three axes at natural-number coordinates. -/
def g3 {n0 n1 n2 : Nat} (X : (⟨3, ![n0, n1, n2]⟩ : Shape).Idx → α) (a b c : Nat) : α :=
  if h : a < n0 ∧ b < n1 ∧ c < n2 then X (ix3 ⟨a, h.1⟩ ⟨b, h.2.1⟩ ⟨c, h.2.2⟩) else Classical.arbitrary α

/-- An entry of a vector by its number. -/
theorem g1_ix {n0 : Nat} (X : (⟨1, ![n0]⟩ : Shape).Idx → α) (a : Fin n0) : X (ix1 a) = g1 X a.val := by
  rw [g1, dif_pos a.isLt]
/-- An entry of a matrix by its two numbers. -/
theorem g2_ix {n0 n1 : Nat} (X : (⟨2, ![n0, n1]⟩ : Shape).Idx → α) (a : Fin n0) (b : Fin n1) :
    X (ix2 a b) = g2 X a.val b.val := by
  rw [g2, dif_pos ⟨a.isLt, b.isLt⟩]
/-- An entry of a three-axis array by its numbers. -/
theorem g3_ix {n0 n1 n2 : Nat} (X : (⟨3, ![n0, n1, n2]⟩ : Shape).Idx → α) (a : Fin n0) (b : Fin n1) (c : Fin n2) :
    X (ix3 a b c) = g3 X a.val b.val c.val := by
  rw [g3, dif_pos ⟨a.isLt, b.isLt, c.isLt⟩]

/-- An entry at any index of a matrix. -/
theorem g2_at {n0 n1 : Nat} (X : (⟨2, ![n0, n1]⟩ : Shape).Idx → α) (y : (⟨2, ![n0, n1]⟩ : Shape).Idx) :
    X y = g2 X (y 0).val (y 1).val := by
  conv_lhs => rw [eq_ix2 y]
  exact g2_ix X _ _
/-- An entry at any index of a three-axis array. -/
theorem g3_at {n0 n1 n2 : Nat} (X : (⟨3, ![n0, n1, n2]⟩ : Shape).Idx → α) (y : (⟨3, ![n0, n1, n2]⟩ : Shape).Idx) :
    X y = g3 X (y 0).val (y 1).val (y 2).val := by
  conv_lhs => rw [eq_ix3 y]
  exact g3_ix X _ _ _

/-- The matrix whose entries are given by a function of natural-number coordinates. -/
abbrev m2 {n0 n1 : Nat} (f : Nat → Nat → α) : (⟨2, ![n0, n1]⟩ : Shape).Idx → α := fun y => f (y 0).val (y 1).val
/-- The array of three axes whose entries are given by a function of natural-number coordinates. -/
abbrev m3 {n0 n1 n2 : Nat} (f : Nat → Nat → Nat → α) : (⟨3, ![n0, n1, n2]⟩ : Shape).Idx → α :=
  fun y => f (y 0).val (y 1).val (y 2).val

/-- Reading back a matrix given by a function. -/
theorem g2_m2 {n0 n1 : Nat} (f : Nat → Nat → α) {a b : Nat} (ha : a < n0) (hb : b < n1) :
    g2 (m2 (n0 := n0) (n1 := n1) f) a b = f a b := by
  rw [g2, dif_pos ⟨ha, hb⟩]; rfl
/-- Reading back a three-axis array given by a function. -/
theorem g3_m3 {n0 n1 n2 : Nat} (f : Nat → Nat → Nat → α) {a b c : Nat} (ha : a < n0) (hb : b < n1) (hc : c < n2) :
    g3 (m3 (n0 := n0) (n1 := n1) (n2 := n2) f) a b c = f a b c := by
  rw [g3, dif_pos ⟨ha, hb, hc⟩]; rfl

/-! ## Stores that agree with one function -/

variable {s : Shape} {e : EltTy} {Val : EltTy → Type}

/-- Every store of the list writes `G`, and every index of `D` is covered by one of them. -/
def Tiles (L : List (View.Piece Val s e)) (D : s.Idx → Prop) (G : s.Idx → Val e) : Prop :=
  (∀ p ∈ L, ∀ x : p.1.shape.Idx, p.2 x = G (p.1.emb x)) ∧ ∀ y, D y → ∃ p ∈ L, y ∈ p.1.set

/-- No stores write nothing. -/
theorem Tiles.nil (G : s.Idx → Val e) : Tiles (Val := Val) [] (fun _ => False) G :=
  ⟨fun _ h => absurd h List.not_mem_nil, fun _ h => h.elim⟩

/-- Two lists of stores together. -/
theorem Tiles.append {L₁ L₂ : List (View.Piece Val s e)} {D₁ D₂ : s.Idx → Prop} {G : s.Idx → Val e}
    (h₁ : Tiles L₁ D₁ G) (h₂ : Tiles L₂ D₂ G) : Tiles (L₁ ++ L₂) (fun y => D₁ y ∨ D₂ y) G := by
  refine ⟨fun p hp => ?_, fun y hy => ?_⟩
  · rcases List.mem_append.mp hp with h | h
    · exact h₁.1 p h
    · exact h₂.1 p h
  · rcases hy with h | h
    · obtain ⟨p, hp, hy⟩ := h₁.2 y h; exact ⟨p, List.mem_append_left _ hp, hy⟩
    · obtain ⟨p, hp, hy⟩ := h₂.2 y h; exact ⟨p, List.mem_append_right _ hp, hy⟩

/-- One store more. -/
theorem Tiles.cons {p : View.Piece Val s e} {L : List (View.Piece Val s e)} {D₁ D₂ : s.Idx → Prop} {G : s.Idx → Val e}
    (h₁ : Tiles [p] D₁ G) (h₂ : Tiles L D₂ G) : Tiles (p :: L) (fun y => D₁ y ∨ D₂ y) G :=
  Tiles.append h₁ h₂

/-- Fewer places. -/
theorem Tiles.mono {L : List (View.Piece Val s e)} {D D' : s.Idx → Prop} {G : s.Idx → Val e}
    (h : Tiles L D G) (hD : ∀ y, D' y → D y) : Tiles L D' G :=
  ⟨h.1, fun y hy => h.2 y (hD y hy)⟩

/-- The same for an equal function. -/
theorem Tiles.congr {L : List (View.Piece Val s e)} {D : s.Idx → Prop} {G G' : s.Idx → Val e}
    (h : Tiles L D G) (hG : G = G') : Tiles L D G' := hG ▸ h

/-- A store through a rectangle of unit stride. -/
theorem Tiles.unit {off size : Fin s.rank → ℕ} {inb : ∀ a, off a + size a ≤ s.size a}
    {w : (Rect.unit off size inb).shape.Idx → Val e} {D : s.Idx → Prop} {G : s.Idx → Val e}
    (hw : ∀ x, w x = G ((Rect.unit off size inb).emb x))
    (hD : ∀ y, D y → ∀ a, off a ≤ (y a).val ∧ (y a).val < off a + size a) :
    Tiles (Val := Val) [⟨Rect.unit off size inb, w⟩] D G := by
  refine ⟨fun p hp => ?_, fun y hy => ⟨_, List.mem_singleton.mpr rfl, ?_⟩⟩
  · obtain rfl := List.mem_singleton.mp hp; exact hw
  · exact (Rect.mem_set_unit (inb := inb)).mpr (hD y hy)

/-- A store of a matrix block at a closed offset. -/
theorem Tiles.unit2 {n0 n1 k0 k1 : Nat} {off : Fin 2 → ℕ} {o0 o1 : Nat} (ho : off = ![o0, o1])
    {inb : ∀ a, off a + (⟨2, ![k0, k1]⟩ : Shape).size a ≤ (⟨2, ![n0, n1]⟩ : Shape).size a}
    {w : (⟨2, ![k0, k1]⟩ : Shape).Idx → Val e} {g : Nat → Nat → Val e}
    (hw : ∀ (a : Fin k0) (b : Fin k1), w (ix2 a b) = g (o0 + a.val) (o1 + b.val)) :
    Tiles (Val := Val) (s := ⟨2, ![n0, n1]⟩) [⟨Rect.unit (s := ⟨2, ![n0, n1]⟩) off (⟨2, ![k0, k1]⟩ : Shape).size inb, w⟩]
      (fun y => (o0 ≤ (y 0).val ∧ (y 0).val < o0 + k0) ∧ (o1 ≤ (y 1).val ∧ (y 1).val < o1 + k1))
      (fun y => g (y 0).val (y 1).val) := by
  subst ho
  refine Tiles.unit (s := ⟨2, ![n0, n1]⟩) (fun x => ?_) (fun y hy a => ?_)
  · have := hw (x 0) (x 1)
    rw [show ix2 (n0 := k0) (n1 := k1) (x 0) (x 1) = x from ix2_eta (n0 := k0) (n1 := k1) x] at this
    rw [this]
    show g _ _ = g (o0 + 1 * (x 0).val) (o1 + 1 * (x 1).val)
    rw [Nat.one_mul, Nat.one_mul]
  · match a with
    | ⟨0, _⟩ => exact hy.1
    | ⟨1, _⟩ => exact hy.2

/-- A store of a block of an array of three axes at a closed offset. -/
theorem Tiles.unit3 {n0 n1 n2 k0 k1 k2 : Nat} {off : Fin 3 → ℕ} {o0 o1 o2 : Nat} (ho : off = ![o0, o1, o2])
    {inb : ∀ a, off a + (⟨3, ![k0, k1, k2]⟩ : Shape).size a ≤ (⟨3, ![n0, n1, n2]⟩ : Shape).size a}
    {w : (⟨3, ![k0, k1, k2]⟩ : Shape).Idx → Val e} {g : Nat → Nat → Nat → Val e}
    (hw : ∀ (a : Fin k0) (b : Fin k1) (c : Fin k2), w (ix3 a b c) = g (o0 + a.val) (o1 + b.val) (o2 + c.val)) :
    Tiles (Val := Val) (s := ⟨3, ![n0, n1, n2]⟩)
      [⟨Rect.unit (s := ⟨3, ![n0, n1, n2]⟩) off (⟨3, ![k0, k1, k2]⟩ : Shape).size inb, w⟩]
      (fun y => (o0 ≤ (y 0).val ∧ (y 0).val < o0 + k0) ∧ (o1 ≤ (y 1).val ∧ (y 1).val < o1 + k1)
        ∧ (o2 ≤ (y 2).val ∧ (y 2).val < o2 + k2))
      (fun y => g (y 0).val (y 1).val (y 2).val) := by
  subst ho
  refine Tiles.unit (s := ⟨3, ![n0, n1, n2]⟩) (fun x => ?_) (fun y hy a => ?_)
  · have := hw (x 0) (x 1) (x 2)
    rw [show ix3 (n0 := k0) (n1 := k1) (n2 := k2) (x 0) (x 1) (x 2) = x from ix3_eta (n0 := k0) (n1 := k1) (n2 := k2) x] at this
    rw [this]
    show g _ _ _ = g (o0 + 1 * (x 0).val) (o1 + 1 * (x 1).val) (o2 + 1 * (x 2).val)
    rw [Nat.one_mul, Nat.one_mul, Nat.one_mul]
  · match a with
    | ⟨0, _⟩ => exact hy.1
    | ⟨1, _⟩ => exact hy.2.1
    | ⟨2, _⟩ => exact hy.2.2

/-- The stores of a loop, trip by trip. -/
theorem Tiles.loop {N : Nat} (P : ℕ → List (View.Piece Val s e)) (tl : Fin N → List (View.Piece Val s e))
    (h0 : P 0 = []) (hs : ∀ k : Fin N, P (k.val + 1) = tl k ++ P k.val) {D : Fin N → s.Idx → Prop} {G : s.Idx → Val e}
    (h : ∀ k, Tiles (tl k) (D k) G) : Tiles (P N) (fun y => ∃ k, D k y) G := by
  have key : ∀ n, n ≤ N → Tiles (P n) (fun y => ∃ k : Fin N, k.val < n ∧ D k y) G := by
    intro n
    induction n with
    | zero => intro _; rw [h0]; exact (Tiles.nil G).mono fun y ⟨k, hk, _⟩ => absurd hk (Nat.not_lt_zero _)
    | succ n ih =>
      intro hn
      have hk := hs ⟨n, hn⟩
      dsimp only at hk
      rw [hk]
      refine ((h ⟨n, hn⟩).append (ih (Nat.le_of_succ_le hn))).mono ?_
      rintro y ⟨k, hk, hd⟩
      rcases Nat.lt_succ_iff_lt_or_eq.mp hk with h | h
      · exact Or.inr ⟨k, h, hd⟩
      · left
        have : k = ⟨n, hn⟩ := Fin.ext h
        rw [← this]; exact hd
  exact (key N le_rfl).mono fun y ⟨k, hd⟩ => ⟨k, k.isLt, hd⟩

/-- What such stores leave, whatever was stored before them. -/
theorem Tiles.canon_append [∀ e, Nonempty (Val e)] {L : List (View.Piece Val s e)} {D : s.Idx → Prop} {G : s.Idx → Val e}
    (h : Tiles L D G) (L' : List (View.Piece Val s e)) (y : s.Idx) (hy : D y) : View.canon (L ++ L') y = G y :=
  View.canon_append_of_pieces G L' L h.1 y (h.2 y hy)

/-- A place that the stores write holds what was stored. -/
theorem Tiles.canon [∀ e, Nonempty (Val e)] {L : List (View.Piece Val s e)} {D : s.Idx → Prop} {G : s.Idx → Val e}
    (h : Tiles L D G) (y : s.Idx) (hy : D y) : View.canon L y = G y :=
  View.canon_apply_of_pieces G L h.1 y (h.2 y hy)

/-- Stores that cover the buffer leave `G` in it. -/
theorem Tiles.read [∀ e, Nonempty (Val e)] {sig : RefSig} {κ : Kind} {sp : Space} {L : List (View.Piece Val s e)}
    {G : s.Idx → Val e} (h : Tiles L (fun _ => True) G) (v : View sig κ sp s e) (f : v.ty.Contents Val) :
    v.read Val (v.writes Val f L) = G := by
  rw [View.read_writes_eq_canon v f L fun y => h.2 y trivial]
  exact funext fun y => h.canon y trivial

/-! ## Loads read at natural-number coordinates -/

section Loads
variable {sig : RefSig} {κ : Kind} {sp : Space}

/-- A load of a matrix block, read at an index. -/
theorem readAt2 [∀ e, Nonempty (Val e)] {n0 n1 k0 k1 s0 s1 : Nat} (v : View sig κ sp ⟨2, ![n0, n1]⟩ e) {off : Fin 2 → ℕ} {o0 o1 : Nat}
    (ho : off = ![o0, o1])
    (inb : ∀ a, (⟨2, ![k0, k1]⟩ : Shape).size a = 0
      ∨ off a + (![s0, s1] : Fin 2 → ℕ) a * ((⟨2, ![k0, k1]⟩ : Shape).size a - 1) < (⟨2, ![n0, n1]⟩ : Shape).size a)
    (X : v.ty.Contents Val) (a : Fin k0) (b : Fin k1) :
    v.readAt Val (⟨off, (⟨2, ![k0, k1]⟩ : Shape).size, ![s0, s1], inb⟩ : LoadRect ⟨2, ![n0, n1]⟩) X (ix2 a b)
      = g2 (v.read Val X) (o0 + s0 * a.val) (o1 + s1 * b.val) := by
  subst ho
  exact g2_at (v.read Val X) _

/-- A load of a block of an array of three axes, read at an index. -/
theorem readAt3 [∀ e, Nonempty (Val e)] {n0 n1 n2 k0 k1 k2 s0 s1 s2 : Nat} (v : View sig κ sp ⟨3, ![n0, n1, n2]⟩ e) {off : Fin 3 → ℕ}
    {o0 o1 o2 : Nat} (ho : off = ![o0, o1, o2])
    (inb : ∀ a, (⟨3, ![k0, k1, k2]⟩ : Shape).size a = 0
      ∨ off a + (![s0, s1, s2] : Fin 3 → ℕ) a * ((⟨3, ![k0, k1, k2]⟩ : Shape).size a - 1) < (⟨3, ![n0, n1, n2]⟩ : Shape).size a)
    (X : v.ty.Contents Val) (a : Fin k0) (b : Fin k1) (c : Fin k2) :
    v.readAt Val (⟨off, (⟨3, ![k0, k1, k2]⟩ : Shape).size, ![s0, s1, s2], inb⟩ : LoadRect ⟨3, ![n0, n1, n2]⟩) X (ix3 a b c)
      = g3 (v.read Val X) (o0 + s0 * a.val) (o1 + s1 * b.val) (o2 + s2 * c.val) := by
  subst ho
  exact g3_at (v.read Val X) _

/-- A load of a block at unit stride, of a matrix. -/
theorem readAtU2 [∀ e, Nonempty (Val e)] {n0 n1 k0 k1 : Nat} (v : View sig κ sp ⟨2, ![n0, n1]⟩ e) {off : Fin 2 → ℕ} {o0 o1 : Nat}
    (ho : off = ![o0, o1])
    (inb : ∀ a, off a + (⟨2, ![k0, k1]⟩ : Shape).size a ≤ (⟨2, ![n0, n1]⟩ : Shape).size a)
    (X : v.ty.Contents Val) (a : Fin k0) (b : Fin k1) :
    v.readAt Val (Rect.unit (s := ⟨2, ![n0, n1]⟩) off (⟨2, ![k0, k1]⟩ : Shape).size inb).toLoadRect X (ix2 a b)
      = g2 (v.read Val X) (o0 + a.val) (o1 + b.val) := by
  subst ho
  refine (g2_at (v.read Val X) _).trans ?_
  show g2 _ (o0 + 1 * a.val) (o1 + 1 * b.val) = _
  rw [Nat.one_mul, Nat.one_mul]

/-- A load of a block at unit stride, of an array of three axes. -/
theorem readAtU3 [∀ e, Nonempty (Val e)] {n0 n1 n2 k0 k1 k2 : Nat} (v : View sig κ sp ⟨3, ![n0, n1, n2]⟩ e) {off : Fin 3 → ℕ}
    {o0 o1 o2 : Nat} (ho : off = ![o0, o1, o2])
    (inb : ∀ a, off a + (⟨3, ![k0, k1, k2]⟩ : Shape).size a ≤ (⟨3, ![n0, n1, n2]⟩ : Shape).size a)
    (X : v.ty.Contents Val) (a : Fin k0) (b : Fin k1) (c : Fin k2) :
    v.readAt Val (Rect.unit (s := ⟨3, ![n0, n1, n2]⟩) off (⟨3, ![k0, k1, k2]⟩ : Shape).size inb).toLoadRect X (ix3 a b c)
      = g3 (v.read Val X) (o0 + a.val) (o1 + b.val) (o2 + c.val) := by
  subst ho
  refine (g3_at (v.read Val X) _).trans ?_
  show g3 _ (o0 + 1 * a.val) (o1 + 1 * b.val) (o2 + 1 * c.val) = _
  rw [Nat.one_mul, Nat.one_mul, Nat.one_mul]

end Loads

end Cert.Nat01

end
-- ==== Proof.Pay.lean ====
/- The payloads of the rounding loops, at an index. -/
module

public import proofs.«01_k».proof.Proof.Base
public import proofs.«01_k».proof.Proof.Conds

@[expose] public section

set_option maxRecDepth 16384

noncomputable section

namespace Cert.KernelIdeal.Gen

open Idealize.ShloMosaic Idealize.ShloMosaic.TcCoe Idealize.ShloMosaic.Tactic Cert.Nat01

/-- Two vectors of eight rows interleaved, at an index: an even row is the first vector's, an odd row the second's. -/
theorem interleave_ix {α : Type} (lo hi : S1x8x128.Idx → α) (h : S1x16x128.Bitcasts 16 S1x8x128 32) (a : Fin 1) (r : Fin 16)
    (c : Fin 128) :
    interleaveRows S1x16x128 lo hi h (ix3 a r c) = if r.val % 2 = 0 then lo (ix3 a (⟨r.val / 2, by omega⟩ : Fin 8) c)
      else hi (ix3 a (⟨r.val / 2, by omega⟩ : Fin 8) c) := by
  pointwise

theorem pay112_ix (v : Vec Ideal S1x128 .f32) (L0 L1 : Vec Ideal S1x8x128 .f32) (a : Fin 1) (r : Fin 16) (c : Fin 128) :
    k0_pay112 v L0 L1 (ix3 a r c) = if r.val % 2 = 0 then L0 (ix3 (0 : Fin 1) (⟨r.val / 2, by omega⟩ : Fin 8) c) * g2 v 0 c.val
      else L1 (ix3 (0 : Fin 1) (⟨r.val / 2, by omega⟩ : Fin 8) c) * g2 v 0 c.val := by
  unfold k0_pay112
  rw [interleave_ix]
  have e := g2_ix v (0 : Fin 1) c
  generalize (⟨r.val / 2, _⟩ : Fin 8) = q
  have ha : a = 0 := Subsingleton.elim _ _
  subst ha
  split
  · pointwise [← e]
    try exact congrArg _ e
  · pointwise [← e]
    try exact congrArg _ e

theorem pay113_ix (v : Vec Ideal S1x128 .f32) (L0 L1 : Vec Ideal S1x8x128 .f32) (a : Fin 1) (r : Fin 16) (c : Fin 128) :
    k0_pay113 v L0 L1 (ix3 a r c) = if r.val % 2 = 0 then L0 (ix3 (0 : Fin 1) (⟨r.val / 2, by omega⟩ : Fin 8) c) * g2 v 0 c.val
      else L1 (ix3 (0 : Fin 1) (⟨r.val / 2, by omega⟩ : Fin 8) c) * g2 v 0 c.val := by
  unfold k0_pay113
  rw [interleave_ix]
  have e := g2_ix v (0 : Fin 1) c
  generalize (⟨r.val / 2, _⟩ : Fin 8) = q
  have ha : a = 0 := Subsingleton.elim _ _
  subst ha
  split
  · pointwise [← e]
    try exact congrArg _ e
  · pointwise [← e]
    try exact congrArg _ e

theorem pay117_ix (v : Vec Ideal S1x128 .f32) (L0 L1 : Vec Ideal S1x8x128 .f32) (a : Fin 1) (r : Fin 16) (c : Fin 128) :
    k0_pay117 v L0 L1 (ix3 a r c) = if r.val % 2 = 0 then L0 (ix3 (0 : Fin 1) (⟨r.val / 2, by omega⟩ : Fin 8) c) * g2 v 0 c.val
      else L1 (ix3 (0 : Fin 1) (⟨r.val / 2, by omega⟩ : Fin 8) c) * g2 v 0 c.val := by
  unfold k0_pay117
  rw [interleave_ix]
  have e := g2_ix v (0 : Fin 1) c
  generalize (⟨r.val / 2, _⟩ : Fin 8) = q
  have ha : a = 0 := Subsingleton.elim _ _
  subst ha
  split
  · pointwise [← e]
    try exact congrArg _ e
  · pointwise [← e]
    try exact congrArg _ e

theorem pay118_ix (v : Vec Ideal S1x128 .f32) (L0 L1 : Vec Ideal S1x8x128 .f32) (a : Fin 1) (r : Fin 16) (c : Fin 128) :
    k0_pay118 v L0 L1 (ix3 a r c) = if r.val % 2 = 0 then L0 (ix3 (0 : Fin 1) (⟨r.val / 2, by omega⟩ : Fin 8) c) * g2 v 0 c.val
      else L1 (ix3 (0 : Fin 1) (⟨r.val / 2, by omega⟩ : Fin 8) c) * g2 v 0 c.val := by
  unfold k0_pay118
  rw [interleave_ix]
  have e := g2_ix v (0 : Fin 1) c
  generalize (⟨r.val / 2, _⟩ : Fin 8) = q
  have ha : a = 0 := Subsingleton.elim _ _
  subst ha
  split
  · pointwise [← e]
    try exact congrArg _ e
  · pointwise [← e]
    try exact congrArg _ e

theorem pay12_ix (v : Vec Ideal S1x128 .f32) (L0 L1 : Vec Ideal S1x8x128 .f32) (a : Fin 1) (r : Fin 16) (c : Fin 128) :
    k0_pay12 v L0 L1 (ix3 a r c) = if r.val % 2 = 0 then L0 (ix3 (0 : Fin 1) (⟨r.val / 2, by omega⟩ : Fin 8) c) * g2 v 0 c.val
      else L1 (ix3 (0 : Fin 1) (⟨r.val / 2, by omega⟩ : Fin 8) c) * g2 v 0 c.val := by
  unfold k0_pay12
  rw [interleave_ix]
  have e := g2_ix v (0 : Fin 1) c
  generalize (⟨r.val / 2, _⟩ : Fin 8) = q
  have ha : a = 0 := Subsingleton.elim _ _
  subst ha
  split
  · pointwise [← e]
    try exact congrArg _ e
  · pointwise [← e]
    try exact congrArg _ e

theorem pay13_ix (v : Vec Ideal S1x128 .f32) (L0 L1 : Vec Ideal S1x8x128 .f32) (a : Fin 1) (r : Fin 16) (c : Fin 128) :
    k0_pay13 v L0 L1 (ix3 a r c) = if r.val % 2 = 0 then L0 (ix3 (0 : Fin 1) (⟨r.val / 2, by omega⟩ : Fin 8) c) * g2 v 0 c.val
      else L1 (ix3 (0 : Fin 1) (⟨r.val / 2, by omega⟩ : Fin 8) c) * g2 v 0 c.val := by
  unfold k0_pay13
  rw [interleave_ix]
  have e := g2_ix v (0 : Fin 1) c
  generalize (⟨r.val / 2, _⟩ : Fin 8) = q
  have ha : a = 0 := Subsingleton.elim _ _
  subst ha
  split
  · pointwise [← e]
    try exact congrArg _ e
  · pointwise [← e]
    try exact congrArg _ e

theorem pay47_ix (v : Vec Ideal S1x128 .f32) (L0 L1 C S : Vec Ideal S1x8x128 .f32) (a : Fin 1) (r : Fin 16) (c : Fin 128) :
    k0_pay47 v L0 L1 C S (ix3 a r c) =
      if r.val % 2 = 0 then
        L0 (ix3 (0 : Fin 1) (⟨r.val / 2, by omega⟩ : Fin 8) c) * g2 v 0 c.val * C (ix3 (0 : Fin 1) (⟨r.val / 2, by omega⟩ : Fin 8) c)
          - L1 (ix3 (0 : Fin 1) (⟨r.val / 2, by omega⟩ : Fin 8) c) * g2 v 0 c.val * S (ix3 (0 : Fin 1) (⟨r.val / 2, by omega⟩ : Fin 8) c)
      else
        L0 (ix3 (0 : Fin 1) (⟨r.val / 2, by omega⟩ : Fin 8) c) * g2 v 0 c.val * S (ix3 (0 : Fin 1) (⟨r.val / 2, by omega⟩ : Fin 8) c)
          + L1 (ix3 (0 : Fin 1) (⟨r.val / 2, by omega⟩ : Fin 8) c) * g2 v 0 c.val * C (ix3 (0 : Fin 1) (⟨r.val / 2, by omega⟩ : Fin 8) c) := by
  unfold k0_pay47
  rw [interleave_ix]
  have e : v (ix2 (0 : Fin 1) c) = g2 v 0 c.val := g2_ix v (0 : Fin 1) c
  rw [← e]
  generalize (⟨r.val / 2, _⟩ : Fin 8) = q
  have ha : a = 0 := Subsingleton.elim _ _
  subst ha
  split
  · pointwise
  · pointwise

theorem pay48_ix (v : Vec Ideal S1x128 .f32) (L0 L1 C S : Vec Ideal S1x8x128 .f32) (a : Fin 1) (r : Fin 16) (c : Fin 128) :
    k0_pay48 v L0 L1 C S (ix3 a r c) =
      if r.val % 2 = 0 then
        L0 (ix3 (0 : Fin 1) (⟨r.val / 2, by omega⟩ : Fin 8) c) * g2 v 0 c.val * C (ix3 (0 : Fin 1) (⟨r.val / 2, by omega⟩ : Fin 8) c)
          - L1 (ix3 (0 : Fin 1) (⟨r.val / 2, by omega⟩ : Fin 8) c) * g2 v 0 c.val * S (ix3 (0 : Fin 1) (⟨r.val / 2, by omega⟩ : Fin 8) c)
      else
        L0 (ix3 (0 : Fin 1) (⟨r.val / 2, by omega⟩ : Fin 8) c) * g2 v 0 c.val * S (ix3 (0 : Fin 1) (⟨r.val / 2, by omega⟩ : Fin 8) c)
          + L1 (ix3 (0 : Fin 1) (⟨r.val / 2, by omega⟩ : Fin 8) c) * g2 v 0 c.val * C (ix3 (0 : Fin 1) (⟨r.val / 2, by omega⟩ : Fin 8) c) := by
  unfold k0_pay48
  rw [interleave_ix]
  have e : v (ix2 (0 : Fin 1) c) = g2 v 0 c.val := g2_ix v (0 : Fin 1) c
  rw [← e]
  generalize (⟨r.val / 2, _⟩ : Fin 8) = q
  have ha : a = 0 := Subsingleton.elim _ _
  subst ha
  split
  · pointwise
  · pointwise

theorem pay49_ix (v : Vec Ideal S1x128 .f32) (L0 L1 C S : Vec Ideal S1x8x128 .f32) (a : Fin 1) (r : Fin 16) (c : Fin 128) :
    k0_pay49 v L0 L1 C S (ix3 a r c) =
      if r.val % 2 = 0 then
        L0 (ix3 (0 : Fin 1) (⟨r.val / 2, by omega⟩ : Fin 8) c) * g2 v 0 c.val * C (ix3 (0 : Fin 1) (⟨r.val / 2, by omega⟩ : Fin 8) c)
          - L1 (ix3 (0 : Fin 1) (⟨r.val / 2, by omega⟩ : Fin 8) c) * g2 v 0 c.val * S (ix3 (0 : Fin 1) (⟨r.val / 2, by omega⟩ : Fin 8) c)
      else
        L0 (ix3 (0 : Fin 1) (⟨r.val / 2, by omega⟩ : Fin 8) c) * g2 v 0 c.val * S (ix3 (0 : Fin 1) (⟨r.val / 2, by omega⟩ : Fin 8) c)
          + L1 (ix3 (0 : Fin 1) (⟨r.val / 2, by omega⟩ : Fin 8) c) * g2 v 0 c.val * C (ix3 (0 : Fin 1) (⟨r.val / 2, by omega⟩ : Fin 8) c) := by
  unfold k0_pay49
  rw [interleave_ix]
  have e : v (ix2 (0 : Fin 1) c) = g2 v 0 c.val := g2_ix v (0 : Fin 1) c
  rw [← e]
  generalize (⟨r.val / 2, _⟩ : Fin 8) = q
  have ha : a = 0 := Subsingleton.elim _ _
  subst ha
  split
  · pointwise
  · pointwise

theorem pay50_ix (v : Vec Ideal S1x128 .f32) (L0 L1 C S : Vec Ideal S1x8x128 .f32) (a : Fin 1) (r : Fin 16) (c : Fin 128) :
    k0_pay50 v L0 L1 C S (ix3 a r c) =
      if r.val % 2 = 0 then
        L0 (ix3 (0 : Fin 1) (⟨r.val / 2, by omega⟩ : Fin 8) c) * g2 v 0 c.val * C (ix3 (0 : Fin 1) (⟨r.val / 2, by omega⟩ : Fin 8) c)
          - L1 (ix3 (0 : Fin 1) (⟨r.val / 2, by omega⟩ : Fin 8) c) * g2 v 0 c.val * S (ix3 (0 : Fin 1) (⟨r.val / 2, by omega⟩ : Fin 8) c)
      else
        L0 (ix3 (0 : Fin 1) (⟨r.val / 2, by omega⟩ : Fin 8) c) * g2 v 0 c.val * S (ix3 (0 : Fin 1) (⟨r.val / 2, by omega⟩ : Fin 8) c)
          + L1 (ix3 (0 : Fin 1) (⟨r.val / 2, by omega⟩ : Fin 8) c) * g2 v 0 c.val * C (ix3 (0 : Fin 1) (⟨r.val / 2, by omega⟩ : Fin 8) c) := by
  unfold k0_pay50
  rw [interleave_ix]
  have e : v (ix2 (0 : Fin 1) c) = g2 v 0 c.val := g2_ix v (0 : Fin 1) c
  rw [← e]
  generalize (⟨r.val / 2, _⟩ : Fin 8) = q
  have ha : a = 0 := Subsingleton.elim _ _
  subst ha
  split
  · pointwise
  · pointwise

theorem pay51_ix (v : Vec Ideal S1x128 .f32) (L0 L1 C S : Vec Ideal S1x8x128 .f32) (a : Fin 1) (r : Fin 16) (c : Fin 128) :
    k0_pay51 v L0 L1 C S (ix3 a r c) =
      if r.val % 2 = 0 then
        L0 (ix3 (0 : Fin 1) (⟨r.val / 2, by omega⟩ : Fin 8) c) * g2 v 0 c.val * C (ix3 (0 : Fin 1) (⟨r.val / 2, by omega⟩ : Fin 8) c)
          - L1 (ix3 (0 : Fin 1) (⟨r.val / 2, by omega⟩ : Fin 8) c) * g2 v 0 c.val * S (ix3 (0 : Fin 1) (⟨r.val / 2, by omega⟩ : Fin 8) c)
      else
        L0 (ix3 (0 : Fin 1) (⟨r.val / 2, by omega⟩ : Fin 8) c) * g2 v 0 c.val * S (ix3 (0 : Fin 1) (⟨r.val / 2, by omega⟩ : Fin 8) c)
          + L1 (ix3 (0 : Fin 1) (⟨r.val / 2, by omega⟩ : Fin 8) c) * g2 v 0 c.val * C (ix3 (0 : Fin 1) (⟨r.val / 2, by omega⟩ : Fin 8) c) := by
  unfold k0_pay51
  rw [interleave_ix]
  have e : v (ix2 (0 : Fin 1) c) = g2 v 0 c.val := g2_ix v (0 : Fin 1) c
  rw [← e]
  generalize (⟨r.val / 2, _⟩ : Fin 8) = q
  have ha : a = 0 := Subsingleton.elim _ _
  subst ha
  split
  · pointwise
  · pointwise

theorem pay52_ix (v : Vec Ideal S1x128 .f32) (L0 L1 C S : Vec Ideal S1x8x128 .f32) (a : Fin 1) (r : Fin 16) (c : Fin 128) :
    k0_pay52 v L0 L1 C S (ix3 a r c) =
      if r.val % 2 = 0 then
        L0 (ix3 (0 : Fin 1) (⟨r.val / 2, by omega⟩ : Fin 8) c) * g2 v 0 c.val * C (ix3 (0 : Fin 1) (⟨r.val / 2, by omega⟩ : Fin 8) c)
          - L1 (ix3 (0 : Fin 1) (⟨r.val / 2, by omega⟩ : Fin 8) c) * g2 v 0 c.val * S (ix3 (0 : Fin 1) (⟨r.val / 2, by omega⟩ : Fin 8) c)
      else
        L0 (ix3 (0 : Fin 1) (⟨r.val / 2, by omega⟩ : Fin 8) c) * g2 v 0 c.val * S (ix3 (0 : Fin 1) (⟨r.val / 2, by omega⟩ : Fin 8) c)
          + L1 (ix3 (0 : Fin 1) (⟨r.val / 2, by omega⟩ : Fin 8) c) * g2 v 0 c.val * C (ix3 (0 : Fin 1) (⟨r.val / 2, by omega⟩ : Fin 8) c) := by
  unfold k0_pay52
  rw [interleave_ix]
  have e : v (ix2 (0 : Fin 1) c) = g2 v 0 c.val := g2_ix v (0 : Fin 1) c
  rw [← e]
  generalize (⟨r.val / 2, _⟩ : Fin 8) = q
  have ha : a = 0 := Subsingleton.elim _ _
  subst ha
  split
  · pointwise
  · pointwise

theorem pay77_ix (v : Vec Ideal S1x128 .f32) (L0 L1 C S : Vec Ideal S1x8x128 .f32) (a : Fin 1) (r : Fin 16) (c : Fin 128) :
    k0_pay77 v L0 L1 C S (ix3 a r c) =
      if r.val % 2 = 0 then
        L0 (ix3 (0 : Fin 1) (⟨r.val / 2, by omega⟩ : Fin 8) c) * g2 v 0 c.val * C (ix3 (0 : Fin 1) (⟨r.val / 2, by omega⟩ : Fin 8) c)
          - L1 (ix3 (0 : Fin 1) (⟨r.val / 2, by omega⟩ : Fin 8) c) * g2 v 0 c.val * S (ix3 (0 : Fin 1) (⟨r.val / 2, by omega⟩ : Fin 8) c)
      else
        L0 (ix3 (0 : Fin 1) (⟨r.val / 2, by omega⟩ : Fin 8) c) * g2 v 0 c.val * S (ix3 (0 : Fin 1) (⟨r.val / 2, by omega⟩ : Fin 8) c)
          + L1 (ix3 (0 : Fin 1) (⟨r.val / 2, by omega⟩ : Fin 8) c) * g2 v 0 c.val * C (ix3 (0 : Fin 1) (⟨r.val / 2, by omega⟩ : Fin 8) c) := by
  unfold k0_pay77
  rw [interleave_ix]
  have e : v (ix2 (0 : Fin 1) c) = g2 v 0 c.val := g2_ix v (0 : Fin 1) c
  rw [← e]
  generalize (⟨r.val / 2, _⟩ : Fin 8) = q
  have ha : a = 0 := Subsingleton.elim _ _
  subst ha
  split
  · pointwise
  · pointwise

theorem pay78_ix (v : Vec Ideal S1x128 .f32) (L0 L1 C S : Vec Ideal S1x8x128 .f32) (a : Fin 1) (r : Fin 16) (c : Fin 128) :
    k0_pay78 v L0 L1 C S (ix3 a r c) =
      if r.val % 2 = 0 then
        L0 (ix3 (0 : Fin 1) (⟨r.val / 2, by omega⟩ : Fin 8) c) * g2 v 0 c.val * C (ix3 (0 : Fin 1) (⟨r.val / 2, by omega⟩ : Fin 8) c)
          - L1 (ix3 (0 : Fin 1) (⟨r.val / 2, by omega⟩ : Fin 8) c) * g2 v 0 c.val * S (ix3 (0 : Fin 1) (⟨r.val / 2, by omega⟩ : Fin 8) c)
      else
        L0 (ix3 (0 : Fin 1) (⟨r.val / 2, by omega⟩ : Fin 8) c) * g2 v 0 c.val * S (ix3 (0 : Fin 1) (⟨r.val / 2, by omega⟩ : Fin 8) c)
          + L1 (ix3 (0 : Fin 1) (⟨r.val / 2, by omega⟩ : Fin 8) c) * g2 v 0 c.val * C (ix3 (0 : Fin 1) (⟨r.val / 2, by omega⟩ : Fin 8) c) := by
  unfold k0_pay78
  rw [interleave_ix]
  have e : v (ix2 (0 : Fin 1) c) = g2 v 0 c.val := g2_ix v (0 : Fin 1) c
  rw [← e]
  generalize (⟨r.val / 2, _⟩ : Fin 8) = q
  have ha : a = 0 := Subsingleton.elim _ _
  subst ha
  split
  · pointwise
  · pointwise

theorem pay79_ix (v : Vec Ideal S1x128 .f32) (L0 L1 C S : Vec Ideal S1x8x128 .f32) (a : Fin 1) (r : Fin 16) (c : Fin 128) :
    k0_pay79 v L0 L1 C S (ix3 a r c) =
      if r.val % 2 = 0 then
        L0 (ix3 (0 : Fin 1) (⟨r.val / 2, by omega⟩ : Fin 8) c) * g2 v 0 c.val * C (ix3 (0 : Fin 1) (⟨r.val / 2, by omega⟩ : Fin 8) c)
          - L1 (ix3 (0 : Fin 1) (⟨r.val / 2, by omega⟩ : Fin 8) c) * g2 v 0 c.val * S (ix3 (0 : Fin 1) (⟨r.val / 2, by omega⟩ : Fin 8) c)
      else
        L0 (ix3 (0 : Fin 1) (⟨r.val / 2, by omega⟩ : Fin 8) c) * g2 v 0 c.val * S (ix3 (0 : Fin 1) (⟨r.val / 2, by omega⟩ : Fin 8) c)
          + L1 (ix3 (0 : Fin 1) (⟨r.val / 2, by omega⟩ : Fin 8) c) * g2 v 0 c.val * C (ix3 (0 : Fin 1) (⟨r.val / 2, by omega⟩ : Fin 8) c) := by
  unfold k0_pay79
  rw [interleave_ix]
  have e : v (ix2 (0 : Fin 1) c) = g2 v 0 c.val := g2_ix v (0 : Fin 1) c
  rw [← e]
  generalize (⟨r.val / 2, _⟩ : Fin 8) = q
  have ha : a = 0 := Subsingleton.elim _ _
  subst ha
  split
  · pointwise
  · pointwise

theorem pay80_ix (v : Vec Ideal S1x128 .f32) (L0 L1 C S : Vec Ideal S1x8x128 .f32) (a : Fin 1) (r : Fin 16) (c : Fin 128) :
    k0_pay80 v L0 L1 C S (ix3 a r c) =
      if r.val % 2 = 0 then
        L0 (ix3 (0 : Fin 1) (⟨r.val / 2, by omega⟩ : Fin 8) c) * g2 v 0 c.val * C (ix3 (0 : Fin 1) (⟨r.val / 2, by omega⟩ : Fin 8) c)
          - L1 (ix3 (0 : Fin 1) (⟨r.val / 2, by omega⟩ : Fin 8) c) * g2 v 0 c.val * S (ix3 (0 : Fin 1) (⟨r.val / 2, by omega⟩ : Fin 8) c)
      else
        L0 (ix3 (0 : Fin 1) (⟨r.val / 2, by omega⟩ : Fin 8) c) * g2 v 0 c.val * S (ix3 (0 : Fin 1) (⟨r.val / 2, by omega⟩ : Fin 8) c)
          + L1 (ix3 (0 : Fin 1) (⟨r.val / 2, by omega⟩ : Fin 8) c) * g2 v 0 c.val * C (ix3 (0 : Fin 1) (⟨r.val / 2, by omega⟩ : Fin 8) c) := by
  unfold k0_pay80
  rw [interleave_ix]
  have e : v (ix2 (0 : Fin 1) c) = g2 v 0 c.val := g2_ix v (0 : Fin 1) c
  rw [← e]
  generalize (⟨r.val / 2, _⟩ : Fin 8) = q
  have ha : a = 0 := Subsingleton.elim _ _
  subst ha
  split
  · pointwise
  · pointwise

theorem pay81_ix (v : Vec Ideal S1x128 .f32) (L0 L1 C S : Vec Ideal S1x8x128 .f32) (a : Fin 1) (r : Fin 16) (c : Fin 128) :
    k0_pay81 v L0 L1 C S (ix3 a r c) =
      if r.val % 2 = 0 then
        L0 (ix3 (0 : Fin 1) (⟨r.val / 2, by omega⟩ : Fin 8) c) * g2 v 0 c.val * C (ix3 (0 : Fin 1) (⟨r.val / 2, by omega⟩ : Fin 8) c)
          - L1 (ix3 (0 : Fin 1) (⟨r.val / 2, by omega⟩ : Fin 8) c) * g2 v 0 c.val * S (ix3 (0 : Fin 1) (⟨r.val / 2, by omega⟩ : Fin 8) c)
      else
        L0 (ix3 (0 : Fin 1) (⟨r.val / 2, by omega⟩ : Fin 8) c) * g2 v 0 c.val * S (ix3 (0 : Fin 1) (⟨r.val / 2, by omega⟩ : Fin 8) c)
          + L1 (ix3 (0 : Fin 1) (⟨r.val / 2, by omega⟩ : Fin 8) c) * g2 v 0 c.val * C (ix3 (0 : Fin 1) (⟨r.val / 2, by omega⟩ : Fin 8) c) := by
  unfold k0_pay81
  rw [interleave_ix]
  have e : v (ix2 (0 : Fin 1) c) = g2 v 0 c.val := g2_ix v (0 : Fin 1) c
  rw [← e]
  generalize (⟨r.val / 2, _⟩ : Fin 8) = q
  have ha : a = 0 := Subsingleton.elim _ _
  subst ha
  split
  · pointwise
  · pointwise

theorem pay82_ix (v : Vec Ideal S1x128 .f32) (L0 L1 C S : Vec Ideal S1x8x128 .f32) (a : Fin 1) (r : Fin 16) (c : Fin 128) :
    k0_pay82 v L0 L1 C S (ix3 a r c) =
      if r.val % 2 = 0 then
        L0 (ix3 (0 : Fin 1) (⟨r.val / 2, by omega⟩ : Fin 8) c) * g2 v 0 c.val * C (ix3 (0 : Fin 1) (⟨r.val / 2, by omega⟩ : Fin 8) c)
          - L1 (ix3 (0 : Fin 1) (⟨r.val / 2, by omega⟩ : Fin 8) c) * g2 v 0 c.val * S (ix3 (0 : Fin 1) (⟨r.val / 2, by omega⟩ : Fin 8) c)
      else
        L0 (ix3 (0 : Fin 1) (⟨r.val / 2, by omega⟩ : Fin 8) c) * g2 v 0 c.val * S (ix3 (0 : Fin 1) (⟨r.val / 2, by omega⟩ : Fin 8) c)
          + L1 (ix3 (0 : Fin 1) (⟨r.val / 2, by omega⟩ : Fin 8) c) * g2 v 0 c.val * C (ix3 (0 : Fin 1) (⟨r.val / 2, by omega⟩ : Fin 8) c) := by
  unfold k0_pay82
  rw [interleave_ix]
  have e : v (ix2 (0 : Fin 1) c) = g2 v 0 c.val := g2_ix v (0 : Fin 1) c
  rw [← e]
  generalize (⟨r.val / 2, _⟩ : Fin 8) = q
  have ha : a = 0 := Subsingleton.elim _ _
  subst ha
  split
  · pointwise
  · pointwise

end Cert.KernelIdeal.Gen

end
-- ==== Proof.LoopV.lean ====
/- The loops that scale and store the value projection, read as one function of the output window. -/
module

public import proofs.«01_k».proof.Proof.Pay

@[expose] public section

set_option maxRecDepth 16384

noncomputable section

namespace Cert.KernelIdeal.Gen

open Idealize.ShloMosaic Idealize.ShloMosaic.TcCoe Idealize.ShloMosaic.Tactic Cert.Nat01

variable (𝒱 : Variants) (c : Dev nD) (bd : Option 𝒱.V) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole)

/-- The stores of the loop over rows for batch 0 and lanes 0 to 127: each row of the transposed product is multiplied by the tokens' scales. -/
theorem tiles_t20 (k0_h4 : k0_cond4 i = 1#1) (v34 : Vec Ideal S1x128 .f32) (X_arg23 : BufTy.Contents (Elt Ideal) arg23.view.ty)
    (g : ℕ → ℕ → ℕ → EReal)
    (hg : ∀ n s, n < 256 → s < 128 → g 0 n (0 + s) = g3 (arg23.view.read (Elt Ideal) X_arg23) 0 n s * g2 v34 0 s) :
    Tiles (pb_k0_t20 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v34 X_arg23 k0_t20_loop.trips)
      (fun y => (y 0).val = 0 ∧ 0 ≤ (y 2).val ∧ (y 2).val < 128) (m3 g) := by
  refine (Tiles.loop (N := k0_t20_loop.trips) (fun n => pb_k0_t20 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v34 X_arg23 n)
    (fun k => tripL_k0_t20 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v34 X_arg23 k) rfl (fun k => pb_k0_t20_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v34 X_arg23 k)
    (D := fun k y => (0 ≤ (y 0).val ∧ (y 0).val < 0 + 1) ∧ (16 * k.val ≤ (y 1).val ∧ (y 1).val < 16 * k.val + 16)
      ∧ (0 ≤ (y 2).val ∧ (y 2).val < 0 + 128)) fun k => ?_).mono ?_
  · have hk : k.val < 16 := k.isLt
    unfold tripL_k0_t20 trip_k0_t20; dsimp only
    refine Tiles.unit3 (k0_off71_eq k) fun a r c => ?_
    have h0 : a.val = 0 := by omega
    rw [show 0 + a.val = 0 by omega, hg _ _ (by omega) c.isLt]
    have e0 : ∀ b : Fin 8, _ := fun b => readAt3 arg23.view (k0_off69_eq k) (k0_off69_inb i k k0_h4) X_arg23 0 b c
    have e1 : ∀ b : Fin 8, _ := fun b => readAt3 arg23.view (k0_off70_eq k) (k0_off70_inb i k k0_h4) X_arg23 0 b c
    rw [pay112_ix]
    split
    · refine congrArg (· * g2 v34 0 c.val) ((e0 _).trans ?_)
      dsimp only [Fin.val_zero]; congr 1 <;> omega
    · refine congrArg (· * g2 v34 0 c.val) ((e1 _).trans ?_)
      dsimp only [Fin.val_zero]; congr 1 <;> omega
  · rintro y ⟨h0, h1, h2⟩
    have h3 : (y 1).val < 256 := (y 1).isLt
    exact ⟨⟨(y 1).val / 16, show _ < 16 by omega⟩, by omega, by dsimp only; omega, by omega⟩

/-- The stores of the loop over rows for batch 0 and lanes 128 to 255: each row of the transposed product is multiplied by the tokens' scales. -/
theorem tiles_t21 (k0_h4 : k0_cond4 i = 1#1) (v19 : FVec Ideal S1x256 .f32) (v36 : Vec Ideal S1x128 .f32) (X_arg23 : BufTy.Contents (Elt Ideal) arg23.view.ty)
    (g : ℕ → ℕ → ℕ → EReal)
    (hg : ∀ n s, n < 256 → s < 128 → g 0 n (128 + s) = g3 (arg23.view.read (Elt Ideal) X_arg23) 1 n s * g2 v36 0 s) :
    Tiles (pb_k0_t21 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v36 X_arg23 k0_t21_loop.trips)
      (fun y => (y 0).val = 0 ∧ 128 ≤ (y 2).val ∧ (y 2).val < 256) (m3 g) := by
  refine (Tiles.loop (N := k0_t21_loop.trips) (fun n => pb_k0_t21 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v36 X_arg23 n)
    (fun k => tripL_k0_t21 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v36 X_arg23 k) rfl (fun k => pb_k0_t21_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v36 X_arg23 k)
    (D := fun k y => (0 ≤ (y 0).val ∧ (y 0).val < 0 + 1) ∧ (16 * k.val ≤ (y 1).val ∧ (y 1).val < 16 * k.val + 16)
      ∧ (128 ≤ (y 2).val ∧ (y 2).val < 128 + 128)) fun k => ?_).mono ?_
  · have hk : k.val < 16 := k.isLt
    unfold tripL_k0_t21 trip_k0_t21; dsimp only
    refine Tiles.unit3 (k0_off74_eq k) fun a r c => ?_
    have h0 : a.val = 0 := by omega
    rw [show 0 + a.val = 0 by omega, hg _ _ (by omega) c.isLt]
    have e0 : ∀ b : Fin 8, _ := fun b => readAt3 arg23.view (k0_off72_eq k) (k0_off72_inb i k k0_h4) X_arg23 0 b c
    have e1 : ∀ b : Fin 8, _ := fun b => readAt3 arg23.view (k0_off73_eq k) (k0_off73_inb i k k0_h4) X_arg23 0 b c
    rw [pay113_ix]
    split
    · refine congrArg (· * g2 v36 0 c.val) ((e0 _).trans ?_)
      dsimp only [Fin.val_zero]; congr 1 <;> omega
    · refine congrArg (· * g2 v36 0 c.val) ((e1 _).trans ?_)
      dsimp only [Fin.val_zero]; congr 1 <;> omega
  · rintro y ⟨h0, h1, h2⟩
    have h3 : (y 1).val < 256 := (y 1).isLt
    exact ⟨⟨(y 1).val / 16, show _ < 16 by omega⟩, by omega, by dsimp only; omega, by omega⟩

/-- The stores of the loop over rows for batch 1 and lanes 0 to 127: each row of the transposed product is multiplied by the tokens' scales. -/
theorem tiles_t22 (k0_h4 : k0_cond4 i = 1#1) (v19 : FVec Ideal S1x256 .f32) (v52 : Vec Ideal S1x128 .f32) (X_arg23 : BufTy.Contents (Elt Ideal) arg23.view.ty)
    (g : ℕ → ℕ → ℕ → EReal)
    (hg : ∀ n s, n < 256 → s < 128 → g 1 n (0 + s) = g3 (arg23.view.read (Elt Ideal) X_arg23) 0 n s * g2 v52 0 s) :
    Tiles (pb_k0_t22 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v52 X_arg23 k0_t22_loop.trips)
      (fun y => (y 0).val = 1 ∧ 0 ≤ (y 2).val ∧ (y 2).val < 128) (m3 g) := by
  refine (Tiles.loop (N := k0_t22_loop.trips) (fun n => pb_k0_t22 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v52 X_arg23 n)
    (fun k => tripL_k0_t22 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v52 X_arg23 k) rfl (fun k => pb_k0_t22_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v52 X_arg23 k)
    (D := fun k y => (1 ≤ (y 0).val ∧ (y 0).val < 1 + 1) ∧ (16 * k.val ≤ (y 1).val ∧ (y 1).val < 16 * k.val + 16)
      ∧ (0 ≤ (y 2).val ∧ (y 2).val < 0 + 128)) fun k => ?_).mono ?_
  · have hk : k.val < 16 := k.isLt
    unfold tripL_k0_t22 trip_k0_t22; dsimp only
    refine Tiles.unit3 (k0_off77_eq k) fun a r c => ?_
    have h0 : a.val = 0 := by omega
    rw [show 1 + a.val = 1 by omega, hg _ _ (by omega) c.isLt]
    have e0 : ∀ b : Fin 8, _ := fun b => readAt3 arg23.view (k0_off75_eq k) (k0_off75_inb i k k0_h4) X_arg23 0 b c
    have e1 : ∀ b : Fin 8, _ := fun b => readAt3 arg23.view (k0_off76_eq k) (k0_off76_inb i k k0_h4) X_arg23 0 b c
    rw [pay117_ix]
    split
    · refine congrArg (· * g2 v52 0 c.val) ((e0 _).trans ?_)
      dsimp only [Fin.val_zero]; congr 1 <;> omega
    · refine congrArg (· * g2 v52 0 c.val) ((e1 _).trans ?_)
      dsimp only [Fin.val_zero]; congr 1 <;> omega
  · rintro y ⟨h0, h1, h2⟩
    have h3 : (y 1).val < 256 := (y 1).isLt
    exact ⟨⟨(y 1).val / 16, show _ < 16 by omega⟩, by omega, by dsimp only; omega, by omega⟩

/-- The stores of the loop over rows for batch 1 and lanes 128 to 255: each row of the transposed product is multiplied by the tokens' scales. -/
theorem tiles_t23 (k0_h4 : k0_cond4 i = 1#1) (v19 : FVec Ideal S1x256 .f32) (v54 : Vec Ideal S1x128 .f32) (X_arg23 : BufTy.Contents (Elt Ideal) arg23.view.ty)
    (g : ℕ → ℕ → ℕ → EReal)
    (hg : ∀ n s, n < 256 → s < 128 → g 1 n (128 + s) = g3 (arg23.view.read (Elt Ideal) X_arg23) 1 n s * g2 v54 0 s) :
    Tiles (pb_k0_t23 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v54 X_arg23 k0_t23_loop.trips)
      (fun y => (y 0).val = 1 ∧ 128 ≤ (y 2).val ∧ (y 2).val < 256) (m3 g) := by
  refine (Tiles.loop (N := k0_t23_loop.trips) (fun n => pb_k0_t23 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v54 X_arg23 n)
    (fun k => tripL_k0_t23 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v54 X_arg23 k) rfl (fun k => pb_k0_t23_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v54 X_arg23 k)
    (D := fun k y => (1 ≤ (y 0).val ∧ (y 0).val < 1 + 1) ∧ (16 * k.val ≤ (y 1).val ∧ (y 1).val < 16 * k.val + 16)
      ∧ (128 ≤ (y 2).val ∧ (y 2).val < 128 + 128)) fun k => ?_).mono ?_
  · have hk : k.val < 16 := k.isLt
    unfold tripL_k0_t23 trip_k0_t23; dsimp only
    refine Tiles.unit3 (k0_off80_eq k) fun a r c => ?_
    have h0 : a.val = 0 := by omega
    rw [show 1 + a.val = 1 by omega, hg _ _ (by omega) c.isLt]
    have e0 : ∀ b : Fin 8, _ := fun b => readAt3 arg23.view (k0_off78_eq k) (k0_off78_inb i k k0_h4) X_arg23 0 b c
    have e1 : ∀ b : Fin 8, _ := fun b => readAt3 arg23.view (k0_off79_eq k) (k0_off79_inb i k k0_h4) X_arg23 0 b c
    rw [pay118_ix]
    split
    · refine congrArg (· * g2 v54 0 c.val) ((e0 _).trans ?_)
      dsimp only [Fin.val_zero]; congr 1 <;> omega
    · refine congrArg (· * g2 v54 0 c.val) ((e1 _).trans ?_)
      dsimp only [Fin.val_zero]; congr 1 <;> omega
  · rintro y ⟨h0, h1, h2⟩
    have h3 : (y 1).val < 256 := (y 1).isLt
    exact ⟨⟨(y 1).val / 16, show _ < 16 by omega⟩, by omega, by dsimp only; omega, by omega⟩

/-- The stores of the loop over rows for batch 2 and lanes 0 to 127: each row of the transposed product is multiplied by the tokens' scales. -/
theorem tiles_t24 (k0_h4 : k0_cond4 i = 1#1) (v70 : Vec Ideal S1x128 .f32) (X_arg23 : BufTy.Contents (Elt Ideal) arg23.view.ty)
    (g : ℕ → ℕ → ℕ → EReal)
    (hg : ∀ n s, n < 256 → s < 128 → g 2 n (0 + s) = g3 (arg23.view.read (Elt Ideal) X_arg23) 0 n s * g2 v70 0 s) :
    Tiles (pb_k0_t24 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v70 X_arg23 k0_t24_loop.trips)
      (fun y => (y 0).val = 2 ∧ 0 ≤ (y 2).val ∧ (y 2).val < 128) (m3 g) := by
  refine (Tiles.loop (N := k0_t24_loop.trips) (fun n => pb_k0_t24 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v70 X_arg23 n)
    (fun k => tripL_k0_t24 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v70 X_arg23 k) rfl (fun k => pb_k0_t24_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v70 X_arg23 k)
    (D := fun k y => (2 ≤ (y 0).val ∧ (y 0).val < 2 + 1) ∧ (16 * k.val ≤ (y 1).val ∧ (y 1).val < 16 * k.val + 16)
      ∧ (0 ≤ (y 2).val ∧ (y 2).val < 0 + 128)) fun k => ?_).mono ?_
  · have hk : k.val < 16 := k.isLt
    unfold tripL_k0_t24 trip_k0_t24; dsimp only
    refine Tiles.unit3 (k0_off83_eq k) fun a r c => ?_
    have h0 : a.val = 0 := by omega
    rw [show 2 + a.val = 2 by omega, hg _ _ (by omega) c.isLt]
    have e0 : ∀ b : Fin 8, _ := fun b => readAt3 arg23.view (k0_off81_eq k) (k0_off81_inb i k k0_h4) X_arg23 0 b c
    have e1 : ∀ b : Fin 8, _ := fun b => readAt3 arg23.view (k0_off82_eq k) (k0_off82_inb i k k0_h4) X_arg23 0 b c
    rw [pay12_ix]
    split
    · refine congrArg (· * g2 v70 0 c.val) ((e0 _).trans ?_)
      dsimp only [Fin.val_zero]; congr 1 <;> omega
    · refine congrArg (· * g2 v70 0 c.val) ((e1 _).trans ?_)
      dsimp only [Fin.val_zero]; congr 1 <;> omega
  · rintro y ⟨h0, h1, h2⟩
    have h3 : (y 1).val < 256 := (y 1).isLt
    exact ⟨⟨(y 1).val / 16, show _ < 16 by omega⟩, by omega, by dsimp only; omega, by omega⟩

/-- The stores of the loop over rows for batch 2 and lanes 128 to 255: each row of the transposed product is multiplied by the tokens' scales. -/
theorem tiles_t25 (k0_h4 : k0_cond4 i = 1#1) (v72 : Vec Ideal S1x128 .f32) (X_arg23 : BufTy.Contents (Elt Ideal) arg23.view.ty)
    (g : ℕ → ℕ → ℕ → EReal)
    (hg : ∀ n s, n < 256 → s < 128 → g 2 n (128 + s) = g3 (arg23.view.read (Elt Ideal) X_arg23) 1 n s * g2 v72 0 s) :
    Tiles (pb_k0_t25 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v72 X_arg23 k0_t25_loop.trips)
      (fun y => (y 0).val = 2 ∧ 128 ≤ (y 2).val ∧ (y 2).val < 256) (m3 g) := by
  refine (Tiles.loop (N := k0_t25_loop.trips) (fun n => pb_k0_t25 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v72 X_arg23 n)
    (fun k => tripL_k0_t25 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v72 X_arg23 k) rfl (fun k => pb_k0_t25_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v72 X_arg23 k)
    (D := fun k y => (2 ≤ (y 0).val ∧ (y 0).val < 2 + 1) ∧ (16 * k.val ≤ (y 1).val ∧ (y 1).val < 16 * k.val + 16)
      ∧ (128 ≤ (y 2).val ∧ (y 2).val < 128 + 128)) fun k => ?_).mono ?_
  · have hk : k.val < 16 := k.isLt
    unfold tripL_k0_t25 trip_k0_t25; dsimp only
    refine Tiles.unit3 (k0_off86_eq k) fun a r c => ?_
    have h0 : a.val = 0 := by omega
    rw [show 2 + a.val = 2 by omega, hg _ _ (by omega) c.isLt]
    have e0 : ∀ b : Fin 8, _ := fun b => readAt3 arg23.view (k0_off84_eq k) (k0_off84_inb i k k0_h4) X_arg23 0 b c
    have e1 : ∀ b : Fin 8, _ := fun b => readAt3 arg23.view (k0_off85_eq k) (k0_off85_inb i k k0_h4) X_arg23 0 b c
    rw [pay13_ix]
    split
    · refine congrArg (· * g2 v72 0 c.val) ((e0 _).trans ?_)
      dsimp only [Fin.val_zero]; congr 1 <;> omega
    · refine congrArg (· * g2 v72 0 c.val) ((e1 _).trans ?_)
      dsimp only [Fin.val_zero]; congr 1 <;> omega
  · rintro y ⟨h0, h1, h2⟩
    have h3 : (y 1).val < 256 := (y 1).isLt
    exact ⟨⟨(y 1).val / 16, show _ < 16 by omega⟩, by omega, by dsimp only; omega, by omega⟩

end Cert.KernelIdeal.Gen

end
-- ==== Proof.LoopQ.lean ====
/- The loops that rotate and store the query projection, read as one function of the output window. -/
module

public import proofs.«01_k».proof.Proof.Pay

@[expose] public section

set_option maxRecDepth 16384

noncomputable section

namespace Cert.KernelIdeal.Gen

open Idealize.ShloMosaic Idealize.ShloMosaic.TcCoe Idealize.ShloMosaic.Tactic Cert.Nat01

variable (𝒱 : Variants) (c : Dev nD) (bd : Option 𝒱.V) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole)

/-- The stores of the loop over rows for batch 0 and lanes 0 to 127: rows in pairs are multiplied by the tokens' scales and rotated. -/
theorem tiles_t4 (arg0 : BitVec 32) (k0_h2 : k0_cond2 i = 1#1) (v34 : Vec Ideal S1x128 .f32) (X_arg21 : BufTy.Contents (Elt Ideal) arg21.view.ty) (X_arg22 : BufTy.Contents (Elt Ideal) arg22.view.ty) (X_arg23 : BufTy.Contents (Elt Ideal) arg23.view.ty)
    (g : ℕ → ℕ → ℕ → EReal)
    (hg : ∀ n s, n < 256 → s < 128 → g 0 n (0 + s) = if n % 2 = 0 then
        g3 (arg23.view.read (Elt Ideal) X_arg23) 0 (2 * (n / 2)) s * g2 v34 0 s * g3 (arg21.view.read (Elt Ideal) X_arg21) 0 (8 * ((4 * (i 0).val + n / 16) % 6) + n % 16 / 2) (0 + s) - g3 (arg23.view.read (Elt Ideal) X_arg23) 0 (2 * (n / 2) + 1) s * g2 v34 0 s * g3 (arg22.view.read (Elt Ideal) X_arg22) 0 (8 * ((4 * (i 0).val + n / 16) % 6) + n % 16 / 2) (0 + s)
      else g3 (arg23.view.read (Elt Ideal) X_arg23) 0 (2 * (n / 2)) s * g2 v34 0 s * g3 (arg22.view.read (Elt Ideal) X_arg22) 0 (8 * ((4 * (i 0).val + n / 16) % 6) + n % 16 / 2) (0 + s) + g3 (arg23.view.read (Elt Ideal) X_arg23) 0 (2 * (n / 2) + 1) s * g2 v34 0 s * g3 (arg21.view.read (Elt Ideal) X_arg21) 0 (8 * ((4 * (i 0).val + n / 16) % 6) + n % 16 / 2) (0 + s)) :
    Tiles (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v34 X_arg21 X_arg22 X_arg23 k0_t4_loop.trips)
      (fun y => (y 0).val = 0 ∧ 0 ≤ (y 2).val ∧ (y 2).val < 128) (m3 g) := by
  refine (Tiles.loop (N := k0_t4_loop.trips) (fun n => pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v34 X_arg21 X_arg22 X_arg23 n)
    (fun k => tripL_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v34 X_arg21 X_arg22 X_arg23 k) rfl (fun k => pb_k0_t4_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v34 X_arg21 X_arg22 X_arg23 k)
    (D := fun k y => (0 ≤ (y 0).val ∧ (y 0).val < 0 + 1) ∧ (16 * k.val ≤ (y 1).val ∧ (y 1).val < 16 * k.val + 16)
      ∧ (0 ≤ (y 2).val ∧ (y 2).val < 0 + 128)) fun k => ?_).mono ?_
  · have hk : k.val < 16 := k.isLt
    unfold tripL_k0_t4 trip_k0_t4; dsimp only
    refine Tiles.unit3 (k0_off12_eq k) fun a r c => ?_
    have h0 : a.val = 0 := by omega
    rw [show 0 + a.val = 0 by omega, hg _ _ (by omega) c.isLt]
    have e0 : ∀ b : Fin 8, _ := fun b => readAt3 arg23.view (k0_off9_eq k) (k0_off9_inb i k k0_h2) X_arg23 0 b c
    have e1 : ∀ b : Fin 8, _ := fun b => readAt3 arg23.view (k0_off10_eq k) (k0_off10_inb i k k0_h2) X_arg23 0 b c
    have f21 : ∀ b : Fin 8, _ := fun b => readAtU3 arg21.view (k0_off11_eq i k) (k0_off11_inb i k k0_h2) X_arg21 0 b c
    have f22 : ∀ b : Fin 8, _ := fun b => readAtU3 arg22.view (k0_off11_eq i k) (k0_off11_inb i k k0_h2) X_arg22 0 b c
    have d1 : (16 * k.val + r.val) / 16 = k.val := by omega
    have d2 : (16 * k.val + r.val) % 16 / 2 = r.val / 2 := by omega
    have d3 : 2 * ((16 * k.val + r.val) / 2) = 16 * k.val + 2 * (r.val / 2) := by omega
    have d4 : (16 * k.val + r.val) % 2 = r.val % 2 := by omega
    rw [d1, d2, d3, d4]
    unfold trip_k0_t4.sl.r
    rw [pay47_ix]
    have q0 := e0 (⟨r.val / 2, by omega⟩ : Fin 8)
    have q1 := e1 (⟨r.val / 2, by omega⟩ : Fin 8)
    have q2 := f21 (⟨r.val / 2, by omega⟩ : Fin 8)
    have q3 := f22 (⟨r.val / 2, by omega⟩ : Fin 8)
    rw [show 16 * k.val + 1 + 2 * (r.val / 2) = 16 * k.val + 2 * (r.val / 2) + 1 by omega] at q1
    simp only [Fin.val_zero, Nat.add_zero, Nat.mul_zero, Nat.one_mul, Nat.zero_add] at q0 q1 q2 q3 ⊢
    erw [q0, q1, q2, q3]
  · rintro y ⟨h0, h1, h2⟩
    have h3 : (y 1).val < 256 := (y 1).isLt
    exact ⟨⟨(y 1).val / 16, show _ < 16 by omega⟩, by omega, by dsimp only; omega, by omega⟩

/-- The stores of the loop over rows for batch 0 and lanes 128 to 255: rows in pairs are multiplied by the tokens' scales and rotated. -/
theorem tiles_t5 (arg0 : BitVec 32) (k0_h2 : k0_cond2 i = 1#1) (v19 : FVec Ideal S1x256 .f32) (v36 : Vec Ideal S1x128 .f32) (X_arg21 : BufTy.Contents (Elt Ideal) arg21.view.ty) (X_arg22 : BufTy.Contents (Elt Ideal) arg22.view.ty) (X_arg23 : BufTy.Contents (Elt Ideal) arg23.view.ty)
    (g : ℕ → ℕ → ℕ → EReal)
    (hg : ∀ n s, n < 256 → s < 128 → g 0 n (128 + s) = if n % 2 = 0 then
        g3 (arg23.view.read (Elt Ideal) X_arg23) 1 (2 * (n / 2)) s * g2 v36 0 s * g3 (arg21.view.read (Elt Ideal) X_arg21) 0 (8 * ((4 * (i 0).val + n / 16) % 6) + n % 16 / 2) (128 + s) - g3 (arg23.view.read (Elt Ideal) X_arg23) 1 (2 * (n / 2) + 1) s * g2 v36 0 s * g3 (arg22.view.read (Elt Ideal) X_arg22) 0 (8 * ((4 * (i 0).val + n / 16) % 6) + n % 16 / 2) (128 + s)
      else g3 (arg23.view.read (Elt Ideal) X_arg23) 1 (2 * (n / 2)) s * g2 v36 0 s * g3 (arg22.view.read (Elt Ideal) X_arg22) 0 (8 * ((4 * (i 0).val + n / 16) % 6) + n % 16 / 2) (128 + s) + g3 (arg23.view.read (Elt Ideal) X_arg23) 1 (2 * (n / 2) + 1) s * g2 v36 0 s * g3 (arg21.view.read (Elt Ideal) X_arg21) 0 (8 * ((4 * (i 0).val + n / 16) % 6) + n % 16 / 2) (128 + s)) :
    Tiles (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v36 X_arg21 X_arg22 X_arg23 k0_t5_loop.trips)
      (fun y => (y 0).val = 0 ∧ 128 ≤ (y 2).val ∧ (y 2).val < 256) (m3 g) := by
  refine (Tiles.loop (N := k0_t5_loop.trips) (fun n => pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v36 X_arg21 X_arg22 X_arg23 n)
    (fun k => tripL_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v36 X_arg21 X_arg22 X_arg23 k) rfl (fun k => pb_k0_t5_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v36 X_arg21 X_arg22 X_arg23 k)
    (D := fun k y => (0 ≤ (y 0).val ∧ (y 0).val < 0 + 1) ∧ (16 * k.val ≤ (y 1).val ∧ (y 1).val < 16 * k.val + 16)
      ∧ (128 ≤ (y 2).val ∧ (y 2).val < 128 + 128)) fun k => ?_).mono ?_
  · have hk : k.val < 16 := k.isLt
    unfold tripL_k0_t5 trip_k0_t5; dsimp only
    refine Tiles.unit3 (k0_off16_eq k) fun a r c => ?_
    have h0 : a.val = 0 := by omega
    rw [show 0 + a.val = 0 by omega, hg _ _ (by omega) c.isLt]
    have e0 : ∀ b : Fin 8, _ := fun b => readAt3 arg23.view (k0_off13_eq k) (k0_off13_inb i k k0_h2) X_arg23 0 b c
    have e1 : ∀ b : Fin 8, _ := fun b => readAt3 arg23.view (k0_off14_eq k) (k0_off14_inb i k k0_h2) X_arg23 0 b c
    have f21 : ∀ b : Fin 8, _ := fun b => readAtU3 arg21.view (k0_off15_eq i k) (k0_off15_inb i k k0_h2) X_arg21 0 b c
    have f22 : ∀ b : Fin 8, _ := fun b => readAtU3 arg22.view (k0_off15_eq i k) (k0_off15_inb i k k0_h2) X_arg22 0 b c
    have d1 : (16 * k.val + r.val) / 16 = k.val := by omega
    have d2 : (16 * k.val + r.val) % 16 / 2 = r.val / 2 := by omega
    have d3 : 2 * ((16 * k.val + r.val) / 2) = 16 * k.val + 2 * (r.val / 2) := by omega
    have d4 : (16 * k.val + r.val) % 2 = r.val % 2 := by omega
    rw [d1, d2, d3, d4]
    unfold trip_k0_t5.sl.r
    rw [pay48_ix]
    have q0 := e0 (⟨r.val / 2, by omega⟩ : Fin 8)
    have q1 := e1 (⟨r.val / 2, by omega⟩ : Fin 8)
    have q2 := f21 (⟨r.val / 2, by omega⟩ : Fin 8)
    have q3 := f22 (⟨r.val / 2, by omega⟩ : Fin 8)
    rw [show 16 * k.val + 1 + 2 * (r.val / 2) = 16 * k.val + 2 * (r.val / 2) + 1 by omega] at q1
    simp only [Fin.val_zero, Nat.add_zero, Nat.mul_zero, Nat.one_mul, Nat.zero_add] at q0 q1 q2 q3 ⊢
    erw [q0, q1, q2, q3]
  · rintro y ⟨h0, h1, h2⟩
    have h3 : (y 1).val < 256 := (y 1).isLt
    exact ⟨⟨(y 1).val / 16, show _ < 16 by omega⟩, by omega, by dsimp only; omega, by omega⟩

/-- The stores of the loop over rows for batch 1 and lanes 0 to 127: rows in pairs are multiplied by the tokens' scales and rotated. -/
theorem tiles_t6 (arg0 : BitVec 32) (k0_h2 : k0_cond2 i = 1#1) (v19 : FVec Ideal S1x256 .f32) (v52 : Vec Ideal S1x128 .f32) (X_arg21 : BufTy.Contents (Elt Ideal) arg21.view.ty) (X_arg22 : BufTy.Contents (Elt Ideal) arg22.view.ty) (X_arg23 : BufTy.Contents (Elt Ideal) arg23.view.ty)
    (g : ℕ → ℕ → ℕ → EReal)
    (hg : ∀ n s, n < 256 → s < 128 → g 1 n (0 + s) = if n % 2 = 0 then
        g3 (arg23.view.read (Elt Ideal) X_arg23) 0 (2 * (n / 2)) s * g2 v52 0 s * g3 (arg21.view.read (Elt Ideal) X_arg21) 1 (8 * ((4 * (i 0).val + n / 16) % 6) + n % 16 / 2) (0 + s) - g3 (arg23.view.read (Elt Ideal) X_arg23) 0 (2 * (n / 2) + 1) s * g2 v52 0 s * g3 (arg22.view.read (Elt Ideal) X_arg22) 1 (8 * ((4 * (i 0).val + n / 16) % 6) + n % 16 / 2) (0 + s)
      else g3 (arg23.view.read (Elt Ideal) X_arg23) 0 (2 * (n / 2)) s * g2 v52 0 s * g3 (arg22.view.read (Elt Ideal) X_arg22) 1 (8 * ((4 * (i 0).val + n / 16) % 6) + n % 16 / 2) (0 + s) + g3 (arg23.view.read (Elt Ideal) X_arg23) 0 (2 * (n / 2) + 1) s * g2 v52 0 s * g3 (arg21.view.read (Elt Ideal) X_arg21) 1 (8 * ((4 * (i 0).val + n / 16) % 6) + n % 16 / 2) (0 + s)) :
    Tiles (pb_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v52 X_arg21 X_arg22 X_arg23 k0_t6_loop.trips)
      (fun y => (y 0).val = 1 ∧ 0 ≤ (y 2).val ∧ (y 2).val < 128) (m3 g) := by
  refine (Tiles.loop (N := k0_t6_loop.trips) (fun n => pb_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v52 X_arg21 X_arg22 X_arg23 n)
    (fun k => tripL_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v52 X_arg21 X_arg22 X_arg23 k) rfl (fun k => pb_k0_t6_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v52 X_arg21 X_arg22 X_arg23 k)
    (D := fun k y => (1 ≤ (y 0).val ∧ (y 0).val < 1 + 1) ∧ (16 * k.val ≤ (y 1).val ∧ (y 1).val < 16 * k.val + 16)
      ∧ (0 ≤ (y 2).val ∧ (y 2).val < 0 + 128)) fun k => ?_).mono ?_
  · have hk : k.val < 16 := k.isLt
    unfold tripL_k0_t6 trip_k0_t6; dsimp only
    refine Tiles.unit3 (k0_off20_eq k) fun a r c => ?_
    have h0 : a.val = 0 := by omega
    rw [show 1 + a.val = 1 by omega, hg _ _ (by omega) c.isLt]
    have e0 : ∀ b : Fin 8, _ := fun b => readAt3 arg23.view (k0_off17_eq k) (k0_off17_inb i k k0_h2) X_arg23 0 b c
    have e1 : ∀ b : Fin 8, _ := fun b => readAt3 arg23.view (k0_off18_eq k) (k0_off18_inb i k k0_h2) X_arg23 0 b c
    have f21 : ∀ b : Fin 8, _ := fun b => readAtU3 arg21.view (k0_off19_eq i k) (k0_off19_inb i k k0_h2) X_arg21 0 b c
    have f22 : ∀ b : Fin 8, _ := fun b => readAtU3 arg22.view (k0_off19_eq i k) (k0_off19_inb i k k0_h2) X_arg22 0 b c
    have d1 : (16 * k.val + r.val) / 16 = k.val := by omega
    have d2 : (16 * k.val + r.val) % 16 / 2 = r.val / 2 := by omega
    have d3 : 2 * ((16 * k.val + r.val) / 2) = 16 * k.val + 2 * (r.val / 2) := by omega
    have d4 : (16 * k.val + r.val) % 2 = r.val % 2 := by omega
    rw [d1, d2, d3, d4]
    unfold trip_k0_t6.sl.r
    rw [pay49_ix]
    have q0 := e0 (⟨r.val / 2, by omega⟩ : Fin 8)
    have q1 := e1 (⟨r.val / 2, by omega⟩ : Fin 8)
    have q2 := f21 (⟨r.val / 2, by omega⟩ : Fin 8)
    have q3 := f22 (⟨r.val / 2, by omega⟩ : Fin 8)
    rw [show 16 * k.val + 1 + 2 * (r.val / 2) = 16 * k.val + 2 * (r.val / 2) + 1 by omega] at q1
    simp only [Fin.val_zero, Nat.add_zero, Nat.mul_zero, Nat.one_mul, Nat.zero_add] at q0 q1 q2 q3 ⊢
    erw [q0, q1, q2, q3]
  · rintro y ⟨h0, h1, h2⟩
    have h3 : (y 1).val < 256 := (y 1).isLt
    exact ⟨⟨(y 1).val / 16, show _ < 16 by omega⟩, by omega, by dsimp only; omega, by omega⟩

/-- The stores of the loop over rows for batch 1 and lanes 128 to 255: rows in pairs are multiplied by the tokens' scales and rotated. -/
theorem tiles_t7 (arg0 : BitVec 32) (k0_h2 : k0_cond2 i = 1#1) (v19 : FVec Ideal S1x256 .f32) (v54 : Vec Ideal S1x128 .f32) (X_arg21 : BufTy.Contents (Elt Ideal) arg21.view.ty) (X_arg22 : BufTy.Contents (Elt Ideal) arg22.view.ty) (X_arg23 : BufTy.Contents (Elt Ideal) arg23.view.ty)
    (g : ℕ → ℕ → ℕ → EReal)
    (hg : ∀ n s, n < 256 → s < 128 → g 1 n (128 + s) = if n % 2 = 0 then
        g3 (arg23.view.read (Elt Ideal) X_arg23) 1 (2 * (n / 2)) s * g2 v54 0 s * g3 (arg21.view.read (Elt Ideal) X_arg21) 1 (8 * ((4 * (i 0).val + n / 16) % 6) + n % 16 / 2) (128 + s) - g3 (arg23.view.read (Elt Ideal) X_arg23) 1 (2 * (n / 2) + 1) s * g2 v54 0 s * g3 (arg22.view.read (Elt Ideal) X_arg22) 1 (8 * ((4 * (i 0).val + n / 16) % 6) + n % 16 / 2) (128 + s)
      else g3 (arg23.view.read (Elt Ideal) X_arg23) 1 (2 * (n / 2)) s * g2 v54 0 s * g3 (arg22.view.read (Elt Ideal) X_arg22) 1 (8 * ((4 * (i 0).val + n / 16) % 6) + n % 16 / 2) (128 + s) + g3 (arg23.view.read (Elt Ideal) X_arg23) 1 (2 * (n / 2) + 1) s * g2 v54 0 s * g3 (arg21.view.read (Elt Ideal) X_arg21) 1 (8 * ((4 * (i 0).val + n / 16) % 6) + n % 16 / 2) (128 + s)) :
    Tiles (pb_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v54 X_arg21 X_arg22 X_arg23 k0_t7_loop.trips)
      (fun y => (y 0).val = 1 ∧ 128 ≤ (y 2).val ∧ (y 2).val < 256) (m3 g) := by
  refine (Tiles.loop (N := k0_t7_loop.trips) (fun n => pb_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v54 X_arg21 X_arg22 X_arg23 n)
    (fun k => tripL_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v54 X_arg21 X_arg22 X_arg23 k) rfl (fun k => pb_k0_t7_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v54 X_arg21 X_arg22 X_arg23 k)
    (D := fun k y => (1 ≤ (y 0).val ∧ (y 0).val < 1 + 1) ∧ (16 * k.val ≤ (y 1).val ∧ (y 1).val < 16 * k.val + 16)
      ∧ (128 ≤ (y 2).val ∧ (y 2).val < 128 + 128)) fun k => ?_).mono ?_
  · have hk : k.val < 16 := k.isLt
    unfold tripL_k0_t7 trip_k0_t7; dsimp only
    refine Tiles.unit3 (k0_off24_eq k) fun a r c => ?_
    have h0 : a.val = 0 := by omega
    rw [show 1 + a.val = 1 by omega, hg _ _ (by omega) c.isLt]
    have e0 : ∀ b : Fin 8, _ := fun b => readAt3 arg23.view (k0_off21_eq k) (k0_off21_inb i k k0_h2) X_arg23 0 b c
    have e1 : ∀ b : Fin 8, _ := fun b => readAt3 arg23.view (k0_off22_eq k) (k0_off22_inb i k k0_h2) X_arg23 0 b c
    have f21 : ∀ b : Fin 8, _ := fun b => readAtU3 arg21.view (k0_off23_eq i k) (k0_off23_inb i k k0_h2) X_arg21 0 b c
    have f22 : ∀ b : Fin 8, _ := fun b => readAtU3 arg22.view (k0_off23_eq i k) (k0_off23_inb i k k0_h2) X_arg22 0 b c
    have d1 : (16 * k.val + r.val) / 16 = k.val := by omega
    have d2 : (16 * k.val + r.val) % 16 / 2 = r.val / 2 := by omega
    have d3 : 2 * ((16 * k.val + r.val) / 2) = 16 * k.val + 2 * (r.val / 2) := by omega
    have d4 : (16 * k.val + r.val) % 2 = r.val % 2 := by omega
    rw [d1, d2, d3, d4]
    unfold trip_k0_t7.sl.r
    rw [pay50_ix]
    have q0 := e0 (⟨r.val / 2, by omega⟩ : Fin 8)
    have q1 := e1 (⟨r.val / 2, by omega⟩ : Fin 8)
    have q2 := f21 (⟨r.val / 2, by omega⟩ : Fin 8)
    have q3 := f22 (⟨r.val / 2, by omega⟩ : Fin 8)
    rw [show 16 * k.val + 1 + 2 * (r.val / 2) = 16 * k.val + 2 * (r.val / 2) + 1 by omega] at q1
    simp only [Fin.val_zero, Nat.add_zero, Nat.mul_zero, Nat.one_mul, Nat.zero_add] at q0 q1 q2 q3 ⊢
    erw [q0, q1, q2, q3]
  · rintro y ⟨h0, h1, h2⟩
    have h3 : (y 1).val < 256 := (y 1).isLt
    exact ⟨⟨(y 1).val / 16, show _ < 16 by omega⟩, by omega, by dsimp only; omega, by omega⟩

/-- The stores of the loop over rows for batch 2 and lanes 0 to 127: rows in pairs are multiplied by the tokens' scales and rotated. -/
theorem tiles_t8 (arg0 : BitVec 32) (k0_h2 : k0_cond2 i = 1#1) (v70 : Vec Ideal S1x128 .f32) (X_arg21 : BufTy.Contents (Elt Ideal) arg21.view.ty) (X_arg22 : BufTy.Contents (Elt Ideal) arg22.view.ty) (X_arg23 : BufTy.Contents (Elt Ideal) arg23.view.ty)
    (g : ℕ → ℕ → ℕ → EReal)
    (hg : ∀ n s, n < 256 → s < 128 → g 2 n (0 + s) = if n % 2 = 0 then
        g3 (arg23.view.read (Elt Ideal) X_arg23) 0 (2 * (n / 2)) s * g2 v70 0 s * g3 (arg21.view.read (Elt Ideal) X_arg21) 2 (8 * ((4 * (i 0).val + n / 16) % 6) + n % 16 / 2) (0 + s) - g3 (arg23.view.read (Elt Ideal) X_arg23) 0 (2 * (n / 2) + 1) s * g2 v70 0 s * g3 (arg22.view.read (Elt Ideal) X_arg22) 2 (8 * ((4 * (i 0).val + n / 16) % 6) + n % 16 / 2) (0 + s)
      else g3 (arg23.view.read (Elt Ideal) X_arg23) 0 (2 * (n / 2)) s * g2 v70 0 s * g3 (arg22.view.read (Elt Ideal) X_arg22) 2 (8 * ((4 * (i 0).val + n / 16) % 6) + n % 16 / 2) (0 + s) + g3 (arg23.view.read (Elt Ideal) X_arg23) 0 (2 * (n / 2) + 1) s * g2 v70 0 s * g3 (arg21.view.read (Elt Ideal) X_arg21) 2 (8 * ((4 * (i 0).val + n / 16) % 6) + n % 16 / 2) (0 + s)) :
    Tiles (pb_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v70 X_arg21 X_arg22 X_arg23 k0_t8_loop.trips)
      (fun y => (y 0).val = 2 ∧ 0 ≤ (y 2).val ∧ (y 2).val < 128) (m3 g) := by
  refine (Tiles.loop (N := k0_t8_loop.trips) (fun n => pb_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v70 X_arg21 X_arg22 X_arg23 n)
    (fun k => tripL_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v70 X_arg21 X_arg22 X_arg23 k) rfl (fun k => pb_k0_t8_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v70 X_arg21 X_arg22 X_arg23 k)
    (D := fun k y => (2 ≤ (y 0).val ∧ (y 0).val < 2 + 1) ∧ (16 * k.val ≤ (y 1).val ∧ (y 1).val < 16 * k.val + 16)
      ∧ (0 ≤ (y 2).val ∧ (y 2).val < 0 + 128)) fun k => ?_).mono ?_
  · have hk : k.val < 16 := k.isLt
    unfold tripL_k0_t8 trip_k0_t8; dsimp only
    refine Tiles.unit3 (k0_off28_eq k) fun a r c => ?_
    have h0 : a.val = 0 := by omega
    rw [show 2 + a.val = 2 by omega, hg _ _ (by omega) c.isLt]
    have e0 : ∀ b : Fin 8, _ := fun b => readAt3 arg23.view (k0_off25_eq k) (k0_off25_inb i k k0_h2) X_arg23 0 b c
    have e1 : ∀ b : Fin 8, _ := fun b => readAt3 arg23.view (k0_off26_eq k) (k0_off26_inb i k k0_h2) X_arg23 0 b c
    have f21 : ∀ b : Fin 8, _ := fun b => readAtU3 arg21.view (k0_off27_eq i k) (k0_off27_inb i k k0_h2) X_arg21 0 b c
    have f22 : ∀ b : Fin 8, _ := fun b => readAtU3 arg22.view (k0_off27_eq i k) (k0_off27_inb i k k0_h2) X_arg22 0 b c
    have d1 : (16 * k.val + r.val) / 16 = k.val := by omega
    have d2 : (16 * k.val + r.val) % 16 / 2 = r.val / 2 := by omega
    have d3 : 2 * ((16 * k.val + r.val) / 2) = 16 * k.val + 2 * (r.val / 2) := by omega
    have d4 : (16 * k.val + r.val) % 2 = r.val % 2 := by omega
    rw [d1, d2, d3, d4]
    unfold trip_k0_t8.sl.r
    rw [pay51_ix]
    have q0 := e0 (⟨r.val / 2, by omega⟩ : Fin 8)
    have q1 := e1 (⟨r.val / 2, by omega⟩ : Fin 8)
    have q2 := f21 (⟨r.val / 2, by omega⟩ : Fin 8)
    have q3 := f22 (⟨r.val / 2, by omega⟩ : Fin 8)
    rw [show 16 * k.val + 1 + 2 * (r.val / 2) = 16 * k.val + 2 * (r.val / 2) + 1 by omega] at q1
    simp only [Fin.val_zero, Nat.add_zero, Nat.mul_zero, Nat.one_mul, Nat.zero_add] at q0 q1 q2 q3 ⊢
    erw [q0, q1, q2, q3]
  · rintro y ⟨h0, h1, h2⟩
    have h3 : (y 1).val < 256 := (y 1).isLt
    exact ⟨⟨(y 1).val / 16, show _ < 16 by omega⟩, by omega, by dsimp only; omega, by omega⟩

/-- The stores of the loop over rows for batch 2 and lanes 128 to 255: rows in pairs are multiplied by the tokens' scales and rotated. -/
theorem tiles_t9 (arg0 : BitVec 32) (k0_h2 : k0_cond2 i = 1#1) (v72 : Vec Ideal S1x128 .f32) (X_arg21 : BufTy.Contents (Elt Ideal) arg21.view.ty) (X_arg22 : BufTy.Contents (Elt Ideal) arg22.view.ty) (X_arg23 : BufTy.Contents (Elt Ideal) arg23.view.ty)
    (g : ℕ → ℕ → ℕ → EReal)
    (hg : ∀ n s, n < 256 → s < 128 → g 2 n (128 + s) = if n % 2 = 0 then
        g3 (arg23.view.read (Elt Ideal) X_arg23) 1 (2 * (n / 2)) s * g2 v72 0 s * g3 (arg21.view.read (Elt Ideal) X_arg21) 2 (8 * ((4 * (i 0).val + n / 16) % 6) + n % 16 / 2) (128 + s) - g3 (arg23.view.read (Elt Ideal) X_arg23) 1 (2 * (n / 2) + 1) s * g2 v72 0 s * g3 (arg22.view.read (Elt Ideal) X_arg22) 2 (8 * ((4 * (i 0).val + n / 16) % 6) + n % 16 / 2) (128 + s)
      else g3 (arg23.view.read (Elt Ideal) X_arg23) 1 (2 * (n / 2)) s * g2 v72 0 s * g3 (arg22.view.read (Elt Ideal) X_arg22) 2 (8 * ((4 * (i 0).val + n / 16) % 6) + n % 16 / 2) (128 + s) + g3 (arg23.view.read (Elt Ideal) X_arg23) 1 (2 * (n / 2) + 1) s * g2 v72 0 s * g3 (arg21.view.read (Elt Ideal) X_arg21) 2 (8 * ((4 * (i 0).val + n / 16) % 6) + n % 16 / 2) (128 + s)) :
    Tiles (pb_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v72 X_arg21 X_arg22 X_arg23 k0_t9_loop.trips)
      (fun y => (y 0).val = 2 ∧ 128 ≤ (y 2).val ∧ (y 2).val < 256) (m3 g) := by
  refine (Tiles.loop (N := k0_t9_loop.trips) (fun n => pb_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v72 X_arg21 X_arg22 X_arg23 n)
    (fun k => tripL_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v72 X_arg21 X_arg22 X_arg23 k) rfl (fun k => pb_k0_t9_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v72 X_arg21 X_arg22 X_arg23 k)
    (D := fun k y => (2 ≤ (y 0).val ∧ (y 0).val < 2 + 1) ∧ (16 * k.val ≤ (y 1).val ∧ (y 1).val < 16 * k.val + 16)
      ∧ (128 ≤ (y 2).val ∧ (y 2).val < 128 + 128)) fun k => ?_).mono ?_
  · have hk : k.val < 16 := k.isLt
    unfold tripL_k0_t9 trip_k0_t9; dsimp only
    refine Tiles.unit3 (k0_off32_eq k) fun a r c => ?_
    have h0 : a.val = 0 := by omega
    rw [show 2 + a.val = 2 by omega, hg _ _ (by omega) c.isLt]
    have e0 : ∀ b : Fin 8, _ := fun b => readAt3 arg23.view (k0_off29_eq k) (k0_off29_inb i k k0_h2) X_arg23 0 b c
    have e1 : ∀ b : Fin 8, _ := fun b => readAt3 arg23.view (k0_off30_eq k) (k0_off30_inb i k k0_h2) X_arg23 0 b c
    have f21 : ∀ b : Fin 8, _ := fun b => readAtU3 arg21.view (k0_off31_eq i k) (k0_off31_inb i k k0_h2) X_arg21 0 b c
    have f22 : ∀ b : Fin 8, _ := fun b => readAtU3 arg22.view (k0_off31_eq i k) (k0_off31_inb i k k0_h2) X_arg22 0 b c
    have d1 : (16 * k.val + r.val) / 16 = k.val := by omega
    have d2 : (16 * k.val + r.val) % 16 / 2 = r.val / 2 := by omega
    have d3 : 2 * ((16 * k.val + r.val) / 2) = 16 * k.val + 2 * (r.val / 2) := by omega
    have d4 : (16 * k.val + r.val) % 2 = r.val % 2 := by omega
    rw [d1, d2, d3, d4]
    unfold trip_k0_t9.sl.r
    rw [pay52_ix]
    have q0 := e0 (⟨r.val / 2, by omega⟩ : Fin 8)
    have q1 := e1 (⟨r.val / 2, by omega⟩ : Fin 8)
    have q2 := f21 (⟨r.val / 2, by omega⟩ : Fin 8)
    have q3 := f22 (⟨r.val / 2, by omega⟩ : Fin 8)
    rw [show 16 * k.val + 1 + 2 * (r.val / 2) = 16 * k.val + 2 * (r.val / 2) + 1 by omega] at q1
    simp only [Fin.val_zero, Nat.add_zero, Nat.mul_zero, Nat.one_mul, Nat.zero_add] at q0 q1 q2 q3 ⊢
    erw [q0, q1, q2, q3]
  · rintro y ⟨h0, h1, h2⟩
    have h3 : (y 1).val < 256 := (y 1).isLt
    exact ⟨⟨(y 1).val / 16, show _ < 16 by omega⟩, by omega, by dsimp only; omega, by omega⟩

end Cert.KernelIdeal.Gen

end
-- ==== Proof.LoopK.lean ====
/- The loops that rotate and store the key projection, read as one function of the output window. -/
module

public import proofs.«01_k».proof.Proof.Pay

@[expose] public section

set_option maxRecDepth 16384

noncomputable section

namespace Cert.KernelIdeal.Gen

open Idealize.ShloMosaic Idealize.ShloMosaic.TcCoe Idealize.ShloMosaic.Tactic Cert.Nat01

variable (𝒱 : Variants) (c : Dev nD) (bd : Option 𝒱.V) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole)

theorem off41_eq : ∀ (i : grid0.Coords) (k : Fin k0_t12_loop.trips), k0_cond3 i = 1#1 →
    k0_off41 i k = ![0, 8 * ((4 * ((i 0).val - 9) + k.val) % 6), 0] := by decide +kernel

/-- The stores of the loop over rows for batch 0 and lanes 0 to 127: rows in pairs are multiplied by the tokens' scales and rotated. -/
theorem tiles_t12 (arg0 : BitVec 32) (k0_h3 : k0_cond3 i = 1#1) (v14 : BitVec 32) (v35 : Vec Ideal S1x128 .f32) (X_arg21 : BufTy.Contents (Elt Ideal) arg21.view.ty) (X_arg22 : BufTy.Contents (Elt Ideal) arg22.view.ty) (X_arg23 : BufTy.Contents (Elt Ideal) arg23.view.ty)
    (g : ℕ → ℕ → ℕ → EReal)
    (hg : ∀ n s, n < 256 → s < 128 → g 0 n (0 + s) = if n % 2 = 0 then
        g3 (arg23.view.read (Elt Ideal) X_arg23) 0 (2 * (n / 2)) s * g2 v35 0 s * g3 (arg21.view.read (Elt Ideal) X_arg21) 0 (8 * ((4 * ((i 0).val - 9) + n / 16) % 6) + n % 16 / 2) (0 + s) - g3 (arg23.view.read (Elt Ideal) X_arg23) 0 (2 * (n / 2) + 1) s * g2 v35 0 s * g3 (arg22.view.read (Elt Ideal) X_arg22) 0 (8 * ((4 * ((i 0).val - 9) + n / 16) % 6) + n % 16 / 2) (0 + s)
      else g3 (arg23.view.read (Elt Ideal) X_arg23) 0 (2 * (n / 2)) s * g2 v35 0 s * g3 (arg22.view.read (Elt Ideal) X_arg22) 0 (8 * ((4 * ((i 0).val - 9) + n / 16) % 6) + n % 16 / 2) (0 + s) + g3 (arg23.view.read (Elt Ideal) X_arg23) 0 (2 * (n / 2) + 1) s * g2 v35 0 s * g3 (arg21.view.read (Elt Ideal) X_arg21) 0 (8 * ((4 * ((i 0).val - 9) + n / 16) % 6) + n % 16 / 2) (0 + s)) :
    Tiles (pb_k0_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 v14 v35 X_arg21 X_arg22 X_arg23 k0_t12_loop.trips)
      (fun y => (y 0).val = 0 ∧ 0 ≤ (y 2).val ∧ (y 2).val < 128) (m3 g) := by
  refine (Tiles.loop (N := k0_t12_loop.trips) (fun n => pb_k0_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 v14 v35 X_arg21 X_arg22 X_arg23 n)
    (fun k => tripL_k0_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 v14 v35 X_arg21 X_arg22 X_arg23 k) rfl (fun k => pb_k0_t12_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 v14 v35 X_arg21 X_arg22 X_arg23 k)
    (D := fun k y => (0 ≤ (y 0).val ∧ (y 0).val < 0 + 1) ∧ (16 * k.val ≤ (y 1).val ∧ (y 1).val < 16 * k.val + 16)
      ∧ (0 ≤ (y 2).val ∧ (y 2).val < 0 + 128)) fun k => ?_).mono ?_
  · have hk : k.val < 16 := k.isLt
    unfold tripL_k0_t12 trip_k0_t12; dsimp only
    refine Tiles.unit3 (k0_off42_eq k) fun a r c => ?_
    have h0 : a.val = 0 := by omega
    rw [show 0 + a.val = 0 by omega, hg _ _ (by omega) c.isLt]
    have e0 : ∀ b : Fin 8, _ := fun b => readAt3 arg23.view (k0_off39_eq k) (k0_off39_inb i k k0_h3) X_arg23 0 b c
    have e1 : ∀ b : Fin 8, _ := fun b => readAt3 arg23.view (k0_off40_eq k) (k0_off40_inb i k k0_h3) X_arg23 0 b c
    have f21 : ∀ b : Fin 8, _ := fun b => readAtU3 arg21.view (off41_eq i k k0_h3) (k0_off41_inb i k k0_h3) X_arg21 0 b c
    have f22 : ∀ b : Fin 8, _ := fun b => readAtU3 arg22.view (off41_eq i k k0_h3) (k0_off41_inb i k k0_h3) X_arg22 0 b c
    have d1 : (16 * k.val + r.val) / 16 = k.val := by omega
    have d2 : (16 * k.val + r.val) % 16 / 2 = r.val / 2 := by omega
    have d3 : 2 * ((16 * k.val + r.val) / 2) = 16 * k.val + 2 * (r.val / 2) := by omega
    have d4 : (16 * k.val + r.val) % 2 = r.val % 2 := by omega
    rw [d1, d2, d3, d4]
    unfold trip_k0_t12.sl.r
    rw [pay77_ix]
    have q0 := e0 (⟨r.val / 2, by omega⟩ : Fin 8)
    have q1 := e1 (⟨r.val / 2, by omega⟩ : Fin 8)
    have q2 := f21 (⟨r.val / 2, by omega⟩ : Fin 8)
    have q3 := f22 (⟨r.val / 2, by omega⟩ : Fin 8)
    rw [show 16 * k.val + 1 + 2 * (r.val / 2) = 16 * k.val + 2 * (r.val / 2) + 1 by omega] at q1
    simp only [Fin.val_zero, Nat.add_zero, Nat.mul_zero, Nat.one_mul, Nat.zero_add] at q0 q1 q2 q3 ⊢
    erw [q0, q1, q2, q3]
  · rintro y ⟨h0, h1, h2⟩
    have h3 : (y 1).val < 256 := (y 1).isLt
    exact ⟨⟨(y 1).val / 16, show _ < 16 by omega⟩, by omega, by dsimp only; omega, by omega⟩

theorem off45_eq : ∀ (i : grid0.Coords) (k : Fin k0_t13_loop.trips), k0_cond3 i = 1#1 →
    k0_off45 i k = ![0, 8 * ((4 * ((i 0).val - 9) + k.val) % 6), 128] := by decide +kernel

/-- The stores of the loop over rows for batch 0 and lanes 128 to 255: rows in pairs are multiplied by the tokens' scales and rotated. -/
theorem tiles_t13 (k0_h3 : k0_cond3 i = 1#1) (v14 : BitVec 32) (v20 : FVec Ideal S1x256 .f32) (v37 : Vec Ideal S1x128 .f32) (X_arg21 : BufTy.Contents (Elt Ideal) arg21.view.ty) (X_arg22 : BufTy.Contents (Elt Ideal) arg22.view.ty) (X_arg23 : BufTy.Contents (Elt Ideal) arg23.view.ty)
    (g : ℕ → ℕ → ℕ → EReal)
    (hg : ∀ n s, n < 256 → s < 128 → g 0 n (128 + s) = if n % 2 = 0 then
        g3 (arg23.view.read (Elt Ideal) X_arg23) 1 (2 * (n / 2)) s * g2 v37 0 s * g3 (arg21.view.read (Elt Ideal) X_arg21) 0 (8 * ((4 * ((i 0).val - 9) + n / 16) % 6) + n % 16 / 2) (128 + s) - g3 (arg23.view.read (Elt Ideal) X_arg23) 1 (2 * (n / 2) + 1) s * g2 v37 0 s * g3 (arg22.view.read (Elt Ideal) X_arg22) 0 (8 * ((4 * ((i 0).val - 9) + n / 16) % 6) + n % 16 / 2) (128 + s)
      else g3 (arg23.view.read (Elt Ideal) X_arg23) 1 (2 * (n / 2)) s * g2 v37 0 s * g3 (arg22.view.read (Elt Ideal) X_arg22) 0 (8 * ((4 * ((i 0).val - 9) + n / 16) % 6) + n % 16 / 2) (128 + s) + g3 (arg23.view.read (Elt Ideal) X_arg23) 1 (2 * (n / 2) + 1) s * g2 v37 0 s * g3 (arg21.view.read (Elt Ideal) X_arg21) 0 (8 * ((4 * ((i 0).val - 9) + n / 16) % 6) + n % 16 / 2) (128 + s)) :
    Tiles (pb_k0_t13 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v37 X_arg21 X_arg22 X_arg23 k0_t13_loop.trips)
      (fun y => (y 0).val = 0 ∧ 128 ≤ (y 2).val ∧ (y 2).val < 256) (m3 g) := by
  refine (Tiles.loop (N := k0_t13_loop.trips) (fun n => pb_k0_t13 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v37 X_arg21 X_arg22 X_arg23 n)
    (fun k => tripL_k0_t13 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v37 X_arg21 X_arg22 X_arg23 k) rfl (fun k => pb_k0_t13_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v37 X_arg21 X_arg22 X_arg23 k)
    (D := fun k y => (0 ≤ (y 0).val ∧ (y 0).val < 0 + 1) ∧ (16 * k.val ≤ (y 1).val ∧ (y 1).val < 16 * k.val + 16)
      ∧ (128 ≤ (y 2).val ∧ (y 2).val < 128 + 128)) fun k => ?_).mono ?_
  · have hk : k.val < 16 := k.isLt
    unfold tripL_k0_t13 trip_k0_t13; dsimp only
    refine Tiles.unit3 (k0_off46_eq k) fun a r c => ?_
    have h0 : a.val = 0 := by omega
    rw [show 0 + a.val = 0 by omega, hg _ _ (by omega) c.isLt]
    have e0 : ∀ b : Fin 8, _ := fun b => readAt3 arg23.view (k0_off43_eq k) (k0_off43_inb i k k0_h3) X_arg23 0 b c
    have e1 : ∀ b : Fin 8, _ := fun b => readAt3 arg23.view (k0_off44_eq k) (k0_off44_inb i k k0_h3) X_arg23 0 b c
    have f21 : ∀ b : Fin 8, _ := fun b => readAtU3 arg21.view (off45_eq i k k0_h3) (k0_off45_inb i k k0_h3) X_arg21 0 b c
    have f22 : ∀ b : Fin 8, _ := fun b => readAtU3 arg22.view (off45_eq i k k0_h3) (k0_off45_inb i k k0_h3) X_arg22 0 b c
    have d1 : (16 * k.val + r.val) / 16 = k.val := by omega
    have d2 : (16 * k.val + r.val) % 16 / 2 = r.val / 2 := by omega
    have d3 : 2 * ((16 * k.val + r.val) / 2) = 16 * k.val + 2 * (r.val / 2) := by omega
    have d4 : (16 * k.val + r.val) % 2 = r.val % 2 := by omega
    rw [d1, d2, d3, d4]
    unfold trip_k0_t13.sl.r
    rw [pay78_ix]
    have q0 := e0 (⟨r.val / 2, by omega⟩ : Fin 8)
    have q1 := e1 (⟨r.val / 2, by omega⟩ : Fin 8)
    have q2 := f21 (⟨r.val / 2, by omega⟩ : Fin 8)
    have q3 := f22 (⟨r.val / 2, by omega⟩ : Fin 8)
    rw [show 16 * k.val + 1 + 2 * (r.val / 2) = 16 * k.val + 2 * (r.val / 2) + 1 by omega] at q1
    simp only [Fin.val_zero, Nat.add_zero, Nat.mul_zero, Nat.one_mul, Nat.zero_add] at q0 q1 q2 q3 ⊢
    erw [q0, q1, q2, q3]
  · rintro y ⟨h0, h1, h2⟩
    have h3 : (y 1).val < 256 := (y 1).isLt
    exact ⟨⟨(y 1).val / 16, show _ < 16 by omega⟩, by omega, by dsimp only; omega, by omega⟩

theorem off49_eq : ∀ (i : grid0.Coords) (k : Fin k0_t14_loop.trips), k0_cond3 i = 1#1 →
    k0_off49 i k = ![1, 8 * ((4 * ((i 0).val - 9) + k.val) % 6), 0] := by decide +kernel

/-- The stores of the loop over rows for batch 1 and lanes 0 to 127: rows in pairs are multiplied by the tokens' scales and rotated. -/
theorem tiles_t14 (k0_h3 : k0_cond3 i = 1#1) (v14 : BitVec 32) (v20 : FVec Ideal S1x256 .f32) (v53 : Vec Ideal S1x128 .f32) (X_arg21 : BufTy.Contents (Elt Ideal) arg21.view.ty) (X_arg22 : BufTy.Contents (Elt Ideal) arg22.view.ty) (X_arg23 : BufTy.Contents (Elt Ideal) arg23.view.ty)
    (g : ℕ → ℕ → ℕ → EReal)
    (hg : ∀ n s, n < 256 → s < 128 → g 1 n (0 + s) = if n % 2 = 0 then
        g3 (arg23.view.read (Elt Ideal) X_arg23) 0 (2 * (n / 2)) s * g2 v53 0 s * g3 (arg21.view.read (Elt Ideal) X_arg21) 1 (8 * ((4 * ((i 0).val - 9) + n / 16) % 6) + n % 16 / 2) (0 + s) - g3 (arg23.view.read (Elt Ideal) X_arg23) 0 (2 * (n / 2) + 1) s * g2 v53 0 s * g3 (arg22.view.read (Elt Ideal) X_arg22) 1 (8 * ((4 * ((i 0).val - 9) + n / 16) % 6) + n % 16 / 2) (0 + s)
      else g3 (arg23.view.read (Elt Ideal) X_arg23) 0 (2 * (n / 2)) s * g2 v53 0 s * g3 (arg22.view.read (Elt Ideal) X_arg22) 1 (8 * ((4 * ((i 0).val - 9) + n / 16) % 6) + n % 16 / 2) (0 + s) + g3 (arg23.view.read (Elt Ideal) X_arg23) 0 (2 * (n / 2) + 1) s * g2 v53 0 s * g3 (arg21.view.read (Elt Ideal) X_arg21) 1 (8 * ((4 * ((i 0).val - 9) + n / 16) % 6) + n % 16 / 2) (0 + s)) :
    Tiles (pb_k0_t14 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v53 X_arg21 X_arg22 X_arg23 k0_t14_loop.trips)
      (fun y => (y 0).val = 1 ∧ 0 ≤ (y 2).val ∧ (y 2).val < 128) (m3 g) := by
  refine (Tiles.loop (N := k0_t14_loop.trips) (fun n => pb_k0_t14 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v53 X_arg21 X_arg22 X_arg23 n)
    (fun k => tripL_k0_t14 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v53 X_arg21 X_arg22 X_arg23 k) rfl (fun k => pb_k0_t14_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v53 X_arg21 X_arg22 X_arg23 k)
    (D := fun k y => (1 ≤ (y 0).val ∧ (y 0).val < 1 + 1) ∧ (16 * k.val ≤ (y 1).val ∧ (y 1).val < 16 * k.val + 16)
      ∧ (0 ≤ (y 2).val ∧ (y 2).val < 0 + 128)) fun k => ?_).mono ?_
  · have hk : k.val < 16 := k.isLt
    unfold tripL_k0_t14 trip_k0_t14; dsimp only
    refine Tiles.unit3 (k0_off50_eq k) fun a r c => ?_
    have h0 : a.val = 0 := by omega
    rw [show 1 + a.val = 1 by omega, hg _ _ (by omega) c.isLt]
    have e0 : ∀ b : Fin 8, _ := fun b => readAt3 arg23.view (k0_off47_eq k) (k0_off47_inb i k k0_h3) X_arg23 0 b c
    have e1 : ∀ b : Fin 8, _ := fun b => readAt3 arg23.view (k0_off48_eq k) (k0_off48_inb i k k0_h3) X_arg23 0 b c
    have f21 : ∀ b : Fin 8, _ := fun b => readAtU3 arg21.view (off49_eq i k k0_h3) (k0_off49_inb i k k0_h3) X_arg21 0 b c
    have f22 : ∀ b : Fin 8, _ := fun b => readAtU3 arg22.view (off49_eq i k k0_h3) (k0_off49_inb i k k0_h3) X_arg22 0 b c
    have d1 : (16 * k.val + r.val) / 16 = k.val := by omega
    have d2 : (16 * k.val + r.val) % 16 / 2 = r.val / 2 := by omega
    have d3 : 2 * ((16 * k.val + r.val) / 2) = 16 * k.val + 2 * (r.val / 2) := by omega
    have d4 : (16 * k.val + r.val) % 2 = r.val % 2 := by omega
    rw [d1, d2, d3, d4]
    unfold trip_k0_t14.sl.r
    rw [pay79_ix]
    have q0 := e0 (⟨r.val / 2, by omega⟩ : Fin 8)
    have q1 := e1 (⟨r.val / 2, by omega⟩ : Fin 8)
    have q2 := f21 (⟨r.val / 2, by omega⟩ : Fin 8)
    have q3 := f22 (⟨r.val / 2, by omega⟩ : Fin 8)
    rw [show 16 * k.val + 1 + 2 * (r.val / 2) = 16 * k.val + 2 * (r.val / 2) + 1 by omega] at q1
    simp only [Fin.val_zero, Nat.add_zero, Nat.mul_zero, Nat.one_mul, Nat.zero_add] at q0 q1 q2 q3 ⊢
    erw [q0, q1, q2, q3]
  · rintro y ⟨h0, h1, h2⟩
    have h3 : (y 1).val < 256 := (y 1).isLt
    exact ⟨⟨(y 1).val / 16, show _ < 16 by omega⟩, by omega, by dsimp only; omega, by omega⟩

theorem off53_eq : ∀ (i : grid0.Coords) (k : Fin k0_t15_loop.trips), k0_cond3 i = 1#1 →
    k0_off53 i k = ![1, 8 * ((4 * ((i 0).val - 9) + k.val) % 6), 128] := by decide +kernel

/-- The stores of the loop over rows for batch 1 and lanes 128 to 255: rows in pairs are multiplied by the tokens' scales and rotated. -/
theorem tiles_t15 (k0_h3 : k0_cond3 i = 1#1) (v14 : BitVec 32) (v20 : FVec Ideal S1x256 .f32) (v55 : Vec Ideal S1x128 .f32) (X_arg21 : BufTy.Contents (Elt Ideal) arg21.view.ty) (X_arg22 : BufTy.Contents (Elt Ideal) arg22.view.ty) (X_arg23 : BufTy.Contents (Elt Ideal) arg23.view.ty)
    (g : ℕ → ℕ → ℕ → EReal)
    (hg : ∀ n s, n < 256 → s < 128 → g 1 n (128 + s) = if n % 2 = 0 then
        g3 (arg23.view.read (Elt Ideal) X_arg23) 1 (2 * (n / 2)) s * g2 v55 0 s * g3 (arg21.view.read (Elt Ideal) X_arg21) 1 (8 * ((4 * ((i 0).val - 9) + n / 16) % 6) + n % 16 / 2) (128 + s) - g3 (arg23.view.read (Elt Ideal) X_arg23) 1 (2 * (n / 2) + 1) s * g2 v55 0 s * g3 (arg22.view.read (Elt Ideal) X_arg22) 1 (8 * ((4 * ((i 0).val - 9) + n / 16) % 6) + n % 16 / 2) (128 + s)
      else g3 (arg23.view.read (Elt Ideal) X_arg23) 1 (2 * (n / 2)) s * g2 v55 0 s * g3 (arg22.view.read (Elt Ideal) X_arg22) 1 (8 * ((4 * ((i 0).val - 9) + n / 16) % 6) + n % 16 / 2) (128 + s) + g3 (arg23.view.read (Elt Ideal) X_arg23) 1 (2 * (n / 2) + 1) s * g2 v55 0 s * g3 (arg21.view.read (Elt Ideal) X_arg21) 1 (8 * ((4 * ((i 0).val - 9) + n / 16) % 6) + n % 16 / 2) (128 + s)) :
    Tiles (pb_k0_t15 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v55 X_arg21 X_arg22 X_arg23 k0_t15_loop.trips)
      (fun y => (y 0).val = 1 ∧ 128 ≤ (y 2).val ∧ (y 2).val < 256) (m3 g) := by
  refine (Tiles.loop (N := k0_t15_loop.trips) (fun n => pb_k0_t15 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v55 X_arg21 X_arg22 X_arg23 n)
    (fun k => tripL_k0_t15 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v55 X_arg21 X_arg22 X_arg23 k) rfl (fun k => pb_k0_t15_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v55 X_arg21 X_arg22 X_arg23 k)
    (D := fun k y => (1 ≤ (y 0).val ∧ (y 0).val < 1 + 1) ∧ (16 * k.val ≤ (y 1).val ∧ (y 1).val < 16 * k.val + 16)
      ∧ (128 ≤ (y 2).val ∧ (y 2).val < 128 + 128)) fun k => ?_).mono ?_
  · have hk : k.val < 16 := k.isLt
    unfold tripL_k0_t15 trip_k0_t15; dsimp only
    refine Tiles.unit3 (k0_off54_eq k) fun a r c => ?_
    have h0 : a.val = 0 := by omega
    rw [show 1 + a.val = 1 by omega, hg _ _ (by omega) c.isLt]
    have e0 : ∀ b : Fin 8, _ := fun b => readAt3 arg23.view (k0_off51_eq k) (k0_off51_inb i k k0_h3) X_arg23 0 b c
    have e1 : ∀ b : Fin 8, _ := fun b => readAt3 arg23.view (k0_off52_eq k) (k0_off52_inb i k k0_h3) X_arg23 0 b c
    have f21 : ∀ b : Fin 8, _ := fun b => readAtU3 arg21.view (off53_eq i k k0_h3) (k0_off53_inb i k k0_h3) X_arg21 0 b c
    have f22 : ∀ b : Fin 8, _ := fun b => readAtU3 arg22.view (off53_eq i k k0_h3) (k0_off53_inb i k k0_h3) X_arg22 0 b c
    have d1 : (16 * k.val + r.val) / 16 = k.val := by omega
    have d2 : (16 * k.val + r.val) % 16 / 2 = r.val / 2 := by omega
    have d3 : 2 * ((16 * k.val + r.val) / 2) = 16 * k.val + 2 * (r.val / 2) := by omega
    have d4 : (16 * k.val + r.val) % 2 = r.val % 2 := by omega
    rw [d1, d2, d3, d4]
    unfold trip_k0_t15.sl.r
    rw [pay80_ix]
    have q0 := e0 (⟨r.val / 2, by omega⟩ : Fin 8)
    have q1 := e1 (⟨r.val / 2, by omega⟩ : Fin 8)
    have q2 := f21 (⟨r.val / 2, by omega⟩ : Fin 8)
    have q3 := f22 (⟨r.val / 2, by omega⟩ : Fin 8)
    rw [show 16 * k.val + 1 + 2 * (r.val / 2) = 16 * k.val + 2 * (r.val / 2) + 1 by omega] at q1
    simp only [Fin.val_zero, Nat.add_zero, Nat.mul_zero, Nat.one_mul, Nat.zero_add] at q0 q1 q2 q3 ⊢
    erw [q0, q1, q2, q3]
  · rintro y ⟨h0, h1, h2⟩
    have h3 : (y 1).val < 256 := (y 1).isLt
    exact ⟨⟨(y 1).val / 16, show _ < 16 by omega⟩, by omega, by dsimp only; omega, by omega⟩

theorem off57_eq : ∀ (i : grid0.Coords) (k : Fin k0_t16_loop.trips), k0_cond3 i = 1#1 →
    k0_off57 i k = ![2, 8 * ((4 * ((i 0).val - 9) + k.val) % 6), 0] := by decide +kernel

/-- The stores of the loop over rows for batch 2 and lanes 0 to 127: rows in pairs are multiplied by the tokens' scales and rotated. -/
theorem tiles_t16 (k0_h3 : k0_cond3 i = 1#1) (v14 : BitVec 32) (v71 : Vec Ideal S1x128 .f32) (X_arg21 : BufTy.Contents (Elt Ideal) arg21.view.ty) (X_arg22 : BufTy.Contents (Elt Ideal) arg22.view.ty) (X_arg23 : BufTy.Contents (Elt Ideal) arg23.view.ty)
    (g : ℕ → ℕ → ℕ → EReal)
    (hg : ∀ n s, n < 256 → s < 128 → g 2 n (0 + s) = if n % 2 = 0 then
        g3 (arg23.view.read (Elt Ideal) X_arg23) 0 (2 * (n / 2)) s * g2 v71 0 s * g3 (arg21.view.read (Elt Ideal) X_arg21) 2 (8 * ((4 * ((i 0).val - 9) + n / 16) % 6) + n % 16 / 2) (0 + s) - g3 (arg23.view.read (Elt Ideal) X_arg23) 0 (2 * (n / 2) + 1) s * g2 v71 0 s * g3 (arg22.view.read (Elt Ideal) X_arg22) 2 (8 * ((4 * ((i 0).val - 9) + n / 16) % 6) + n % 16 / 2) (0 + s)
      else g3 (arg23.view.read (Elt Ideal) X_arg23) 0 (2 * (n / 2)) s * g2 v71 0 s * g3 (arg22.view.read (Elt Ideal) X_arg22) 2 (8 * ((4 * ((i 0).val - 9) + n / 16) % 6) + n % 16 / 2) (0 + s) + g3 (arg23.view.read (Elt Ideal) X_arg23) 0 (2 * (n / 2) + 1) s * g2 v71 0 s * g3 (arg21.view.read (Elt Ideal) X_arg21) 2 (8 * ((4 * ((i 0).val - 9) + n / 16) % 6) + n % 16 / 2) (0 + s)) :
    Tiles (pb_k0_t16 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v71 X_arg21 X_arg22 X_arg23 k0_t16_loop.trips)
      (fun y => (y 0).val = 2 ∧ 0 ≤ (y 2).val ∧ (y 2).val < 128) (m3 g) := by
  refine (Tiles.loop (N := k0_t16_loop.trips) (fun n => pb_k0_t16 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v71 X_arg21 X_arg22 X_arg23 n)
    (fun k => tripL_k0_t16 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v71 X_arg21 X_arg22 X_arg23 k) rfl (fun k => pb_k0_t16_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v71 X_arg21 X_arg22 X_arg23 k)
    (D := fun k y => (2 ≤ (y 0).val ∧ (y 0).val < 2 + 1) ∧ (16 * k.val ≤ (y 1).val ∧ (y 1).val < 16 * k.val + 16)
      ∧ (0 ≤ (y 2).val ∧ (y 2).val < 0 + 128)) fun k => ?_).mono ?_
  · have hk : k.val < 16 := k.isLt
    unfold tripL_k0_t16 trip_k0_t16; dsimp only
    refine Tiles.unit3 (k0_off58_eq k) fun a r c => ?_
    have h0 : a.val = 0 := by omega
    rw [show 2 + a.val = 2 by omega, hg _ _ (by omega) c.isLt]
    have e0 : ∀ b : Fin 8, _ := fun b => readAt3 arg23.view (k0_off55_eq k) (k0_off55_inb i k k0_h3) X_arg23 0 b c
    have e1 : ∀ b : Fin 8, _ := fun b => readAt3 arg23.view (k0_off56_eq k) (k0_off56_inb i k k0_h3) X_arg23 0 b c
    have f21 : ∀ b : Fin 8, _ := fun b => readAtU3 arg21.view (off57_eq i k k0_h3) (k0_off57_inb i k k0_h3) X_arg21 0 b c
    have f22 : ∀ b : Fin 8, _ := fun b => readAtU3 arg22.view (off57_eq i k k0_h3) (k0_off57_inb i k k0_h3) X_arg22 0 b c
    have d1 : (16 * k.val + r.val) / 16 = k.val := by omega
    have d2 : (16 * k.val + r.val) % 16 / 2 = r.val / 2 := by omega
    have d3 : 2 * ((16 * k.val + r.val) / 2) = 16 * k.val + 2 * (r.val / 2) := by omega
    have d4 : (16 * k.val + r.val) % 2 = r.val % 2 := by omega
    rw [d1, d2, d3, d4]
    unfold trip_k0_t16.sl.r
    rw [pay81_ix]
    have q0 := e0 (⟨r.val / 2, by omega⟩ : Fin 8)
    have q1 := e1 (⟨r.val / 2, by omega⟩ : Fin 8)
    have q2 := f21 (⟨r.val / 2, by omega⟩ : Fin 8)
    have q3 := f22 (⟨r.val / 2, by omega⟩ : Fin 8)
    rw [show 16 * k.val + 1 + 2 * (r.val / 2) = 16 * k.val + 2 * (r.val / 2) + 1 by omega] at q1
    simp only [Fin.val_zero, Nat.add_zero, Nat.mul_zero, Nat.one_mul, Nat.zero_add] at q0 q1 q2 q3 ⊢
    erw [q0, q1, q2, q3]
  · rintro y ⟨h0, h1, h2⟩
    have h3 : (y 1).val < 256 := (y 1).isLt
    exact ⟨⟨(y 1).val / 16, show _ < 16 by omega⟩, by omega, by dsimp only; omega, by omega⟩

theorem off61_eq : ∀ (i : grid0.Coords) (k : Fin k0_t17_loop.trips), k0_cond3 i = 1#1 →
    k0_off61 i k = ![2, 8 * ((4 * ((i 0).val - 9) + k.val) % 6), 128] := by decide +kernel

/-- The stores of the loop over rows for batch 2 and lanes 128 to 255: rows in pairs are multiplied by the tokens' scales and rotated. -/
theorem tiles_t17 (k0_h3 : k0_cond3 i = 1#1) (v14 : BitVec 32) (v73 : Vec Ideal S1x128 .f32) (X_arg21 : BufTy.Contents (Elt Ideal) arg21.view.ty) (X_arg22 : BufTy.Contents (Elt Ideal) arg22.view.ty) (X_arg23 : BufTy.Contents (Elt Ideal) arg23.view.ty)
    (g : ℕ → ℕ → ℕ → EReal)
    (hg : ∀ n s, n < 256 → s < 128 → g 2 n (128 + s) = if n % 2 = 0 then
        g3 (arg23.view.read (Elt Ideal) X_arg23) 1 (2 * (n / 2)) s * g2 v73 0 s * g3 (arg21.view.read (Elt Ideal) X_arg21) 2 (8 * ((4 * ((i 0).val - 9) + n / 16) % 6) + n % 16 / 2) (128 + s) - g3 (arg23.view.read (Elt Ideal) X_arg23) 1 (2 * (n / 2) + 1) s * g2 v73 0 s * g3 (arg22.view.read (Elt Ideal) X_arg22) 2 (8 * ((4 * ((i 0).val - 9) + n / 16) % 6) + n % 16 / 2) (128 + s)
      else g3 (arg23.view.read (Elt Ideal) X_arg23) 1 (2 * (n / 2)) s * g2 v73 0 s * g3 (arg22.view.read (Elt Ideal) X_arg22) 2 (8 * ((4 * ((i 0).val - 9) + n / 16) % 6) + n % 16 / 2) (128 + s) + g3 (arg23.view.read (Elt Ideal) X_arg23) 1 (2 * (n / 2) + 1) s * g2 v73 0 s * g3 (arg21.view.read (Elt Ideal) X_arg21) 2 (8 * ((4 * ((i 0).val - 9) + n / 16) % 6) + n % 16 / 2) (128 + s)) :
    Tiles (pb_k0_t17 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v73 X_arg21 X_arg22 X_arg23 k0_t17_loop.trips)
      (fun y => (y 0).val = 2 ∧ 128 ≤ (y 2).val ∧ (y 2).val < 256) (m3 g) := by
  refine (Tiles.loop (N := k0_t17_loop.trips) (fun n => pb_k0_t17 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v73 X_arg21 X_arg22 X_arg23 n)
    (fun k => tripL_k0_t17 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v73 X_arg21 X_arg22 X_arg23 k) rfl (fun k => pb_k0_t17_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v73 X_arg21 X_arg22 X_arg23 k)
    (D := fun k y => (2 ≤ (y 0).val ∧ (y 0).val < 2 + 1) ∧ (16 * k.val ≤ (y 1).val ∧ (y 1).val < 16 * k.val + 16)
      ∧ (128 ≤ (y 2).val ∧ (y 2).val < 128 + 128)) fun k => ?_).mono ?_
  · have hk : k.val < 16 := k.isLt
    unfold tripL_k0_t17 trip_k0_t17; dsimp only
    refine Tiles.unit3 (k0_off62_eq k) fun a r c => ?_
    have h0 : a.val = 0 := by omega
    rw [show 2 + a.val = 2 by omega, hg _ _ (by omega) c.isLt]
    have e0 : ∀ b : Fin 8, _ := fun b => readAt3 arg23.view (k0_off59_eq k) (k0_off59_inb i k k0_h3) X_arg23 0 b c
    have e1 : ∀ b : Fin 8, _ := fun b => readAt3 arg23.view (k0_off60_eq k) (k0_off60_inb i k k0_h3) X_arg23 0 b c
    have f21 : ∀ b : Fin 8, _ := fun b => readAtU3 arg21.view (off61_eq i k k0_h3) (k0_off61_inb i k k0_h3) X_arg21 0 b c
    have f22 : ∀ b : Fin 8, _ := fun b => readAtU3 arg22.view (off61_eq i k k0_h3) (k0_off61_inb i k k0_h3) X_arg22 0 b c
    have d1 : (16 * k.val + r.val) / 16 = k.val := by omega
    have d2 : (16 * k.val + r.val) % 16 / 2 = r.val / 2 := by omega
    have d3 : 2 * ((16 * k.val + r.val) / 2) = 16 * k.val + 2 * (r.val / 2) := by omega
    have d4 : (16 * k.val + r.val) % 2 = r.val % 2 := by omega
    rw [d1, d2, d3, d4]
    unfold trip_k0_t17.sl.r
    rw [pay82_ix]
    have q0 := e0 (⟨r.val / 2, by omega⟩ : Fin 8)
    have q1 := e1 (⟨r.val / 2, by omega⟩ : Fin 8)
    have q2 := f21 (⟨r.val / 2, by omega⟩ : Fin 8)
    have q3 := f22 (⟨r.val / 2, by omega⟩ : Fin 8)
    rw [show 16 * k.val + 1 + 2 * (r.val / 2) = 16 * k.val + 2 * (r.val / 2) + 1 by omega] at q1
    simp only [Fin.val_zero, Nat.add_zero, Nat.mul_zero, Nat.one_mul, Nat.zero_add] at q0 q1 q2 q3 ⊢
    erw [q0, q1, q2, q3]
  · rintro y ⟨h0, h1, h2⟩
    have h3 : (y 1).val < 256 := (y 1).isLt
    exact ⟨⟨(y 1).val / 16, show _ < 16 by omega⟩, by omega, by dsimp only; omega, by omega⟩

end Cert.KernelIdeal.Gen

end
-- ==== Proof.Bytes.lean ====
/- Four-bit weights inside packed words: what the word operations make of each byte. -/
module

public import proofs.«01_k».proof.Proof.Base
public import Idealize.ShloMosaic.Lib.BitcastFour

@[expose] public section

namespace Cert.Nat01

open Idealize.ShloMosaic

/-- The high four bits of a byte holding two offset weights: sixteen times the weight. -/
def hiw (b : BitVec 8) : BitVec 8 := (b ^^^ 0x88#8) &&& 0xF0#8
/-- The low four bits of such a byte, moved to the high half: sixteen times the weight. -/
def low (b : BitVec 8) : BitVec 8 := ((b ^^^ 0x88#8) <<< 4) &&& 0xF0#8

/-- Thirty-two-bit words read as bytes, at a row: the byte of the word of a quarter of the row. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (p : Fin R) (l : Fin n) (q : Nat) (hq : q < 8) (a : Fin r)
    (ha : a.val = p.val / 4) :
    (bitcast ⟨2, ![R, n]⟩ 8 x h (ix2 p l)).getLsbD q = (x (ix2 a l)).getLsbD (8 * (p.val % 4) + q) := by
  have hrow : (⟨2, ![R, n]⟩ : Shape).row (ix2 p l) = p.val := by rfl
  rw [bitcast_getLsbD x h _ q hq (by decide)]
  have e1 : ((⟨2, ![R, n]⟩ : Shape).row (ix2 p l) * 8 + q) / 32 = a.val := by rw [hrow]; omega
  have e2 : ((⟨2, ![R, n]⟩ : Shape).row (ix2 p l) * 8 + q) % 32 = 8 * (p.val % 4) + q := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- The mask 0x88 in each byte of a word. -/
theorem x88_bit (k : Fin 4) (q : Fin 8) : (2290649224#32 : BitVec 32).getLsbD (8 * k.val + q.val) = (0x88#8 : BitVec 8).getLsbD q.val := by
  revert k q; decide
/-- The mask 0xF0 in each byte of a word. -/
theorem xF0_bit (k : Fin 4) (q : Fin 8) : (4042322160#32 : BitVec 32).getLsbD (8 * k.val + q.val) = (0xF0#8 : BitVec 8).getLsbD q.val := by
  revert k q; decide
/-- The mask 0xF0 has no low bits. -/
theorem xF0_low (q : Fin 8) : q.val < 4 → (0xF0#8 : BitVec 8).getLsbD q.val = false := by
  revert q; decide

variable {R r n : Nat}

/-- The bits of a word of four bytes with the offset taken off each weight. -/
theorem xor_bit (x : (⟨2, ![R, n]⟩ : Shape).Idx → BitVec 8) (h : (⟨2, ![R, n]⟩ : Shape).Bitcasts 8 ⟨2, ![r, n]⟩ 32)
    (a : Fin r) (l : Fin n) (p : Fin R) (k : Nat) (hk : k < 4) (hp : p.val = 4 * a.val + k) (q : Nat) (hq : q < 8) :
    (xori (bitcast ⟨2, ![r, n]⟩ 32 x h) (broadcast ⟨2, ![r, n]⟩ 2290649224#32) (ix2 a l)).getLsbD (8 * k + q)
      = (x (ix2 p l) ^^^ 0x88#8).getLsbD q := by
  show (_ ^^^ 2290649224#32 : BitVec 32).getLsbD _ = _
  rw [BitVec.getLsbD_xor, BitVec.getLsbD_xor, x88_bit ⟨k, hk⟩ ⟨q, hq⟩]
  have e := bitcast_8_32_getLsbD_ix2 x h a l (8 * k + q) (by omega) p (by omega)
  rw [show (8 * k + q) % 8 = q by omega] at e
  exact congrArg (fun b => b ^^ (0x88#8 : BitVec 8).getLsbD q) e

/-- The high halves of the bytes. -/
theorem hi_bytes (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (p : Fin R) (l : Fin n) (hR : R = 4 * r) :
    bitcast ⟨2, ![R, n]⟩ 8 (andi (xori (bitcast ⟨2, ![r, n]⟩ 32 x h) (broadcast ⟨2, ![r, n]⟩ 2290649224#32))
      (broadcast ⟨2, ![r, n]⟩ 4042322160#32)) h' (ix2 p l) = hiw (x (ix2 p l)) := by
  have hp := p.isLt
  apply BitVec.eq_of_getLsbD_eq
  intro q hq
  rw [bitcast_32_8_getLsbD_ix2 _ h' p l q hq ⟨p.val / 4, by omega⟩ rfl]
  show (_ &&& 4042322160#32 : BitVec 32).getLsbD _ = _
  rw [BitVec.getLsbD_and, xF0_bit ⟨p.val % 4, by omega⟩ ⟨q, hq⟩, hiw, BitVec.getLsbD_and,
    xor_bit x h ⟨p.val / 4, by omega⟩ l p (p.val % 4) (by omega) (by dsimp only; omega) q hq]

/-- The low halves of the bytes, moved up. -/
theorem lo_bytes (x : (⟨2, ![R, n]⟩ : Shape).Idx → BitVec 8) (h : (⟨2, ![R, n]⟩ : Shape).Bitcasts 8 ⟨2, ![r, n]⟩ 32)
    (h' : (⟨2, ![r, n]⟩ : Shape).Bitcasts 32 ⟨2, ![R, n]⟩ 8) (p : Fin R) (l : Fin n) (hR : R = 4 * r) :
    bitcast ⟨2, ![R, n]⟩ 8 (andi (shli (xori (bitcast ⟨2, ![r, n]⟩ 32 x h) (broadcast ⟨2, ![r, n]⟩ 2290649224#32))
      (broadcast ⟨2, ![r, n]⟩ 4#32)) (broadcast ⟨2, ![r, n]⟩ 4042322160#32)) h' (ix2 p l) = low (x (ix2 p l)) := by
  have hp := p.isLt
  apply BitVec.eq_of_getLsbD_eq
  intro q hq
  rw [bitcast_32_8_getLsbD_ix2 _ h' p l q hq ⟨p.val / 4, by omega⟩ rfl]
  have e : ∀ w : BitVec 32, IntOp.shli .vector w 4#32 = w <<< 4 := fun w => by
    unfold IntOp.shli; rw [if_pos (by decide)]; rfl
  show (IntOp.shli .vector _ 4#32 &&& 4042322160#32 : BitVec 32).getLsbD _ = _
  rw [e, BitVec.getLsbD_and, xF0_bit ⟨p.val % 4, by omega⟩ ⟨q, hq⟩, low, BitVec.getLsbD_and]
  by_cases h4 : q < 4
  · rw [xF0_low ⟨q, hq⟩ h4, Bool.and_false, Bool.and_false]
  · congr 1
    rw [BitVec.getLsbD_shiftLeft, BitVec.getLsbD_shiftLeft, show 8 * (p.val % 4) + q - 4 = 8 * (p.val % 4) + (q - 4) by omega,
      xor_bit x h ⟨p.val / 4, by omega⟩ l p (p.val % 4) (by omega) (by dsimp only; omega) (q - 4) (by omega)]
    simp [h4, hq, show ¬ 8 * (p.val % 4) + q < 4 by omega, show 8 * (p.val % 4) + q < 32 by omega]

end Cert.Nat01
-- ==== Proof.PayW.lean ====
/- Four-bit weights unpacked into a matrix: the payloads of the unpacking loops at an index. -/
module

public import proofs.«01_k».proof.Proof.Pay
public import proofs.«01_k».proof.Proof.Bytes

@[expose] public section

set_option maxRecDepth 16384

noncomputable section

namespace Cert.KernelIdeal.Gen

open Idealize.ShloMosaic Idealize.ShloMosaic.TcCoe Idealize.ShloMosaic.Tactic Cert.Nat01

theorem pay34_ix (L : Vec Ideal S2x16x128 .i8) (p : Fin 32) (c : Fin 128) :
    k0_pay34 4042322160#32 L (ix2 p c) = (((hiw (g3 L (p.val / 16) (p.val % 16) c.val)).toInt : ℝ) : EReal) := by
  unfold k0_pay34 k0_pay33
  show (((BitVec.toInt (bitcast _ _ _ _ _)) : ℝ) : EReal) = _
  rw [hi_bytes (shapeCast S32x128 (shapeCast S2x16x128 L shapeCasts_S2x16x128_S2x16x128) shapeCasts_S2x16x128_S32x128)
    bitcasts_S32x128_w8_S8x128_w32 bitcasts_S8x128_w32_S32x128_w8 p c rfl]
  pointwise
  exact congrArg (fun b => (((hiw b).toInt : ℝ) : EReal)) (g3_ix L _ _ c)

theorem pay35_ix (L : Vec Ideal S2x16x128 .i8) (p : Fin 32) (c : Fin 128) :
    k0_pay35 4042322160#32 L (ix2 p c) = (((low (g3 L (p.val / 16) (p.val % 16) c.val)).toInt : ℝ) : EReal) := by
  unfold k0_pay35 k0_pay33
  show (((BitVec.toInt (bitcast _ _ _ _ _)) : ℝ) : EReal) = _
  rw [lo_bytes (shapeCast S32x128 (shapeCast S2x16x128 L shapeCasts_S2x16x128_S2x16x128) shapeCasts_S2x16x128_S32x128)
    bitcasts_S32x128_w8_S8x128_w32 bitcasts_S8x128_w32_S32x128_w8 p c rfl]
  pointwise
  exact congrArg (fun b => (((low b).toInt : ℝ) : EReal)) (g3_ix L _ _ c)

theorem pay36_ix (L : Vec Ideal S2x16x128 .i8) (r : Fin 16) (c : Fin 128) :
    k0_pay36 4042322160#32 L (ix2 r c) = (((low (g3 L 0 r.val c.val)).toInt : ℝ) : EReal) := by
  pointwise [k0_pay36]
  refine (pay35_ix L _ c).trans ?_
  have h1 : (r.val) / 16 = 0 := by omega
  have h2 : (r.val) % 16 = r.val := by omega
  dsimp only
  rw [h1, h2]

theorem pay37_ix (L : Vec Ideal S2x16x128 .i8) (r : Fin 16) (c : Fin 128) :
    k0_pay37 4042322160#32 L (ix2 r c) = (((hiw (g3 L 0 r.val c.val)).toInt : ℝ) : EReal) := by
  pointwise [k0_pay37]
  refine (pay34_ix L _ c).trans ?_
  have h1 : (r.val) / 16 = 0 := by omega
  have h2 : (r.val) % 16 = r.val := by omega
  dsimp only
  rw [h1, h2]

theorem pay38_ix (L : Vec Ideal S2x16x128 .i8) (r : Fin 16) (c : Fin 128) :
    k0_pay38 4042322160#32 L (ix2 r c) = (((low (g3 L 1 r.val c.val)).toInt : ℝ) : EReal) := by
  pointwise [k0_pay38]
  refine (pay35_ix L _ c).trans ?_
  have h1 : (16 + r.val) / 16 = 1 := by omega
  have h2 : (16 + r.val) % 16 = r.val := by omega
  dsimp only
  rw [h1, h2]

theorem pay39_ix (L : Vec Ideal S2x16x128 .i8) (r : Fin 16) (c : Fin 128) :
    k0_pay39 4042322160#32 L (ix2 r c) = (((hiw (g3 L 1 r.val c.val)).toInt : ℝ) : EReal) := by
  pointwise [k0_pay39]
  refine (pay34_ix L _ c).trans ?_
  have h1 : (16 + r.val) / 16 = 1 := by omega
  have h2 : (16 + r.val) % 16 = r.val := by omega
  dsimp only
  rw [h1, h2]

theorem pay53_eq (v : FVec Ideal S16x128 .bf16) (r : Fin 16) (c : Fin 128) : k0_pay53 v (ix2 r c) = v (ix2 r c) := by
  pointwise [k0_pay53]

theorem pay41_ix (L : Vec Ideal S2x16x128 .i8) (p : Fin 32) (c : Fin 128) :
    k0_pay41 4042322160#32 L (ix2 p c) = (((hiw (g3 L (p.val / 16) (p.val % 16) c.val)).toInt : ℝ) : EReal) := by
  unfold k0_pay41 k0_pay40
  show (((BitVec.toInt (bitcast _ _ _ _ _)) : ℝ) : EReal) = _
  rw [hi_bytes (shapeCast S32x128 (shapeCast S2x16x128 L shapeCasts_S2x16x128_S2x16x128) shapeCasts_S2x16x128_S32x128)
    bitcasts_S32x128_w8_S8x128_w32 bitcasts_S8x128_w32_S32x128_w8 p c rfl]
  pointwise
  exact congrArg (fun b => (((hiw b).toInt : ℝ) : EReal)) (g3_ix L _ _ c)

theorem pay42_ix (L : Vec Ideal S2x16x128 .i8) (p : Fin 32) (c : Fin 128) :
    k0_pay42 4042322160#32 L (ix2 p c) = (((low (g3 L (p.val / 16) (p.val % 16) c.val)).toInt : ℝ) : EReal) := by
  unfold k0_pay42 k0_pay40
  show (((BitVec.toInt (bitcast _ _ _ _ _)) : ℝ) : EReal) = _
  rw [lo_bytes (shapeCast S32x128 (shapeCast S2x16x128 L shapeCasts_S2x16x128_S2x16x128) shapeCasts_S2x16x128_S32x128)
    bitcasts_S32x128_w8_S8x128_w32 bitcasts_S8x128_w32_S32x128_w8 p c rfl]
  pointwise
  exact congrArg (fun b => (((low b).toInt : ℝ) : EReal)) (g3_ix L _ _ c)

theorem pay43_ix (L : Vec Ideal S2x16x128 .i8) (r : Fin 16) (c : Fin 128) :
    k0_pay43 4042322160#32 L (ix2 r c) = (((low (g3 L 0 r.val c.val)).toInt : ℝ) : EReal) := by
  pointwise [k0_pay43]
  refine (pay42_ix L _ c).trans ?_
  have h1 : (r.val) / 16 = 0 := by omega
  have h2 : (r.val) % 16 = r.val := by omega
  dsimp only
  rw [h1, h2]

theorem pay44_ix (L : Vec Ideal S2x16x128 .i8) (r : Fin 16) (c : Fin 128) :
    k0_pay44 4042322160#32 L (ix2 r c) = (((hiw (g3 L 0 r.val c.val)).toInt : ℝ) : EReal) := by
  pointwise [k0_pay44]
  refine (pay41_ix L _ c).trans ?_
  have h1 : (r.val) / 16 = 0 := by omega
  have h2 : (r.val) % 16 = r.val := by omega
  dsimp only
  rw [h1, h2]

theorem pay45_ix (L : Vec Ideal S2x16x128 .i8) (r : Fin 16) (c : Fin 128) :
    k0_pay45 4042322160#32 L (ix2 r c) = (((low (g3 L 1 r.val c.val)).toInt : ℝ) : EReal) := by
  pointwise [k0_pay45]
  refine (pay42_ix L _ c).trans ?_
  have h1 : (16 + r.val) / 16 = 1 := by omega
  have h2 : (16 + r.val) % 16 = r.val := by omega
  dsimp only
  rw [h1, h2]

theorem pay46_ix (L : Vec Ideal S2x16x128 .i8) (r : Fin 16) (c : Fin 128) :
    k0_pay46 4042322160#32 L (ix2 r c) = (((hiw (g3 L 1 r.val c.val)).toInt : ℝ) : EReal) := by
  pointwise [k0_pay46]
  refine (pay41_ix L _ c).trans ?_
  have h1 : (16 + r.val) / 16 = 1 := by omega
  have h2 : (16 + r.val) % 16 = r.val := by omega
  dsimp only
  rw [h1, h2]

theorem pay54_eq (v : FVec Ideal S16x128 .bf16) (r : Fin 16) (c : Fin 128) : k0_pay54 v (ix2 r c) = v (ix2 r c) := by
  pointwise [k0_pay54]

theorem pay64_ix (L : Vec Ideal S2x16x128 .i8) (p : Fin 32) (c : Fin 128) :
    k0_pay64 4042322160#32 L (ix2 p c) = (((hiw (g3 L (p.val / 16) (p.val % 16) c.val)).toInt : ℝ) : EReal) := by
  unfold k0_pay64 k0_pay63
  show (((BitVec.toInt (bitcast _ _ _ _ _)) : ℝ) : EReal) = _
  rw [hi_bytes (shapeCast S32x128 (shapeCast S2x16x128 L shapeCasts_S2x16x128_S2x16x128) shapeCasts_S2x16x128_S32x128)
    bitcasts_S32x128_w8_S8x128_w32 bitcasts_S8x128_w32_S32x128_w8 p c rfl]
  pointwise
  exact congrArg (fun b => (((hiw b).toInt : ℝ) : EReal)) (g3_ix L _ _ c)

theorem pay65_ix (L : Vec Ideal S2x16x128 .i8) (p : Fin 32) (c : Fin 128) :
    k0_pay65 4042322160#32 L (ix2 p c) = (((low (g3 L (p.val / 16) (p.val % 16) c.val)).toInt : ℝ) : EReal) := by
  unfold k0_pay65 k0_pay63
  show (((BitVec.toInt (bitcast _ _ _ _ _)) : ℝ) : EReal) = _
  rw [lo_bytes (shapeCast S32x128 (shapeCast S2x16x128 L shapeCasts_S2x16x128_S2x16x128) shapeCasts_S2x16x128_S32x128)
    bitcasts_S32x128_w8_S8x128_w32 bitcasts_S8x128_w32_S32x128_w8 p c rfl]
  pointwise
  exact congrArg (fun b => (((low b).toInt : ℝ) : EReal)) (g3_ix L _ _ c)

theorem pay66_ix (L : Vec Ideal S2x16x128 .i8) (r : Fin 16) (c : Fin 128) :
    k0_pay66 4042322160#32 L (ix2 r c) = (((low (g3 L 0 r.val c.val)).toInt : ℝ) : EReal) := by
  pointwise [k0_pay66]
  refine (pay65_ix L _ c).trans ?_
  have h1 : (r.val) / 16 = 0 := by omega
  have h2 : (r.val) % 16 = r.val := by omega
  dsimp only
  rw [h1, h2]

theorem pay67_ix (L : Vec Ideal S2x16x128 .i8) (r : Fin 16) (c : Fin 128) :
    k0_pay67 4042322160#32 L (ix2 r c) = (((hiw (g3 L 0 r.val c.val)).toInt : ℝ) : EReal) := by
  pointwise [k0_pay67]
  refine (pay64_ix L _ c).trans ?_
  have h1 : (r.val) / 16 = 0 := by omega
  have h2 : (r.val) % 16 = r.val := by omega
  dsimp only
  rw [h1, h2]

theorem pay68_ix (L : Vec Ideal S2x16x128 .i8) (r : Fin 16) (c : Fin 128) :
    k0_pay68 4042322160#32 L (ix2 r c) = (((low (g3 L 1 r.val c.val)).toInt : ℝ) : EReal) := by
  pointwise [k0_pay68]
  refine (pay65_ix L _ c).trans ?_
  have h1 : (16 + r.val) / 16 = 1 := by omega
  have h2 : (16 + r.val) % 16 = r.val := by omega
  dsimp only
  rw [h1, h2]

theorem pay69_ix (L : Vec Ideal S2x16x128 .i8) (r : Fin 16) (c : Fin 128) :
    k0_pay69 4042322160#32 L (ix2 r c) = (((hiw (g3 L 1 r.val c.val)).toInt : ℝ) : EReal) := by
  pointwise [k0_pay69]
  refine (pay64_ix L _ c).trans ?_
  have h1 : (16 + r.val) / 16 = 1 := by omega
  have h2 : (16 + r.val) % 16 = r.val := by omega
  dsimp only
  rw [h1, h2]

theorem pay83_eq (v : FVec Ideal S16x128 .bf16) (r : Fin 16) (c : Fin 128) : k0_pay83 v (ix2 r c) = v (ix2 r c) := by
  pointwise [k0_pay83]

theorem pay71_ix (L : Vec Ideal S2x16x128 .i8) (p : Fin 32) (c : Fin 128) :
    k0_pay71 4042322160#32 L (ix2 p c) = (((hiw (g3 L (p.val / 16) (p.val % 16) c.val)).toInt : ℝ) : EReal) := by
  unfold k0_pay71 k0_pay70
  show (((BitVec.toInt (bitcast _ _ _ _ _)) : ℝ) : EReal) = _
  rw [hi_bytes (shapeCast S32x128 (shapeCast S2x16x128 L shapeCasts_S2x16x128_S2x16x128) shapeCasts_S2x16x128_S32x128)
    bitcasts_S32x128_w8_S8x128_w32 bitcasts_S8x128_w32_S32x128_w8 p c rfl]
  pointwise
  exact congrArg (fun b => (((hiw b).toInt : ℝ) : EReal)) (g3_ix L _ _ c)

theorem pay72_ix (L : Vec Ideal S2x16x128 .i8) (p : Fin 32) (c : Fin 128) :
    k0_pay72 4042322160#32 L (ix2 p c) = (((low (g3 L (p.val / 16) (p.val % 16) c.val)).toInt : ℝ) : EReal) := by
  unfold k0_pay72 k0_pay70
  show (((BitVec.toInt (bitcast _ _ _ _ _)) : ℝ) : EReal) = _
  rw [lo_bytes (shapeCast S32x128 (shapeCast S2x16x128 L shapeCasts_S2x16x128_S2x16x128) shapeCasts_S2x16x128_S32x128)
    bitcasts_S32x128_w8_S8x128_w32 bitcasts_S8x128_w32_S32x128_w8 p c rfl]
  pointwise
  exact congrArg (fun b => (((low b).toInt : ℝ) : EReal)) (g3_ix L _ _ c)

theorem pay73_ix (L : Vec Ideal S2x16x128 .i8) (r : Fin 16) (c : Fin 128) :
    k0_pay73 4042322160#32 L (ix2 r c) = (((low (g3 L 0 r.val c.val)).toInt : ℝ) : EReal) := by
  pointwise [k0_pay73]
  refine (pay72_ix L _ c).trans ?_
  have h1 : (r.val) / 16 = 0 := by omega
  have h2 : (r.val) % 16 = r.val := by omega
  dsimp only
  rw [h1, h2]

theorem pay74_ix (L : Vec Ideal S2x16x128 .i8) (r : Fin 16) (c : Fin 128) :
    k0_pay74 4042322160#32 L (ix2 r c) = (((hiw (g3 L 0 r.val c.val)).toInt : ℝ) : EReal) := by
  pointwise [k0_pay74]
  refine (pay71_ix L _ c).trans ?_
  have h1 : (r.val) / 16 = 0 := by omega
  have h2 : (r.val) % 16 = r.val := by omega
  dsimp only
  rw [h1, h2]

theorem pay75_ix (L : Vec Ideal S2x16x128 .i8) (r : Fin 16) (c : Fin 128) :
    k0_pay75 4042322160#32 L (ix2 r c) = (((low (g3 L 1 r.val c.val)).toInt : ℝ) : EReal) := by
  pointwise [k0_pay75]
  refine (pay72_ix L _ c).trans ?_
  have h1 : (16 + r.val) / 16 = 1 := by omega
  have h2 : (16 + r.val) % 16 = r.val := by omega
  dsimp only
  rw [h1, h2]

theorem pay76_ix (L : Vec Ideal S2x16x128 .i8) (r : Fin 16) (c : Fin 128) :
    k0_pay76 4042322160#32 L (ix2 r c) = (((hiw (g3 L 1 r.val c.val)).toInt : ℝ) : EReal) := by
  pointwise [k0_pay76]
  refine (pay71_ix L _ c).trans ?_
  have h1 : (16 + r.val) / 16 = 1 := by omega
  have h2 : (16 + r.val) % 16 = r.val := by omega
  dsimp only
  rw [h1, h2]

theorem pay84_eq (v : FVec Ideal S16x128 .bf16) (r : Fin 16) (c : Fin 128) : k0_pay84 v (ix2 r c) = v (ix2 r c) := by
  pointwise [k0_pay84]

theorem pay93_ix (L : Vec Ideal S2x16x128 .i8) (p : Fin 32) (c : Fin 128) :
    k0_pay93 4042322160#32 L (ix2 p c) = (((hiw (g3 L (p.val / 16) (p.val % 16) c.val)).toInt : ℝ) : EReal) := by
  unfold k0_pay93 k0_pay92
  show (((BitVec.toInt (bitcast _ _ _ _ _)) : ℝ) : EReal) = _
  rw [hi_bytes (shapeCast S32x128 (shapeCast S2x16x128 L shapeCasts_S2x16x128_S2x16x128) shapeCasts_S2x16x128_S32x128)
    bitcasts_S32x128_w8_S8x128_w32 bitcasts_S8x128_w32_S32x128_w8 p c rfl]
  pointwise
  exact congrArg (fun b => (((hiw b).toInt : ℝ) : EReal)) (g3_ix L _ _ c)

theorem pay94_ix (L : Vec Ideal S2x16x128 .i8) (p : Fin 32) (c : Fin 128) :
    k0_pay94 4042322160#32 L (ix2 p c) = (((low (g3 L (p.val / 16) (p.val % 16) c.val)).toInt : ℝ) : EReal) := by
  unfold k0_pay94 k0_pay92
  show (((BitVec.toInt (bitcast _ _ _ _ _)) : ℝ) : EReal) = _
  rw [lo_bytes (shapeCast S32x128 (shapeCast S2x16x128 L shapeCasts_S2x16x128_S2x16x128) shapeCasts_S2x16x128_S32x128)
    bitcasts_S32x128_w8_S8x128_w32 bitcasts_S8x128_w32_S32x128_w8 p c rfl]
  pointwise
  exact congrArg (fun b => (((low b).toInt : ℝ) : EReal)) (g3_ix L _ _ c)

theorem pay95_ix (L : Vec Ideal S2x16x128 .i8) (r : Fin 16) (c : Fin 128) :
    k0_pay95 4042322160#32 L (ix2 r c) = (((low (g3 L 0 r.val c.val)).toInt : ℝ) : EReal) := by
  pointwise [k0_pay95]
  refine (pay94_ix L _ c).trans ?_
  have h1 : (r.val) / 16 = 0 := by omega
  have h2 : (r.val) % 16 = r.val := by omega
  dsimp only
  rw [h1, h2]

theorem pay96_ix (L : Vec Ideal S2x16x128 .i8) (r : Fin 16) (c : Fin 128) :
    k0_pay96 4042322160#32 L (ix2 r c) = (((hiw (g3 L 0 r.val c.val)).toInt : ℝ) : EReal) := by
  pointwise [k0_pay96]
  refine (pay93_ix L _ c).trans ?_
  have h1 : (r.val) / 16 = 0 := by omega
  have h2 : (r.val) % 16 = r.val := by omega
  dsimp only
  rw [h1, h2]

theorem pay97_ix (L : Vec Ideal S2x16x128 .i8) (r : Fin 16) (c : Fin 128) :
    k0_pay97 4042322160#32 L (ix2 r c) = (((low (g3 L 1 r.val c.val)).toInt : ℝ) : EReal) := by
  pointwise [k0_pay97]
  refine (pay94_ix L _ c).trans ?_
  have h1 : (16 + r.val) / 16 = 1 := by omega
  have h2 : (16 + r.val) % 16 = r.val := by omega
  dsimp only
  rw [h1, h2]

theorem pay98_ix (L : Vec Ideal S2x16x128 .i8) (r : Fin 16) (c : Fin 128) :
    k0_pay98 4042322160#32 L (ix2 r c) = (((hiw (g3 L 1 r.val c.val)).toInt : ℝ) : EReal) := by
  pointwise [k0_pay98]
  refine (pay93_ix L _ c).trans ?_
  have h1 : (16 + r.val) / 16 = 1 := by omega
  have h2 : (16 + r.val) % 16 = r.val := by omega
  dsimp only
  rw [h1, h2]

theorem pay106_eq (v : FVec Ideal S16x128 .bf16) (r : Fin 16) (c : Fin 128) : k0_pay106 v (ix2 r c) = v (ix2 r c) := by
  pointwise [k0_pay106]

theorem pay100_ix (L : Vec Ideal S2x16x128 .i8) (p : Fin 32) (c : Fin 128) :
    k0_pay100 4042322160#32 L (ix2 p c) = (((hiw (g3 L (p.val / 16) (p.val % 16) c.val)).toInt : ℝ) : EReal) := by
  unfold k0_pay100 k0_pay99
  show (((BitVec.toInt (bitcast _ _ _ _ _)) : ℝ) : EReal) = _
  rw [hi_bytes (shapeCast S32x128 (shapeCast S2x16x128 L shapeCasts_S2x16x128_S2x16x128) shapeCasts_S2x16x128_S32x128)
    bitcasts_S32x128_w8_S8x128_w32 bitcasts_S8x128_w32_S32x128_w8 p c rfl]
  pointwise
  exact congrArg (fun b => (((hiw b).toInt : ℝ) : EReal)) (g3_ix L _ _ c)

theorem pay101_ix (L : Vec Ideal S2x16x128 .i8) (p : Fin 32) (c : Fin 128) :
    k0_pay101 4042322160#32 L (ix2 p c) = (((low (g3 L (p.val / 16) (p.val % 16) c.val)).toInt : ℝ) : EReal) := by
  unfold k0_pay101 k0_pay99
  show (((BitVec.toInt (bitcast _ _ _ _ _)) : ℝ) : EReal) = _
  rw [lo_bytes (shapeCast S32x128 (shapeCast S2x16x128 L shapeCasts_S2x16x128_S2x16x128) shapeCasts_S2x16x128_S32x128)
    bitcasts_S32x128_w8_S8x128_w32 bitcasts_S8x128_w32_S32x128_w8 p c rfl]
  pointwise
  exact congrArg (fun b => (((low b).toInt : ℝ) : EReal)) (g3_ix L _ _ c)

theorem pay102_ix (L : Vec Ideal S2x16x128 .i8) (r : Fin 16) (c : Fin 128) :
    k0_pay102 4042322160#32 L (ix2 r c) = (((low (g3 L 0 r.val c.val)).toInt : ℝ) : EReal) := by
  pointwise [k0_pay102]
  refine (pay101_ix L _ c).trans ?_
  have h1 : (r.val) / 16 = 0 := by omega
  have h2 : (r.val) % 16 = r.val := by omega
  dsimp only
  rw [h1, h2]

theorem pay103_ix (L : Vec Ideal S2x16x128 .i8) (r : Fin 16) (c : Fin 128) :
    k0_pay103 4042322160#32 L (ix2 r c) = (((hiw (g3 L 0 r.val c.val)).toInt : ℝ) : EReal) := by
  pointwise [k0_pay103]
  refine (pay100_ix L _ c).trans ?_
  have h1 : (r.val) / 16 = 0 := by omega
  have h2 : (r.val) % 16 = r.val := by omega
  dsimp only
  rw [h1, h2]

theorem pay104_ix (L : Vec Ideal S2x16x128 .i8) (r : Fin 16) (c : Fin 128) :
    k0_pay104 4042322160#32 L (ix2 r c) = (((low (g3 L 1 r.val c.val)).toInt : ℝ) : EReal) := by
  pointwise [k0_pay104]
  refine (pay101_ix L _ c).trans ?_
  have h1 : (16 + r.val) / 16 = 1 := by omega
  have h2 : (16 + r.val) % 16 = r.val := by omega
  dsimp only
  rw [h1, h2]

theorem pay105_ix (L : Vec Ideal S2x16x128 .i8) (r : Fin 16) (c : Fin 128) :
    k0_pay105 4042322160#32 L (ix2 r c) = (((hiw (g3 L 1 r.val c.val)).toInt : ℝ) : EReal) := by
  pointwise [k0_pay105]
  refine (pay100_ix L _ c).trans ?_
  have h1 : (16 + r.val) / 16 = 1 := by omega
  have h2 : (16 + r.val) % 16 = r.val := by omega
  dsimp only
  rw [h1, h2]

theorem pay107_eq (v : FVec Ideal S16x128 .bf16) (r : Fin 16) (c : Fin 128) : k0_pay107 v (ix2 r c) = v (ix2 r c) := by
  pointwise [k0_pay107]

end Cert.KernelIdeal.Gen

end
-- ==== Proof.LoopW.lean ====
/- The loops that unpack the four-bit weights, read as one function of the unpacked matrix. -/
module

public import proofs.«01_k».proof.Proof.PayW

@[expose] public section

set_option maxRecDepth 16384

noncomputable section

namespace Cert.KernelIdeal.Gen

open Idealize.ShloMosaic Idealize.ShloMosaic.TcCoe Idealize.ShloMosaic.Tactic Cert.Nat01

/-- Sixteen times the weight of row r of a block of packed weights, given its byte. -/
def wt (r : ℕ) (b : BitVec 8) : EReal := ((((if r % 32 < 16 then low b else hiw b).toInt : ℤ) : ℝ) : EReal)

variable (𝒱 : Variants) (c : Dev nD) (bd : Option 𝒱.V) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole)

/-- The stores of a loop that unpacks the weights of lanes 0 to 127. -/
theorem tiles_t2 (arg0 : BitVec 32) (k0_h2 : k0_cond2 i = 1#1) (X_arg5 : BufTy.Contents (Elt Ideal) arg5.view.ty)
    (g : ℕ → ℕ → EReal)
    (hg : ∀ r n, r < 3072 → n < 128 → g r (0 + n) = wt r (g3 (arg5.view.read (Elt Ideal) X_arg5) (r / 32) (r % 16) n)) :
    Tiles (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 X_arg5 k0_t2_loop.trips)
      (fun y => 0 ≤ (y 1).val ∧ (y 1).val < 128) (m2 g) := by
  refine (Tiles.loop (N := k0_t2_loop.trips) (fun n => pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 X_arg5 n)
    (fun k => tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 X_arg5 k) rfl (fun k => pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 X_arg5 k)
    (D := fun k y => (64 * k.val ≤ (y 0).val ∧ (y 0).val < 64 * k.val + 64)
      ∧ (0 ≤ (y 1).val ∧ (y 1).val < 0 + 128)) fun k => ?_).mono ?_
  · have hk : k.val < 48 := k.isLt
    unfold tripL_k0_t2 trip_k0_t2; dsimp only
    unfold trip_k0_t2.sl.r
    refine Tiles.mono (Tiles.cons (D₁ := fun y => (64 * k.val + 32 + 16 ≤ (y 0).val ∧ (y 0).val < 64 * k.val + 32 + 16 + 16) ∧ (0 ≤ (y 1).val ∧ (y 1).val < 0 + 128)) ?p3
      (Tiles.cons (D₁ := fun y => (64 * k.val + 32 ≤ (y 0).val ∧ (y 0).val < 64 * k.val + 32 + 16) ∧ (0 ≤ (y 1).val ∧ (y 1).val < 0 + 128)) ?p2 (Tiles.cons (D₁ := fun y => (64 * k.val + 0 + 16 ≤ (y 0).val ∧ (y 0).val < 64 * k.val + 0 + 16 + 16) ∧ (0 ≤ (y 1).val ∧ (y 1).val < 0 + 128)) (D₂ := fun y => (64 * k.val + 0 ≤ (y 0).val ∧ (y 0).val < 64 * k.val + 0 + 16) ∧ (0 ≤ (y 1).val ∧ (y 1).val < 0 + 128)) ?p1 ?p0))) ?sub
    case p3 =>
      refine Tiles.unit2 (o0 := 64 * k.val + 32 + 16) (o1 := 0) (k0_off5_eq k 1) fun r c => ?_
      rw [hg _ _ (by omega) c.isLt]
      have e := readAtU3 arg5.view (k0_off3_eq k) (k0_off3_inb i k k0_h2) X_arg5 (1 : Fin 2) r c
      have h1 : (64 * k.val + 32 + 16 + r.val) / 32 = 2 * k.val + 1 := by omega
      have h2 : (64 * k.val + 32 + 16 + r.val) % 16 = r.val := by omega
      have h3 : ¬ (64 * k.val + 32 + 16 + r.val) % 32 < 16 := by omega
      rw [wt, h1, h2, if_neg h3]
      refine (pay53_eq _ r c).trans <| (pay39_ix _ r c).trans ?_
      refine congrArg (fun b => (((hiw b).toInt : ℝ) : EReal)) ?_
      refine (g3_ix _ (1 : Fin 2) r c).symm.trans (e.trans ?_)
      rw [Nat.zero_add, Nat.zero_add]; rfl
    case p2 =>
      refine Tiles.unit2 (o0 := 64 * k.val + 32) (o1 := 0) (k0_off4_eq k 1) fun r c => ?_
      rw [hg _ _ (by omega) c.isLt]
      have e := readAtU3 arg5.view (k0_off3_eq k) (k0_off3_inb i k k0_h2) X_arg5 (1 : Fin 2) r c
      have h1 : (64 * k.val + 32 + r.val) / 32 = 2 * k.val + 1 := by omega
      have h2 : (64 * k.val + 32 + r.val) % 16 = r.val := by omega
      have h3 : (64 * k.val + 32 + r.val) % 32 < 16 := by omega
      rw [wt, h1, h2, if_pos h3]
      refine (pay38_ix _ r c).trans ?_
      refine congrArg (fun b => (((low b).toInt : ℝ) : EReal)) ?_
      refine (g3_ix _ (1 : Fin 2) r c).symm.trans (e.trans ?_)
      rw [Nat.zero_add, Nat.zero_add]; rfl
    case p1 =>
      refine Tiles.unit2 (o0 := 64 * k.val + 0 + 16) (o1 := 0) (k0_off5_eq k 0) fun r c => ?_
      rw [hg _ _ (by omega) c.isLt]
      have e := readAtU3 arg5.view (k0_off3_eq k) (k0_off3_inb i k k0_h2) X_arg5 (0 : Fin 2) r c
      have h1 : (64 * k.val + 0 + 16 + r.val) / 32 = 2 * k.val + 0 := by omega
      have h2 : (64 * k.val + 0 + 16 + r.val) % 16 = r.val := by omega
      have h3 : ¬ (64 * k.val + 0 + 16 + r.val) % 32 < 16 := by omega
      rw [wt, h1, h2, if_neg h3]
      refine (pay37_ix _ r c).trans ?_
      refine congrArg (fun b => (((hiw b).toInt : ℝ) : EReal)) ?_
      refine (g3_ix _ (0 : Fin 2) r c).symm.trans (e.trans ?_)
      rw [Nat.zero_add, Nat.zero_add]; rfl
    case p0 =>
      refine Tiles.unit2 (o0 := 64 * k.val + 0) (o1 := 0) (k0_off4_eq k 0) fun r c => ?_
      rw [hg _ _ (by omega) c.isLt]
      have e := readAtU3 arg5.view (k0_off3_eq k) (k0_off3_inb i k k0_h2) X_arg5 (0 : Fin 2) r c
      have h1 : (64 * k.val + 0 + r.val) / 32 = 2 * k.val + 0 := by omega
      have h2 : (64 * k.val + 0 + r.val) % 16 = r.val := by omega
      have h3 : (64 * k.val + 0 + r.val) % 32 < 16 := by omega
      rw [wt, h1, h2, if_pos h3]
      refine (pay36_ix _ r c).trans ?_
      refine congrArg (fun b => (((low b).toInt : ℝ) : EReal)) ?_
      refine (g3_ix _ (0 : Fin 2) r c).symm.trans (e.trans ?_)
      rw [Nat.zero_add, Nat.zero_add]; rfl
    case sub =>
      rintro y ⟨⟨h0, h0'⟩, h1, h1'⟩
      by_cases a : (y 0).val < 64 * k.val + 16
      · exact Or.inr (Or.inr (Or.inr ⟨⟨by omega, by omega⟩, by omega, by omega⟩))
      by_cases b : (y 0).val < 64 * k.val + 32
      · exact Or.inr (Or.inr (Or.inl ⟨⟨by omega, by omega⟩, by omega, by omega⟩))
      by_cases d : (y 0).val < 64 * k.val + 48
      · exact Or.inr (Or.inl ⟨⟨by omega, by omega⟩, by omega, by omega⟩)
      · exact Or.inl ⟨⟨by omega, by omega⟩, by omega, by omega⟩
  · rintro y ⟨h1, h2⟩
    have h3 : (y 0).val < 3072 := (y 0).isLt
    exact ⟨⟨(y 0).val / 64, show _ < 48 by omega⟩, by dsimp only; omega, by omega⟩

/-- The stores of a loop that unpacks the weights of lanes 128 to 255. -/
theorem tiles_t3 (arg0 : BitVec 32) (k0_h2 : k0_cond2 i = 1#1) (X_arg6 : BufTy.Contents (Elt Ideal) arg6.view.ty)
    (g : ℕ → ℕ → EReal)
    (hg : ∀ r n, r < 3072 → n < 128 → g r (128 + n) = wt r (g3 (arg6.view.read (Elt Ideal) X_arg6) (r / 32) (r % 16) n)) :
    Tiles (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 X_arg6 k0_t3_loop.trips)
      (fun y => 128 ≤ (y 1).val ∧ (y 1).val < 256) (m2 g) := by
  refine (Tiles.loop (N := k0_t3_loop.trips) (fun n => pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 X_arg6 n)
    (fun k => tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 X_arg6 k) rfl (fun k => pb_k0_t3_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 X_arg6 k)
    (D := fun k y => (64 * k.val ≤ (y 0).val ∧ (y 0).val < 64 * k.val + 64)
      ∧ (128 ≤ (y 1).val ∧ (y 1).val < 128 + 128)) fun k => ?_).mono ?_
  · have hk : k.val < 48 := k.isLt
    unfold tripL_k0_t3 trip_k0_t3; dsimp only
    unfold trip_k0_t3.sl.r
    refine Tiles.mono (Tiles.cons (D₁ := fun y => (64 * k.val + 32 + 16 ≤ (y 0).val ∧ (y 0).val < 64 * k.val + 32 + 16 + 16) ∧ (128 ≤ (y 1).val ∧ (y 1).val < 128 + 128)) ?p3
      (Tiles.cons (D₁ := fun y => (64 * k.val + 32 ≤ (y 0).val ∧ (y 0).val < 64 * k.val + 32 + 16) ∧ (128 ≤ (y 1).val ∧ (y 1).val < 128 + 128)) ?p2 (Tiles.cons (D₁ := fun y => (64 * k.val + 0 + 16 ≤ (y 0).val ∧ (y 0).val < 64 * k.val + 0 + 16 + 16) ∧ (128 ≤ (y 1).val ∧ (y 1).val < 128 + 128)) (D₂ := fun y => (64 * k.val + 0 ≤ (y 0).val ∧ (y 0).val < 64 * k.val + 0 + 16) ∧ (128 ≤ (y 1).val ∧ (y 1).val < 128 + 128)) ?p1 ?p0))) ?sub
    case p3 =>
      refine Tiles.unit2 (o0 := 64 * k.val + 32 + 16) (o1 := 128) (k0_off8_eq k 1) fun r c => ?_
      rw [hg _ _ (by omega) c.isLt]
      have e := readAtU3 arg6.view (k0_off6_eq k) (k0_off6_inb i k k0_h2) X_arg6 (1 : Fin 2) r c
      have h1 : (64 * k.val + 32 + 16 + r.val) / 32 = 2 * k.val + 1 := by omega
      have h2 : (64 * k.val + 32 + 16 + r.val) % 16 = r.val := by omega
      have h3 : ¬ (64 * k.val + 32 + 16 + r.val) % 32 < 16 := by omega
      rw [wt, h1, h2, if_neg h3]
      refine (pay54_eq _ r c).trans <| (pay46_ix _ r c).trans ?_
      refine congrArg (fun b => (((hiw b).toInt : ℝ) : EReal)) ?_
      refine (g3_ix _ (1 : Fin 2) r c).symm.trans (e.trans ?_)
      rw [Nat.zero_add, Nat.zero_add]; rfl
    case p2 =>
      refine Tiles.unit2 (o0 := 64 * k.val + 32) (o1 := 128) (k0_off7_eq k 1) fun r c => ?_
      rw [hg _ _ (by omega) c.isLt]
      have e := readAtU3 arg6.view (k0_off6_eq k) (k0_off6_inb i k k0_h2) X_arg6 (1 : Fin 2) r c
      have h1 : (64 * k.val + 32 + r.val) / 32 = 2 * k.val + 1 := by omega
      have h2 : (64 * k.val + 32 + r.val) % 16 = r.val := by omega
      have h3 : (64 * k.val + 32 + r.val) % 32 < 16 := by omega
      rw [wt, h1, h2, if_pos h3]
      refine (pay45_ix _ r c).trans ?_
      refine congrArg (fun b => (((low b).toInt : ℝ) : EReal)) ?_
      refine (g3_ix _ (1 : Fin 2) r c).symm.trans (e.trans ?_)
      rw [Nat.zero_add, Nat.zero_add]; rfl
    case p1 =>
      refine Tiles.unit2 (o0 := 64 * k.val + 0 + 16) (o1 := 128) (k0_off8_eq k 0) fun r c => ?_
      rw [hg _ _ (by omega) c.isLt]
      have e := readAtU3 arg6.view (k0_off6_eq k) (k0_off6_inb i k k0_h2) X_arg6 (0 : Fin 2) r c
      have h1 : (64 * k.val + 0 + 16 + r.val) / 32 = 2 * k.val + 0 := by omega
      have h2 : (64 * k.val + 0 + 16 + r.val) % 16 = r.val := by omega
      have h3 : ¬ (64 * k.val + 0 + 16 + r.val) % 32 < 16 := by omega
      rw [wt, h1, h2, if_neg h3]
      refine (pay44_ix _ r c).trans ?_
      refine congrArg (fun b => (((hiw b).toInt : ℝ) : EReal)) ?_
      refine (g3_ix _ (0 : Fin 2) r c).symm.trans (e.trans ?_)
      rw [Nat.zero_add, Nat.zero_add]; rfl
    case p0 =>
      refine Tiles.unit2 (o0 := 64 * k.val + 0) (o1 := 128) (k0_off7_eq k 0) fun r c => ?_
      rw [hg _ _ (by omega) c.isLt]
      have e := readAtU3 arg6.view (k0_off6_eq k) (k0_off6_inb i k k0_h2) X_arg6 (0 : Fin 2) r c
      have h1 : (64 * k.val + 0 + r.val) / 32 = 2 * k.val + 0 := by omega
      have h2 : (64 * k.val + 0 + r.val) % 16 = r.val := by omega
      have h3 : (64 * k.val + 0 + r.val) % 32 < 16 := by omega
      rw [wt, h1, h2, if_pos h3]
      refine (pay43_ix _ r c).trans ?_
      refine congrArg (fun b => (((low b).toInt : ℝ) : EReal)) ?_
      refine (g3_ix _ (0 : Fin 2) r c).symm.trans (e.trans ?_)
      rw [Nat.zero_add, Nat.zero_add]; rfl
    case sub =>
      rintro y ⟨⟨h0, h0'⟩, h1, h1'⟩
      by_cases a : (y 0).val < 64 * k.val + 16
      · exact Or.inr (Or.inr (Or.inr ⟨⟨by omega, by omega⟩, by omega, by omega⟩))
      by_cases b : (y 0).val < 64 * k.val + 32
      · exact Or.inr (Or.inr (Or.inl ⟨⟨by omega, by omega⟩, by omega, by omega⟩))
      by_cases d : (y 0).val < 64 * k.val + 48
      · exact Or.inr (Or.inl ⟨⟨by omega, by omega⟩, by omega, by omega⟩)
      · exact Or.inl ⟨⟨by omega, by omega⟩, by omega, by omega⟩
  · rintro y ⟨h1, h2⟩
    have h3 : (y 0).val < 3072 := (y 0).isLt
    exact ⟨⟨(y 0).val / 64, show _ < 48 by omega⟩, by dsimp only; omega, by omega⟩

/-- The stores of a loop that unpacks the weights of lanes 0 to 127. -/
theorem tiles_t10 (arg0 : BitVec 32) (k0_h3 : k0_cond3 i = 1#1) (X_arg7 : BufTy.Contents (Elt Ideal) arg7.view.ty)
    (g : ℕ → ℕ → EReal)
    (hg : ∀ r n, r < 3072 → n < 128 → g r (0 + n) = wt r (g3 (arg7.view.read (Elt Ideal) X_arg7) (r / 32) (r % 16) n)) :
    Tiles (pb_k0_t10 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 X_arg7 k0_t10_loop.trips)
      (fun y => 0 ≤ (y 1).val ∧ (y 1).val < 128) (m2 g) := by
  refine (Tiles.loop (N := k0_t10_loop.trips) (fun n => pb_k0_t10 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 X_arg7 n)
    (fun k => tripL_k0_t10 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 X_arg7 k) rfl (fun k => pb_k0_t10_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 X_arg7 k)
    (D := fun k y => (64 * k.val ≤ (y 0).val ∧ (y 0).val < 64 * k.val + 64)
      ∧ (0 ≤ (y 1).val ∧ (y 1).val < 0 + 128)) fun k => ?_).mono ?_
  · have hk : k.val < 48 := k.isLt
    unfold tripL_k0_t10 trip_k0_t10; dsimp only
    unfold trip_k0_t10.sl.r
    refine Tiles.mono (Tiles.cons (D₁ := fun y => (64 * k.val + 32 + 16 ≤ (y 0).val ∧ (y 0).val < 64 * k.val + 32 + 16 + 16) ∧ (0 ≤ (y 1).val ∧ (y 1).val < 0 + 128)) ?p3
      (Tiles.cons (D₁ := fun y => (64 * k.val + 32 ≤ (y 0).val ∧ (y 0).val < 64 * k.val + 32 + 16) ∧ (0 ≤ (y 1).val ∧ (y 1).val < 0 + 128)) ?p2 (Tiles.cons (D₁ := fun y => (64 * k.val + 0 + 16 ≤ (y 0).val ∧ (y 0).val < 64 * k.val + 0 + 16 + 16) ∧ (0 ≤ (y 1).val ∧ (y 1).val < 0 + 128)) (D₂ := fun y => (64 * k.val + 0 ≤ (y 0).val ∧ (y 0).val < 64 * k.val + 0 + 16) ∧ (0 ≤ (y 1).val ∧ (y 1).val < 0 + 128)) ?p1 ?p0))) ?sub
    case p3 =>
      refine Tiles.unit2 (o0 := 64 * k.val + 32 + 16) (o1 := 0) (k0_off35_eq k 1) fun r c => ?_
      rw [hg _ _ (by omega) c.isLt]
      have e := readAtU3 arg7.view (k0_off33_eq k) (k0_off33_inb i k k0_h3) X_arg7 (1 : Fin 2) r c
      have h1 : (64 * k.val + 32 + 16 + r.val) / 32 = 2 * k.val + 1 := by omega
      have h2 : (64 * k.val + 32 + 16 + r.val) % 16 = r.val := by omega
      have h3 : ¬ (64 * k.val + 32 + 16 + r.val) % 32 < 16 := by omega
      rw [wt, h1, h2, if_neg h3]
      refine (pay83_eq _ r c).trans <| (pay69_ix _ r c).trans ?_
      refine congrArg (fun b => (((hiw b).toInt : ℝ) : EReal)) ?_
      refine (g3_ix _ (1 : Fin 2) r c).symm.trans (e.trans ?_)
      rw [Nat.zero_add, Nat.zero_add]; rfl
    case p2 =>
      refine Tiles.unit2 (o0 := 64 * k.val + 32) (o1 := 0) (k0_off34_eq k 1) fun r c => ?_
      rw [hg _ _ (by omega) c.isLt]
      have e := readAtU3 arg7.view (k0_off33_eq k) (k0_off33_inb i k k0_h3) X_arg7 (1 : Fin 2) r c
      have h1 : (64 * k.val + 32 + r.val) / 32 = 2 * k.val + 1 := by omega
      have h2 : (64 * k.val + 32 + r.val) % 16 = r.val := by omega
      have h3 : (64 * k.val + 32 + r.val) % 32 < 16 := by omega
      rw [wt, h1, h2, if_pos h3]
      refine (pay68_ix _ r c).trans ?_
      refine congrArg (fun b => (((low b).toInt : ℝ) : EReal)) ?_
      refine (g3_ix _ (1 : Fin 2) r c).symm.trans (e.trans ?_)
      rw [Nat.zero_add, Nat.zero_add]; rfl
    case p1 =>
      refine Tiles.unit2 (o0 := 64 * k.val + 0 + 16) (o1 := 0) (k0_off35_eq k 0) fun r c => ?_
      rw [hg _ _ (by omega) c.isLt]
      have e := readAtU3 arg7.view (k0_off33_eq k) (k0_off33_inb i k k0_h3) X_arg7 (0 : Fin 2) r c
      have h1 : (64 * k.val + 0 + 16 + r.val) / 32 = 2 * k.val + 0 := by omega
      have h2 : (64 * k.val + 0 + 16 + r.val) % 16 = r.val := by omega
      have h3 : ¬ (64 * k.val + 0 + 16 + r.val) % 32 < 16 := by omega
      rw [wt, h1, h2, if_neg h3]
      refine (pay67_ix _ r c).trans ?_
      refine congrArg (fun b => (((hiw b).toInt : ℝ) : EReal)) ?_
      refine (g3_ix _ (0 : Fin 2) r c).symm.trans (e.trans ?_)
      rw [Nat.zero_add, Nat.zero_add]; rfl
    case p0 =>
      refine Tiles.unit2 (o0 := 64 * k.val + 0) (o1 := 0) (k0_off34_eq k 0) fun r c => ?_
      rw [hg _ _ (by omega) c.isLt]
      have e := readAtU3 arg7.view (k0_off33_eq k) (k0_off33_inb i k k0_h3) X_arg7 (0 : Fin 2) r c
      have h1 : (64 * k.val + 0 + r.val) / 32 = 2 * k.val + 0 := by omega
      have h2 : (64 * k.val + 0 + r.val) % 16 = r.val := by omega
      have h3 : (64 * k.val + 0 + r.val) % 32 < 16 := by omega
      rw [wt, h1, h2, if_pos h3]
      refine (pay66_ix _ r c).trans ?_
      refine congrArg (fun b => (((low b).toInt : ℝ) : EReal)) ?_
      refine (g3_ix _ (0 : Fin 2) r c).symm.trans (e.trans ?_)
      rw [Nat.zero_add, Nat.zero_add]; rfl
    case sub =>
      rintro y ⟨⟨h0, h0'⟩, h1, h1'⟩
      by_cases a : (y 0).val < 64 * k.val + 16
      · exact Or.inr (Or.inr (Or.inr ⟨⟨by omega, by omega⟩, by omega, by omega⟩))
      by_cases b : (y 0).val < 64 * k.val + 32
      · exact Or.inr (Or.inr (Or.inl ⟨⟨by omega, by omega⟩, by omega, by omega⟩))
      by_cases d : (y 0).val < 64 * k.val + 48
      · exact Or.inr (Or.inl ⟨⟨by omega, by omega⟩, by omega, by omega⟩)
      · exact Or.inl ⟨⟨by omega, by omega⟩, by omega, by omega⟩
  · rintro y ⟨h1, h2⟩
    have h3 : (y 0).val < 3072 := (y 0).isLt
    exact ⟨⟨(y 0).val / 64, show _ < 48 by omega⟩, by dsimp only; omega, by omega⟩

/-- The stores of a loop that unpacks the weights of lanes 128 to 255. -/
theorem tiles_t11 (arg0 : BitVec 32) (k0_h3 : k0_cond3 i = 1#1) (X_arg8 : BufTy.Contents (Elt Ideal) arg8.view.ty)
    (g : ℕ → ℕ → EReal)
    (hg : ∀ r n, r < 3072 → n < 128 → g r (128 + n) = wt r (g3 (arg8.view.read (Elt Ideal) X_arg8) (r / 32) (r % 16) n)) :
    Tiles (pb_k0_t11 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 X_arg8 k0_t11_loop.trips)
      (fun y => 128 ≤ (y 1).val ∧ (y 1).val < 256) (m2 g) := by
  refine (Tiles.loop (N := k0_t11_loop.trips) (fun n => pb_k0_t11 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 X_arg8 n)
    (fun k => tripL_k0_t11 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 X_arg8 k) rfl (fun k => pb_k0_t11_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 X_arg8 k)
    (D := fun k y => (64 * k.val ≤ (y 0).val ∧ (y 0).val < 64 * k.val + 64)
      ∧ (128 ≤ (y 1).val ∧ (y 1).val < 128 + 128)) fun k => ?_).mono ?_
  · have hk : k.val < 48 := k.isLt
    unfold tripL_k0_t11 trip_k0_t11; dsimp only
    unfold trip_k0_t11.sl.r
    refine Tiles.mono (Tiles.cons (D₁ := fun y => (64 * k.val + 32 + 16 ≤ (y 0).val ∧ (y 0).val < 64 * k.val + 32 + 16 + 16) ∧ (128 ≤ (y 1).val ∧ (y 1).val < 128 + 128)) ?p3
      (Tiles.cons (D₁ := fun y => (64 * k.val + 32 ≤ (y 0).val ∧ (y 0).val < 64 * k.val + 32 + 16) ∧ (128 ≤ (y 1).val ∧ (y 1).val < 128 + 128)) ?p2 (Tiles.cons (D₁ := fun y => (64 * k.val + 0 + 16 ≤ (y 0).val ∧ (y 0).val < 64 * k.val + 0 + 16 + 16) ∧ (128 ≤ (y 1).val ∧ (y 1).val < 128 + 128)) (D₂ := fun y => (64 * k.val + 0 ≤ (y 0).val ∧ (y 0).val < 64 * k.val + 0 + 16) ∧ (128 ≤ (y 1).val ∧ (y 1).val < 128 + 128)) ?p1 ?p0))) ?sub
    case p3 =>
      refine Tiles.unit2 (o0 := 64 * k.val + 32 + 16) (o1 := 128) (k0_off38_eq k 1) fun r c => ?_
      rw [hg _ _ (by omega) c.isLt]
      have e := readAtU3 arg8.view (k0_off36_eq k) (k0_off36_inb i k k0_h3) X_arg8 (1 : Fin 2) r c
      have h1 : (64 * k.val + 32 + 16 + r.val) / 32 = 2 * k.val + 1 := by omega
      have h2 : (64 * k.val + 32 + 16 + r.val) % 16 = r.val := by omega
      have h3 : ¬ (64 * k.val + 32 + 16 + r.val) % 32 < 16 := by omega
      rw [wt, h1, h2, if_neg h3]
      refine (pay84_eq _ r c).trans <| (pay76_ix _ r c).trans ?_
      refine congrArg (fun b => (((hiw b).toInt : ℝ) : EReal)) ?_
      refine (g3_ix _ (1 : Fin 2) r c).symm.trans (e.trans ?_)
      rw [Nat.zero_add, Nat.zero_add]; rfl
    case p2 =>
      refine Tiles.unit2 (o0 := 64 * k.val + 32) (o1 := 128) (k0_off37_eq k 1) fun r c => ?_
      rw [hg _ _ (by omega) c.isLt]
      have e := readAtU3 arg8.view (k0_off36_eq k) (k0_off36_inb i k k0_h3) X_arg8 (1 : Fin 2) r c
      have h1 : (64 * k.val + 32 + r.val) / 32 = 2 * k.val + 1 := by omega
      have h2 : (64 * k.val + 32 + r.val) % 16 = r.val := by omega
      have h3 : (64 * k.val + 32 + r.val) % 32 < 16 := by omega
      rw [wt, h1, h2, if_pos h3]
      refine (pay75_ix _ r c).trans ?_
      refine congrArg (fun b => (((low b).toInt : ℝ) : EReal)) ?_
      refine (g3_ix _ (1 : Fin 2) r c).symm.trans (e.trans ?_)
      rw [Nat.zero_add, Nat.zero_add]; rfl
    case p1 =>
      refine Tiles.unit2 (o0 := 64 * k.val + 0 + 16) (o1 := 128) (k0_off38_eq k 0) fun r c => ?_
      rw [hg _ _ (by omega) c.isLt]
      have e := readAtU3 arg8.view (k0_off36_eq k) (k0_off36_inb i k k0_h3) X_arg8 (0 : Fin 2) r c
      have h1 : (64 * k.val + 0 + 16 + r.val) / 32 = 2 * k.val + 0 := by omega
      have h2 : (64 * k.val + 0 + 16 + r.val) % 16 = r.val := by omega
      have h3 : ¬ (64 * k.val + 0 + 16 + r.val) % 32 < 16 := by omega
      rw [wt, h1, h2, if_neg h3]
      refine (pay74_ix _ r c).trans ?_
      refine congrArg (fun b => (((hiw b).toInt : ℝ) : EReal)) ?_
      refine (g3_ix _ (0 : Fin 2) r c).symm.trans (e.trans ?_)
      rw [Nat.zero_add, Nat.zero_add]; rfl
    case p0 =>
      refine Tiles.unit2 (o0 := 64 * k.val + 0) (o1 := 128) (k0_off37_eq k 0) fun r c => ?_
      rw [hg _ _ (by omega) c.isLt]
      have e := readAtU3 arg8.view (k0_off36_eq k) (k0_off36_inb i k k0_h3) X_arg8 (0 : Fin 2) r c
      have h1 : (64 * k.val + 0 + r.val) / 32 = 2 * k.val + 0 := by omega
      have h2 : (64 * k.val + 0 + r.val) % 16 = r.val := by omega
      have h3 : (64 * k.val + 0 + r.val) % 32 < 16 := by omega
      rw [wt, h1, h2, if_pos h3]
      refine (pay73_ix _ r c).trans ?_
      refine congrArg (fun b => (((low b).toInt : ℝ) : EReal)) ?_
      refine (g3_ix _ (0 : Fin 2) r c).symm.trans (e.trans ?_)
      rw [Nat.zero_add, Nat.zero_add]; rfl
    case sub =>
      rintro y ⟨⟨h0, h0'⟩, h1, h1'⟩
      by_cases a : (y 0).val < 64 * k.val + 16
      · exact Or.inr (Or.inr (Or.inr ⟨⟨by omega, by omega⟩, by omega, by omega⟩))
      by_cases b : (y 0).val < 64 * k.val + 32
      · exact Or.inr (Or.inr (Or.inl ⟨⟨by omega, by omega⟩, by omega, by omega⟩))
      by_cases d : (y 0).val < 64 * k.val + 48
      · exact Or.inr (Or.inl ⟨⟨by omega, by omega⟩, by omega, by omega⟩)
      · exact Or.inl ⟨⟨by omega, by omega⟩, by omega, by omega⟩
  · rintro y ⟨h1, h2⟩
    have h3 : (y 0).val < 3072 := (y 0).isLt
    exact ⟨⟨(y 0).val / 64, show _ < 48 by omega⟩, by dsimp only; omega, by omega⟩

/-- The stores of a loop that unpacks the weights of lanes 0 to 127. -/
theorem tiles_t18 (k0_h4 : k0_cond4 i = 1#1) (X_arg9 : BufTy.Contents (Elt Ideal) arg9.view.ty)
    (g : ℕ → ℕ → EReal)
    (hg : ∀ r n, r < 3072 → n < 128 → g r (0 + n) = wt r (g3 (arg9.view.read (Elt Ideal) X_arg9) (r / 32) (r % 16) n)) :
    Tiles (pb_k0_t18 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 X_arg9 k0_t18_loop.trips)
      (fun y => 0 ≤ (y 1).val ∧ (y 1).val < 128) (m2 g) := by
  refine (Tiles.loop (N := k0_t18_loop.trips) (fun n => pb_k0_t18 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 X_arg9 n)
    (fun k => tripL_k0_t18 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 X_arg9 k) rfl (fun k => pb_k0_t18_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 X_arg9 k)
    (D := fun k y => (64 * k.val ≤ (y 0).val ∧ (y 0).val < 64 * k.val + 64)
      ∧ (0 ≤ (y 1).val ∧ (y 1).val < 0 + 128)) fun k => ?_).mono ?_
  · have hk : k.val < 48 := k.isLt
    unfold tripL_k0_t18 trip_k0_t18; dsimp only
    unfold trip_k0_t18.sl.r
    refine Tiles.mono (Tiles.cons (D₁ := fun y => (64 * k.val + 32 + 16 ≤ (y 0).val ∧ (y 0).val < 64 * k.val + 32 + 16 + 16) ∧ (0 ≤ (y 1).val ∧ (y 1).val < 0 + 128)) ?p3
      (Tiles.cons (D₁ := fun y => (64 * k.val + 32 ≤ (y 0).val ∧ (y 0).val < 64 * k.val + 32 + 16) ∧ (0 ≤ (y 1).val ∧ (y 1).val < 0 + 128)) ?p2 (Tiles.cons (D₁ := fun y => (64 * k.val + 0 + 16 ≤ (y 0).val ∧ (y 0).val < 64 * k.val + 0 + 16 + 16) ∧ (0 ≤ (y 1).val ∧ (y 1).val < 0 + 128)) (D₂ := fun y => (64 * k.val + 0 ≤ (y 0).val ∧ (y 0).val < 64 * k.val + 0 + 16) ∧ (0 ≤ (y 1).val ∧ (y 1).val < 0 + 128)) ?p1 ?p0))) ?sub
    case p3 =>
      refine Tiles.unit2 (o0 := 64 * k.val + 32 + 16) (o1 := 0) (k0_off65_eq k 1) fun r c => ?_
      rw [hg _ _ (by omega) c.isLt]
      have e := readAtU3 arg9.view (k0_off63_eq k) (k0_off63_inb i k k0_h4) X_arg9 (1 : Fin 2) r c
      have h1 : (64 * k.val + 32 + 16 + r.val) / 32 = 2 * k.val + 1 := by omega
      have h2 : (64 * k.val + 32 + 16 + r.val) % 16 = r.val := by omega
      have h3 : ¬ (64 * k.val + 32 + 16 + r.val) % 32 < 16 := by omega
      rw [wt, h1, h2, if_neg h3]
      refine (pay106_eq _ r c).trans <| (pay98_ix _ r c).trans ?_
      refine congrArg (fun b => (((hiw b).toInt : ℝ) : EReal)) ?_
      refine (g3_ix _ (1 : Fin 2) r c).symm.trans (e.trans ?_)
      rw [Nat.zero_add, Nat.zero_add]; rfl
    case p2 =>
      refine Tiles.unit2 (o0 := 64 * k.val + 32) (o1 := 0) (k0_off64_eq k 1) fun r c => ?_
      rw [hg _ _ (by omega) c.isLt]
      have e := readAtU3 arg9.view (k0_off63_eq k) (k0_off63_inb i k k0_h4) X_arg9 (1 : Fin 2) r c
      have h1 : (64 * k.val + 32 + r.val) / 32 = 2 * k.val + 1 := by omega
      have h2 : (64 * k.val + 32 + r.val) % 16 = r.val := by omega
      have h3 : (64 * k.val + 32 + r.val) % 32 < 16 := by omega
      rw [wt, h1, h2, if_pos h3]
      refine (pay97_ix _ r c).trans ?_
      refine congrArg (fun b => (((low b).toInt : ℝ) : EReal)) ?_
      refine (g3_ix _ (1 : Fin 2) r c).symm.trans (e.trans ?_)
      rw [Nat.zero_add, Nat.zero_add]; rfl
    case p1 =>
      refine Tiles.unit2 (o0 := 64 * k.val + 0 + 16) (o1 := 0) (k0_off65_eq k 0) fun r c => ?_
      rw [hg _ _ (by omega) c.isLt]
      have e := readAtU3 arg9.view (k0_off63_eq k) (k0_off63_inb i k k0_h4) X_arg9 (0 : Fin 2) r c
      have h1 : (64 * k.val + 0 + 16 + r.val) / 32 = 2 * k.val + 0 := by omega
      have h2 : (64 * k.val + 0 + 16 + r.val) % 16 = r.val := by omega
      have h3 : ¬ (64 * k.val + 0 + 16 + r.val) % 32 < 16 := by omega
      rw [wt, h1, h2, if_neg h3]
      refine (pay96_ix _ r c).trans ?_
      refine congrArg (fun b => (((hiw b).toInt : ℝ) : EReal)) ?_
      refine (g3_ix _ (0 : Fin 2) r c).symm.trans (e.trans ?_)
      rw [Nat.zero_add, Nat.zero_add]; rfl
    case p0 =>
      refine Tiles.unit2 (o0 := 64 * k.val + 0) (o1 := 0) (k0_off64_eq k 0) fun r c => ?_
      rw [hg _ _ (by omega) c.isLt]
      have e := readAtU3 arg9.view (k0_off63_eq k) (k0_off63_inb i k k0_h4) X_arg9 (0 : Fin 2) r c
      have h1 : (64 * k.val + 0 + r.val) / 32 = 2 * k.val + 0 := by omega
      have h2 : (64 * k.val + 0 + r.val) % 16 = r.val := by omega
      have h3 : (64 * k.val + 0 + r.val) % 32 < 16 := by omega
      rw [wt, h1, h2, if_pos h3]
      refine (pay95_ix _ r c).trans ?_
      refine congrArg (fun b => (((low b).toInt : ℝ) : EReal)) ?_
      refine (g3_ix _ (0 : Fin 2) r c).symm.trans (e.trans ?_)
      rw [Nat.zero_add, Nat.zero_add]; rfl
    case sub =>
      rintro y ⟨⟨h0, h0'⟩, h1, h1'⟩
      by_cases a : (y 0).val < 64 * k.val + 16
      · exact Or.inr (Or.inr (Or.inr ⟨⟨by omega, by omega⟩, by omega, by omega⟩))
      by_cases b : (y 0).val < 64 * k.val + 32
      · exact Or.inr (Or.inr (Or.inl ⟨⟨by omega, by omega⟩, by omega, by omega⟩))
      by_cases d : (y 0).val < 64 * k.val + 48
      · exact Or.inr (Or.inl ⟨⟨by omega, by omega⟩, by omega, by omega⟩)
      · exact Or.inl ⟨⟨by omega, by omega⟩, by omega, by omega⟩
  · rintro y ⟨h1, h2⟩
    have h3 : (y 0).val < 3072 := (y 0).isLt
    exact ⟨⟨(y 0).val / 64, show _ < 48 by omega⟩, by dsimp only; omega, by omega⟩

/-- The stores of a loop that unpacks the weights of lanes 128 to 255. -/
theorem tiles_t19 (k0_h4 : k0_cond4 i = 1#1) (X_arg10 : BufTy.Contents (Elt Ideal) arg10.view.ty)
    (g : ℕ → ℕ → EReal)
    (hg : ∀ r n, r < 3072 → n < 128 → g r (128 + n) = wt r (g3 (arg10.view.read (Elt Ideal) X_arg10) (r / 32) (r % 16) n)) :
    Tiles (pb_k0_t19 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 X_arg10 k0_t19_loop.trips)
      (fun y => 128 ≤ (y 1).val ∧ (y 1).val < 256) (m2 g) := by
  refine (Tiles.loop (N := k0_t19_loop.trips) (fun n => pb_k0_t19 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 X_arg10 n)
    (fun k => tripL_k0_t19 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 X_arg10 k) rfl (fun k => pb_k0_t19_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 X_arg10 k)
    (D := fun k y => (64 * k.val ≤ (y 0).val ∧ (y 0).val < 64 * k.val + 64)
      ∧ (128 ≤ (y 1).val ∧ (y 1).val < 128 + 128)) fun k => ?_).mono ?_
  · have hk : k.val < 48 := k.isLt
    unfold tripL_k0_t19 trip_k0_t19; dsimp only
    unfold trip_k0_t19.sl.r
    refine Tiles.mono (Tiles.cons (D₁ := fun y => (64 * k.val + 32 + 16 ≤ (y 0).val ∧ (y 0).val < 64 * k.val + 32 + 16 + 16) ∧ (128 ≤ (y 1).val ∧ (y 1).val < 128 + 128)) ?p3
      (Tiles.cons (D₁ := fun y => (64 * k.val + 32 ≤ (y 0).val ∧ (y 0).val < 64 * k.val + 32 + 16) ∧ (128 ≤ (y 1).val ∧ (y 1).val < 128 + 128)) ?p2 (Tiles.cons (D₁ := fun y => (64 * k.val + 0 + 16 ≤ (y 0).val ∧ (y 0).val < 64 * k.val + 0 + 16 + 16) ∧ (128 ≤ (y 1).val ∧ (y 1).val < 128 + 128)) (D₂ := fun y => (64 * k.val + 0 ≤ (y 0).val ∧ (y 0).val < 64 * k.val + 0 + 16) ∧ (128 ≤ (y 1).val ∧ (y 1).val < 128 + 128)) ?p1 ?p0))) ?sub
    case p3 =>
      refine Tiles.unit2 (o0 := 64 * k.val + 32 + 16) (o1 := 128) (k0_off68_eq k 1) fun r c => ?_
      rw [hg _ _ (by omega) c.isLt]
      have e := readAtU3 arg10.view (k0_off66_eq k) (k0_off66_inb i k k0_h4) X_arg10 (1 : Fin 2) r c
      have h1 : (64 * k.val + 32 + 16 + r.val) / 32 = 2 * k.val + 1 := by omega
      have h2 : (64 * k.val + 32 + 16 + r.val) % 16 = r.val := by omega
      have h3 : ¬ (64 * k.val + 32 + 16 + r.val) % 32 < 16 := by omega
      rw [wt, h1, h2, if_neg h3]
      refine (pay107_eq _ r c).trans <| (pay105_ix _ r c).trans ?_
      refine congrArg (fun b => (((hiw b).toInt : ℝ) : EReal)) ?_
      refine (g3_ix _ (1 : Fin 2) r c).symm.trans (e.trans ?_)
      rw [Nat.zero_add, Nat.zero_add]; rfl
    case p2 =>
      refine Tiles.unit2 (o0 := 64 * k.val + 32) (o1 := 128) (k0_off67_eq k 1) fun r c => ?_
      rw [hg _ _ (by omega) c.isLt]
      have e := readAtU3 arg10.view (k0_off66_eq k) (k0_off66_inb i k k0_h4) X_arg10 (1 : Fin 2) r c
      have h1 : (64 * k.val + 32 + r.val) / 32 = 2 * k.val + 1 := by omega
      have h2 : (64 * k.val + 32 + r.val) % 16 = r.val := by omega
      have h3 : (64 * k.val + 32 + r.val) % 32 < 16 := by omega
      rw [wt, h1, h2, if_pos h3]
      refine (pay104_ix _ r c).trans ?_
      refine congrArg (fun b => (((low b).toInt : ℝ) : EReal)) ?_
      refine (g3_ix _ (1 : Fin 2) r c).symm.trans (e.trans ?_)
      rw [Nat.zero_add, Nat.zero_add]; rfl
    case p1 =>
      refine Tiles.unit2 (o0 := 64 * k.val + 0 + 16) (o1 := 128) (k0_off68_eq k 0) fun r c => ?_
      rw [hg _ _ (by omega) c.isLt]
      have e := readAtU3 arg10.view (k0_off66_eq k) (k0_off66_inb i k k0_h4) X_arg10 (0 : Fin 2) r c
      have h1 : (64 * k.val + 0 + 16 + r.val) / 32 = 2 * k.val + 0 := by omega
      have h2 : (64 * k.val + 0 + 16 + r.val) % 16 = r.val := by omega
      have h3 : ¬ (64 * k.val + 0 + 16 + r.val) % 32 < 16 := by omega
      rw [wt, h1, h2, if_neg h3]
      refine (pay103_ix _ r c).trans ?_
      refine congrArg (fun b => (((hiw b).toInt : ℝ) : EReal)) ?_
      refine (g3_ix _ (0 : Fin 2) r c).symm.trans (e.trans ?_)
      rw [Nat.zero_add, Nat.zero_add]; rfl
    case p0 =>
      refine Tiles.unit2 (o0 := 64 * k.val + 0) (o1 := 128) (k0_off67_eq k 0) fun r c => ?_
      rw [hg _ _ (by omega) c.isLt]
      have e := readAtU3 arg10.view (k0_off66_eq k) (k0_off66_inb i k k0_h4) X_arg10 (0 : Fin 2) r c
      have h1 : (64 * k.val + 0 + r.val) / 32 = 2 * k.val + 0 := by omega
      have h2 : (64 * k.val + 0 + r.val) % 16 = r.val := by omega
      have h3 : (64 * k.val + 0 + r.val) % 32 < 16 := by omega
      rw [wt, h1, h2, if_pos h3]
      refine (pay102_ix _ r c).trans ?_
      refine congrArg (fun b => (((low b).toInt : ℝ) : EReal)) ?_
      refine (g3_ix _ (0 : Fin 2) r c).symm.trans (e.trans ?_)
      rw [Nat.zero_add, Nat.zero_add]; rfl
    case sub =>
      rintro y ⟨⟨h0, h0'⟩, h1, h1'⟩
      by_cases a : (y 0).val < 64 * k.val + 16
      · exact Or.inr (Or.inr (Or.inr ⟨⟨by omega, by omega⟩, by omega, by omega⟩))
      by_cases b : (y 0).val < 64 * k.val + 32
      · exact Or.inr (Or.inr (Or.inl ⟨⟨by omega, by omega⟩, by omega, by omega⟩))
      by_cases d : (y 0).val < 64 * k.val + 48
      · exact Or.inr (Or.inl ⟨⟨by omega, by omega⟩, by omega, by omega⟩)
      · exact Or.inl ⟨⟨by omega, by omega⟩, by omega, by omega⟩
  · rintro y ⟨h1, h2⟩
    have h3 : (y 0).val < 3072 := (y 0).isLt
    exact ⟨⟨(y 0).val / 64, show _ < 48 by omega⟩, by dsimp only; omega, by omega⟩

end Cert.KernelIdeal.Gen

end
-- ==== Proof.PayT.lean ====
/- The transposed products: the payloads of the stores into the transposed scratch, at an index. -/
module

public import proofs.«01_k».proof.Proof.Pay

@[expose] public section

set_option maxRecDepth 16384

noncomputable section

namespace Cert.KernelIdeal.Gen

open Idealize.ShloMosaic Idealize.ShloMosaic.TcCoe Idealize.ShloMosaic.Tactic Cert.Nat01

/-- The constant one sixteenth, as the program spells it. -/
abbrev c16 : EReal := Ideal.ofBits FTy.f32 1031798784#32

theorem pay57_ix (a : Vec Ideal S1x1x256 .f32) (X : Vec Ideal S256x3072 .bf16) (W : Vec Ideal S3072x256 .bf16) (z : Fin 1) (n : Fin 256) (s : Fin 128) :
    k0_pay57 a X W (ix3 z n s) = (∑ x : Fin 3072, g2 X s.val x.val * g2 W x.val n.val) * (g3 a 0 0 n.val * c16) := by
  unfold_payloads
  pointwise
  exact congrArg₂ (· * ·) (Finset.sum_congr rfl fun x _ => congrArg₂ (· * ·) (g2_ix X ⟨s.val, by omega⟩ x) (g2_ix W x n))
    (congrArg (· * c16) (g3_ix a 0 0 n))

theorem pay58_ix (a : Vec Ideal S1x1x256 .f32) (X : Vec Ideal S256x3072 .bf16) (W : Vec Ideal S3072x256 .bf16) (z : Fin 1) (n : Fin 256) (s : Fin 128) :
    k0_pay58 a X W (ix3 z n s) = (∑ x : Fin 3072, g2 X (128 + s.val) x.val * g2 W x.val n.val) * (g3 a 0 0 n.val * c16) := by
  unfold_payloads
  pointwise
  exact congrArg₂ (· * ·) (Finset.sum_congr rfl fun x _ => congrArg₂ (· * ·) (g2_ix X ⟨(128 + s.val), by omega⟩ x) (g2_ix W x n))
    (congrArg (· * c16) (g3_ix a 0 0 n))

theorem pay87_ix (a : Vec Ideal S1x1x256 .f32) (X : Vec Ideal S256x3072 .bf16) (W : Vec Ideal S3072x256 .bf16) (z : Fin 1) (n : Fin 256) (s : Fin 128) :
    k0_pay87 a X W (ix3 z n s) = (∑ x : Fin 3072, g2 X s.val x.val * g2 W x.val n.val) * (g3 a 0 0 n.val * c16) := by
  unfold_payloads
  pointwise
  exact congrArg₂ (· * ·) (Finset.sum_congr rfl fun x _ => congrArg₂ (· * ·) (g2_ix X ⟨s.val, by omega⟩ x) (g2_ix W x n))
    (congrArg (· * c16) (g3_ix a 0 0 n))

theorem pay88_ix (a : Vec Ideal S1x1x256 .f32) (X : Vec Ideal S256x3072 .bf16) (W : Vec Ideal S3072x256 .bf16) (z : Fin 1) (n : Fin 256) (s : Fin 128) :
    k0_pay88 a X W (ix3 z n s) = (∑ x : Fin 3072, g2 X (128 + s.val) x.val * g2 W x.val n.val) * (g3 a 0 0 n.val * c16) := by
  unfold_payloads
  pointwise
  exact congrArg₂ (· * ·) (Finset.sum_congr rfl fun x _ => congrArg₂ (· * ·) (g2_ix X ⟨(128 + s.val), by omega⟩ x) (g2_ix W x n))
    (congrArg (· * c16) (g3_ix a 0 0 n))

theorem pay110_ix (a : Vec Ideal S1x1x256 .f32) (X : Vec Ideal S256x3072 .bf16) (W : Vec Ideal S3072x256 .bf16) (z : Fin 1) (n : Fin 256) (s : Fin 128) :
    k0_pay110 a X W (ix3 z n s) = (∑ x : Fin 3072, g2 X s.val x.val * g2 W x.val n.val) * (g3 a 0 0 n.val * c16) := by
  unfold_payloads
  pointwise
  exact congrArg₂ (· * ·) (Finset.sum_congr rfl fun x _ => congrArg₂ (· * ·) (g2_ix X ⟨s.val, by omega⟩ x) (g2_ix W x n))
    (congrArg (· * c16) (g3_ix a 0 0 n))

theorem pay111_ix (a : Vec Ideal S1x1x256 .f32) (X : Vec Ideal S256x3072 .bf16) (W : Vec Ideal S3072x256 .bf16) (z : Fin 1) (n : Fin 256) (s : Fin 128) :
    k0_pay111 a X W (ix3 z n s) = (∑ x : Fin 3072, g2 X (128 + s.val) x.val * g2 W x.val n.val) * (g3 a 0 0 n.val * c16) := by
  unfold_payloads
  pointwise
  exact congrArg₂ (· * ·) (Finset.sum_congr rfl fun x _ => congrArg₂ (· * ·) (g2_ix X ⟨(128 + s.val), by omega⟩ x) (g2_ix W x n))
    (congrArg (· * c16) (g3_ix a 0 0 n))

theorem pay60_ix (v : FVec Ideal S1x256 .f32) (X : Vec Ideal S256x3072 .bf16) (W : Vec Ideal S3072x256 .bf16) (z : Fin 1) (n : Fin 256) (s : Fin 128) :
    k0_pay60 v X W (ix3 z n s) = (∑ x : Fin 3072, g2 X s.val x.val * g2 W x.val n.val) * g2 v 0 n.val := by
  unfold_payloads
  pointwise
  exact congrArg₂ (· * ·) (Finset.sum_congr rfl fun x _ => congrArg₂ (· * ·) (g2_ix X ⟨s.val, by omega⟩ x) (g2_ix W x n))
    (g2_ix v 0 n)

theorem pay61_ix (v : FVec Ideal S1x256 .f32) (X : Vec Ideal S256x3072 .bf16) (W : Vec Ideal S3072x256 .bf16) (z : Fin 1) (n : Fin 256) (s : Fin 128) :
    k0_pay61 v X W (ix3 z n s) = (∑ x : Fin 3072, g2 X (128 + s.val) x.val * g2 W x.val n.val) * g2 v 0 n.val := by
  unfold_payloads
  pointwise
  exact congrArg₂ (· * ·) (Finset.sum_congr rfl fun x _ => congrArg₂ (· * ·) (g2_ix X ⟨(128 + s.val), by omega⟩ x) (g2_ix W x n))
    (g2_ix v 0 n)

theorem pay90_ix (v : FVec Ideal S1x256 .f32) (X : Vec Ideal S256x3072 .bf16) (W : Vec Ideal S3072x256 .bf16) (z : Fin 1) (n : Fin 256) (s : Fin 128) :
    k0_pay90 v X W (ix3 z n s) = (∑ x : Fin 3072, g2 X s.val x.val * g2 W x.val n.val) * g2 v 0 n.val := by
  unfold_payloads
  pointwise
  exact congrArg₂ (· * ·) (Finset.sum_congr rfl fun x _ => congrArg₂ (· * ·) (g2_ix X ⟨s.val, by omega⟩ x) (g2_ix W x n))
    (g2_ix v 0 n)

theorem pay91_ix (v : FVec Ideal S1x256 .f32) (X : Vec Ideal S256x3072 .bf16) (W : Vec Ideal S3072x256 .bf16) (z : Fin 1) (n : Fin 256) (s : Fin 128) :
    k0_pay91 v X W (ix3 z n s) = (∑ x : Fin 3072, g2 X (128 + s.val) x.val * g2 W x.val n.val) * g2 v 0 n.val := by
  unfold_payloads
  pointwise
  exact congrArg₂ (· * ·) (Finset.sum_congr rfl fun x _ => congrArg₂ (· * ·) (g2_ix X ⟨(128 + s.val), by omega⟩ x) (g2_ix W x n))
    (g2_ix v 0 n)

theorem pay115_ix (v : FVec Ideal S1x256 .f32) (X : Vec Ideal S256x3072 .bf16) (W : Vec Ideal S3072x256 .bf16) (z : Fin 1) (n : Fin 256) (s : Fin 128) :
    k0_pay115 v X W (ix3 z n s) = (∑ x : Fin 3072, g2 X s.val x.val * g2 W x.val n.val) * g2 v 0 n.val := by
  unfold_payloads
  pointwise
  exact congrArg₂ (· * ·) (Finset.sum_congr rfl fun x _ => congrArg₂ (· * ·) (g2_ix X ⟨s.val, by omega⟩ x) (g2_ix W x n))
    (g2_ix v 0 n)

theorem pay116_ix (v : FVec Ideal S1x256 .f32) (X : Vec Ideal S256x3072 .bf16) (W : Vec Ideal S3072x256 .bf16) (z : Fin 1) (n : Fin 256) (s : Fin 128) :
    k0_pay116 v X W (ix3 z n s) = (∑ x : Fin 3072, g2 X (128 + s.val) x.val * g2 W x.val n.val) * g2 v 0 n.val := by
  unfold_payloads
  pointwise
  exact congrArg₂ (· * ·) (Finset.sum_congr rfl fun x _ => congrArg₂ (· * ·) (g2_ix X ⟨(128 + s.val), by omega⟩ x) (g2_ix W x n))
    (g2_ix v 0 n)

theorem pay7_ix (v : FVec Ideal S1x256 .f32) (X : Vec Ideal S256x3072 .bf16) (W : Vec Ideal S3072x256 .bf16) (z : Fin 1) (n : Fin 256) (s : Fin 128) :
    k0_pay7 v X W (ix3 z n s) = (∑ x : Fin 3072, g2 X s.val x.val * g2 W x.val n.val) * g2 v 0 n.val := by
  unfold_payloads
  pointwise
  exact congrArg₂ (· * ·) (Finset.sum_congr rfl fun x _ => congrArg₂ (· * ·) (g2_ix X ⟨s.val, by omega⟩ x) (g2_ix W x n))
    (g2_ix v 0 n)

theorem pay8_ix (v : FVec Ideal S1x256 .f32) (X : Vec Ideal S256x3072 .bf16) (W : Vec Ideal S3072x256 .bf16) (z : Fin 1) (n : Fin 256) (s : Fin 128) :
    k0_pay8 v X W (ix3 z n s) = (∑ x : Fin 3072, g2 X (128 + s.val) x.val * g2 W x.val n.val) * g2 v 0 n.val := by
  unfold_payloads
  pointwise
  exact congrArg₂ (· * ·) (Finset.sum_congr rfl fun x _ => congrArg₂ (· * ·) (g2_ix X ⟨(128 + s.val), by omega⟩ x) (g2_ix W x n))
    (g2_ix v 0 n)

theorem pay4_ix (v : FVec Ideal S1x256 .f32) (Y : FVec Ideal S256x256 .f32) (z : Fin 1) (n : Fin 256) (s : Fin 128) :
    k0_pay4 v Y (ix3 z n s) = g2 Y s.val n.val * g2 v 0 n.val := by
  unfold_payloads
  pointwise
  exact congrArg₂ (· * ·) (g2_ix Y ⟨s.val, by omega⟩ n) (g2_ix v 0 n)

theorem pay5_ix (v : FVec Ideal S1x256 .f32) (Y : FVec Ideal S256x256 .f32) (z : Fin 1) (n : Fin 256) (s : Fin 128) :
    k0_pay5 v Y (ix3 z n s) = g2 Y (128 + s.val) n.val * g2 v 0 n.val := by
  unfold_payloads
  pointwise
  exact congrArg₂ (· * ·) (g2_ix Y ⟨(128 + s.val), by omega⟩ n) (g2_ix v 0 n)

theorem pay10_ix (v : FVec Ideal S1x256 .f32) (Y : FVec Ideal S256x256 .f32) (z : Fin 1) (n : Fin 256) (s : Fin 128) :
    k0_pay10 v Y (ix3 z n s) = g2 Y s.val n.val * g2 v 0 n.val := by
  unfold_payloads
  pointwise
  exact congrArg₂ (· * ·) (g2_ix Y ⟨s.val, by omega⟩ n) (g2_ix v 0 n)

theorem pay11_ix (v : FVec Ideal S1x256 .f32) (Y : FVec Ideal S256x256 .f32) (z : Fin 1) (n : Fin 256) (s : Fin 128) :
    k0_pay11 v Y (ix3 z n s) = g2 Y (128 + s.val) n.val * g2 v 0 n.val := by
  unfold_payloads
  pointwise
  exact congrArg₂ (· * ·) (g2_ix Y ⟨(128 + s.val), by omega⟩ n) (g2_ix v 0 n)

theorem pay62_g (X : Vec Ideal S256x3072 .bf16) (W : Vec Ideal S3072x256 .bf16) (n : Fin 256) (s : Fin 256) :
    g2 (k0_pay62 X W) s.val n.val = (∑ x : Fin 3072, g2 X s.val x.val * g2 W x.val n.val) := by
  rw [← g2_ix]
  unfold_payloads
  pointwise
  exact Finset.sum_congr rfl fun x _ => congrArg₂ (· * ·) (g2_ix X s x) (g2_ix W x n)

theorem pay119_g (X : Vec Ideal S256x3072 .bf16) (W : Vec Ideal S3072x256 .bf16) (n : Fin 256) (s : Fin 256) :
    g2 (k0_pay119 X W) s.val n.val = (∑ x : Fin 3072, g2 X s.val x.val * g2 W x.val n.val) := by
  rw [← g2_ix]
  unfold_payloads
  pointwise
  exact Finset.sum_congr rfl fun x _ => congrArg₂ (· * ·) (g2_ix X s x) (g2_ix W x n)

theorem pay55_g (a : Vec Ideal S1x1x256 .f32) (n : Fin 256) : g2 (k0_pay55 a) 0 n.val = g3 a 0 0 n.val * c16 := by
  rw [show g2 (k0_pay55 a) 0 n.val = _ from (g2_ix (k0_pay55 a) 0 n).symm]
  unfold_payloads
  pointwise
  exact congrArg (· * c16) (g3_ix a 0 0 n)

theorem pay85_g (a : Vec Ideal S1x1x256 .f32) (n : Fin 256) : g2 (k0_pay85 a) 0 n.val = g3 a 0 0 n.val * c16 := by
  rw [show g2 (k0_pay85 a) 0 n.val = _ from (g2_ix (k0_pay85 a) 0 n).symm]
  unfold_payloads
  pointwise
  exact congrArg (· * c16) (g3_ix a 0 0 n)

theorem pay108_g (a : Vec Ideal S1x1x256 .f32) (n : Fin 256) : g2 (k0_pay108 a) 0 n.val = g3 a 0 0 n.val * c16 := by
  rw [show g2 (k0_pay108 a) 0 n.val = _ from (g2_ix (k0_pay108 a) 0 n).symm]
  unfold_payloads
  pointwise
  exact congrArg (· * c16) (g3_ix a 0 0 n)

end Cert.KernelIdeal.Gen

end
-- ==== Proof.Vals.lean ====
/- What the kernel computes, as functions of natural-number coordinates: the unpacked weights, the product of a batch's
   codes with them, and that product scaled and rotated. -/
module

public import proofs.«01_k».proof.Proof.LoopW
public import proofs.«01_k».proof.Proof.PayT

@[expose] public section

set_option maxRecDepth 16384

noncomputable section

namespace Cert.KernelIdeal.Gen

open Idealize.ShloMosaic Idealize.ShloMosaic.TcCoe Idealize.ShloMosaic.Tactic Cert.Nat01

/-- The weight matrix of one tile, unpacked from the tile's two halves: 128 lanes from each. -/
def wmat (a b : Vec Ideal S96x16x128 .i8) (r n : ℕ) : EReal :=
  if n < 128 then wt r (g3 a (r / 32) (r % 16) n) else wt r (g3 b (r / 32) (r % 16) (n - 128))

/-- One batch's codes times a tile of weights, transposed, each row multiplied by a sixteenth of its weight scale. -/
def tfun (xb : Vec Ideal S768x3072 .bf16) (a b : Vec Ideal S96x16x128 .i8) (ws : Vec Ideal S1x1x256 .f32) (bt n s : ℕ) : EReal :=
  (∑ x : Fin 3072, g2 xb (256 * bt + s) x.val * wmat a b x.val n) * (g3 ws 0 0 n * c16)

/-- The value tile: each column multiplied by its token's scale. -/
def vfun (xb : Vec Ideal S768x3072 .bf16) (a b : Vec Ideal S96x16x128 .i8) (ws : Vec Ideal S1x1x256 .f32) (sr : Vec Ideal S3x256 .f32)
    (bt n s : ℕ) : EReal :=
  tfun xb a b ws bt n s * g2 sr bt s

/-- The row of the cosine and sine tables that row `n` of tile `tile` uses. -/
def ropeRow (tile n : ℕ) : ℕ := 8 * ((4 * tile + n / 16) % 6) + n % 16 / 2

/-- A query or key tile: each pair of rows rotated by its token's angle. -/
def qfun (xb : Vec Ideal S768x3072 .bf16) (a b : Vec Ideal S96x16x128 .i8) (ws : Vec Ideal S1x1x256 .f32) (sr : Vec Ideal S3x256 .f32)
    (cs sn : Vec Ideal S3x48x256 .f32) (tile bt n s : ℕ) : EReal :=
  if n % 2 = 0 then
    vfun xb a b ws sr bt (2 * (n / 2)) s * g3 cs bt (ropeRow tile n) s - vfun xb a b ws sr bt (2 * (n / 2) + 1) s * g3 sn bt (ropeRow tile n) s
  else
    vfun xb a b ws sr bt (2 * (n / 2)) s * g3 sn bt (ropeRow tile n) s + vfun xb a b ws sr bt (2 * (n / 2) + 1) s * g3 cs bt (ropeRow tile n) s

end Cert.KernelIdeal.Gen

end
-- ==== Proof.Tile.lean ====
/- One batch of a projection: the loads it makes, and the product it stores in two halves. -/
module

public import proofs.«01_k».proof.Proof.Vals

@[expose] public section

set_option maxRecDepth 16384

noncomputable section

namespace Cert.KernelIdeal.Gen

open Idealize.ShloMosaic Idealize.ShloMosaic.TcCoe Idealize.ShloMosaic.Tactic Cert.Nat01

/-! ## Loads and stores, read at natural-number coordinates -/

/-- A load of a block of a matrix whose contents are known. -/
theorem ld2 {sig : RefSig} {κ : Kind} {sp : Space} {e : EltTy} {n0 n1 k0 k1 : Nat} (v : View sig κ sp ⟨2, ![n0, n1]⟩ e) {off : Fin 2 → ℕ}
    {o0 o1 : Nat} (ho : off = ![o0, o1]) (inb : ∀ a, off a + (⟨2, ![k0, k1]⟩ : Shape).size a ≤ (⟨2, ![n0, n1]⟩ : Shape).size a)
    (X : v.ty.Contents (Elt Ideal)) {Y : (⟨2, ![n0, n1]⟩ : Shape).Idx → Elt Ideal e} (h : v.read (Elt Ideal) X = Y) (a b : ℕ) (ha : a < k0) (hb : b < k1) :
    g2 (v.readAt (Elt Ideal) (Rect.unit (s := ⟨2, ![n0, n1]⟩) off (⟨2, ![k0, k1]⟩ : Shape).size inb).toLoadRect X) a b = g2 Y (o0 + a) (o1 + b) := by
  rw [← h]
  exact (g2_ix _ ⟨a, ha⟩ ⟨b, hb⟩).symm.trans (readAtU2 v ho inb X ⟨a, ha⟩ ⟨b, hb⟩)

/-- A load of a block of an array of three axes whose contents are known. -/
theorem ld3 {sig : RefSig} {κ : Kind} {sp : Space} {e : EltTy} {n0 n1 n2 k0 k1 k2 : Nat} (v : View sig κ sp ⟨3, ![n0, n1, n2]⟩ e) {off : Fin 3 → ℕ}
    {o0 o1 o2 : Nat} (ho : off = ![o0, o1, o2]) (inb : ∀ a, off a + (⟨3, ![k0, k1, k2]⟩ : Shape).size a ≤ (⟨3, ![n0, n1, n2]⟩ : Shape).size a)
    (X : v.ty.Contents (Elt Ideal)) {Y : (⟨3, ![n0, n1, n2]⟩ : Shape).Idx → Elt Ideal e} (h : v.read (Elt Ideal) X = Y)
    (a b c : ℕ) (ha : a < k0) (hb : b < k1) (hc : c < k2) :
    g3 (v.readAt (Elt Ideal) (Rect.unit (s := ⟨3, ![n0, n1, n2]⟩) off (⟨3, ![k0, k1, k2]⟩ : Shape).size inb).toLoadRect X) a b c
      = g3 Y (o0 + a) (o1 + b) (o2 + c) := by
  rw [← h]
  exact (g3_ix _ ⟨a, ha⟩ ⟨b, hb⟩ ⟨c, hc⟩).symm.trans (readAtU3 v ho inb X ⟨a, ha⟩ ⟨b, hb⟩ ⟨c, hc⟩)

/-- The two halves of the product buffer, just stored. -/
theorem tbuf {sig : RefSig} {κ : Kind} {sp : Space} (v : View sig κ sp S2x256x128 .f32) (f : v.ty.Contents (Elt Ideal))
    (P1 P0 : Vec Ideal S1x256x128 .f32) (rest : List (View.Piece (Elt Ideal) S2x256x128 .f32))
    (inb1 : ∀ a, (![1, 0, 0] : Fin 3 → ℕ) a + S1x256x128.size a ≤ S2x256x128.size a)
    (inb0 : ∀ a, (![0, 0, 0] : Fin 3 → ℕ) a + S1x256x128.size a ≤ S2x256x128.size a) (g : ℕ → ℕ → EReal)
    (h1 : ∀ (z : Fin 1) (n : Fin 256) (s : Fin 128), P1 (ix3 z n s) = g n.val (128 + s.val))
    (h0 : ∀ (z : Fin 1) (n : Fin 256) (s : Fin 128), P0 (ix3 z n s) = g n.val (0 + s.val)) :
    (∀ n s, n < 256 → s < 128 → g3 (v.read (Elt Ideal) (v.writes (Elt Ideal) f (⟨Rect.unit ![1, 0, 0] S1x256x128.size inb1, P1⟩ ::
        ⟨Rect.unit ![0, 0, 0] S1x256x128.size inb0, P0⟩ :: rest))) 0 n s = g n (0 + s))
    ∧ (∀ n s, n < 256 → s < 128 → g3 (v.read (Elt Ideal) (v.writes (Elt Ideal) f (⟨Rect.unit ![1, 0, 0] S1x256x128.size inb1, P1⟩ ::
        ⟨Rect.unit ![0, 0, 0] S1x256x128.size inb0, P0⟩ :: rest))) 1 n s = g n (128 + s)) := by
  have t1 := Tiles.unit3 (n0 := 2) (n1 := 256) (n2 := 128) (k0 := 1) (k1 := 256) (k2 := 128) (Val := Elt Ideal) (e := .f32)
    (off := ![1, 0, 0]) (o0 := 1) (o1 := 0) (o2 := 0) rfl (inb := inb1) (w := P1) (g := fun mt n s => g n (128 * mt + s))
    (fun z n s => by rw [h1 z n s, Fin.val_eq_zero z, Nat.zero_add, Nat.zero_add])
  have t0 := Tiles.unit3 (n0 := 2) (n1 := 256) (n2 := 128) (k0 := 1) (k1 := 256) (k2 := 128) (Val := Elt Ideal) (e := .f32)
    (off := ![0, 0, 0]) (o0 := 0) (o1 := 0) (o2 := 0) rfl (inb := inb0) (w := P0) (g := fun mt n s => g n (128 * mt + s))
    (fun z n s => by simp only [h0 z n s, Fin.val_eq_zero z, Nat.zero_add, Nat.mul_zero, Nat.add_zero])
  have hc := Tiles.cons t1 t0
  have key : ∀ (mt : Fin 2) (n : Fin 256) (s : Fin 128), v.read (Elt Ideal) (v.writes (Elt Ideal) f (⟨Rect.unit ![1, 0, 0] S1x256x128.size inb1, P1⟩ ::
      ⟨Rect.unit ![0, 0, 0] S1x256x128.size inb0, P0⟩ :: rest)) (ix3 mt n s) = g n.val (128 * mt.val + s.val) := by
    intro mt n s
    have hy : (((1 ≤ mt.val ∧ mt.val < 1 + 1) ∧ (0 ≤ n.val ∧ n.val < 0 + 256) ∧ (0 ≤ s.val ∧ s.val < 0 + 128))
      ∨ ((0 ≤ mt.val ∧ mt.val < 0 + 1) ∧ (0 ≤ n.val ∧ n.val < 0 + 256) ∧ (0 ≤ s.val ∧ s.val < 0 + 128))) := by
      have := mt.isLt; have := n.isLt; have := s.isLt
      omega
    obtain ⟨p, hp, hm⟩ := hc.2 (ix3 mt n s) hy
    refine (View.read_writes_apply_eq_canon v f (ix3 mt n s) _ ⟨p, List.mem_append_left rest hp, hm⟩).trans ?_
    exact hc.canon_append rest (ix3 mt n s) hy
  refine ⟨fun n s hn hs => ?_, fun n s hn hs => ?_⟩
  · exact (g3_ix _ (0 : Fin 2) ⟨n, hn⟩ ⟨s, hs⟩).symm.trans (key 0 ⟨n, hn⟩ ⟨s, hs⟩)
  · exact (g3_ix _ (1 : Fin 2) ⟨n, hn⟩ ⟨s, hs⟩).symm.trans (key 1 ⟨n, hn⟩ ⟨s, hs⟩)

/-! ## One batch's product -/

section Tile

variable {X : Vec Ideal S256x3072 .bf16} {W : Vec Ideal S3072x256 .bf16} {xb : Vec Ideal S768x3072 .bf16} {a b : Vec Ideal S96x16x128 .i8}
  {ws : Vec Ideal S1x1x256 .f32} {o : ℕ} {bt : ℕ}

/-- A row of the codes against a column of the weights, scaled: an entry of the product tile. -/
theorem tsum (ho : o = 256 * bt) (hX : ∀ s x, s < 256 → x < 3072 → g2 X s x = g2 xb (o + s) (0 + x))
    (hW : ∀ x n, x < 3072 → n < 256 → g2 W x n = wmat a b x n) {A : EReal} {n s : ℕ} (hA : A = g3 ws 0 0 n * c16) (hn : n < 256) (hs : s < 256) :
    (∑ x : Fin 3072, g2 X s x.val * g2 W x.val n) * A = tfun xb a b ws bt n s := by
  rw [tfun, hA]
  refine congrArg (· * _) (Finset.sum_congr rfl fun x _ => ?_)
  rw [hX s x.val hs x.isLt, hW x.val n x.isLt hn, ho, Nat.zero_add]

theorem tile57 {A : Vec Ideal S1x1x256 .f32} (ho : o = 256 * bt) (hX : ∀ s x, s < 256 → x < 3072 → g2 X s x = g2 xb (o + s) (0 + x))
    (hW : ∀ x n, x < 3072 → n < 256 → g2 W x n = wmat a b x n)
    (hA : ∀ u v n, u < 1 → v < 1 → n < 256 → g3 A u v n = g3 ws (0 + u) (0 + v) (0 + n)) (z : Fin 1) (n : Fin 256) (s : Fin 128) :
    k0_pay57 A X W (ix3 z n s) = tfun xb a b ws bt n.val (0 + s.val) := by
  refine (pay57_ix A X W z n s).trans ?_
  have hA' := hA 0 0 n.val (by omega) (by omega) n.isLt
  rw [Nat.zero_add, Nat.zero_add] at hA'
  have h := tsum (s := 0 + s.val) ho hX hW (congrArg (· * c16) hA') n.isLt (by have := s.isLt; omega)
  simpa only [Nat.zero_add] using h

theorem tile58 {A : Vec Ideal S1x1x256 .f32} (ho : o = 256 * bt) (hX : ∀ s x, s < 256 → x < 3072 → g2 X s x = g2 xb (o + s) (0 + x))
    (hW : ∀ x n, x < 3072 → n < 256 → g2 W x n = wmat a b x n)
    (hA : ∀ u v n, u < 1 → v < 1 → n < 256 → g3 A u v n = g3 ws (0 + u) (0 + v) (0 + n)) (z : Fin 1) (n : Fin 256) (s : Fin 128) :
    k0_pay58 A X W (ix3 z n s) = tfun xb a b ws bt n.val (128 + s.val) := by
  refine (pay58_ix A X W z n s).trans ?_
  have hA' := hA 0 0 n.val (by omega) (by omega) n.isLt
  rw [Nat.zero_add, Nat.zero_add] at hA'
  have h := tsum (s := 128 + s.val) ho hX hW (congrArg (· * c16) hA') n.isLt (by have := s.isLt; omega)
  exact h

theorem tile87 {A : Vec Ideal S1x1x256 .f32} (ho : o = 256 * bt) (hX : ∀ s x, s < 256 → x < 3072 → g2 X s x = g2 xb (o + s) (0 + x))
    (hW : ∀ x n, x < 3072 → n < 256 → g2 W x n = wmat a b x n)
    (hA : ∀ u v n, u < 1 → v < 1 → n < 256 → g3 A u v n = g3 ws (0 + u) (0 + v) (0 + n)) (z : Fin 1) (n : Fin 256) (s : Fin 128) :
    k0_pay87 A X W (ix3 z n s) = tfun xb a b ws bt n.val (0 + s.val) := by
  refine (pay87_ix A X W z n s).trans ?_
  have hA' := hA 0 0 n.val (by omega) (by omega) n.isLt
  rw [Nat.zero_add, Nat.zero_add] at hA'
  have h := tsum (s := 0 + s.val) ho hX hW (congrArg (· * c16) hA') n.isLt (by have := s.isLt; omega)
  simpa only [Nat.zero_add] using h

theorem tile88 {A : Vec Ideal S1x1x256 .f32} (ho : o = 256 * bt) (hX : ∀ s x, s < 256 → x < 3072 → g2 X s x = g2 xb (o + s) (0 + x))
    (hW : ∀ x n, x < 3072 → n < 256 → g2 W x n = wmat a b x n)
    (hA : ∀ u v n, u < 1 → v < 1 → n < 256 → g3 A u v n = g3 ws (0 + u) (0 + v) (0 + n)) (z : Fin 1) (n : Fin 256) (s : Fin 128) :
    k0_pay88 A X W (ix3 z n s) = tfun xb a b ws bt n.val (128 + s.val) := by
  refine (pay88_ix A X W z n s).trans ?_
  have hA' := hA 0 0 n.val (by omega) (by omega) n.isLt
  rw [Nat.zero_add, Nat.zero_add] at hA'
  have h := tsum (s := 128 + s.val) ho hX hW (congrArg (· * c16) hA') n.isLt (by have := s.isLt; omega)
  exact h

theorem tile110 {A : Vec Ideal S1x1x256 .f32} (ho : o = 256 * bt) (hX : ∀ s x, s < 256 → x < 3072 → g2 X s x = g2 xb (o + s) (0 + x))
    (hW : ∀ x n, x < 3072 → n < 256 → g2 W x n = wmat a b x n)
    (hA : ∀ u v n, u < 1 → v < 1 → n < 256 → g3 A u v n = g3 ws (0 + u) (0 + v) (0 + n)) (z : Fin 1) (n : Fin 256) (s : Fin 128) :
    k0_pay110 A X W (ix3 z n s) = tfun xb a b ws bt n.val (0 + s.val) := by
  refine (pay110_ix A X W z n s).trans ?_
  have hA' := hA 0 0 n.val (by omega) (by omega) n.isLt
  rw [Nat.zero_add, Nat.zero_add] at hA'
  have h := tsum (s := 0 + s.val) ho hX hW (congrArg (· * c16) hA') n.isLt (by have := s.isLt; omega)
  simpa only [Nat.zero_add] using h

theorem tile111 {A : Vec Ideal S1x1x256 .f32} (ho : o = 256 * bt) (hX : ∀ s x, s < 256 → x < 3072 → g2 X s x = g2 xb (o + s) (0 + x))
    (hW : ∀ x n, x < 3072 → n < 256 → g2 W x n = wmat a b x n)
    (hA : ∀ u v n, u < 1 → v < 1 → n < 256 → g3 A u v n = g3 ws (0 + u) (0 + v) (0 + n)) (z : Fin 1) (n : Fin 256) (s : Fin 128) :
    k0_pay111 A X W (ix3 z n s) = tfun xb a b ws bt n.val (128 + s.val) := by
  refine (pay111_ix A X W z n s).trans ?_
  have hA' := hA 0 0 n.val (by omega) (by omega) n.isLt
  rw [Nat.zero_add, Nat.zero_add] at hA'
  have h := tsum (s := 128 + s.val) ho hX hW (congrArg (· * c16) hA') n.isLt (by have := s.isLt; omega)
  exact h

theorem tile60 {v : FVec Ideal S1x256 .f32} (ho : o = 256 * bt) (hX : ∀ s x, s < 256 → x < 3072 → g2 X s x = g2 xb (o + s) (0 + x))
    (hW : ∀ x n, x < 3072 → n < 256 → g2 W x n = wmat a b x n)
    (hv : ∀ n : Fin 256, g2 v 0 n.val = g3 ws 0 0 n.val * c16) (z : Fin 1) (n : Fin 256) (s : Fin 128) :
    k0_pay60 v X W (ix3 z n s) = tfun xb a b ws bt n.val (0 + s.val) := by
  refine (pay60_ix v X W z n s).trans ?_
  have h := tsum (s := 0 + s.val) ho hX hW (hv n) n.isLt (by have := s.isLt; omega)
  simpa only [Nat.zero_add] using h

theorem tile61 {v : FVec Ideal S1x256 .f32} (ho : o = 256 * bt) (hX : ∀ s x, s < 256 → x < 3072 → g2 X s x = g2 xb (o + s) (0 + x))
    (hW : ∀ x n, x < 3072 → n < 256 → g2 W x n = wmat a b x n)
    (hv : ∀ n : Fin 256, g2 v 0 n.val = g3 ws 0 0 n.val * c16) (z : Fin 1) (n : Fin 256) (s : Fin 128) :
    k0_pay61 v X W (ix3 z n s) = tfun xb a b ws bt n.val (128 + s.val) := by
  refine (pay61_ix v X W z n s).trans ?_
  have h := tsum (s := 128 + s.val) ho hX hW (hv n) n.isLt (by have := s.isLt; omega)
  exact h

theorem tile90 {v : FVec Ideal S1x256 .f32} (ho : o = 256 * bt) (hX : ∀ s x, s < 256 → x < 3072 → g2 X s x = g2 xb (o + s) (0 + x))
    (hW : ∀ x n, x < 3072 → n < 256 → g2 W x n = wmat a b x n)
    (hv : ∀ n : Fin 256, g2 v 0 n.val = g3 ws 0 0 n.val * c16) (z : Fin 1) (n : Fin 256) (s : Fin 128) :
    k0_pay90 v X W (ix3 z n s) = tfun xb a b ws bt n.val (0 + s.val) := by
  refine (pay90_ix v X W z n s).trans ?_
  have h := tsum (s := 0 + s.val) ho hX hW (hv n) n.isLt (by have := s.isLt; omega)
  simpa only [Nat.zero_add] using h

theorem tile91 {v : FVec Ideal S1x256 .f32} (ho : o = 256 * bt) (hX : ∀ s x, s < 256 → x < 3072 → g2 X s x = g2 xb (o + s) (0 + x))
    (hW : ∀ x n, x < 3072 → n < 256 → g2 W x n = wmat a b x n)
    (hv : ∀ n : Fin 256, g2 v 0 n.val = g3 ws 0 0 n.val * c16) (z : Fin 1) (n : Fin 256) (s : Fin 128) :
    k0_pay91 v X W (ix3 z n s) = tfun xb a b ws bt n.val (128 + s.val) := by
  refine (pay91_ix v X W z n s).trans ?_
  have h := tsum (s := 128 + s.val) ho hX hW (hv n) n.isLt (by have := s.isLt; omega)
  exact h

theorem tile115 {v : FVec Ideal S1x256 .f32} (ho : o = 256 * bt) (hX : ∀ s x, s < 256 → x < 3072 → g2 X s x = g2 xb (o + s) (0 + x))
    (hW : ∀ x n, x < 3072 → n < 256 → g2 W x n = wmat a b x n)
    (hv : ∀ n : Fin 256, g2 v 0 n.val = g3 ws 0 0 n.val * c16) (z : Fin 1) (n : Fin 256) (s : Fin 128) :
    k0_pay115 v X W (ix3 z n s) = tfun xb a b ws bt n.val (0 + s.val) := by
  refine (pay115_ix v X W z n s).trans ?_
  have h := tsum (s := 0 + s.val) ho hX hW (hv n) n.isLt (by have := s.isLt; omega)
  simpa only [Nat.zero_add] using h

theorem tile116 {v : FVec Ideal S1x256 .f32} (ho : o = 256 * bt) (hX : ∀ s x, s < 256 → x < 3072 → g2 X s x = g2 xb (o + s) (0 + x))
    (hW : ∀ x n, x < 3072 → n < 256 → g2 W x n = wmat a b x n)
    (hv : ∀ n : Fin 256, g2 v 0 n.val = g3 ws 0 0 n.val * c16) (z : Fin 1) (n : Fin 256) (s : Fin 128) :
    k0_pay116 v X W (ix3 z n s) = tfun xb a b ws bt n.val (128 + s.val) := by
  refine (pay116_ix v X W z n s).trans ?_
  have h := tsum (s := 128 + s.val) ho hX hW (hv n) n.isLt (by have := s.isLt; omega)
  exact h

theorem tile7 {v : FVec Ideal S1x256 .f32} (ho : o = 256 * bt) (hX : ∀ s x, s < 256 → x < 3072 → g2 X s x = g2 xb (o + s) (0 + x))
    (hW : ∀ x n, x < 3072 → n < 256 → g2 W x n = wmat a b x n)
    (hv : ∀ n : Fin 256, g2 v 0 n.val = g3 ws 0 0 n.val * c16) (z : Fin 1) (n : Fin 256) (s : Fin 128) :
    k0_pay7 v X W (ix3 z n s) = tfun xb a b ws bt n.val (0 + s.val) := by
  refine (pay7_ix v X W z n s).trans ?_
  have h := tsum (s := 0 + s.val) ho hX hW (hv n) n.isLt (by have := s.isLt; omega)
  simpa only [Nat.zero_add] using h

theorem tile8 {v : FVec Ideal S1x256 .f32} (ho : o = 256 * bt) (hX : ∀ s x, s < 256 → x < 3072 → g2 X s x = g2 xb (o + s) (0 + x))
    (hW : ∀ x n, x < 3072 → n < 256 → g2 W x n = wmat a b x n)
    (hv : ∀ n : Fin 256, g2 v 0 n.val = g3 ws 0 0 n.val * c16) (z : Fin 1) (n : Fin 256) (s : Fin 128) :
    k0_pay8 v X W (ix3 z n s) = tfun xb a b ws bt n.val (128 + s.val) := by
  refine (pay8_ix v X W z n s).trans ?_
  have h := tsum (s := 128 + s.val) ho hX hW (hv n) n.isLt (by have := s.isLt; omega)
  exact h

theorem tile4 {v : FVec Ideal S1x256 .f32} (ho : o = 256 * bt) (hX : ∀ s x, s < 256 → x < 3072 → g2 X s x = g2 xb (o + s) (0 + x))
    (hW : ∀ x n, x < 3072 → n < 256 → g2 W x n = wmat a b x n)
    (hv : ∀ n : Fin 256, g2 v 0 n.val = g3 ws 0 0 n.val * c16) (z : Fin 1) (n : Fin 256) (s : Fin 128) :
    k0_pay4 v (k0_pay62 X W) (ix3 z n s) = tfun xb a b ws bt n.val (0 + s.val) := by
  rw [Nat.zero_add]
  refine (pay4_ix v (k0_pay62 X W) z n s).trans ?_
  have hq := pay62_g X W n ⟨s.val, by have := s.isLt; omega⟩
  have h := tsum (s := s.val) ho hX hW (hv n) n.isLt (by have := s.isLt; omega)
  exact (congrArg (· * _) hq).trans h

theorem tile5 {v : FVec Ideal S1x256 .f32} (ho : o = 256 * bt) (hX : ∀ s x, s < 256 → x < 3072 → g2 X s x = g2 xb (o + s) (0 + x))
    (hW : ∀ x n, x < 3072 → n < 256 → g2 W x n = wmat a b x n)
    (hv : ∀ n : Fin 256, g2 v 0 n.val = g3 ws 0 0 n.val * c16) (z : Fin 1) (n : Fin 256) (s : Fin 128) :
    k0_pay5 v (k0_pay62 X W) (ix3 z n s) = tfun xb a b ws bt n.val (128 + s.val) := by

  refine (pay5_ix v (k0_pay62 X W) z n s).trans ?_
  have hq := pay62_g X W n ⟨128 + s.val, by have := s.isLt; omega⟩
  have h := tsum (s := 128 + s.val) ho hX hW (hv n) n.isLt (by have := s.isLt; omega)
  exact (congrArg (· * _) hq).trans h

theorem tile10 {v : FVec Ideal S1x256 .f32} (ho : o = 256 * bt) (hX : ∀ s x, s < 256 → x < 3072 → g2 X s x = g2 xb (o + s) (0 + x))
    (hW : ∀ x n, x < 3072 → n < 256 → g2 W x n = wmat a b x n)
    (hv : ∀ n : Fin 256, g2 v 0 n.val = g3 ws 0 0 n.val * c16) (z : Fin 1) (n : Fin 256) (s : Fin 128) :
    k0_pay10 v (k0_pay119 X W) (ix3 z n s) = tfun xb a b ws bt n.val (0 + s.val) := by
  rw [Nat.zero_add]
  refine (pay10_ix v (k0_pay119 X W) z n s).trans ?_
  have hq := pay119_g X W n ⟨s.val, by have := s.isLt; omega⟩
  have h := tsum (s := s.val) ho hX hW (hv n) n.isLt (by have := s.isLt; omega)
  exact (congrArg (· * _) hq).trans h

theorem tile11 {v : FVec Ideal S1x256 .f32} (ho : o = 256 * bt) (hX : ∀ s x, s < 256 → x < 3072 → g2 X s x = g2 xb (o + s) (0 + x))
    (hW : ∀ x n, x < 3072 → n < 256 → g2 W x n = wmat a b x n)
    (hv : ∀ n : Fin 256, g2 v 0 n.val = g3 ws 0 0 n.val * c16) (z : Fin 1) (n : Fin 256) (s : Fin 128) :
    k0_pay11 v (k0_pay119 X W) (ix3 z n s) = tfun xb a b ws bt n.val (128 + s.val) := by

  refine (pay11_ix v (k0_pay119 X W) z n s).trans ?_
  have hq := pay119_g X W n ⟨128 + s.val, by have := s.isLt; omega⟩
  have h := tsum (s := 128 + s.val) ho hX hW (hv n) n.isLt (by have := s.isLt; omega)
  exact (congrArg (· * _) hq).trans h

theorem scale55 {A : Vec Ideal S1x1x256 .f32} (hA : ∀ u v n, u < 1 → v < 1 → n < 256 → g3 A u v n = g3 ws (0 + u) (0 + v) (0 + n)) (n : Fin 256) :
    g2 (k0_pay55 A) 0 n.val = g3 ws 0 0 n.val * c16 := by
  refine (pay55_g A n).trans (congrArg (· * c16) ?_)
  have hA' := hA 0 0 n.val (by omega) (by omega) n.isLt
  rwa [Nat.zero_add, Nat.zero_add] at hA'

theorem scale85 {A : Vec Ideal S1x1x256 .f32} (hA : ∀ u v n, u < 1 → v < 1 → n < 256 → g3 A u v n = g3 ws (0 + u) (0 + v) (0 + n)) (n : Fin 256) :
    g2 (k0_pay85 A) 0 n.val = g3 ws 0 0 n.val * c16 := by
  refine (pay85_g A n).trans (congrArg (· * c16) ?_)
  have hA' := hA 0 0 n.val (by omega) (by omega) n.isLt
  rwa [Nat.zero_add, Nat.zero_add] at hA'

theorem scale108 {A : Vec Ideal S1x1x256 .f32} (hA : ∀ u v n, u < 1 → v < 1 → n < 256 → g3 A u v n = g3 ws (0 + u) (0 + v) (0 + n)) (n : Fin 256) :
    g2 (k0_pay108 A) 0 n.val = g3 ws 0 0 n.val * c16 := by
  refine (pay108_g A n).trans (congrArg (· * c16) ?_)
  have hA' := hA 0 0 n.val (by omega) (by omega) n.isLt
  rwa [Nat.zero_add, Nat.zero_add] at hA'

end Tile

end Cert.KernelIdeal.Gen

end
-- ==== Proof.Out.lean ====
/- The three kinds of output tile, and the weight buffer: what the loops that fill them leave. -/
module

public import proofs.«01_k».proof.Proof.LoopV
public import proofs.«01_k».proof.Proof.LoopQ
public import proofs.«01_k».proof.Proof.LoopK
public import proofs.«01_k».proof.Proof.Tile

@[expose] public section

set_option maxRecDepth 16384

noncomputable section

namespace Cert.KernelIdeal.Gen

open Idealize.ShloMosaic Idealize.ShloMosaic.TcCoe Idealize.ShloMosaic.Tactic Cert.Nat01

variable (𝒱 : Variants) (c : Dev nD) (bd : Option 𝒱.V) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole)

/-- The weight buffer after both halves are unpacked into it. -/
theorem w_q (arg0 : BitVec 32) (k0_h2 : k0_cond2 i = 1#1) (f : BufTy.Contents (Elt Ideal) arg18.view.ty) (X_arg5 : BufTy.Contents (Elt Ideal) arg5.view.ty) (X_arg6 : BufTy.Contents (Elt Ideal) arg6.view.ty)
    (a b : Vec Ideal S96x16x128 .i8) (ha : arg5.view.read (Elt Ideal) X_arg5 = a) (hb : arg6.view.read (Elt Ideal) X_arg6 = b)
    (inb : ∀ a, (![0, 0] : Fin 2 → ℕ) a + S3072x256.size a ≤ S3072x256.size a) (x n : ℕ) (hx : x < 3072) (hn : n < 256) :
    g2 (arg18.view.readAt (Elt Ideal) (Rect.unit (s := S3072x256) ![0, 0] S3072x256.size inb).toLoadRect (arg18.view.writes (Elt Ideal) f
      (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 X_arg6 k0_t3_loop.trips
        ++ pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 X_arg5 k0_t2_loop.trips))) x n = wmat a b x n := by
  have t1 := tiles_t3 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 X_arg6 (wmat a b) fun r n _ hn => by
    rw [wmat, if_neg (by omega), hb, Nat.add_sub_cancel_left]
  have t0 := tiles_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 X_arg5 (wmat a b) fun r n _ hn => by
    rw [wmat, if_pos (by omega), ha, Nat.zero_add]
  have h := ((t1.append t0).mono (D' := fun _ => True) fun y _ => by
    have h1 : (y 1).val < 256 := (y 1).isLt
    dsimp only
    omega).read arg18.view f
  refine (ld2 arg18.view (o0 := 0) (o1 := 0) rfl inb _ h x n hx hn).trans ?_
  rw [Nat.zero_add, Nat.zero_add, g2_m2 _ hx hn]

/-- The weight buffer after both halves are unpacked into it. -/
theorem w_k (arg0 : BitVec 32) (k0_h3 : k0_cond3 i = 1#1) (f : BufTy.Contents (Elt Ideal) arg18.view.ty) (X_arg7 : BufTy.Contents (Elt Ideal) arg7.view.ty) (X_arg8 : BufTy.Contents (Elt Ideal) arg8.view.ty)
    (a b : Vec Ideal S96x16x128 .i8) (ha : arg7.view.read (Elt Ideal) X_arg7 = a) (hb : arg8.view.read (Elt Ideal) X_arg8 = b)
    (inb : ∀ a, (![0, 0] : Fin 2 → ℕ) a + S3072x256.size a ≤ S3072x256.size a) (x n : ℕ) (hx : x < 3072) (hn : n < 256) :
    g2 (arg18.view.readAt (Elt Ideal) (Rect.unit (s := S3072x256) ![0, 0] S3072x256.size inb).toLoadRect (arg18.view.writes (Elt Ideal) f
      (pb_k0_t11 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 X_arg8 k0_t11_loop.trips
        ++ pb_k0_t10 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 X_arg7 k0_t10_loop.trips))) x n = wmat a b x n := by
  have t1 := tiles_t11 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 X_arg8 (wmat a b) fun r n _ hn => by
    rw [wmat, if_neg (by omega), hb, Nat.add_sub_cancel_left]
  have t0 := tiles_t10 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 X_arg7 (wmat a b) fun r n _ hn => by
    rw [wmat, if_pos (by omega), ha, Nat.zero_add]
  have h := ((t1.append t0).mono (D' := fun _ => True) fun y _ => by
    have h1 : (y 1).val < 256 := (y 1).isLt
    dsimp only
    omega).read arg18.view f
  refine (ld2 arg18.view (o0 := 0) (o1 := 0) rfl inb _ h x n hx hn).trans ?_
  rw [Nat.zero_add, Nat.zero_add, g2_m2 _ hx hn]

/-- The weight buffer after both halves are unpacked into it. -/
theorem w_v (k0_h4 : k0_cond4 i = 1#1) (f : BufTy.Contents (Elt Ideal) arg18.view.ty) (X_arg9 : BufTy.Contents (Elt Ideal) arg9.view.ty) (X_arg10 : BufTy.Contents (Elt Ideal) arg10.view.ty)
    (a b : Vec Ideal S96x16x128 .i8) (ha : arg9.view.read (Elt Ideal) X_arg9 = a) (hb : arg10.view.read (Elt Ideal) X_arg10 = b)
    (inb : ∀ a, (![0, 0] : Fin 2 → ℕ) a + S3072x256.size a ≤ S3072x256.size a) (x n : ℕ) (hx : x < 3072) (hn : n < 256) :
    g2 (arg18.view.readAt (Elt Ideal) (Rect.unit (s := S3072x256) ![0, 0] S3072x256.size inb).toLoadRect (arg18.view.writes (Elt Ideal) f
      (pb_k0_t19 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 X_arg10 k0_t19_loop.trips
        ++ pb_k0_t18 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 X_arg9 k0_t18_loop.trips))) x n = wmat a b x n := by
  have t1 := tiles_t19 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 X_arg10 (wmat a b) fun r n _ hn => by
    rw [wmat, if_neg (by omega), hb, Nat.add_sub_cancel_left]
  have t0 := tiles_t18 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 X_arg9 (wmat a b) fun r n _ hn => by
    rw [wmat, if_pos (by omega), ha, Nat.zero_add]
  have h := ((t1.append t0).mono (D' := fun _ => True) fun y _ => by
    have h1 : (y 1).val < 256 := (y 1).isLt
    dsimp only
    omega).read arg18.view f
  refine (ld2 arg18.view (o0 := 0) (o1 := 0) rfl inb _ h x n hx hn).trans ?_
  rw [Nat.zero_add, Nat.zero_add, g2_m2 _ hx hn]

/-- A query tile, stored batch by batch. -/
theorem out_q (arg0 : BitVec 32) (k0_h2 : k0_cond2 i = 1#1) (v19 : FVec Ideal S1x256 .f32) (v34 v36 v52 v54 v70 v72 : Vec Ideal S1x128 .f32) (X_arg21 : BufTy.Contents (Elt Ideal) arg21.view.ty) (X_arg22 : BufTy.Contents (Elt Ideal) arg22.view.ty) (X0 X1 X2 : BufTy.Contents (Elt Ideal) arg23.view.ty) (f : BufTy.Contents (Elt Ideal) arg12.view.ty)
    (xb : Vec Ideal S768x3072 .bf16) (a b : Vec Ideal S96x16x128 .i8) (ws : Vec Ideal S1x1x256 .f32) (sr : Vec Ideal S3x256 .f32) (cs sn : Vec Ideal S3x48x256 .f32)
    (hs0 : ∀ u s, u < 1 → s < 128 → g2 v34 u s = g2 sr (0 + u) (0 + s))
    (hs1 : ∀ u s, u < 1 → s < 128 → g2 v36 u s = g2 sr (0 + u) (128 + s))
    (hs2 : ∀ u s, u < 1 → s < 128 → g2 v52 u s = g2 sr (1 + u) (0 + s))
    (hs3 : ∀ u s, u < 1 → s < 128 → g2 v54 u s = g2 sr (1 + u) (128 + s))
    (hs4 : ∀ u s, u < 1 → s < 128 → g2 v70 u s = g2 sr (2 + u) (0 + s))
    (hs5 : ∀ u s, u < 1 → s < 128 → g2 v72 u s = g2 sr (2 + u) (128 + s))
    (h21 : arg21.view.read (Elt Ideal) X_arg21 = cs) (h22 : arg22.view.read (Elt Ideal) X_arg22 = sn)
    (hX0 : (∀ n s, n < 256 → s < 128 → g3 (arg23.view.read (Elt Ideal) X0) 0 n s = tfun xb a b ws 0 n (0 + s))
      ∧ (∀ n s, n < 256 → s < 128 → g3 (arg23.view.read (Elt Ideal) X0) 1 n s = tfun xb a b ws 0 n (128 + s)))
    (hX1 : (∀ n s, n < 256 → s < 128 → g3 (arg23.view.read (Elt Ideal) X1) 0 n s = tfun xb a b ws 1 n (0 + s))
      ∧ (∀ n s, n < 256 → s < 128 → g3 (arg23.view.read (Elt Ideal) X1) 1 n s = tfun xb a b ws 1 n (128 + s)))
    (hX2 : (∀ n s, n < 256 → s < 128 → g3 (arg23.view.read (Elt Ideal) X2) 0 n s = tfun xb a b ws 2 n (0 + s))
      ∧ (∀ n s, n < 256 → s < 128 → g3 (arg23.view.read (Elt Ideal) X2) 1 n s = tfun xb a b ws 2 n (128 + s))) :
    arg12.view.read (Elt Ideal) (arg12.view.writes (Elt Ideal) f (pb_k0_t9 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v72 X_arg21 X_arg22 X2 k0_t9_loop.trips ++ (pb_k0_t8 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v70 X_arg21 X_arg22 X2 k0_t8_loop.trips ++ (pb_k0_t7 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v54 X_arg21 X_arg22 X1 k0_t7_loop.trips ++ (pb_k0_t6 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v52 X_arg21 X_arg22 X1 k0_t6_loop.trips ++ (pb_k0_t5 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v36 X_arg21 X_arg22 X0 k0_t5_loop.trips ++ (pb_k0_t4 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v34 X_arg21 X_arg22 X0 k0_t4_loop.trips)))))))
      = m3 (qfun xb a b ws sr cs sn (i 0).val) := by
  have t5 := tiles_t9 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v72 X_arg21 X_arg22 X2 (qfun xb a b ws sr cs sn (i 0).val) fun n s hn hs => by
    have e := hX2.2 (2 * (n / 2)) s (by omega) hs
    have o := hX2.2 (2 * (n / 2) + 1) s (by omega) hs
    rw [e, o, hs5 0 s (by omega) hs, h21, h22]; rfl
  have t4 := tiles_t8 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v70 X_arg21 X_arg22 X2 (qfun xb a b ws sr cs sn (i 0).val) fun n s hn hs => by
    have e := hX2.1 (2 * (n / 2)) s (by omega) hs
    have o := hX2.1 (2 * (n / 2) + 1) s (by omega) hs
    rw [e, o, hs4 0 s (by omega) hs, h21, h22]; rfl
  have t3 := tiles_t7 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v54 X_arg21 X_arg22 X1 (qfun xb a b ws sr cs sn (i 0).val) fun n s hn hs => by
    have e := hX1.2 (2 * (n / 2)) s (by omega) hs
    have o := hX1.2 (2 * (n / 2) + 1) s (by omega) hs
    rw [e, o, hs3 0 s (by omega) hs, h21, h22]; rfl
  have t2 := tiles_t6 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v52 X_arg21 X_arg22 X1 (qfun xb a b ws sr cs sn (i 0).val) fun n s hn hs => by
    have e := hX1.1 (2 * (n / 2)) s (by omega) hs
    have o := hX1.1 (2 * (n / 2) + 1) s (by omega) hs
    rw [e, o, hs2 0 s (by omega) hs, h21, h22]; rfl
  have t1 := tiles_t5 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v19 v36 X_arg21 X_arg22 X0 (qfun xb a b ws sr cs sn (i 0).val) fun n s hn hs => by
    have e := hX0.2 (2 * (n / 2)) s (by omega) hs
    have o := hX0.2 (2 * (n / 2) + 1) s (by omega) hs
    rw [e, o, hs1 0 s (by omega) hs, h21, h22]; rfl
  have t0 := tiles_t4 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h2 v34 X_arg21 X_arg22 X0 (qfun xb a b ws sr cs sn (i 0).val) fun n s hn hs => by
    have e := hX0.1 (2 * (n / 2)) s (by omega) hs
    have o := hX0.1 (2 * (n / 2) + 1) s (by omega) hs
    rw [e, o, hs0 0 s (by omega) hs, h21, h22]; rfl
  refine ((t5.append (t4.append (t3.append (t2.append (t1.append t0))))).mono fun y _ => ?_).read arg12.view f
  have h0 : (y 0).val < 3 := (y 0).isLt
  have h2 : (y 2).val < 256 := (y 2).isLt
  dsimp only
  omega

/-- A key tile, stored batch by batch. -/
theorem out_k (arg0 : BitVec 32) (k0_h3 : k0_cond3 i = 1#1) (v14 : BitVec 32) (v20 : FVec Ideal S1x256 .f32) (v35 v37 v53 v55 v71 v73 : Vec Ideal S1x128 .f32) (X_arg21 : BufTy.Contents (Elt Ideal) arg21.view.ty) (X_arg22 : BufTy.Contents (Elt Ideal) arg22.view.ty) (X0 X1 X2 : BufTy.Contents (Elt Ideal) arg23.view.ty) (f : BufTy.Contents (Elt Ideal) arg13.view.ty)
    (xb : Vec Ideal S768x3072 .bf16) (a b : Vec Ideal S96x16x128 .i8) (ws : Vec Ideal S1x1x256 .f32) (sr : Vec Ideal S3x256 .f32) (cs sn : Vec Ideal S3x48x256 .f32)
    (hs0 : ∀ u s, u < 1 → s < 128 → g2 v35 u s = g2 sr (0 + u) (0 + s))
    (hs1 : ∀ u s, u < 1 → s < 128 → g2 v37 u s = g2 sr (0 + u) (128 + s))
    (hs2 : ∀ u s, u < 1 → s < 128 → g2 v53 u s = g2 sr (1 + u) (0 + s))
    (hs3 : ∀ u s, u < 1 → s < 128 → g2 v55 u s = g2 sr (1 + u) (128 + s))
    (hs4 : ∀ u s, u < 1 → s < 128 → g2 v71 u s = g2 sr (2 + u) (0 + s))
    (hs5 : ∀ u s, u < 1 → s < 128 → g2 v73 u s = g2 sr (2 + u) (128 + s))
    (h21 : arg21.view.read (Elt Ideal) X_arg21 = cs) (h22 : arg22.view.read (Elt Ideal) X_arg22 = sn)
    (hX0 : (∀ n s, n < 256 → s < 128 → g3 (arg23.view.read (Elt Ideal) X0) 0 n s = tfun xb a b ws 0 n (0 + s))
      ∧ (∀ n s, n < 256 → s < 128 → g3 (arg23.view.read (Elt Ideal) X0) 1 n s = tfun xb a b ws 0 n (128 + s)))
    (hX1 : (∀ n s, n < 256 → s < 128 → g3 (arg23.view.read (Elt Ideal) X1) 0 n s = tfun xb a b ws 1 n (0 + s))
      ∧ (∀ n s, n < 256 → s < 128 → g3 (arg23.view.read (Elt Ideal) X1) 1 n s = tfun xb a b ws 1 n (128 + s)))
    (hX2 : (∀ n s, n < 256 → s < 128 → g3 (arg23.view.read (Elt Ideal) X2) 0 n s = tfun xb a b ws 2 n (0 + s))
      ∧ (∀ n s, n < 256 → s < 128 → g3 (arg23.view.read (Elt Ideal) X2) 1 n s = tfun xb a b ws 2 n (128 + s))) :
    arg13.view.read (Elt Ideal) (arg13.view.writes (Elt Ideal) f (pb_k0_t17 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v73 X_arg21 X_arg22 X2 k0_t17_loop.trips ++ (pb_k0_t16 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v71 X_arg21 X_arg22 X2 k0_t16_loop.trips ++ (pb_k0_t15 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v55 X_arg21 X_arg22 X1 k0_t15_loop.trips ++ (pb_k0_t14 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v53 X_arg21 X_arg22 X1 k0_t14_loop.trips ++ (pb_k0_t13 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v37 X_arg21 X_arg22 X0 k0_t13_loop.trips ++ (pb_k0_t12 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 v14 v35 X_arg21 X_arg22 X0 k0_t12_loop.trips)))))))
      = m3 (qfun xb a b ws sr cs sn ((i 0).val - 9)) := by
  have t5 := tiles_t17 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v73 X_arg21 X_arg22 X2 (qfun xb a b ws sr cs sn ((i 0).val - 9)) fun n s hn hs => by
    have e := hX2.2 (2 * (n / 2)) s (by omega) hs
    have o := hX2.2 (2 * (n / 2) + 1) s (by omega) hs
    rw [e, o, hs5 0 s (by omega) hs, h21, h22]; rfl
  have t4 := tiles_t16 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v71 X_arg21 X_arg22 X2 (qfun xb a b ws sr cs sn ((i 0).val - 9)) fun n s hn hs => by
    have e := hX2.1 (2 * (n / 2)) s (by omega) hs
    have o := hX2.1 (2 * (n / 2) + 1) s (by omega) hs
    rw [e, o, hs4 0 s (by omega) hs, h21, h22]; rfl
  have t3 := tiles_t15 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v55 X_arg21 X_arg22 X1 (qfun xb a b ws sr cs sn ((i 0).val - 9)) fun n s hn hs => by
    have e := hX1.2 (2 * (n / 2)) s (by omega) hs
    have o := hX1.2 (2 * (n / 2) + 1) s (by omega) hs
    rw [e, o, hs3 0 s (by omega) hs, h21, h22]; rfl
  have t2 := tiles_t14 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v53 X_arg21 X_arg22 X1 (qfun xb a b ws sr cs sn ((i 0).val - 9)) fun n s hn hs => by
    have e := hX1.1 (2 * (n / 2)) s (by omega) hs
    have o := hX1.1 (2 * (n / 2) + 1) s (by omega) hs
    rw [e, o, hs2 0 s (by omega) hs, h21, h22]; rfl
  have t1 := tiles_t13 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h3 v14 v20 v37 X_arg21 X_arg22 X0 (qfun xb a b ws sr cs sn ((i 0).val - 9)) fun n s hn hs => by
    have e := hX0.2 (2 * (n / 2)) s (by omega) hs
    have o := hX0.2 (2 * (n / 2) + 1) s (by omega) hs
    rw [e, o, hs1 0 s (by omega) hs, h21, h22]; rfl
  have t0 := tiles_t12 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 k0_h3 v14 v35 X_arg21 X_arg22 X0 (qfun xb a b ws sr cs sn ((i 0).val - 9)) fun n s hn hs => by
    have e := hX0.1 (2 * (n / 2)) s (by omega) hs
    have o := hX0.1 (2 * (n / 2) + 1) s (by omega) hs
    rw [e, o, hs0 0 s (by omega) hs, h21, h22]; rfl
  refine ((t5.append (t4.append (t3.append (t2.append (t1.append t0))))).mono fun y _ => ?_).read arg13.view f
  have h0 : (y 0).val < 3 := (y 0).isLt
  have h2 : (y 2).val < 256 := (y 2).isLt
  dsimp only
  omega

/-- A value tile, stored batch by batch. -/
theorem out_v (k0_h4 : k0_cond4 i = 1#1) (v19 : FVec Ideal S1x256 .f32) (v34 v36 v52 v54 v70 v72 : Vec Ideal S1x128 .f32) (X0 X1 X2 : BufTy.Contents (Elt Ideal) arg23.view.ty) (f : BufTy.Contents (Elt Ideal) arg14.view.ty)
    (xb : Vec Ideal S768x3072 .bf16) (a b : Vec Ideal S96x16x128 .i8) (ws : Vec Ideal S1x1x256 .f32) (sr : Vec Ideal S3x256 .f32)
    (hs0 : ∀ u s, u < 1 → s < 128 → g2 v34 u s = g2 sr (0 + u) (0 + s))
    (hs1 : ∀ u s, u < 1 → s < 128 → g2 v36 u s = g2 sr (0 + u) (128 + s))
    (hs2 : ∀ u s, u < 1 → s < 128 → g2 v52 u s = g2 sr (1 + u) (0 + s))
    (hs3 : ∀ u s, u < 1 → s < 128 → g2 v54 u s = g2 sr (1 + u) (128 + s))
    (hs4 : ∀ u s, u < 1 → s < 128 → g2 v70 u s = g2 sr (2 + u) (0 + s))
    (hs5 : ∀ u s, u < 1 → s < 128 → g2 v72 u s = g2 sr (2 + u) (128 + s))
    (hX0 : (∀ n s, n < 256 → s < 128 → g3 (arg23.view.read (Elt Ideal) X0) 0 n s = tfun xb a b ws 0 n (0 + s))
      ∧ (∀ n s, n < 256 → s < 128 → g3 (arg23.view.read (Elt Ideal) X0) 1 n s = tfun xb a b ws 0 n (128 + s)))
    (hX1 : (∀ n s, n < 256 → s < 128 → g3 (arg23.view.read (Elt Ideal) X1) 0 n s = tfun xb a b ws 1 n (0 + s))
      ∧ (∀ n s, n < 256 → s < 128 → g3 (arg23.view.read (Elt Ideal) X1) 1 n s = tfun xb a b ws 1 n (128 + s)))
    (hX2 : (∀ n s, n < 256 → s < 128 → g3 (arg23.view.read (Elt Ideal) X2) 0 n s = tfun xb a b ws 2 n (0 + s))
      ∧ (∀ n s, n < 256 → s < 128 → g3 (arg23.view.read (Elt Ideal) X2) 1 n s = tfun xb a b ws 2 n (128 + s))) :
    arg14.view.read (Elt Ideal) (arg14.view.writes (Elt Ideal) f (pb_k0_t25 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v72 X2 k0_t25_loop.trips ++ (pb_k0_t24 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v70 X2 k0_t24_loop.trips ++ (pb_k0_t23 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v54 X1 k0_t23_loop.trips ++ (pb_k0_t22 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v52 X1 k0_t22_loop.trips ++ (pb_k0_t21 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v36 X0 k0_t21_loop.trips ++ (pb_k0_t20 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v34 X0 k0_t20_loop.trips)))))))
      = m3 (vfun xb a b ws sr) := by
  have t5 := tiles_t25 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v72 X2 (vfun xb a b ws sr) fun n s hn hs => by rw [hX2.2 n s hn hs, hs5 0 s (by omega) hs]; rfl
  have t4 := tiles_t24 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v70 X2 (vfun xb a b ws sr) fun n s hn hs => by rw [hX2.1 n s hn hs, hs4 0 s (by omega) hs]; rfl
  have t3 := tiles_t23 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v54 X1 (vfun xb a b ws sr) fun n s hn hs => by rw [hX1.2 n s hn hs, hs3 0 s (by omega) hs]; rfl
  have t2 := tiles_t22 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v52 X1 (vfun xb a b ws sr) fun n s hn hs => by rw [hX1.1 n s hn hs, hs2 0 s (by omega) hs]; rfl
  have t1 := tiles_t21 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v19 v36 X0 (vfun xb a b ws sr) fun n s hn hs => by rw [hX0.2 n s hn hs, hs1 0 s (by omega) hs]; rfl
  have t0 := tiles_t20 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h4 v34 X0 (vfun xb a b ws sr) fun n s hn hs => by rw [hX0.1 n s hn hs, hs0 0 s (by omega) hs]; rfl
  refine ((t5.append (t4.append (t3.append (t2.append (t1.append t0))))).mono fun y _ => ?_).read arg14.view f
  have h0 : (y 0).val < 3 := (y 0).isLt
  have h2 : (y 2).val < 256 := (y 2).isLt
  dsimp only
  omega

end Cert.KernelIdeal.Gen

end
-- ==== Proof.LoopA.lean ====
/- The loop that normalises and quantises the activations, and the first point's other stores, read as functions of the
   inputs. -/
module

public import proofs.«01_k».proof.Proof.PayT

@[expose] public section

set_option maxRecDepth 16384

noncomputable section

namespace Cert.KernelIdeal.Gen

open Idealize.ShloMosaic Idealize.ShloMosaic.TcCoe Idealize.ShloMosaic.Tactic Cert.Nat01

/-- Row `r` of the activations, normalised by its root mean square and multiplied by the norm weights. -/
def nrm (X : Vec Ideal S768x3072 .bf16) (N : Vec Ideal S1x3072 .f32) (r x : ℕ) : EReal :=
  g2 X r x * Ideal.rsqrt (Ideal.div (∑ j : Fin 3072, g2 X r j.val * g2 X r j.val) (Ideal.ofBits FTy.f32 1161822208#32) + Ideal.ofBits FTy.f32 897988541#32) * g2 N 0 x

/-- The largest absolute value in row `r`. -/
def amx (X : Vec Ideal S768x3072 .bf16) (N : Vec Ideal S1x3072 .f32) (r : ℕ) : EReal :=
  Finset.fold max (Ideal.ofBits FTy.f32 4286578688#32) (fun j : Fin 3072 => FloatOps.absf (F := Ideal) (φ := .f32) (nrm X N r j.val)) Finset.univ

/-- Row `r`'s scale: its largest absolute value over 127, or one if that is zero. -/
def scl (X : Vec Ideal S768x3072 .bf16) (N : Vec Ideal S1x3072 .f32) (r : ℕ) : EReal :=
  Scalar.select (FloatOps.cmpf (F := Ideal) (φ := .f32) CmpFPredicate.oeq (amx X N r) 0) 1 (Ideal.div (amx X N r) (Ideal.ofBits FTy.f32 1123942400#32))

/-- The code of an activation: it over its row's scale, rounded and kept within 127 of zero. -/
def cod (X : Vec Ideal S768x3072 .bf16) (N : Vec Ideal S1x3072 .f32) (r x : ℕ) : BitVec 8 :=
  FloatOps.fptosi (F := Ideal) (φ := .f32) 8 (min (Ideal.ofBits FTy.f32 1123942400#32)
    (max (Ideal.ofBits FTy.f32 3271426048#32) (Ideal.liftRound Ideal.roundHalfEven (Ideal.div (nrm X N r x) (scl X N r)))))

/-- The code as a number. -/
def cdf (X : Vec Ideal S768x3072 .bf16) (N : Vec Ideal S1x3072 .f32) (r x : ℕ) : EReal :=
  FloatOps.sitofp (F := Ideal) FTy.bf16 (cod X N r x)

/-- The angle of pair `p` for token `s` of batch `b`. -/
def ang (P : Vec Ideal S3x256 .i32) (Q : Vec Ideal S48x128 .f32) (b p s : ℕ) : EReal :=
  FloatOps.sitofp (F := Ideal) FTy.f32 (g2 P b s) * g2 Q p 0

section Payloads
variable (X : Vec Ideal S768x3072 .bf16) (N : Vec Ideal S1x3072 .f32) (v : Vec Ideal S32x3072 .bf16) (w : Vec Ideal S1x3072 .f32) (r0 : ℕ)
  (hv : ∀ (a : Fin 32) (b : Fin 3072), v (ix2 a b) = g2 X (r0 + a.val) b.val) (hw : ∀ (a : Fin 1) (b : Fin 3072), w (ix2 a b) = g2 N 0 b.val)
include hv hw

theorem pay14_ix (a : Fin 32) (b : Fin 3072) : k0_pay14 v w (ix2 a b) = nrm X N (r0 + a.val) b.val := by
  unfold_payloads
  pointwise
  simp only [hv, hw]
  rfl

theorem pay15_ix (a : Fin 32) (b : Fin 1) : k0_pay15 v w (ix2 a b) = scl X N (r0 + a.val) := by
  unfold k0_pay15
  pointwise
  simp only [pay14_ix X N v w r0 hv hw]
  rfl

theorem pay16_ix (a : Fin 32) (b : Fin 3072) : k0_pay16 v w (ix2 a b) = cod X N (r0 + a.val) b.val := by
  unfold k0_pay16
  pointwise
  simp only [pay14_ix X N v w r0 hv hw, pay15_ix X N v w r0 hv hw]
  rfl

theorem pay17_ix (a : Fin 32) (b : Fin 3072) : k0_pay17 v w (ix2 a b) = cdf X N (r0 + a.val) b.val := by
  unfold k0_pay17
  pointwise
  rw [pay16_ix X N v w r0 hv hw]
  rfl
end Payloads

theorem pay18_ix (v : FVec Ideal S32x1 .f32) (a : Fin 32) (b : Fin 128) : k0_pay18 v (ix2 a b) = v (ix2 a 0) := by
  unfold_payloads
  pointwise

theorem pay19_ix (v : Vec Ideal S256x128 .f32) (a : Fin 1) (b : Fin 256) : k0_pay19 v (ix2 a b) = v (ix2 b 0) := by
  unfold_payloads
  pointwise

theorem pay20_ix (v : Vec Ideal S256x128 .f32) (a : Fin 1) (b : Fin 256) : k0_pay20 v (ix2 a b) = v (ix2 b 0) := by
  unfold_payloads
  pointwise

theorem pay24_ix (v : Vec Ideal S256x128 .f32) (a : Fin 1) (b : Fin 256) : k0_pay24 v (ix2 a b) = v (ix2 b 0) := by
  unfold_payloads
  pointwise

theorem pay25_ix (v : FVec Ideal S1x256 .f32) (a : Fin 1) (b : Fin 256) : k0_pay25 v (ix2 a b) = v (ix2 a b) := by
  unfold_payloads
  pointwise

theorem pay29_ix (v : Vec Ideal S256x128 .f32) (a : Fin 1) (b : Fin 256) : k0_pay29 v (ix2 a b) = v (ix2 b 0) := by
  unfold_payloads
  pointwise

theorem pay30_ix (v : Vec Ideal S256x128 .f32) (a : Fin 1) (b : Fin 256) : k0_pay30 v (ix2 a b) = v (ix2 b 0) := by
  unfold_payloads
  pointwise

theorem pay22_ix (v : Vec Ideal S1x256 .i32) (w : Vec Ideal S48x1 .f32) (z : Fin 1) (a : Fin 48) (b : Fin 256) :
    k0_pay22 v w (ix3 z a b) = Ideal.cos (FloatOps.sitofp (F := Ideal) FTy.f32 (v (ix2 0 b)) * w (ix2 a 0)) := by
  unfold_payloads
  pointwise

theorem pay23_ix (v : Vec Ideal S1x256 .i32) (w : Vec Ideal S48x1 .f32) (z : Fin 1) (a : Fin 48) (b : Fin 256) :
    k0_pay23 v w (ix3 z a b) = Ideal.sin (FloatOps.sitofp (F := Ideal) FTy.f32 (v (ix2 0 b)) * w (ix2 a 0)) := by
  unfold_payloads
  pointwise

theorem pay27_ix (v : Vec Ideal S1x256 .i32) (w : Vec Ideal S48x1 .f32) (z : Fin 1) (a : Fin 48) (b : Fin 256) :
    k0_pay27 v w (ix3 z a b) = Ideal.cos (FloatOps.sitofp (F := Ideal) FTy.f32 (v (ix2 0 b)) * w (ix2 a 0)) := by
  unfold_payloads
  pointwise

theorem pay28_ix (v : Vec Ideal S1x256 .i32) (w : Vec Ideal S48x1 .f32) (z : Fin 1) (a : Fin 48) (b : Fin 256) :
    k0_pay28 v w (ix3 z a b) = Ideal.sin (FloatOps.sitofp (F := Ideal) FTy.f32 (v (ix2 0 b)) * w (ix2 a 0)) := by
  unfold_payloads
  pointwise

theorem pay1_ix (v : Vec Ideal S1x256 .i32) (w : Vec Ideal S48x1 .f32) (z : Fin 1) (a : Fin 48) (b : Fin 256) :
    k0_pay1 (k0_pay32 v w) (ix3 z a b) = Ideal.cos (FloatOps.sitofp (F := Ideal) FTy.f32 (v (ix2 0 b)) * w (ix2 a 0)) := by
  unfold_payloads
  pointwise

theorem pay2_ix (v : Vec Ideal S1x256 .i32) (w : Vec Ideal S48x1 .f32) (z : Fin 1) (a : Fin 48) (b : Fin 256) :
    k0_pay2 (k0_pay31 v w) (ix3 z a b) = Ideal.sin (FloatOps.sitofp (F := Ideal) FTy.f32 (v (ix2 0 b)) * w (ix2 a 0)) := by
  unfold_payloads
  pointwise

variable (𝒱 : Variants) (c : Dev nD) (bd : Option 𝒱.V) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole)

/-- What the loop over blocks of rows stores: the codes. -/
theorem tiles_t1_1 (k0_h1 : k0_cond1 i = 1#1) (X_arg1 : BufTy.Contents (Elt Ideal) arg1.view.ty) (X_arg2 : BufTy.Contents (Elt Ideal) arg2.view.ty) :
    Tiles (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 k0_t1_loop.trips).1
      (fun _ => True) (m2 (cod (arg1.view.read (Elt Ideal) X_arg1) (arg2.view.read (Elt Ideal) X_arg2))) := by
  refine (Tiles.loop (N := k0_t1_loop.trips) (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 n).1)
    (fun k => (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 k).1) rfl
    (fun k => congrArg (fun p => p.1) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 k))
    (D := fun k y => (32 * k.val ≤ (y 0).val ∧ (y 0).val < 32 * k.val + 32) ∧ (0 ≤ (y 1).val ∧ (y 1).val < 0 + 3072)) fun k => ?_).mono ?_
  · have hk : k.val < 24 := k.isLt
    unfold tripL_k0_t1 trip_k0_t1; dsimp only
    refine Tiles.unit2 (k0 := 32) (k1 := 3072) (Val := Elt Ideal) (e := .i8) (g := cod (arg1.view.read (Elt Ideal) X_arg1) (arg2.view.read (Elt Ideal) X_arg2)) (k0_off1_eq k) fun a b => ?_
    have hv := fun (a : Fin 32) (b : Fin 3072) => (readAtU2 arg1.view (k0_off1_eq k) (k0_off1_inb i k k0_h1) X_arg1 a b).trans (by rw [Nat.zero_add])
    have hw := fun (a : Fin 1) (b : Fin 3072) => (readAtU2 arg2.view (o0 := 0) (o1 := 0) rfl inb_S1x3072_S1x3072_0_0 X_arg2 a b).trans
      (show _ = g2 (arg2.view.read (Elt Ideal) X_arg2) 0 b.val by rw [Nat.zero_add, Nat.zero_add, Fin.val_eq_zero a])
    rw [Nat.zero_add]; exact pay16_ix _ _ _ _ _ hv hw a b
  · intro y _
    have h0 : (y 0).val < 768 := (y 0).isLt
    have h1 : (y 1).val < 3072 := (y 1).isLt
    exact ⟨⟨(y 0).val / 32, show _ < 24 by omega⟩, by dsimp only; omega, by omega⟩

/-- What the loop over blocks of rows stores: the codes as numbers. -/
theorem tiles_t1_2 (k0_h1 : k0_cond1 i = 1#1) (X_arg1 : BufTy.Contents (Elt Ideal) arg1.view.ty) (X_arg2 : BufTy.Contents (Elt Ideal) arg2.view.ty) :
    Tiles (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 k0_t1_loop.trips).2.1
      (fun _ => True) (m2 (cdf (arg1.view.read (Elt Ideal) X_arg1) (arg2.view.read (Elt Ideal) X_arg2))) := by
  refine (Tiles.loop (N := k0_t1_loop.trips) (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 n).2.1)
    (fun k => (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 k).2.1) rfl
    (fun k => congrArg (fun p => p.2.1) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 k))
    (D := fun k y => (32 * k.val ≤ (y 0).val ∧ (y 0).val < 32 * k.val + 32) ∧ (0 ≤ (y 1).val ∧ (y 1).val < 0 + 3072)) fun k => ?_).mono ?_
  · have hk : k.val < 24 := k.isLt
    unfold tripL_k0_t1 trip_k0_t1; dsimp only
    refine Tiles.unit2 (k0 := 32) (k1 := 3072) (Val := Elt Ideal) (e := .bf16) (g := cdf (arg1.view.read (Elt Ideal) X_arg1) (arg2.view.read (Elt Ideal) X_arg2)) (k0_off1_eq k) fun a b => ?_
    have hv := fun (a : Fin 32) (b : Fin 3072) => (readAtU2 arg1.view (k0_off1_eq k) (k0_off1_inb i k k0_h1) X_arg1 a b).trans (by rw [Nat.zero_add])
    have hw := fun (a : Fin 1) (b : Fin 3072) => (readAtU2 arg2.view (o0 := 0) (o1 := 0) rfl inb_S1x3072_S1x3072_0_0 X_arg2 a b).trans
      (show _ = g2 (arg2.view.read (Elt Ideal) X_arg2) 0 b.val by rw [Nat.zero_add, Nat.zero_add, Fin.val_eq_zero a])
    rw [Nat.zero_add]; exact pay17_ix _ _ _ _ _ hv hw a b
  · intro y _
    have h0 : (y 0).val < 768 := (y 0).isLt
    have h1 : (y 1).val < 3072 := (y 1).isLt
    exact ⟨⟨(y 0).val / 32, show _ < 24 by omega⟩, by dsimp only; omega, by omega⟩

/-- What the loop over blocks of rows stores: the scales. -/
theorem tiles_t1_3 (k0_h1 : k0_cond1 i = 1#1) (X_arg1 : BufTy.Contents (Elt Ideal) arg1.view.ty) (X_arg2 : BufTy.Contents (Elt Ideal) arg2.view.ty) :
    Tiles (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 k0_t1_loop.trips).2.2
      (fun _ => True) (m2 (fun r _ => scl (arg1.view.read (Elt Ideal) X_arg1) (arg2.view.read (Elt Ideal) X_arg2) r)) := by
  refine (Tiles.loop (N := k0_t1_loop.trips) (fun n => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 n).2.2)
    (fun k => (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 k).2.2) rfl
    (fun k => congrArg (fun p => p.2.2) (pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 k))
    (D := fun k y => (32 * k.val ≤ (y 0).val ∧ (y 0).val < 32 * k.val + 32) ∧ (0 ≤ (y 1).val ∧ (y 1).val < 0 + 128)) fun k => ?_).mono ?_
  · have hk : k.val < 24 := k.isLt
    unfold tripL_k0_t1 trip_k0_t1; dsimp only
    refine Tiles.unit2 (k0 := 32) (k1 := 128) (Val := Elt Ideal) (e := .f32) (g := fun r _ => scl (arg1.view.read (Elt Ideal) X_arg1) (arg2.view.read (Elt Ideal) X_arg2) r) (k0_off2_eq k) fun a b => ?_
    have hv := fun (a : Fin 32) (b : Fin 3072) => (readAtU2 arg1.view (k0_off1_eq k) (k0_off1_inb i k k0_h1) X_arg1 a b).trans (by rw [Nat.zero_add])
    have hw := fun (a : Fin 1) (b : Fin 3072) => (readAtU2 arg2.view (o0 := 0) (o1 := 0) rfl inb_S1x3072_S1x3072_0_0 X_arg2 a b).trans
      (show _ = g2 (arg2.view.read (Elt Ideal) X_arg2) 0 b.val by rw [Nat.zero_add, Nat.zero_add, Fin.val_eq_zero a])
    exact (pay18_ix _ a b).trans (pay15_ix _ _ _ _ _ hv hw a 0)
  · intro y _
    have h0 : (y 0).val < 768 := (y 0).isLt
    have h1 : (y 1).val < 128 := (y 1).isLt
    exact ⟨⟨(y 0).val / 32, show _ < 24 by omega⟩, by dsimp only; omega, by omega⟩

end Cert.KernelIdeal.Gen

end
-- ==== Proof.RunLib.lean ====
/- What a grid point leaves in its buffers: names for the contents, and the small stores of the first point. -/
module

public import proofs.«01_k».proof.Proof.Out
public import proofs.«01_k».proof.Proof.LoopA

@[expose] public section

set_option maxRecDepth 16384

noncomputable section

namespace Cert.KernelIdeal.Gen

open Idealize.ShloMosaic Idealize.ShloMosaic.TcCoe Idealize.ShloMosaic.Tactic Cert.Nat01

/-! ## What the carried buffers and the outputs hold -/

/-- The codes as numbers, of every row. -/
def xbV (x0 : Vec Ideal S768x3072 .bf16) (x1 : Vec Ideal S1x3072 .f32) : Vec Ideal S768x3072 .bf16 := m2 (cdf x0 x1)
/-- The codes, of every row. -/
def cdV (x0 : Vec Ideal S768x3072 .bf16) (x1 : Vec Ideal S1x3072 .f32) : Vec Ideal S768x3072 .i8 := m2 (cod x0 x1)
/-- The scales, a row per batch. -/
def srV (x0 : Vec Ideal S768x3072 .bf16) (x1 : Vec Ideal S1x3072 .f32) : Vec Ideal S3x256 .f32 := m2 fun b s => scl x0 x1 (256 * b + s)
/-- The cosines of the angles. -/
def csV (x2 : Vec Ideal S3x256 .i32) (x3 : Vec Ideal S48x128 .f32) : Vec Ideal S3x48x256 .f32 := m3 fun b p s => Ideal.cos (ang x2 x3 b p s)
/-- The sines of the angles. -/
def snV (x2 : Vec Ideal S3x256 .i32) (x3 : Vec Ideal S48x128 .f32) : Vec Ideal S3x48x256 .f32 := m3 fun b p s => Ideal.sin (ang x2 x3 b p s)
/-- A query or key tile. -/
def qV (xb : Vec Ideal S768x3072 .bf16) (a b : Vec Ideal S96x16x128 .i8) (ws : Vec Ideal S1x1x256 .f32) (sr : Vec Ideal S3x256 .f32)
    (cs sn : Vec Ideal S3x48x256 .f32) (tile : ℕ) : Vec Ideal S3x256x256 .bf16 := m3 (qfun xb a b ws sr cs sn tile)
/-- A value tile. -/
def vV (xb : Vec Ideal S768x3072 .bf16) (a b : Vec Ideal S96x16x128 .i8) (ws : Vec Ideal S1x1x256 .f32) (sr : Vec Ideal S3x256 .f32) :
    Vec Ideal S3x256x256 .bf16 := m3 (vfun xb a b ws sr)

/-! ## Three rows, three planes -/

/-- Three stores of a row each fill a matrix of three rows. -/
theorem rows3 {sig : RefSig} {κ : Kind} {sp : Space} (v : View sig κ sp S3x256 .f32) (f : v.ty.Contents (Elt Ideal)) (P2 P1 P0 : Vec Ideal S1x256 .f32)
    (inb2 : ∀ a, (![2, 0] : Fin 2 → ℕ) a + S1x256.size a ≤ S3x256.size a) (inb1 : ∀ a, (![1, 0] : Fin 2 → ℕ) a + S1x256.size a ≤ S3x256.size a)
    (inb0 : ∀ a, (![0, 0] : Fin 2 → ℕ) a + S1x256.size a ≤ S3x256.size a) (g : ℕ → ℕ → EReal)
    (h2 : ∀ (z : Fin 1) (s : Fin 256), P2 (ix2 z s) = g 2 s.val) (h1 : ∀ (z : Fin 1) (s : Fin 256), P1 (ix2 z s) = g 1 s.val)
    (h0 : ∀ (z : Fin 1) (s : Fin 256), P0 (ix2 z s) = g 0 s.val) :
    v.read (Elt Ideal) (v.writes (Elt Ideal) f [⟨Rect.unit ![2, 0] S1x256.size inb2, P2⟩, ⟨Rect.unit ![1, 0] S1x256.size inb1, P1⟩,
      ⟨Rect.unit ![0, 0] S1x256.size inb0, P0⟩]) = m2 g := by
  have t2 := Tiles.unit2 (n0 := 3) (n1 := 256) (k0 := 1) (k1 := 256) (Val := Elt Ideal) (e := .f32) (off := ![2, 0]) (o0 := 2) (o1 := 0) rfl (inb := inb2)
    (w := P2) (g := g) (fun z s => by simp only [h2 z s, Fin.val_eq_zero z, Nat.zero_add, Nat.add_zero])
  have t1 := Tiles.unit2 (n0 := 3) (n1 := 256) (k0 := 1) (k1 := 256) (Val := Elt Ideal) (e := .f32) (off := ![1, 0]) (o0 := 1) (o1 := 0) rfl (inb := inb1)
    (w := P1) (g := g) (fun z s => by simp only [h1 z s, Fin.val_eq_zero z, Nat.zero_add, Nat.add_zero])
  have t0 := Tiles.unit2 (n0 := 3) (n1 := 256) (k0 := 1) (k1 := 256) (Val := Elt Ideal) (e := .f32) (off := ![0, 0]) (o0 := 0) (o1 := 0) rfl (inb := inb0)
    (w := P0) (g := g) (fun z s => by simp only [h0 z s, Fin.val_eq_zero z, Nat.zero_add, Nat.add_zero])
  refine ((Tiles.cons t2 (Tiles.cons t1 t0)).mono fun y _ => ?_).read v f
  have h0 : (y 0).val < 3 := (y 0).isLt
  have h1 : (y 1).val < 256 := (y 1).isLt
  dsimp only
  omega

/-- Three stores of a plane each fill an array of three planes. -/
theorem planes3 {sig : RefSig} {κ : Kind} {sp : Space} (v : View sig κ sp S3x48x256 .f32) (f : v.ty.Contents (Elt Ideal)) (P2 P1 P0 : Vec Ideal S1x48x256 .f32)
    (inb2 : ∀ a, (![2, 0, 0] : Fin 3 → ℕ) a + S1x48x256.size a ≤ S3x48x256.size a) (inb1 : ∀ a, (![1, 0, 0] : Fin 3 → ℕ) a + S1x48x256.size a ≤ S3x48x256.size a)
    (inb0 : ∀ a, (![0, 0, 0] : Fin 3 → ℕ) a + S1x48x256.size a ≤ S3x48x256.size a) (g : ℕ → ℕ → ℕ → EReal)
    (h2 : ∀ (z : Fin 1) (p : Fin 48) (s : Fin 256), P2 (ix3 z p s) = g 2 p.val s.val)
    (h1 : ∀ (z : Fin 1) (p : Fin 48) (s : Fin 256), P1 (ix3 z p s) = g 1 p.val s.val)
    (h0 : ∀ (z : Fin 1) (p : Fin 48) (s : Fin 256), P0 (ix3 z p s) = g 0 p.val s.val) :
    v.read (Elt Ideal) (v.writes (Elt Ideal) f [⟨Rect.unit ![2, 0, 0] S1x48x256.size inb2, P2⟩, ⟨Rect.unit ![1, 0, 0] S1x48x256.size inb1, P1⟩,
      ⟨Rect.unit ![0, 0, 0] S1x48x256.size inb0, P0⟩]) = m3 g := by
  have t2 := Tiles.unit3 (n0 := 3) (n1 := 48) (n2 := 256) (k0 := 1) (k1 := 48) (k2 := 256) (Val := Elt Ideal) (e := .f32) (off := ![2, 0, 0]) (o0 := 2) (o1 := 0) (o2 := 0)
    rfl (inb := inb2) (w := P2) (g := g) (fun z p s => by simp only [h2 z p s, Fin.val_eq_zero z, Nat.zero_add, Nat.add_zero])
  have t1 := Tiles.unit3 (n0 := 3) (n1 := 48) (n2 := 256) (k0 := 1) (k1 := 48) (k2 := 256) (Val := Elt Ideal) (e := .f32) (off := ![1, 0, 0]) (o0 := 1) (o1 := 0) (o2 := 0)
    rfl (inb := inb1) (w := P1) (g := g) (fun z p s => by simp only [h1 z p s, Fin.val_eq_zero z, Nat.zero_add, Nat.add_zero])
  have t0 := Tiles.unit3 (n0 := 3) (n1 := 48) (n2 := 256) (k0 := 1) (k1 := 48) (k2 := 256) (Val := Elt Ideal) (e := .f32) (off := ![0, 0, 0]) (o0 := 0) (o1 := 0) (o2 := 0)
    rfl (inb := inb0) (w := P0) (g := g) (fun z p s => by simp only [h0 z p s, Fin.val_eq_zero z, Nat.zero_add, Nat.add_zero])
  refine ((Tiles.cons t2 (Tiles.cons t1 t0)).mono fun y _ => ?_).read v f
  have h0 : (y 0).val < 3 := (y 0).isLt
  have h1 : (y 1).val < 48 := (y 1).isLt
  have h2 : (y 2).val < 256 := (y 2).isLt
  dsimp only
  omega

/-! ## A batch's scales, and its angles -/

/-- A batch's part of the column of scales. -/
theorem col {sig : RefSig} {κ : Kind} {sp : Space} (v : View sig κ sp S768x128 .f32) {off : Fin 2 → ℕ} (o : ℕ) (ho : off = ![o, 0])
    (inb : ∀ a, off a + S256x128.size a ≤ S768x128.size a) (X : v.ty.Contents (Elt Ideal)) (F : ℕ → EReal) (hF : v.read (Elt Ideal) X = m2 fun r _ => F r)
    (hoo : o ≤ 512) (s : Fin 256) :
    v.readAt (Elt Ideal) (Rect.unit (s := S768x128) off S256x128.size inb).toLoadRect X (ix2 s 0) = F (o + s.val) := by
  refine (readAtU2 v ho inb X s (0 : Fin 128)).trans ?_
  rw [hF]
  exact g2_m2 _ (by have := s.isLt; omega) (by show 0 + 0 < 128; omega)

/-- A batch's angle. -/
theorem angle {sig : RefSig} {κ : Kind} {sp : Space} (v : View sig κ sp S3x256 .i32) (w : View sig κ sp S48x128 .f32) {off : Fin 2 → ℕ} (o : ℕ) (ho : off = ![o, 0])
    (inb : ∀ a, off a + S1x256.size a ≤ S3x256.size a) (X : v.ty.Contents (Elt Ideal)) (x2 : Vec Ideal S3x256 .i32) (h2 : v.read (Elt Ideal) X = x2)
    (inb' : ∀ a, (![0, 0] : Fin 2 → ℕ) a + S48x1.size a ≤ S48x128.size a) (Y : w.ty.Contents (Elt Ideal)) (x3 : Vec Ideal S48x128 .f32) (h3 : w.read (Elt Ideal) Y = x3)
    (p : Fin 48) (s : Fin 256) :
    FloatOps.sitofp (F := Ideal) FTy.f32 ((v.readAt (Elt Ideal) (Rect.unit (s := S3x256) off S1x256.size inb).toLoadRect X : Vec Ideal S1x256 .i32) (ix2 0 s))
      * (w.readAt (Elt Ideal) (Rect.unit (s := S48x128) ![0, 0] S48x1.size inb').toLoadRect Y : Vec Ideal S48x1 .f32) (ix2 p 0) = ang x2 x3 o p.val s.val := by
  have e2 := readAtU2 v ho inb X (0 : Fin 1) s
  have e3 := readAtU2 w (o0 := 0) (o1 := 0) rfl inb' Y p (0 : Fin 1)
  rw [h2] at e2
  rw [h3] at e3
  refine (congrArg₂ (· * ·) (congrArg (FloatOps.sitofp (F := Ideal) FTy.f32) e2) e3).trans ?_
  show FloatOps.sitofp (F := Ideal) FTy.f32 (g2 x2 (o + 0) (0 + s.val)) * g2 x3 (0 + p.val) (0 + 0) = _
  rw [Nat.zero_add, Nat.zero_add]
  rfl

end Cert.KernelIdeal.Gen

end
-- ==== Proof.KRunA.lean ====
/- The first grid point quantises the activations, tabulates the angles and writes the first query tile. -/
module

public import proofs.«01_k».proof.Proof.Conds
public import proofs.«01_k».proof.Proof.RunLib

@[expose] public section

-- membership in a rectangle of production extents (`View.cover_of_tiled`): the elaborator's structural look
-- recurses once per coordinate of the long axes
set_option maxRecDepth 16384

noncomputable section

namespace Cert.KernelIdeal.Gen

open Cert.Nat01
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: the definition's epilogue — `abstractNestedProofs` — walks it past the default budget)
set_option backward.proofsInPublic true in
set_option maxHeartbeats 4000000 in
/-- The first grid point quantises the activations, tabulates the angles and writes the first query tile. -/
theorem run_A (c : Dev nD) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole) (hc0 : cond0_0 i) (hc1 : cond0_1 i) (hc2 : ¬cond0_2 i) (hc3 : ¬cond0_3 i)
    (x0 : Vec Ideal S768x3072 .bf16) (x1 : Vec Ideal S1x3072 .f32) (x2 : Vec Ideal S3x256 .i32) (x3 : Vec Ideal S48x128 .f32) (x4 : Vec Ideal S96x16x128 .i8) (x5 : Vec Ideal S96x16x128 .i8) (x6 : Vec Ideal S96x16x128 .i8) (x7 : Vec Ideal S96x16x128 .i8) (x8 : Vec Ideal S96x16x128 .i8) (x9 : Vec Ideal S96x16x128 .i8) (x10 : Vec Ideal S1x1x256 .f32)
    :
      ∀ (xi12 : Vec Ideal S3x256x256 .bf16) (xi13 : Vec Ideal S3x256x256 .bf16) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xi12 ∗ owns (c : Thread nD τ) arg14 fullShare xi13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (qV (xbV x0 x1) x4 x5 x10 (srV x0 x1) (csV x2 x3) (snV x2 x3) (i 0).val) ∗ owns (c : Thread nD τ) arg13 fullShare xi12 ∗ owns (c : Thread nD τ) arg14 fullShare xi13 ∗ owns (c : Thread nD τ) arg15 fullShare (cdV x0 x1) ∗ owns (c : Thread nD τ) arg16 fullShare (srV x0 x1) ∗ owns (c : Thread nD τ) arg17 fullShare (xbV x0 x1) ∗ (∃ d, owns (c : Thread nD τ) arg18 fullShare d) ∗ (∃ d, owns (c : Thread nD τ) arg19 fullShare d) ∗ owns (c : Thread nD τ) arg20 fullShare (srV x0 x1) ∗ owns (c : Thread nD τ) arg21 fullShare (csV x2 x3) ∗ owns (c : Thread nD τ) arg22 fullShare (snV x2 x3) ∗ (∃ d, owns (c : Thread nD τ) arg23 fullShare d)) -∗ K ⟨⟩))
          ⊢ wp frame (wpE (defs₀ (F := Ideal)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro xi12 xi13 E K
  case _ =>
    simp only [cc0_qkv_eq_skeleton]; unfold cc0_qkv_skel
    simp only [k0_part2_eq_skeleton, k0_part3_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%d14, %f14, -, H14⟩, ⟨%d15, %f15, -, H15⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12; obtain rfl := harg14.eq_unread hf13
    have hrd0 : ∀ (𝒱 : Variants) (c : Dev nD) (bd : Option 𝒱.V) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole) (k0_h1 : k0_cond1 i = 1#1) (X_arg1 : BufTy.Contents (Elt Ideal) arg1.view.ty) (X_arg2 : BufTy.Contents (Elt Ideal) arg2.view.ty) (hrdF : BufTy.Contents (Elt Ideal) arg19.view.ty) (hrdB : LoadRect S768x128), arg19.view.readAt (Elt Ideal) hrdB (arg19.view.writes (Elt Ideal) hrdF (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 (Scf.trips k0_t1_loop.lb k0_t1_loop.ub k0_t1_loop.st)).2.2) = arg19.view.readCov (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 (Scf.trips k0_t1_loop.lb k0_t1_loop.ub k0_t1_loop.st)).2.2 hrdB := fun 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 hrdF hrdB => View.readAt_writes_of_cover _ hrdF _ hrdB (fun hrdJ => View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 k0_h1 X_arg1 X_arg2 (Scf.trips k0_t1_loop.lb k0_t1_loop.ub k0_t1_loop.st)).2.2 S32x128.size (by sl_kernel_rfl) (hrdB.idx hrdJ))
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro
      have h17 := (tiles_t1_2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (harg1.unread x0) (harg2.unread x1)).read arg17.view fs0
      rw [harg1.read_unread, harg2.read_unread] at h17
      have h19 := (tiles_t1_3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (harg1.unread x0) (harg2.unread x1)).read arg19.view arg19.view.junk
      rw [harg1.read_unread, harg2.read_unread] at h19
      refine out_q _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (xbV x0 x1) x4 x5 x10 (srV x0 x1) (csV x2 x3) (snV x2 x3) ?_ ?_ ?_ ?_ ?_ ?_ ?_ ?_ ?_ ?_ ?_
      · exact ld2 arg20.view (o0 := 0) (o1 := 0) rfl _ _ (Y := srV x0 x1) (rows3 arg20.view _ _ _ _ _ _ _ (fun b s => scl x0 x1 (256 * b + s))
            (fun z s => (pay30_ix _ z s).trans (col arg19.view 512 rfl _ _ _ h19 (by omega) s))
            (fun z s => ((pay25_ix _ z s).trans (pay24_ix _ z s)).trans (col arg19.view 256 rfl _ _ _ h19 (by omega) s))
            (fun z s => (pay20_ix _ z s).trans (col arg19.view 0 rfl _ _ _ h19 (by omega) s)))
      · exact ld2 arg20.view (o0 := 0) (o1 := 128) rfl _ _ (Y := srV x0 x1) (rows3 arg20.view _ _ _ _ _ _ _ (fun b s => scl x0 x1 (256 * b + s))
            (fun z s => (pay30_ix _ z s).trans (col arg19.view 512 rfl _ _ _ h19 (by omega) s))
            (fun z s => ((pay25_ix _ z s).trans (pay24_ix _ z s)).trans (col arg19.view 256 rfl _ _ _ h19 (by omega) s))
            (fun z s => (pay20_ix _ z s).trans (col arg19.view 0 rfl _ _ _ h19 (by omega) s)))
      · exact ld2 arg20.view (o0 := 1) (o1 := 0) rfl _ _ (Y := srV x0 x1) (rows3 arg20.view _ _ _ _ _ _ _ (fun b s => scl x0 x1 (256 * b + s))
            (fun z s => (pay30_ix _ z s).trans (col arg19.view 512 rfl _ _ _ h19 (by omega) s))
            (fun z s => ((pay25_ix _ z s).trans (pay24_ix _ z s)).trans (col arg19.view 256 rfl _ _ _ h19 (by omega) s))
            (fun z s => (pay20_ix _ z s).trans (col arg19.view 0 rfl _ _ _ h19 (by omega) s)))
      · exact ld2 arg20.view (o0 := 1) (o1 := 128) rfl _ _ (Y := srV x0 x1) (rows3 arg20.view _ _ _ _ _ _ _ (fun b s => scl x0 x1 (256 * b + s))
            (fun z s => (pay30_ix _ z s).trans (col arg19.view 512 rfl _ _ _ h19 (by omega) s))
            (fun z s => ((pay25_ix _ z s).trans (pay24_ix _ z s)).trans (col arg19.view 256 rfl _ _ _ h19 (by omega) s))
            (fun z s => (pay20_ix _ z s).trans (col arg19.view 0 rfl _ _ _ h19 (by omega) s)))
      · exact ld2 arg20.view (o0 := 2) (o1 := 0) rfl _ _ (Y := srV x0 x1) (rows3 arg20.view _ _ _ _ _ _ _ (fun b s => scl x0 x1 (256 * b + s))
            (fun z s => (pay30_ix _ z s).trans (col arg19.view 512 rfl _ _ _ h19 (by omega) s))
            (fun z s => ((pay25_ix _ z s).trans (pay24_ix _ z s)).trans (col arg19.view 256 rfl _ _ _ h19 (by omega) s))
            (fun z s => (pay20_ix _ z s).trans (col arg19.view 0 rfl _ _ _ h19 (by omega) s)))
      · exact ld2 arg20.view (o0 := 2) (o1 := 128) rfl _ _ (Y := srV x0 x1) (rows3 arg20.view _ _ _ _ _ _ _ (fun b s => scl x0 x1 (256 * b + s))
            (fun z s => (pay30_ix _ z s).trans (col arg19.view 512 rfl _ _ _ h19 (by omega) s))
            (fun z s => ((pay25_ix _ z s).trans (pay24_ix _ z s)).trans (col arg19.view 256 rfl _ _ _ h19 (by omega) s))
            (fun z s => (pay20_ix _ z s).trans (col arg19.view 0 rfl _ _ _ h19 (by omega) s)))
      · exact planes3 arg21.view _ _ _ _ _ _ _ (fun b p s => Ideal.cos (ang x2 x3 b p s))
            (fun z p s => (pay1_ix _ _ z p s).trans (congrArg Ideal.cos (angle arg3.view arg4.view 2 rfl _ _ x2 (harg3.read_unread x2) _ _ x3 (harg4.read_unread x3) p s)))
            (fun z p s => (pay27_ix _ _ z p s).trans (congrArg Ideal.cos (angle arg3.view arg4.view 1 rfl _ _ x2 (harg3.read_unread x2) _ _ x3 (harg4.read_unread x3) p s)))
            (fun z p s => (pay22_ix _ _ z p s).trans (congrArg Ideal.cos (angle arg3.view arg4.view 0 rfl _ _ x2 (harg3.read_unread x2) _ _ x3 (harg4.read_unread x3) p s)))
      · exact planes3 arg22.view _ _ _ _ _ _ _ (fun b p s => Ideal.sin (ang x2 x3 b p s))
            (fun z p s => (pay2_ix _ _ z p s).trans (congrArg Ideal.sin (angle arg3.view arg4.view 2 rfl _ _ x2 (harg3.read_unread x2) _ _ x3 (harg4.read_unread x3) p s)))
            (fun z p s => (pay28_ix _ _ z p s).trans (congrArg Ideal.sin (angle arg3.view arg4.view 1 rfl _ _ x2 (harg3.read_unread x2) _ _ x3 (harg4.read_unread x3) p s)))
            (fun z p s => (pay23_ix _ _ z p s).trans (congrArg Ideal.sin (angle arg3.view arg4.view 0 rfl _ _ x2 (harg3.read_unread x2) _ _ x3 (harg4.read_unread x3) p s)))
      · exact tbuf arg23.view _ _ _ _ _ _ (tfun (xbV x0 x1) x4 x5 x10 0)
          (tile58 (o := 0) (bt := 0) rfl (ld2 arg17.view (o0 := 0) (o1 := 0) rfl _ _ (Y := xbV x0 x1) h17) (w_q _ _ _ _ _ _ _ _ _ _ _ _ _ _ _ _ _ _ _ _ _ _ _ _ _ _ _ _ _ _ _ _ _ _ _ _ _ _ _ _ _ _ _ _ _ _ _ _ _ _ _ hc1 _ _ _ x4 x5 (harg5.read_unread x4) (harg6.read_unread x5) _) (ld3 arg11.view (o0 := 0) (o1 := 0) (o2 := 0) rfl _ _ (harg11.read_unread x10)))
          (tile57 (o := 0) (bt := 0) rfl (ld2 arg17.view (o0 := 0) (o1 := 0) rfl _ _ (Y := xbV x0 x1) h17) (w_q _ _ _ _ _ _ _ _ _ _ _ _ _ _ _ _ _ _ _ _ _ _ _ _ _ _ _ _ _ _ _ _ _ _ _ _ _ _ _ _ _ _ _ _ _ _ _ _ _ _ _ hc1 _ _ _ x4 x5 (harg5.read_unread x4) (harg6.read_unread x5) _) (ld3 arg11.view (o0 := 0) (o1 := 0) (o2 := 0) rfl _ _ (harg11.read_unread x10)))
      · exact tbuf arg23.view _ _ _ _ _ _ (tfun (xbV x0 x1) x4 x5 x10 1)
          (tile61 (o := 256) (bt := 1) rfl (ld2 arg17.view (o0 := 256) (o1 := 0) rfl _ _ (Y := xbV x0 x1) h17) (w_q _ _ _ _ _ _ _ _ _ _ _ _ _ _ _ _ _ _ _ _ _ _ _ _ _ _ _ _ _ _ _ _ _ _ _ _ _ _ _ _ _ _ _ _ _ _ _ _ _ _ _ hc1 _ _ _ x4 x5 (harg5.read_unread x4) (harg6.read_unread x5) _) (scale55 (ld3 arg11.view (o0 := 0) (o1 := 0) (o2 := 0) rfl _ _ (harg11.read_unread x10))))
          (tile60 (o := 256) (bt := 1) rfl (ld2 arg17.view (o0 := 256) (o1 := 0) rfl _ _ (Y := xbV x0 x1) h17) (w_q _ _ _ _ _ _ _ _ _ _ _ _ _ _ _ _ _ _ _ _ _ _ _ _ _ _ _ _ _ _ _ _ _ _ _ _ _ _ _ _ _ _ _ _ _ _ _ _ _ _ _ hc1 _ _ _ x4 x5 (harg5.read_unread x4) (harg6.read_unread x5) _) (scale55 (ld3 arg11.view (o0 := 0) (o1 := 0) (o2 := 0) rfl _ _ (harg11.read_unread x10))))
      · exact tbuf arg23.view _ _ _ _ _ _ (tfun (xbV x0 x1) x4 x5 x10 2)
          (tile5 (o := 512) (bt := 2) rfl (ld2 arg17.view (o0 := 512) (o1 := 0) rfl _ _ (Y := xbV x0 x1) h17) (w_q _ _ _ _ _ _ _ _ _ _ _ _ _ _ _ _ _ _ _ _ _ _ _ _ _ _ _ _ _ _ _ _ _ _ _ _ _ _ _ _ _ _ _ _ _ _ _ _ _ _ _ hc1 _ _ _ x4 x5 (harg5.read_unread x4) (harg6.read_unread x5) _) (scale55 (ld3 arg11.view (o0 := 0) (o1 := 0) (o2 := 0) rfl _ _ (harg11.read_unread x10))))
          (tile4 (o := 512) (bt := 2) rfl (ld2 arg17.view (o0 := 512) (o1 := 0) rfl _ _ (Y := xbV x0 x1) h17) (w_q _ _ _ _ _ _ _ _ _ _ _ _ _ _ _ _ _ _ _ _ _ _ _ _ _ _ _ _ _ _ _ _ _ _ _ _ _ _ _ _ _ _ _ _ _ _ _ _ _ _ _ hc1 _ _ _ x4 x5 (harg5.read_unread x4) (harg6.read_unread x5) _) (scale55 (ld3 arg11.view (o0 := 0) (o1 := 0) (o2 := 0) rfl _ _ (harg11.read_unread x10))))
    isplitl [H12]
    · iexists _; isplitr; · ipureintro; exact harg13.read_unread _
      iexact H12
    isplitl [H13]
    · iexists _; isplitr; · ipureintro; exact harg14.read_unread _
      iexact H13
    isplitl [H14]
    · iexists _; isplitr; swap; · iexact H14
      ipureintro
      have h := (tiles_t1_1 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (harg1.unread x0) (harg2.unread x1)).read arg15.view f14
      rw [harg1.read_unread, harg2.read_unread] at h
      exact h
    isplitl [H15]
    · iexists _; isplitr; swap; · iexact H15
      ipureintro
      have h19 := (tiles_t1_3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (harg1.unread x0) (harg2.unread x1)).read arg19.view arg19.view.junk
      rw [harg1.read_unread, harg2.read_unread] at h19
      exact rows3 arg16.view _ _ _ _ _ _ _ (fun b s => scl x0 x1 (256 * b + s))
        (fun z s => (pay29_ix _ z s).trans (col arg19.view 512 rfl _ _ _ h19 (by omega) s))
        (fun z s => (pay24_ix _ z s).trans (col arg19.view 256 rfl _ _ _ h19 (by omega) s))
        (fun z s => (pay19_ix _ z s).trans (col arg19.view 0 rfl _ _ _ h19 (by omega) s))
    isplitl [HS0]
    · iexists _; isplitr; swap; · iexact HS0
      ipureintro
      have h17 := (tiles_t1_2 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (harg1.unread x0) (harg2.unread x1)).read arg17.view fs0
      rw [harg1.read_unread, harg2.read_unread] at h17
      exact h17
    isplitl [HS1]
    · iexists _, _; isplitr; swap; · iexact HS1
      ipureintro; rfl
    isplitl [HS2]
    · iexists _, _; isplitr; swap; · iexact HS2
      ipureintro; rfl
    isplitl [HS3]
    · iexists _; isplitr; swap; · iexact HS3
      ipureintro
      have h19 := (tiles_t1_3 Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 (harg1.unread x0) (harg2.unread x1)).read arg19.view arg19.view.junk
      rw [harg1.read_unread, harg2.read_unread] at h19
      exact rows3 arg20.view _ _ _ _ _ _ _ (fun b s => scl x0 x1 (256 * b + s))
        (fun z s => (pay30_ix _ z s).trans (col arg19.view 512 rfl _ _ _ h19 (by omega) s))
        (fun z s => ((pay25_ix _ z s).trans (pay24_ix _ z s)).trans (col arg19.view 256 rfl _ _ _ h19 (by omega) s))
        (fun z s => (pay20_ix _ z s).trans (col arg19.view 0 rfl _ _ _ h19 (by omega) s))
    isplitl [HS4]
    · iexists _; isplitr; swap; · iexact HS4
      ipureintro
      exact planes3 arg21.view _ _ _ _ _ _ _ (fun b p s => Ideal.cos (ang x2 x3 b p s))
        (fun z p s => (pay1_ix _ _ z p s).trans (congrArg Ideal.cos (angle arg3.view arg4.view 2 rfl _ _ x2 (harg3.read_unread x2) _ _ x3 (harg4.read_unread x3) p s)))
        (fun z p s => (pay27_ix _ _ z p s).trans (congrArg Ideal.cos (angle arg3.view arg4.view 1 rfl _ _ x2 (harg3.read_unread x2) _ _ x3 (harg4.read_unread x3) p s)))
        (fun z p s => (pay22_ix _ _ z p s).trans (congrArg Ideal.cos (angle arg3.view arg4.view 0 rfl _ _ x2 (harg3.read_unread x2) _ _ x3 (harg4.read_unread x3) p s)))
    isplitl [HS5]
    · iexists _; isplitr; swap; · iexact HS5
      ipureintro
      exact planes3 arg22.view _ _ _ _ _ _ _ (fun b p s => Ideal.sin (ang x2 x3 b p s))
        (fun z p s => (pay2_ix _ _ z p s).trans (congrArg Ideal.sin (angle arg3.view arg4.view 2 rfl _ _ x2 (harg3.read_unread x2) _ _ x3 (harg4.read_unread x3) p s)))
        (fun z p s => (pay28_ix _ _ z p s).trans (congrArg Ideal.sin (angle arg3.view arg4.view 1 rfl _ _ x2 (harg3.read_unread x2) _ _ x3 (harg4.read_unread x3) p s)))
        (fun z p s => (pay23_ix _ _ z p s).trans (congrArg Ideal.sin (angle arg3.view arg4.view 0 rfl _ _ x2 (harg3.read_unread x2) _ _ x3 (harg4.read_unread x3) p s)))
    iexists _, _; isplitr; swap; · iexact HS6
    ipureintro; rfl

end Cert.KernelIdeal.Gen

end
-- ==== Proof.KRunB.lean ====
/- A later query point writes its query tile. -/
module

public import proofs.«01_k».proof.Proof.Conds
public import proofs.«01_k».proof.Proof.RunLib

@[expose] public section

-- membership in a rectangle of production extents (`View.cover_of_tiled`): the elaborator's structural look
-- recurses once per coordinate of the long axes
set_option maxRecDepth 16384

noncomputable section

namespace Cert.KernelIdeal.Gen

open Cert.Nat01
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: the definition's epilogue — `abstractNestedProofs` — walks it past the default budget)
set_option maxHeartbeats 4000000 in
/-- A later query point writes its query tile. -/
theorem run_B (c : Dev nD) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole) (hc0 : ¬cond0_0 i) (hc1 : cond0_1 i) (hc2 : ¬cond0_2 i) (hc3 : ¬cond0_3 i)
    (x0 : Vec Ideal S768x3072 .bf16) (x1 : Vec Ideal S1x3072 .f32) (x2 : Vec Ideal S3x256 .i32) (x3 : Vec Ideal S48x128 .f32) (x4 : Vec Ideal S96x16x128 .i8) (x5 : Vec Ideal S96x16x128 .i8) (x6 : Vec Ideal S96x16x128 .i8) (x7 : Vec Ideal S96x16x128 .i8) (x8 : Vec Ideal S96x16x128 .i8) (x9 : Vec Ideal S96x16x128 .i8) (x10 : Vec Ideal S1x1x256 .f32) (xs0 : Vec Ideal S768x3072 .bf16) (xs3 : Vec Ideal S3x256 .f32) (xs4 : Vec Ideal S3x48x256 .f32) (xs5 : Vec Ideal S3x48x256 .f32)
    :
      ∀ (xi12 : Vec Ideal S3x256x256 .bf16) (xi13 : Vec Ideal S3x256x256 .bf16) (xi14 : Vec Ideal S768x3072 .i8) (xi15 : Vec Ideal S3x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ owns (c : Thread nD τ) arg13 fullShare xi12 ∗ owns (c : Thread nD τ) arg14 fullShare xi13 ∗ owns (c : Thread nD τ) arg15 fullShare xi14 ∗ owns (c : Thread nD τ) arg16 fullShare xi15 ∗ owns (c : Thread nD τ) arg17 fullShare xs0 ∗ (∃ d, owns (c : Thread nD τ) arg18 fullShare d) ∗ (∃ d, owns (c : Thread nD τ) arg19 fullShare d) ∗ owns (c : Thread nD τ) arg20 fullShare xs3 ∗ owns (c : Thread nD τ) arg21 fullShare xs4 ∗ owns (c : Thread nD τ) arg22 fullShare xs5 ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (qV xs0 x4 x5 x10 xs3 xs4 xs5 (i 0).val) ∗ owns (c : Thread nD τ) arg13 fullShare xi12 ∗ owns (c : Thread nD τ) arg14 fullShare xi13 ∗ owns (c : Thread nD τ) arg15 fullShare xi14 ∗ owns (c : Thread nD τ) arg16 fullShare xi15 ∗ owns (c : Thread nD τ) arg17 fullShare xs0 ∗ (∃ d, owns (c : Thread nD τ) arg18 fullShare d) ∗ (∃ d, owns (c : Thread nD τ) arg19 fullShare d) ∗ owns (c : Thread nD τ) arg20 fullShare xs3 ∗ owns (c : Thread nD τ) arg21 fullShare xs4 ∗ owns (c : Thread nD τ) arg22 fullShare xs5 ∗ (∃ d, owns (c : Thread nD τ) arg23 fullShare d)) -∗ K ⟨⟩))
          ⊢ wp frame (wpE (defs₀ (F := Ideal)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro xi12 xi13 xi14 xi15 E K
  case _ =>
    simp only [cc0_qkv_eq_skeleton]; unfold cc0_qkv_skel
    simp only [k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, ⟨%f14, %hf14, H14⟩, ⟨%f15, %hf15, H15⟩, ⟨%fs0, %hfs0, HS0⟩, ⟨%ds1, %fs1, -, HS1⟩, ⟨%ds2, %fs2, -, HS2⟩, ⟨%fs3, %hfs3, HS3⟩, ⟨%fs4, %hfs4, HS4⟩, ⟨%fs5, %hfs5, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hf12; obtain rfl := harg14.eq_unread hf13; obtain rfl := harg15.eq_unread hf14; obtain rfl := harg16.eq_unread hf15; obtain rfl := harg17.eq_unread hfs0; obtain rfl := harg20.eq_unread hfs3; obtain rfl := harg21.eq_unread hfs4; obtain rfl := harg22.eq_unread hfs5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro
      refine out_q _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ xs0 x4 x5 x10 xs3 xs4 xs5 ?_ ?_ ?_ ?_ ?_ ?_ ?_ ?_ ?_ ?_ ?_
      · exact ld2 arg20.view (o0 := 0) (o1 := 0) rfl _ _ (harg20.read_unread xs3)
      · exact ld2 arg20.view (o0 := 0) (o1 := 128) rfl _ _ (harg20.read_unread xs3)
      · exact ld2 arg20.view (o0 := 1) (o1 := 0) rfl _ _ (harg20.read_unread xs3)
      · exact ld2 arg20.view (o0 := 1) (o1 := 128) rfl _ _ (harg20.read_unread xs3)
      · exact ld2 arg20.view (o0 := 2) (o1 := 0) rfl _ _ (harg20.read_unread xs3)
      · exact ld2 arg20.view (o0 := 2) (o1 := 128) rfl _ _ (harg20.read_unread xs3)
      · exact harg21.read_unread xs4
      · exact harg22.read_unread xs5
      · exact tbuf arg23.view _ _ _ _ _ _ (tfun xs0 x4 x5 x10 0)
          (tile58 (o := 0) (bt := 0) rfl (ld2 arg17.view (o0 := 0) (o1 := 0) rfl _ _ (harg17.read_unread xs0)) (w_q _ _ _ _ _ _ _ _ _ _ _ _ _ _ _ _ _ _ _ _ _ _ _ _ _ _ _ _ _ _ _ _ _ _ _ _ _ _ _ _ _ _ _ _ _ _ _ _ _ _ _ hc1 _ _ _ x4 x5 (harg5.read_unread x4) (harg6.read_unread x5) _) (ld3 arg11.view (o0 := 0) (o1 := 0) (o2 := 0) rfl _ _ (harg11.read_unread x10)))
          (tile57 (o := 0) (bt := 0) rfl (ld2 arg17.view (o0 := 0) (o1 := 0) rfl _ _ (harg17.read_unread xs0)) (w_q _ _ _ _ _ _ _ _ _ _ _ _ _ _ _ _ _ _ _ _ _ _ _ _ _ _ _ _ _ _ _ _ _ _ _ _ _ _ _ _ _ _ _ _ _ _ _ _ _ _ _ hc1 _ _ _ x4 x5 (harg5.read_unread x4) (harg6.read_unread x5) _) (ld3 arg11.view (o0 := 0) (o1 := 0) (o2 := 0) rfl _ _ (harg11.read_unread x10)))
      · exact tbuf arg23.view _ _ _ _ _ _ (tfun xs0 x4 x5 x10 1)
          (tile61 (o := 256) (bt := 1) rfl (ld2 arg17.view (o0 := 256) (o1 := 0) rfl _ _ (harg17.read_unread xs0)) (w_q _ _ _ _ _ _ _ _ _ _ _ _ _ _ _ _ _ _ _ _ _ _ _ _ _ _ _ _ _ _ _ _ _ _ _ _ _ _ _ _ _ _ _ _ _ _ _ _ _ _ _ hc1 _ _ _ x4 x5 (harg5.read_unread x4) (harg6.read_unread x5) _) (scale55 (ld3 arg11.view (o0 := 0) (o1 := 0) (o2 := 0) rfl _ _ (harg11.read_unread x10))))
          (tile60 (o := 256) (bt := 1) rfl (ld2 arg17.view (o0 := 256) (o1 := 0) rfl _ _ (harg17.read_unread xs0)) (w_q _ _ _ _ _ _ _ _ _ _ _ _ _ _ _ _ _ _ _ _ _ _ _ _ _ _ _ _ _ _ _ _ _ _ _ _ _ _ _ _ _ _ _ _ _ _ _ _ _ _ _ hc1 _ _ _ x4 x5 (harg5.read_unread x4) (harg6.read_unread x5) _) (scale55 (ld3 arg11.view (o0 := 0) (o1 := 0) (o2 := 0) rfl _ _ (harg11.read_unread x10))))
      · exact tbuf arg23.view _ _ _ _ _ _ (tfun xs0 x4 x5 x10 2)
          (tile5 (o := 512) (bt := 2) rfl (ld2 arg17.view (o0 := 512) (o1 := 0) rfl _ _ (harg17.read_unread xs0)) (w_q _ _ _ _ _ _ _ _ _ _ _ _ _ _ _ _ _ _ _ _ _ _ _ _ _ _ _ _ _ _ _ _ _ _ _ _ _ _ _ _ _ _ _ _ _ _ _ _ _ _ _ hc1 _ _ _ x4 x5 (harg5.read_unread x4) (harg6.read_unread x5) _) (scale55 (ld3 arg11.view (o0 := 0) (o1 := 0) (o2 := 0) rfl _ _ (harg11.read_unread x10))))
          (tile4 (o := 512) (bt := 2) rfl (ld2 arg17.view (o0 := 512) (o1 := 0) rfl _ _ (harg17.read_unread xs0)) (w_q _ _ _ _ _ _ _ _ _ _ _ _ _ _ _ _ _ _ _ _ _ _ _ _ _ _ _ _ _ _ _ _ _ _ _ _ _ _ _ _ _ _ _ _ _ _ _ _ _ _ _ hc1 _ _ _ x4 x5 (harg5.read_unread x4) (harg6.read_unread x5) _) (scale55 (ld3 arg11.view (o0 := 0) (o1 := 0) (o2 := 0) rfl _ _ (harg11.read_unread x10))))
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [HS0]
    · iexists _; isplitr; · ipureintro; exact harg17.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _; isplitr; · ipureintro; exact harg20.read_unread _
      iexact HS3
    isplitl [HS4]
    · iexists _; isplitr; · ipureintro; exact harg21.read_unread _
      iexact HS4
    isplitl [HS5]
    · iexists _; isplitr; · ipureintro; exact harg22.read_unread _
      iexact HS5
    iexists _, _; isplitr; swap; · iexact HS6
    ipureintro; rfl

end Cert.KernelIdeal.Gen

end
-- ==== Proof.KRunC.lean ====
/- A key point writes its key tile. -/
module

public import proofs.«01_k».proof.Proof.Conds
public import proofs.«01_k».proof.Proof.RunLib

@[expose] public section

-- membership in a rectangle of production extents (`View.cover_of_tiled`): the elaborator's structural look
-- recurses once per coordinate of the long axes
set_option maxRecDepth 16384

noncomputable section

namespace Cert.KernelIdeal.Gen

open Cert.Nat01
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: the definition's epilogue — `abstractNestedProofs` — walks it past the default budget)
set_option maxHeartbeats 4000000 in
/-- A key point writes its key tile. -/
theorem run_C (c : Dev nD) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole) (hc0 : ¬cond0_0 i) (hc1 : ¬cond0_1 i) (hc2 : cond0_2 i) (hc3 : ¬cond0_3 i)
    (x0 : Vec Ideal S768x3072 .bf16) (x1 : Vec Ideal S1x3072 .f32) (x2 : Vec Ideal S3x256 .i32) (x3 : Vec Ideal S48x128 .f32) (x4 : Vec Ideal S96x16x128 .i8) (x5 : Vec Ideal S96x16x128 .i8) (x6 : Vec Ideal S96x16x128 .i8) (x7 : Vec Ideal S96x16x128 .i8) (x8 : Vec Ideal S96x16x128 .i8) (x9 : Vec Ideal S96x16x128 .i8) (x10 : Vec Ideal S1x1x256 .f32) (xs0 : Vec Ideal S768x3072 .bf16) (xs3 : Vec Ideal S3x256 .f32) (xs4 : Vec Ideal S3x48x256 .f32) (xs5 : Vec Ideal S3x48x256 .f32)
    :
      ∀ (xi11 : Vec Ideal S3x256x256 .bf16) (xi13 : Vec Ideal S3x256x256 .bf16) (xi14 : Vec Ideal S768x3072 .i8) (xi15 : Vec Ideal S3x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ (∃ d, owns (c : Thread nD τ) arg13 fullShare d) ∗ owns (c : Thread nD τ) arg14 fullShare xi13 ∗ owns (c : Thread nD τ) arg15 fullShare xi14 ∗ owns (c : Thread nD τ) arg16 fullShare xi15 ∗ owns (c : Thread nD τ) arg17 fullShare xs0 ∗ (∃ d, owns (c : Thread nD τ) arg18 fullShare d) ∗ (∃ d, owns (c : Thread nD τ) arg19 fullShare d) ∗ owns (c : Thread nD τ) arg20 fullShare xs3 ∗ owns (c : Thread nD τ) arg21 fullShare xs4 ∗ owns (c : Thread nD τ) arg22 fullShare xs5 ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare (qV xs0 x6 x7 x10 xs3 xs4 xs5 ((i 0).val - 9)) ∗ owns (c : Thread nD τ) arg14 fullShare xi13 ∗ owns (c : Thread nD τ) arg15 fullShare xi14 ∗ owns (c : Thread nD τ) arg16 fullShare xi15 ∗ owns (c : Thread nD τ) arg17 fullShare xs0 ∗ (∃ d, owns (c : Thread nD τ) arg18 fullShare d) ∗ (∃ d, owns (c : Thread nD τ) arg19 fullShare d) ∗ owns (c : Thread nD τ) arg20 fullShare xs3 ∗ owns (c : Thread nD τ) arg21 fullShare xs4 ∗ owns (c : Thread nD τ) arg22 fullShare xs5 ∗ (∃ d, owns (c : Thread nD τ) arg23 fullShare d)) -∗ K ⟨⟩))
          ⊢ wp frame (wpE (defs₀ (F := Ideal)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro xi11 xi13 xi14 xi15 E K
  case _ =>
    simp only [cc0_qkv_eq_skeleton]; unfold cc0_qkv_skel
    simp only [k0_part22_eq_skeleton, k0_part23_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%fs0, %hfs0, HS0⟩, ⟨%ds1, %fs1, -, HS1⟩, ⟨%ds2, %fs2, -, HS2⟩, ⟨%fs3, %hfs3, HS3⟩, ⟨%fs4, %hfs4, HS4⟩, ⟨%fs5, %hfs5, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13; obtain rfl := harg15.eq_unread hf14; obtain rfl := harg16.eq_unread hf15; obtain rfl := harg17.eq_unread hfs0; obtain rfl := harg20.eq_unread hfs3; obtain rfl := harg21.eq_unread hfs4; obtain rfl := harg22.eq_unread hfs5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; swap; · iexact H12
      ipureintro
      refine out_k _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ xs0 x6 x7 x10 xs3 xs4 xs5 ?_ ?_ ?_ ?_ ?_ ?_ ?_ ?_ ?_ ?_ ?_
      · exact ld2 arg20.view (o0 := 0) (o1 := 0) rfl _ _ (harg20.read_unread xs3)
      · exact ld2 arg20.view (o0 := 0) (o1 := 128) rfl _ _ (harg20.read_unread xs3)
      · exact ld2 arg20.view (o0 := 1) (o1 := 0) rfl _ _ (harg20.read_unread xs3)
      · exact ld2 arg20.view (o0 := 1) (o1 := 128) rfl _ _ (harg20.read_unread xs3)
      · exact ld2 arg20.view (o0 := 2) (o1 := 0) rfl _ _ (harg20.read_unread xs3)
      · exact ld2 arg20.view (o0 := 2) (o1 := 128) rfl _ _ (harg20.read_unread xs3)
      · exact harg21.read_unread xs4
      · exact harg22.read_unread xs5
      · exact tbuf arg23.view _ _ _ _ _ _ (tfun xs0 x6 x7 x10 0)
          (tile88 (o := 0) (bt := 0) rfl (ld2 arg17.view (o0 := 0) (o1 := 0) rfl _ _ (harg17.read_unread xs0)) (w_k _ _ _ _ _ _ _ _ _ _ _ _ _ _ _ _ _ _ _ _ _ _ _ _ _ _ _ _ _ _ _ _ _ _ _ _ _ _ _ _ _ _ _ _ _ _ _ _ _ _ _ hc2 _ _ _ x6 x7 (harg7.read_unread x6) (harg8.read_unread x7) _) (ld3 arg11.view (o0 := 0) (o1 := 0) (o2 := 0) rfl _ _ (harg11.read_unread x10)))
          (tile87 (o := 0) (bt := 0) rfl (ld2 arg17.view (o0 := 0) (o1 := 0) rfl _ _ (harg17.read_unread xs0)) (w_k _ _ _ _ _ _ _ _ _ _ _ _ _ _ _ _ _ _ _ _ _ _ _ _ _ _ _ _ _ _ _ _ _ _ _ _ _ _ _ _ _ _ _ _ _ _ _ _ _ _ _ hc2 _ _ _ x6 x7 (harg7.read_unread x6) (harg8.read_unread x7) _) (ld3 arg11.view (o0 := 0) (o1 := 0) (o2 := 0) rfl _ _ (harg11.read_unread x10)))
      · exact tbuf arg23.view _ _ _ _ _ _ (tfun xs0 x6 x7 x10 1)
          (tile91 (o := 256) (bt := 1) rfl (ld2 arg17.view (o0 := 256) (o1 := 0) rfl _ _ (harg17.read_unread xs0)) (w_k _ _ _ _ _ _ _ _ _ _ _ _ _ _ _ _ _ _ _ _ _ _ _ _ _ _ _ _ _ _ _ _ _ _ _ _ _ _ _ _ _ _ _ _ _ _ _ _ _ _ _ hc2 _ _ _ x6 x7 (harg7.read_unread x6) (harg8.read_unread x7) _) (scale85 (ld3 arg11.view (o0 := 0) (o1 := 0) (o2 := 0) rfl _ _ (harg11.read_unread x10))))
          (tile90 (o := 256) (bt := 1) rfl (ld2 arg17.view (o0 := 256) (o1 := 0) rfl _ _ (harg17.read_unread xs0)) (w_k _ _ _ _ _ _ _ _ _ _ _ _ _ _ _ _ _ _ _ _ _ _ _ _ _ _ _ _ _ _ _ _ _ _ _ _ _ _ _ _ _ _ _ _ _ _ _ _ _ _ _ hc2 _ _ _ x6 x7 (harg7.read_unread x6) (harg8.read_unread x7) _) (scale85 (ld3 arg11.view (o0 := 0) (o1 := 0) (o2 := 0) rfl _ _ (harg11.read_unread x10))))
      · exact tbuf arg23.view _ _ _ _ _ _ (tfun xs0 x6 x7 x10 2)
          (tile8 (o := 512) (bt := 2) rfl (ld2 arg17.view (o0 := 512) (o1 := 0) rfl _ _ (harg17.read_unread xs0)) (w_k _ _ _ _ _ _ _ _ _ _ _ _ _ _ _ _ _ _ _ _ _ _ _ _ _ _ _ _ _ _ _ _ _ _ _ _ _ _ _ _ _ _ _ _ _ _ _ _ _ _ _ hc2 _ _ _ x6 x7 (harg7.read_unread x6) (harg8.read_unread x7) _) (scale85 (ld3 arg11.view (o0 := 0) (o1 := 0) (o2 := 0) rfl _ _ (harg11.read_unread x10))))
          (tile7 (o := 512) (bt := 2) rfl (ld2 arg17.view (o0 := 512) (o1 := 0) rfl _ _ (harg17.read_unread xs0)) (w_k _ _ _ _ _ _ _ _ _ _ _ _ _ _ _ _ _ _ _ _ _ _ _ _ _ _ _ _ _ _ _ _ _ _ _ _ _ _ _ _ _ _ _ _ _ _ _ _ _ _ _ hc2 _ _ _ x6 x7 (harg7.read_unread x6) (harg8.read_unread x7) _) (scale85 (ld3 arg11.view (o0 := 0) (o1 := 0) (o2 := 0) rfl _ _ (harg11.read_unread x10))))
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [HS0]
    · iexists _; isplitr; · ipureintro; exact harg17.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _; isplitr; · ipureintro; exact harg20.read_unread _
      iexact HS3
    isplitl [HS4]
    · iexists _; isplitr; · ipureintro; exact harg21.read_unread _
      iexact HS4
    isplitl [HS5]
    · iexists _; isplitr; · ipureintro; exact harg22.read_unread _
      iexact HS5
    iexists _, _; isplitr; swap; · iexact HS6
    ipureintro; rfl

end Cert.KernelIdeal.Gen

end
-- ==== Proof.KRunD.lean ====
/- A value point writes its value tile. -/
module

public import proofs.«01_k».proof.Proof.Conds
public import proofs.«01_k».proof.Proof.RunLib

@[expose] public section

-- membership in a rectangle of production extents (`View.cover_of_tiled`): the elaborator's structural look
-- recurses once per coordinate of the long axes
set_option maxRecDepth 16384

noncomputable section

namespace Cert.KernelIdeal.Gen

open Cert.Nat01
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: the definition's epilogue — `abstractNestedProofs` — walks it past the default budget)
set_option maxHeartbeats 4000000 in
/-- A value point writes its value tile. -/
theorem run_D (c : Dev nD) (i : grid0.Coords) (arg1 : Memref sig .tc .vmem S768x3072 .bf16) (harg1 : arg1.IsWhole) (arg2 : Memref sig .tc .vmem S1x3072 .f32) (harg2 : arg2.IsWhole) (arg3 : Memref sig .tc .vmem S3x256 .i32) (harg3 : arg3.IsWhole) (arg4 : Memref sig .tc .vmem S48x128 .f32) (harg4 : arg4.IsWhole) (arg5 : Memref sig .tc .vmem S96x16x128 .i8) (harg5 : arg5.IsWhole) (arg6 : Memref sig .tc .vmem S96x16x128 .i8) (harg6 : arg6.IsWhole) (arg7 : Memref sig .tc .vmem S96x16x128 .i8) (harg7 : arg7.IsWhole) (arg8 : Memref sig .tc .vmem S96x16x128 .i8) (harg8 : arg8.IsWhole) (arg9 : Memref sig .tc .vmem S96x16x128 .i8) (harg9 : arg9.IsWhole) (arg10 : Memref sig .tc .vmem S96x16x128 .i8) (harg10 : arg10.IsWhole) (arg11 : Memref sig .tc .vmem S1x1x256 .f32) (harg11 : arg11.IsWhole) (arg12 : Memref sig .tc .vmem S3x256x256 .bf16) (harg12 : arg12.IsWhole) (arg13 : Memref sig .tc .vmem S3x256x256 .bf16) (harg13 : arg13.IsWhole) (arg14 : Memref sig .tc .vmem S3x256x256 .bf16) (harg14 : arg14.IsWhole) (arg15 : Memref sig .tc .vmem S768x3072 .i8) (harg15 : arg15.IsWhole) (arg16 : Memref sig .tc .vmem S3x256 .f32) (harg16 : arg16.IsWhole) (arg17 : Memref sig .tc .vmem S768x3072 .bf16) (harg17 : arg17.IsWhole) (arg18 : Memref sig .tc .vmem S3072x256 .bf16) (harg18 : arg18.IsWhole) (arg19 : Memref sig .tc .vmem S768x128 .f32) (harg19 : arg19.IsWhole) (arg20 : Memref sig .tc .vmem S3x256 .f32) (harg20 : arg20.IsWhole) (arg21 : Memref sig .tc .vmem S3x48x256 .f32) (harg21 : arg21.IsWhole) (arg22 : Memref sig .tc .vmem S3x48x256 .f32) (harg22 : arg22.IsWhole) (arg23 : Memref sig .tc .vmem S2x256x128 .f32) (harg23 : arg23.IsWhole) (hc0 : ¬cond0_0 i) (hc1 : ¬cond0_1 i) (hc2 : ¬cond0_2 i) (hc3 : cond0_3 i)
    (x0 : Vec Ideal S768x3072 .bf16) (x1 : Vec Ideal S1x3072 .f32) (x2 : Vec Ideal S3x256 .i32) (x3 : Vec Ideal S48x128 .f32) (x4 : Vec Ideal S96x16x128 .i8) (x5 : Vec Ideal S96x16x128 .i8) (x6 : Vec Ideal S96x16x128 .i8) (x7 : Vec Ideal S96x16x128 .i8) (x8 : Vec Ideal S96x16x128 .i8) (x9 : Vec Ideal S96x16x128 .i8) (x10 : Vec Ideal S1x1x256 .f32) (xs0 : Vec Ideal S768x3072 .bf16) (xs3 : Vec Ideal S3x256 .f32) (xs4 : Vec Ideal S3x48x256 .f32) (xs5 : Vec Ideal S3x48x256 .f32)
    :
      ∀ (xi11 : Vec Ideal S3x256x256 .bf16) (xi12 : Vec Ideal S3x256x256 .bf16) (xi14 : Vec Ideal S768x3072 .i8) (xi15 : Vec Ideal S3x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ (∃ d, owns (c : Thread nD τ) arg14 fullShare d) ∗ owns (c : Thread nD τ) arg15 fullShare xi14 ∗ owns (c : Thread nD τ) arg16 fullShare xi15 ∗ owns (c : Thread nD τ) arg17 fullShare xs0 ∗ (∃ d, owns (c : Thread nD τ) arg18 fullShare d) ∗ (∃ d, owns (c : Thread nD τ) arg19 fullShare d) ∗ owns (c : Thread nD τ) arg20 fullShare xs3 ∗ owns (c : Thread nD τ) arg21 fullShare xs4 ∗ owns (c : Thread nD τ) arg22 fullShare xs5 ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare xi11 ∗ owns (c : Thread nD τ) arg13 fullShare xi12 ∗ owns (c : Thread nD τ) arg14 fullShare (vV xs0 x8 x9 x10 xs3) ∗ owns (c : Thread nD τ) arg15 fullShare xi14 ∗ owns (c : Thread nD τ) arg16 fullShare xi15 ∗ owns (c : Thread nD τ) arg17 fullShare xs0 ∗ (∃ d, owns (c : Thread nD τ) arg18 fullShare d) ∗ (∃ d, owns (c : Thread nD τ) arg19 fullShare d) ∗ owns (c : Thread nD τ) arg20 fullShare xs3 ∗ owns (c : Thread nD τ) arg21 fullShare xs4 ∗ owns (c : Thread nD τ) arg22 fullShare xs5 ∗ (∃ d, owns (c : Thread nD τ) arg23 fullShare d)) -∗ K ⟨⟩))
          ⊢ wp frame (wpE (defs₀ (F := Ideal)) Variants.none c none) E (cc0_qkv i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  intro xi11 xi12 xi14 xi15 E K
  case _ =>
    simp only [cc0_qkv_eq_skeleton]; unfold cc0_qkv_skel
    simp only [k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%f14, %hf14, H14⟩, ⟨%f15, %hf15, H15⟩, ⟨%fs0, %hfs0, HS0⟩, ⟨%ds1, %fs1, -, HS1⟩, ⟨%ds2, %fs2, -, HS2⟩, ⟨%fs3, %hfs3, HS3⟩, ⟨%fs4, %hfs4, HS4⟩, ⟨%fs5, %hfs5, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hf14; obtain rfl := harg16.eq_unread hf15; obtain rfl := harg17.eq_unread hfs0; obtain rfl := harg20.eq_unread hfs3; obtain rfl := harg21.eq_unread hfs4; obtain rfl := harg22.eq_unread hfs5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; swap; · iexact H13
      ipureintro
      refine out_v _ _ _ _ _ _ _ _ _ _ _ _ _ _ _ _ _ _ _ _ _ _ _ _ _ _ _ _ _ _ _ _ _ _ _ _ _ _ _ _ _ _ _ _ _ _ _ _ _ _ _ _ _ _ _ _ _ _ _ _ _ _ xs0 x8 x9 x10 xs3 ?_ ?_ ?_ ?_ ?_ ?_ ?_ ?_ ?_
      · exact ld2 arg20.view (o0 := 0) (o1 := 0) rfl _ _ (harg20.read_unread xs3)
      · exact ld2 arg20.view (o0 := 0) (o1 := 128) rfl _ _ (harg20.read_unread xs3)
      · exact ld2 arg20.view (o0 := 1) (o1 := 0) rfl _ _ (harg20.read_unread xs3)
      · exact ld2 arg20.view (o0 := 1) (o1 := 128) rfl _ _ (harg20.read_unread xs3)
      · exact ld2 arg20.view (o0 := 2) (o1 := 0) rfl _ _ (harg20.read_unread xs3)
      · exact ld2 arg20.view (o0 := 2) (o1 := 128) rfl _ _ (harg20.read_unread xs3)
      · exact tbuf arg23.view _ _ _ _ _ _ (tfun xs0 x8 x9 x10 0)
          (tile111 (o := 0) (bt := 0) rfl (ld2 arg17.view (o0 := 0) (o1 := 0) rfl _ _ (harg17.read_unread xs0)) (w_v _ _ _ _ _ _ _ _ _ _ _ _ _ _ _ _ _ _ _ _ _ _ _ _ _ _ _ _ _ _ _ _ _ _ _ _ _ _ _ _ _ _ _ _ _ _ _ _ _ _ hc3 _ _ _ x8 x9 (harg9.read_unread x8) (harg10.read_unread x9) _) (ld3 arg11.view (o0 := 0) (o1 := 0) (o2 := 0) rfl _ _ (harg11.read_unread x10)))
          (tile110 (o := 0) (bt := 0) rfl (ld2 arg17.view (o0 := 0) (o1 := 0) rfl _ _ (harg17.read_unread xs0)) (w_v _ _ _ _ _ _ _ _ _ _ _ _ _ _ _ _ _ _ _ _ _ _ _ _ _ _ _ _ _ _ _ _ _ _ _ _ _ _ _ _ _ _ _ _ _ _ _ _ _ _ hc3 _ _ _ x8 x9 (harg9.read_unread x8) (harg10.read_unread x9) _) (ld3 arg11.view (o0 := 0) (o1 := 0) (o2 := 0) rfl _ _ (harg11.read_unread x10)))
      · exact tbuf arg23.view _ _ _ _ _ _ (tfun xs0 x8 x9 x10 1)
          (tile116 (o := 256) (bt := 1) rfl (ld2 arg17.view (o0 := 256) (o1 := 0) rfl _ _ (harg17.read_unread xs0)) (w_v _ _ _ _ _ _ _ _ _ _ _ _ _ _ _ _ _ _ _ _ _ _ _ _ _ _ _ _ _ _ _ _ _ _ _ _ _ _ _ _ _ _ _ _ _ _ _ _ _ _ hc3 _ _ _ x8 x9 (harg9.read_unread x8) (harg10.read_unread x9) _) (scale108 (ld3 arg11.view (o0 := 0) (o1 := 0) (o2 := 0) rfl _ _ (harg11.read_unread x10))))
          (tile115 (o := 256) (bt := 1) rfl (ld2 arg17.view (o0 := 256) (o1 := 0) rfl _ _ (harg17.read_unread xs0)) (w_v _ _ _ _ _ _ _ _ _ _ _ _ _ _ _ _ _ _ _ _ _ _ _ _ _ _ _ _ _ _ _ _ _ _ _ _ _ _ _ _ _ _ _ _ _ _ _ _ _ _ hc3 _ _ _ x8 x9 (harg9.read_unread x8) (harg10.read_unread x9) _) (scale108 (ld3 arg11.view (o0 := 0) (o1 := 0) (o2 := 0) rfl _ _ (harg11.read_unread x10))))
      · exact tbuf arg23.view _ _ _ _ _ _ (tfun xs0 x8 x9 x10 2)
          (tile11 (o := 512) (bt := 2) rfl (ld2 arg17.view (o0 := 512) (o1 := 0) rfl _ _ (harg17.read_unread xs0)) (w_v _ _ _ _ _ _ _ _ _ _ _ _ _ _ _ _ _ _ _ _ _ _ _ _ _ _ _ _ _ _ _ _ _ _ _ _ _ _ _ _ _ _ _ _ _ _ _ _ _ _ hc3 _ _ _ x8 x9 (harg9.read_unread x8) (harg10.read_unread x9) _) (scale108 (ld3 arg11.view (o0 := 0) (o1 := 0) (o2 := 0) rfl _ _ (harg11.read_unread x10))))
          (tile10 (o := 512) (bt := 2) rfl (ld2 arg17.view (o0 := 512) (o1 := 0) rfl _ _ (harg17.read_unread xs0)) (w_v _ _ _ _ _ _ _ _ _ _ _ _ _ _ _ _ _ _ _ _ _ _ _ _ _ _ _ _ _ _ _ _ _ _ _ _ _ _ _ _ _ _ _ _ _ _ _ _ _ _ hc3 _ _ _ x8 x9 (harg9.read_unread x8) (harg10.read_unread x9) _) (scale108 (ld3 arg11.view (o0 := 0) (o1 := 0) (o2 := 0) rfl _ _ (harg11.read_unread x10))))
    isplitl [H14]
    · iexists _; isplitr; · ipureintro; exact harg15.read_unread _
      iexact H14
    isplitl [H15]
    · iexists _; isplitr; · ipureintro; exact harg16.read_unread _
      iexact H15
    isplitl [HS0]
    · iexists _; isplitr; · ipureintro; exact harg17.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _; isplitr; · ipureintro; exact harg20.read_unread _
      iexact HS3
    isplitl [HS4]
    · iexists _; isplitr; · ipureintro; exact harg21.read_unread _
      iexact HS4
    isplitl [HS5]
    · iexists _; isplitr; · ipureintro; exact harg22.read_unread _
      iexact HS5
    iexists _, _; isplitr; swap; · iexact HS6
    ipureintro; rfl

end Cert.KernelIdeal.Gen

end
-- ==== Proof.FrameI.lean ====
/- The launch of the idealised kernel: every run ends, with every input array as it was found, every semaphore counter
   at zero, and every output array at the blocks written back: query tiles, key tiles, value tiles, codes and scales. -/
module

public import proofs.«01_k».proof.Proof.KRunA
public import proofs.«01_k».proof.Proof.KRunB
public import proofs.«01_k».proof.Proof.KRunC
public import proofs.«01_k».proof.Proof.KRunD
public import proofs.«01_k».proof.Proof.Gen.KernelIdeal.Frame
public import Idealize.ShloMosaic.Lib.Claim
public import Idealize.ShloMosaic.Lib.Pipeline.TableIdle

@[expose] public section

set_option maxRecDepth 16384

noncomputable section

namespace Cert.KernelIdeal.Gen

open Cert.Nat01
open Idealize Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A grid point by its number. -/
def pt (n : ℕ) (h : n < 15) : Fin cfg0.N := ⟨n, lt_of_lt_of_eq h (show cfg0.N = 15 from N_0).symm⟩

/-- The first grid point. -/
abbrev p0 : Fin cfg0.N := pt 0 (by decide)

/-- The activations, as staged. -/
abbrev X0 (c : Dev nD) : Vec Ideal S768x3072 .bf16 := iblk m c 0 p0
/-- The norm's weights, as staged. -/
abbrev X1 (c : Dev nD) : Vec Ideal S1x3072 .f32 := iblk m c 1 p0
/-- The positions, as staged. -/
abbrev X2 (c : Dev nD) : Vec Ideal S3x256 .i32 := iblk m c 2 p0
/-- The frequencies, as staged. -/
abbrev X3 (c : Dev nD) : Vec Ideal S48x128 .f32 := iblk m c 3 p0

/-- The query tile of a point. -/
abbrev Qt (c : Dev nD) (t : Fin cfg0.N) : Vec Ideal S3x256x256 .bf16 :=
  qV (xbV (X0 m c) (X1 m c)) (iblk m c 4 t) (iblk m c 5 t) (iblk m c 10 t) (srV (X0 m c) (X1 m c)) (csV (X2 m c) (X3 m c)) (snV (X2 m c) (X3 m c))
    ((grid0.coords t) 0).val
/-- The key tile of a point. -/
abbrev Kt (c : Dev nD) (t : Fin cfg0.N) : Vec Ideal S3x256x256 .bf16 :=
  qV (xbV (X0 m c) (X1 m c)) (iblk m c 6 t) (iblk m c 7 t) (iblk m c 10 t) (srV (X0 m c) (X1 m c)) (csV (X2 m c) (X3 m c)) (snV (X2 m c) (X3 m c))
    (((grid0.coords t) 0).val - 9)
/-- The value tile of a point. -/
abbrev Vt (c : Dev nD) (t : Fin cfg0.N) : Vec Ideal S3x256x256 .bf16 :=
  vV (xbV (X0 m c) (X1 m c)) (iblk m c 8 t) (iblk m c 9 t) (iblk m c 10 t) (srV (X0 m c) (X1 m c))

/-- The scratch before point `n`: anything before the first; later the codes as numbers, the scales, the cosines and the
    sines that the first point left. -/
def PhiS (c : Dev nD) : (n : ℕ) → sProp 𝕄
  | 0 => Pipeline.ΦA spec0 c
  | _ + 1 => iprop(iprop(owns (c : Thread nD τ) scM0_0 fullShare (xbV (X0 m c) (X1 m c)) ∗ (∃ d, owns (c : Thread nD τ) scM0_1 fullShare d) ∗ (∃ d, owns (c : Thread nD τ) scM0_2 fullShare d) ∗ owns (c : Thread nD τ) scM0_3 fullShare (srV (X0 m c) (X1 m c)) ∗ owns (c : Thread nD τ) scM0_4 fullShare (csV (X2 m c) (X3 m c)) ∗ owns (c : Thread nD τ) scM0_5 fullShare (snV (X2 m c) (X3 m c)) ∗ (∃ d, owns (c : Thread nD τ) scM0_6 fullShare d)) ∗ (∃ r, prngReg c r))

/-- What the scratch holds after the first point. -/
theorem PhiS_pos (c : Dev nD) (n : ℕ) (hz : n ≠ 0) : PhiS m c n = iprop(iprop(owns (c : Thread nD τ) scM0_0 fullShare (xbV (X0 m c) (X1 m c)) ∗ (∃ d, owns (c : Thread nD τ) scM0_1 fullShare d) ∗ (∃ d, owns (c : Thread nD τ) scM0_2 fullShare d) ∗ owns (c : Thread nD τ) scM0_3 fullShare (srV (X0 m c) (X1 m c)) ∗ owns (c : Thread nD τ) scM0_4 fullShare (csV (X2 m c) (X3 m c)) ∗ owns (c : Thread nD τ) scM0_5 fullShare (snV (X2 m c) (X3 m c)) ∗ (∃ d, owns (c : Thread nD τ) scM0_6 fullShare d)) ∗ (∃ r, prngReg c r)) := by
  cases n with
  | zero => exact absurd rfl hz
  | succ n => rfl

/-- The proof data on core `c`: the arrays as the region finds them; each input buffer at its block after every point; the
    output buffers at the tile of the last point that wrote them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Qt m c (pt (min t.val 8) (by omega))
    | ⟨12, _⟩ => Kt m c (pt (min t.val 11) (by omega))
    | ⟨13, _⟩ => Vt m c t
    | ⟨14, _⟩ => cdV (X0 m c) (X1 m c)
    | ⟨15, _⟩ => srV (X0 m c) (X1 m c)
    | ⟨_ + 16, h⟩ => absurd h (Nat.not_lt.2 (Nat.le_add_left _ _))
  Φ t := PhiS m c t.val
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = Qt m c (pt (min t.val 8) (by omega)) := by dsimp only [dats]
theorem after0_12 (c : Dev nD) (t : Fin cfg0.N) : (dats m 0 c).after 12 t = Kt m c (pt (min t.val 11) (by omega)) := by dsimp only [dats]
theorem after0_13 (c : Dev nD) (t : Fin cfg0.N) : (dats m 0 c).after 13 t = Vt m c t := by dsimp only [dats]
theorem after0_14 (c : Dev nD) (t : Fin cfg0.N) : (dats m 0 c).after 14 t = cdV (X0 m c) (X1 m c) := by dsimp only [dats]
theorem after0_15 (c : Dev nD) (t : Fin cfg0.N) : (dats m 0 c).after 15 t = srV (X0 m c) (X1 m c) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t = owns (c : Thread nD τ) (ms0_10 t) fullShare (iblk m c 10 t) := by
  unfold Dat.leavesExact; rw [liveAt0_10 t, after0_10]

/-- A point is given by its number. -/
theorem pt_eq (t : Fin cfg0.N) (n : ℕ) (h : n < 15) (e : n = t.val) : pt n h = t := Fin.ext e

/-- An idle window whose buffer holds what is to be written back. -/
theorem leaves_of_before {c : Dev nD} (dat : Dat τ (Elt Ideal) Unit ℕ (UR sig nD τ) ℕ cfg0 c) (w : Fin cfg0.W) (t : Fin cfg0.N)
    (hi : cfg0.idle w (cfg0.grid.coords t) = true) (d) (hb : dat.before w t d = dat.after w t) :
    (owns (c : Thread nD τ) ((cfg0.win w).stage (cfg0.slots t w)) fullShare (dat.before w t d) : sProp 𝕄) ⊢ dat.leavesExact w t := by
  cases hf : (cfg0.win w).flush t with
  | false => rw [Dat.leavesExact_idle dat w t hi hf]; iintro H; iexists d; iexact H
  | true => unfold Dat.leavesExact; rw [hi, hf, hb]

/-- An idle window that is not written back is handed back as found. -/
theorem leaves_of_idle {c : Dev nD} (dat : Dat τ (Elt Ideal) Unit ℕ (UR sig nD τ) ℕ cfg0 c) (w : Fin cfg0.W) (t : Fin cfg0.N)
    (hi : cfg0.idle w (cfg0.grid.coords t) = true) (hf : (cfg0.win w).flush t = false) (d) :
    (owns (c : Thread nD τ) ((cfg0.win w).stage (cfg0.slots t w)) fullShare (dat.before w t d) : sProp 𝕄) ⊢ dat.leavesExact w t := by
  rw [Dat.leavesExact_idle dat w t hi hf]; iintro H; iexists d; iexact H

/-- The query window is idle only past the query points. -/
theorem idle11 : ∀ t : Fin cfg0.N, cfg0.idle 11 (cfg0.grid.coords t) = true → 9 ≤ t.val := by decide +kernel
/-- The key window, once written, is idle only past the key points. -/
theorem idle12 : ∀ t : Fin cfg0.N, cfg0.idle 12 (cfg0.grid.coords t) = true → cfg0.fresh 12 t.val = false → 12 ≤ t.val := by decide +kernel
/-- The query buffer stays past the query points. -/
theorem held11 : ∀ t : Fin cfg0.N, 9 ≤ t.val → cfg0.fresh 11 t.val = false := by decide +kernel
/-- The key buffer stays past the key points. -/
theorem held12 : ∀ t : Fin cfg0.N, 12 ≤ t.val → cfg0.fresh 12 t.val = false := by decide +kernel
/-- The codes stay. -/
theorem held14 : ∀ t : Fin cfg0.N, 1 ≤ t.val → cfg0.fresh 14 t.val = false := by decide +kernel
/-- The scales stay. -/
theorem held15 : ∀ t : Fin cfg0.N, 1 ≤ t.val → cfg0.fresh 15 t.val = false := by decide +kernel

/-- The query buffer after the last query point. -/
theorem before0_11 (c : Dev nD) (t : Fin cfg0.N) (ht : 9 ≤ t.val) (d) : (dats m 0 c).before 11 t d = (dats m 0 c).after 11 t := by
  have step : ∀ (t : Fin cfg0.N) (h : 9 ≤ t.val), (dats m 0 c).after 11 t = (dats m 0 c).after 11 ⟨t.val - 1, by omega⟩ := by
    intro t h; rw [after0_11, after0_11]; congr 1; apply Fin.ext; simp only [pt]; omega
  rw [Dat.before_out_traj (dats m 0 c) 11 rfl (fun _ _ => rfl) (fun t _ hi _ => step t (idle11 t hi)) t.val t rfl d, held11 t ht, step t ht]; rfl
/-- The key buffer after the last key point. -/
theorem before0_12 (c : Dev nD) (t : Fin cfg0.N) (ht : 12 ≤ t.val) (d) : (dats m 0 c).before 12 t d = (dats m 0 c).after 12 t := by
  have step : ∀ (t : Fin cfg0.N) (h : 12 ≤ t.val), (dats m 0 c).after 12 t = (dats m 0 c).after 12 ⟨t.val - 1, by omega⟩ := by
    intro t h; rw [after0_12, after0_12]; congr 1; apply Fin.ext; simp only [pt]; omega
  rw [Dat.before_out_traj (dats m 0 c) 12 rfl (fun _ _ => rfl) (fun t _ hi hfr => step t (idle12 t hi hfr)) t.val t rfl d, held12 t ht, step t ht]; rfl
/-- The codes' buffer after the first point. -/
theorem before0_14 (c : Dev nD) (t : Fin cfg0.N) (ht : 1 ≤ t.val) (d) : (dats m 0 c).before 14 t d = (dats m 0 c).after 14 t := by
  rw [Dat.before_out_traj (dats m 0 c) 14 rfl (fun _ _ => rfl) (fun t _ _ _ => by rw [after0_14, after0_14]) t.val t rfl d, held14 t ht, after0_14, after0_14]; rfl
/-- The scales' buffer after the first point. -/
theorem before0_15 (c : Dev nD) (t : Fin cfg0.N) (ht : 1 ≤ t.val) (d) : (dats m 0 c).before 15 t d = (dats m 0 c).after 15 t := by
  rw [Dat.before_out_traj (dats m 0 c) 15 rfl (fun _ _ => rfl) (fun t _ _ _ => by rw [after0_15, after0_15]) t.val t rfl d, held15 t ht, after0_15, after0_15]; rfl

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 4000000 in
/-- The body at a first point. -/
theorem sound_A (c : Dev nD) (t : Fin cfg0.N) (h0 : t.val % 15 = 0) (h1 : t.val < 9) (h2 : ¬(9 ≤ t.val % 15 ∧ t.val % 15 ≤ 11)) (h3 : ¬12 ≤ t.val) :
    bodyPre m c t ⊢ wp frame (wpE (defs₀ (F := Ideal)) Variants.none c none) Set.univ (bodyAt0 t) (fun _ => bodyPost m c t) := by
  have hN : t.val < 15 := lt_of_lt_of_eq t.isLt (show cfg0.N = 15 from N_0)
  obtain rfl : t = p0 := (pt_eq t 0 (by decide) (by omega)).symm
  unfold bodyPre bodyPost bodyAt0
  simp only [before0_0, before0_1, before0_2, before0_3, before0_4, before0_5, before0_6, before0_7, before0_8, before0_9, before0_10,
    leaves0_0, leaves0_1, leaves0_2, leaves0_3, leaves0_4, leaves0_5, leaves0_6, leaves0_7, leaves0_8, leaves0_9, leaves0_10]
  rw [show (dats m 0 c).owesAt () p0.succ = (dats m 0 c).owesAt () p0.castSucc from rfl]
  rw [show (dats m 0 c).Φ p0.succ = iprop(iprop(owns (c : Thread nD τ) scM0_0 fullShare (xbV (X0 m c) (X1 m c)) ∗ (∃ d, owns (c : Thread nD τ) scM0_1 fullShare d) ∗ (∃ d, owns (c : Thread nD τ) scM0_2 fullShare d) ∗ owns (c : Thread nD τ) scM0_3 fullShare (srV (X0 m c) (X1 m c)) ∗ owns (c : Thread nD τ) scM0_4 fullShare (csV (X2 m c) (X3 m c)) ∗ owns (c : Thread nD τ) scM0_5 fullShare (snV (X2 m c) (X3 m c)) ∗ (∃ d, owns (c : Thread nD τ) scM0_6 fullShare d)) ∗ (∃ r, prngReg c r)) from rfl]
  rw [show (dats m 0 c).Φ p0.castSucc = Pipeline.ΦA spec0 c from rfl, PhiA0_eq]
  rw [show (dats m 0 c).leavesExact 11 p0 = owns (c : Thread nD τ) (ms0_11 p0) fullShare (Qt m c p0) from by
      unfold Dat.leavesExact; rw [liveAt0_11_A p0 ((hcond0_0 p0).mpr h0) ((hcond0_1 p0).mpr h1) (fun h => h2 ((hcond0_2 p0).mp h)) (fun h => h3 ((hcond0_3 p0).mp h)), after0_11, pt_eq p0 (min p0.val 8) (by omega) (show min p0.val 8 = p0.val by omega)]]
  rw [show (dats m 0 c).leavesExact 14 p0 = owns (c : Thread nD τ) (ms0_14 p0) fullShare (cdV (X0 m c) (X1 m c)) from by
      unfold Dat.leavesExact; rw [liveAt0_14_A p0 ((hcond0_0 p0).mpr h0) ((hcond0_1 p0).mpr h1) (fun h => h2 ((hcond0_2 p0).mp h)) (fun h => h3 ((hcond0_3 p0).mp h)), after0_14]]
  rw [show (dats m 0 c).leavesExact 15 p0 = owns (c : Thread nD τ) (ms0_15 p0) fullShare (srV (X0 m c) (X1 m c)) from by
      unfold Dat.leavesExact; rw [liveAt0_15_A p0 ((hcond0_0 p0).mpr h0) ((hcond0_1 p0).mpr h1) (fun h => h2 ((hcond0_2 p0).mp h)) (fun h => h3 ((hcond0_3 p0).mp h)), after0_15]]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_A c (grid0.coords p0) _ _ _ _ _ _ _ _ _ _ _ _ _ _ _ _ _ _ _ _ _ _ _ _ _ _ _ _ _ _ _ _ _ _ _ _ _ _ _ _ _ _ _ _ _ _ ((hcond0_0 p0).mpr h0) ((hcond0_1 p0).mpr h1) (fun h => h2 ((hcond0_2 p0).mp h)) (fun h => h3 ((hcond0_3 p0).mp h)) (iblk m c 0 p0) (iblk m c 1 p0) (iblk m c 2 p0) (iblk m c 3 p0) (iblk m c 4 p0) (iblk m c 5 p0) (iblk m c 6 p0) (iblk m c 7 p0) (iblk m c 8 p0) (iblk m c 9 p0) (iblk m c 10 p0) ((dats m 0 c).before 12 p0 d12) ((dats m 0 c).before 13 p0 d13) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (leaves_of_idle (dats m 0 c) 12 p0 (idleAt0_12_A p0 ((hcond0_0 p0).mpr h0) ((hcond0_1 p0).mpr h1) (fun h => h2 ((hcond0_2 p0).mp h)) (fun h => h3 ((hcond0_3 p0).mp h))) (noFlush0_12_A p0 ((hcond0_0 p0).mpr h0) ((hcond0_1 p0).mpr h1) (fun h => h2 ((hcond0_2 p0).mp h)) (fun h => h3 ((hcond0_3 p0).mp h))) d12); iexact H12
  isplitl [H13]; · iapply (leaves_of_idle (dats m 0 c) 13 p0 (idleAt0_13_A p0 ((hcond0_0 p0).mpr h0) ((hcond0_1 p0).mpr h1) (fun h => h2 ((hcond0_2 p0).mp h)) (fun h => h3 ((hcond0_3 p0).mp h))) (noFlush0_13_A p0 ((hcond0_0 p0).mpr h0) ((hcond0_1 p0).mpr h1) (fun h => h2 ((hcond0_2 p0).mp h)) (fun h => h3 ((hcond0_3 p0).mp h))) d13); iexact H13
  isplitl [H14]; · iexact H14
  iexact H15

set_option maxHeartbeats 4000000 in
/-- The body at a later query point. -/
theorem sound_B (c : Dev nD) (t : Fin cfg0.N) (h0 : ¬t.val % 15 = 0) (h1 : t.val < 9) (h2 : ¬(9 ≤ t.val % 15 ∧ t.val % 15 ≤ 11)) (h3 : ¬12 ≤ t.val) :
    bodyPre m c t ⊢ wp frame (wpE (defs₀ (F := Ideal)) Variants.none c none) Set.univ (bodyAt0 t) (fun _ => bodyPost m c t) := by
  have hN : t.val < 15 := lt_of_lt_of_eq t.isLt (show cfg0.N = 15 from N_0)
  unfold bodyPre bodyPost bodyAt0
  simp only [before0_0, before0_1, before0_2, before0_3, before0_4, before0_5, before0_6, before0_7, before0_8, before0_9, before0_10,
    leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl]
  rw [show (dats m 0 c).Φ t.succ = iprop(iprop(owns (c : Thread nD τ) scM0_0 fullShare (xbV (X0 m c) (X1 m c)) ∗ (∃ d, owns (c : Thread nD τ) scM0_1 fullShare d) ∗ (∃ d, owns (c : Thread nD τ) scM0_2 fullShare d) ∗ owns (c : Thread nD τ) scM0_3 fullShare (srV (X0 m c) (X1 m c)) ∗ owns (c : Thread nD τ) scM0_4 fullShare (csV (X2 m c) (X3 m c)) ∗ owns (c : Thread nD τ) scM0_5 fullShare (snV (X2 m c) (X3 m c)) ∗ (∃ d, owns (c : Thread nD τ) scM0_6 fullShare d)) ∗ (∃ r, prngReg c r)) from rfl]
  rw [show (dats m 0 c).Φ t.castSucc = PhiS m c t.val from rfl, PhiS_pos m c _ (by omega)]
  rw [show (dats m 0 c).leavesExact 11 t = owns (c : Thread nD τ) (ms0_11 t) fullShare (Qt m c t) from by
      unfold Dat.leavesExact; rw [liveAt0_11_B t (fun h => h0 ((hcond0_0 t).mp h)) ((hcond0_1 t).mpr h1) (fun h => h2 ((hcond0_2 t).mp h)) (fun h => h3 ((hcond0_3 t).mp h)), after0_11, pt_eq t (min t.val 8) (by omega) (show min t.val 8 = t.val by omega)]]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_B c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (xbV (X0 m c) (X1 m c)) (srV (X0 m c) (X1 m c)) (csV (X2 m c) (X3 m c)) (snV (X2 m c) (X3 m c)) ((dats m 0 c).before 12 t d12) ((dats m 0 c).before 13 t d13) ((dats m 0 c).before 14 t d14) ((dats m 0 c).before 15 t d15) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iapply (leaves_of_idle (dats m 0 c) 12 t (idleAt0_12_B t (fun h => h0 ((hcond0_0 t).mp h)) ((hcond0_1 t).mpr h1) (fun h => h2 ((hcond0_2 t).mp h)) (fun h => h3 ((hcond0_3 t).mp h))) (noFlush0_12_B t (fun h => h0 ((hcond0_0 t).mp h)) ((hcond0_1 t).mpr h1) (fun h => h2 ((hcond0_2 t).mp h)) (fun h => h3 ((hcond0_3 t).mp h))) d12); iexact H12
  isplitl [H13]; · iapply (leaves_of_idle (dats m 0 c) 13 t (idleAt0_13_B t (fun h => h0 ((hcond0_0 t).mp h)) ((hcond0_1 t).mpr h1) (fun h => h2 ((hcond0_2 t).mp h)) (fun h => h3 ((hcond0_3 t).mp h))) (noFlush0_13_B t (fun h => h0 ((hcond0_0 t).mp h)) ((hcond0_1 t).mpr h1) (fun h => h2 ((hcond0_2 t).mp h)) (fun h => h3 ((hcond0_3 t).mp h))) d13); iexact H13
  isplitl [H14]; · iapply (leaves_of_idle (dats m 0 c) 14 t (idleAt0_14_B t (fun h => h0 ((hcond0_0 t).mp h)) ((hcond0_1 t).mpr h1) (fun h => h2 ((hcond0_2 t).mp h)) (fun h => h3 ((hcond0_3 t).mp h))) (noFlush0_14_B t (fun h => h0 ((hcond0_0 t).mp h)) ((hcond0_1 t).mpr h1) (fun h => h2 ((hcond0_2 t).mp h)) (fun h => h3 ((hcond0_3 t).mp h))) d14); iexact H14
  iapply (leaves_of_idle (dats m 0 c) 15 t (idleAt0_15_B t (fun h => h0 ((hcond0_0 t).mp h)) ((hcond0_1 t).mpr h1) (fun h => h2 ((hcond0_2 t).mp h)) (fun h => h3 ((hcond0_3 t).mp h))) (noFlush0_15_B t (fun h => h0 ((hcond0_0 t).mp h)) ((hcond0_1 t).mpr h1) (fun h => h2 ((hcond0_2 t).mp h)) (fun h => h3 ((hcond0_3 t).mp h))) d15); iexact H15

set_option maxHeartbeats 4000000 in
/-- The body at a key point. -/
theorem sound_C (c : Dev nD) (t : Fin cfg0.N) (h0 : ¬t.val % 15 = 0) (h1 : ¬t.val < 9) (h2 : (9 ≤ t.val % 15 ∧ t.val % 15 ≤ 11)) (h3 : ¬12 ≤ t.val) :
    bodyPre m c t ⊢ wp frame (wpE (defs₀ (F := Ideal)) Variants.none c none) Set.univ (bodyAt0 t) (fun _ => bodyPost m c t) := by
  have hN : t.val < 15 := lt_of_lt_of_eq t.isLt (show cfg0.N = 15 from N_0)
  unfold bodyPre bodyPost bodyAt0
  simp only [before0_0, before0_1, before0_2, before0_3, before0_4, before0_5, before0_6, before0_7, before0_8, before0_9, before0_10,
    leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl]
  rw [show (dats m 0 c).Φ t.succ = iprop(iprop(owns (c : Thread nD τ) scM0_0 fullShare (xbV (X0 m c) (X1 m c)) ∗ (∃ d, owns (c : Thread nD τ) scM0_1 fullShare d) ∗ (∃ d, owns (c : Thread nD τ) scM0_2 fullShare d) ∗ owns (c : Thread nD τ) scM0_3 fullShare (srV (X0 m c) (X1 m c)) ∗ owns (c : Thread nD τ) scM0_4 fullShare (csV (X2 m c) (X3 m c)) ∗ owns (c : Thread nD τ) scM0_5 fullShare (snV (X2 m c) (X3 m c)) ∗ (∃ d, owns (c : Thread nD τ) scM0_6 fullShare d)) ∗ (∃ r, prngReg c r)) from rfl]
  rw [show (dats m 0 c).Φ t.castSucc = PhiS m c t.val from rfl, PhiS_pos m c _ (by omega)]
  rw [show (dats m 0 c).leavesExact 12 t = owns (c : Thread nD τ) (ms0_12 t) fullShare (Kt m c t) from by
      unfold Dat.leavesExact; rw [liveAt0_12_C t (fun h => h0 ((hcond0_0 t).mp h)) (fun h => h1 ((hcond0_1 t).mp h)) ((hcond0_2 t).mpr h2) (fun h => h3 ((hcond0_3 t).mp h)), after0_12, pt_eq t (min t.val 11) (by omega) (by omega)]]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_C c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (xbV (X0 m c) (X1 m c)) (srV (X0 m c) (X1 m c)) (csV (X2 m c) (X3 m c)) (snV (X2 m c) (X3 m c)) ((dats m 0 c).before 11 t d11) ((dats m 0 c).before 13 t d13) ((dats m 0 c).before 14 t d14) ((dats m 0 c).before 15 t d15) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (leaves_of_idle (dats m 0 c) 11 t (idleAt0_11_C t (fun h => h0 ((hcond0_0 t).mp h)) (fun h => h1 ((hcond0_1 t).mp h)) ((hcond0_2 t).mpr h2) (fun h => h3 ((hcond0_3 t).mp h))) (noFlush0_11_C t (fun h => h0 ((hcond0_0 t).mp h)) (fun h => h1 ((hcond0_1 t).mp h)) ((hcond0_2 t).mpr h2) (fun h => h3 ((hcond0_3 t).mp h))) d11); iexact H11
  isplitl [H12]; · iexact H12
  isplitl [H13]; · iapply (leaves_of_idle (dats m 0 c) 13 t (idleAt0_13_C t (fun h => h0 ((hcond0_0 t).mp h)) (fun h => h1 ((hcond0_1 t).mp h)) ((hcond0_2 t).mpr h2) (fun h => h3 ((hcond0_3 t).mp h))) (noFlush0_13_C t (fun h => h0 ((hcond0_0 t).mp h)) (fun h => h1 ((hcond0_1 t).mp h)) ((hcond0_2 t).mpr h2) (fun h => h3 ((hcond0_3 t).mp h))) d13); iexact H13
  isplitl [H14]; · iapply (leaves_of_idle (dats m 0 c) 14 t (idleAt0_14_C t (fun h => h0 ((hcond0_0 t).mp h)) (fun h => h1 ((hcond0_1 t).mp h)) ((hcond0_2 t).mpr h2) (fun h => h3 ((hcond0_3 t).mp h))) (noFlush0_14_C t (fun h => h0 ((hcond0_0 t).mp h)) (fun h => h1 ((hcond0_1 t).mp h)) ((hcond0_2 t).mpr h2) (fun h => h3 ((hcond0_3 t).mp h))) d14); iexact H14
  iapply (leaves_of_idle (dats m 0 c) 15 t (idleAt0_15_C t (fun h => h0 ((hcond0_0 t).mp h)) (fun h => h1 ((hcond0_1 t).mp h)) ((hcond0_2 t).mpr h2) (fun h => h3 ((hcond0_3 t).mp h))) (noFlush0_15_C t (fun h => h0 ((hcond0_0 t).mp h)) (fun h => h1 ((hcond0_1 t).mp h)) ((hcond0_2 t).mpr h2) (fun h => h3 ((hcond0_3 t).mp h))) d15); iexact H15

set_option maxHeartbeats 4000000 in
/-- The body at a value point. -/
theorem sound_D (c : Dev nD) (t : Fin cfg0.N) (h0 : ¬t.val % 15 = 0) (h1 : ¬t.val < 9) (h2 : ¬(9 ≤ t.val % 15 ∧ t.val % 15 ≤ 11)) (h3 : 12 ≤ t.val) :
    bodyPre m c t ⊢ wp frame (wpE (defs₀ (F := Ideal)) Variants.none c none) Set.univ (bodyAt0 t) (fun _ => bodyPost m c t) := by
  have hN : t.val < 15 := lt_of_lt_of_eq t.isLt (show cfg0.N = 15 from N_0)
  unfold bodyPre bodyPost bodyAt0
  simp only [before0_0, before0_1, before0_2, before0_3, before0_4, before0_5, before0_6, before0_7, before0_8, before0_9, before0_10,
    leaves0_0, leaves0_1, leaves0_2, leaves0_3, leaves0_4, leaves0_5, leaves0_6, leaves0_7, leaves0_8, leaves0_9, leaves0_10]
  rw [show (dats m 0 c).owesAt () t.succ = (dats m 0 c).owesAt () t.castSucc from rfl]
  rw [show (dats m 0 c).Φ t.succ = iprop(iprop(owns (c : Thread nD τ) scM0_0 fullShare (xbV (X0 m c) (X1 m c)) ∗ (∃ d, owns (c : Thread nD τ) scM0_1 fullShare d) ∗ (∃ d, owns (c : Thread nD τ) scM0_2 fullShare d) ∗ owns (c : Thread nD τ) scM0_3 fullShare (srV (X0 m c) (X1 m c)) ∗ owns (c : Thread nD τ) scM0_4 fullShare (csV (X2 m c) (X3 m c)) ∗ owns (c : Thread nD τ) scM0_5 fullShare (snV (X2 m c) (X3 m c)) ∗ (∃ d, owns (c : Thread nD τ) scM0_6 fullShare d)) ∗ (∃ r, prngReg c r)) from rfl]
  rw [show (dats m 0 c).Φ t.castSucc = PhiS m c t.val from rfl, PhiS_pos m c _ (by omega)]
  rw [show (dats m 0 c).leavesExact 13 t = owns (c : Thread nD τ) (ms0_13 t) fullShare (Vt m c t) from by
      unfold Dat.leavesExact; rw [liveAt0_13_D t (fun h => h0 ((hcond0_0 t).mp h)) (fun h => h1 ((hcond0_1 t).mp h)) (fun h => h2 ((hcond0_2 t).mp h)) ((hcond0_3 t).mpr h3), after0_13]]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_D c (grid0.coords t) _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (xbV (X0 m c) (X1 m c)) (srV (X0 m c) (X1 m c)) (csV (X2 m c) (X3 m c)) (snV (X2 m c) (X3 m c)) ((dats m 0 c).before 11 t d11) ((dats m 0 c).before 12 t d12) ((dats m 0 c).before 14 t d14) ((dats m 0 c).before 15 t d15) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexact H14
  isplitl [H15]; · iexact H15
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, H13, H14, H15, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iapply (leaves_of_before (dats m 0 c) 11 t (idleAt0_11_D t (fun h => h0 ((hcond0_0 t).mp h)) (fun h => h1 ((hcond0_1 t).mp h)) (fun h => h2 ((hcond0_2 t).mp h)) ((hcond0_3 t).mpr h3)) d11 (before0_11 m c t (by omega) d11)); iexact H11
  isplitl [H12]; · iapply (leaves_of_before (dats m 0 c) 12 t (idleAt0_12_D t (fun h => h0 ((hcond0_0 t).mp h)) (fun h => h1 ((hcond0_1 t).mp h)) (fun h => h2 ((hcond0_2 t).mp h)) ((hcond0_3 t).mpr h3)) d12 (before0_12 m c t (by omega) d12)); iexact H12
  isplitl [H13]; · iexact H13
  isplitl [H14]; · iapply (leaves_of_before (dats m 0 c) 14 t (idleAt0_14_D t (fun h => h0 ((hcond0_0 t).mp h)) (fun h => h1 ((hcond0_1 t).mp h)) (fun h => h2 ((hcond0_2 t).mp h)) ((hcond0_3 t).mpr h3)) d14 (before0_14 m c t (by omega) d14)); iexact H14
  iapply (leaves_of_before (dats m 0 c) 15 t (idleAt0_15_D t (fun h => h0 ((hcond0_0 t).mp h)) (fun h => h1 ((hcond0_1 t).mp h)) (fun h => h2 ((hcond0_2 t).mp h)) ((hcond0_3 t).mpr h3)) d15 (before0_15 m c t (by omega) d15)); iexact H15

/-- The body at any point. -/
theorem sound_body (c : Dev nD) (t : Fin cfg0.N) :
    bodyPre m c t ⊢ wp frame (wpE (defs₀ (F := Ideal)) Variants.none c none) Set.univ (bodyAt0 t) (fun _ => bodyPost m c t) := by
  have hN : t.val < 15 := lt_of_lt_of_eq t.isLt (show cfg0.N = 15 from N_0)
  by_cases h0 : t.val % 15 = 0
  · exact sound_A m c t h0 (by omega) (by omega) (by omega)
  · by_cases h1 : t.val < 9
    · exact sound_B m c t h0 h1 (by omega) (by omega)
    · by_cases h2 : (9 ≤ t.val % 15 ∧ t.val % 15 ≤ 11)
      · exact sound_C m c t h0 h1 h2 (by omega)
      · exact sound_D m c t h0 h1 h2 (by omega)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := .rfl

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexact HS1
    isplitl [HS2]
    · iexact HS2
    isplitl [HS3]
    · iexists _; iexact HS3
    isplitl [HS4]
    · iexists _; iexact HS4
    isplitl [HS5]
    · iexists _; iexact HS5
    iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 15 := N_0; omega)

/-! ## The run and the frame -/

-- `θ_run_frame_around_track_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_KernelIdeal`'s statement (Defs.lean) at any `F`:
    `theorem Cert.Proof.claim : Cert.Claim := ⟨Cert.KernelIdeal.Gen.facts, fun m ρ _ => Cert.KernelIdeal.Gen.frame m ρ⟩`. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelIdeal.Gen

end
-- ==== Proof.KHost.lean ====
/- What each grid point of the kernel is handed, in terms of the arguments: the host's reshapes, transposes and the
   row of weight scales, read at an index. -/
module

public import proofs.«01_k».proof.Proof.FrameI
public import Idealize.ShloMosaic.Lib.Pipeline.ValueKit

@[expose] public section

set_option maxRecDepth 16384

noncomputable section

namespace Cert.KernelIdeal.Gen

open Cert.Nat01
open Idealize.ShloMosaic Idealize.ShloMosaic.TcCoe Idealize.ShloMosaic.Tactic

variable (m : (ℓ : Loc nD τ sig) → Buf (Elt Ideal) ℓ) (c : Dev nD)

/-- The query weights on core `c`. -/
abbrev Wq : S2304x96x16.Idx → BitVec 8 := m ((c : Thread nD τ).loc main_arg3)
/-- The query weights' scales. -/
abbrev Sq : S2304.Idx → EReal := m ((c : Thread nD τ).loc main_arg4)
/-- The key weights. -/
abbrev Wk : S768x96x16.Idx → BitVec 8 := m ((c : Thread nD τ).loc main_arg5)
/-- The key weights' scales. -/
abbrev Sk : S768.Idx → EReal := m ((c : Thread nD τ).loc main_arg6)
/-- The value weights. -/
abbrev Wv : S768x96x16.Idx → BitVec 8 := m ((c : Thread nD τ).loc main_arg7)
/-- The value weights' scales. -/
abbrev Sv : S768.Idx → EReal := m ((c : Thread nD τ).loc main_arg8)

/-- The three weight scales put in a row, whatever was computed before. -/
theorem nary_cat (F : Valuation τ sig (Elt Ideal)) (a : S2304.Idx → EReal) (b d : S768.Idx → EReal)
    (ha : F (Proc.devRef .tc main_arg4) = a) (hb : F (Proc.devRef .tc main_arg6) = b) (hd : F (Proc.devRef .tc main_arg8) = d) (hxs hy) :
    (StableHlo.nary (τ := τ) ![main_arg4, main_arg6, main_arg8] main_v11 (fun u => (concatenate S3840 0 [⟨S2304, (u 0 : (⟨S2304, .f32⟩ : BufTy).Contents (Elt Ideal))⟩, ⟨S768, (u 1 : (⟨S768, .f32⟩ : BufTy).Contents (Elt Ideal))⟩, ⟨S768, (u 2 : (⟨S768, .f32⟩ : BufTy).Contents (Elt Ideal))⟩] concatenates_S2304_S768_S768_S3840_d0 : (⟨S3840, .f32⟩ : BufTy).Contents (Elt Ideal))) hxs hy).result F (Proc.devRef .tc main_v11)
      = concatenate S3840 0 [⟨S2304, a⟩, ⟨S768, b⟩, ⟨S768, d⟩] concatenates_S2304_S768_S768_S3840_d0 := by
  subst ha hb hd
  rw [StableHlo.nary_result]
  rfl

/-- The weight scales, as the kernel is handed them. -/
theorem vv12 : (V m c main_v12 : S15x1x256.Idx → EReal) = shapeCast S15x1x256 (concatenate S3840 0 [⟨S2304, Sq m c⟩, ⟨S768, Sk m c⟩, ⟨S768, Sv m c⟩] concatenates_S2304_S768_S768_S3840_d0) shapeCasts_S3840_S15x1x256 := by
  show StableHlo.after _ _ _ = _
  simp only [List.flatten_cons, List.flatten_nil, List.append_nil]
  simp only [StableHlo.after_cons, StableHlo.after_nil]
  rw [StableHlo.reshape_result_ne]; rotate_left; decide
  rw [StableHlo.unary_result_ne]; rotate_left; decide
  rw [StableHlo.unary_result_ne]; rotate_left; decide
  rw [StableHlo.unary_result_ne]; rotate_left; decide
  rw [StableHlo.reshape_result, nary_cat _ (Sq m c) (Sk m c) (Sv m c) ?_ ?_ ?_]
  · rfl
  · after_results_simp
  · after_results_simp
  · after_results_simp

/-- The row of weight scales at a column. -/
theorem cat_ix (a : S2304.Idx → EReal) (b d : S768.Idx → EReal) (t : Fin 15) (n : Fin 256) :
    shapeCast S15x1x256 (concatenate S3840 0 [⟨S2304, a⟩, ⟨S768, b⟩, ⟨S768, d⟩] concatenates_S2304_S768_S768_S3840_d0) shapeCasts_S3840_S15x1x256 (ix3 t 0 n)
     = if 256 * t.val + n.val < 2304 then g1 a (256 * t.val + n.val) else if 256 * t.val + n.val < 3072 then g1 b (256 * t.val + n.val - 2304) else g1 d (256 * t.val + n.val - 3072) := by
  generalize hv : (if 256 * t.val + n.val < 2304 then g1 a (256 * t.val + n.val) else if 256 * t.val + n.val < 3072 then g1 b (256 * t.val + n.val - 2304) else g1 d (256 * t.val + n.val - 3072)) = v
  pointwise
  rw [← hv]
  clear hv
  by_cases h : t.val * 256 + n.val < 2304
  · refine (dif_pos h).trans (Eq.trans ?_ (if_pos (show 256 * t.val + n.val < 2304 by omega)).symm)
    exact (g1_ix a _).trans (congrArg (g1 a) (show t.val * 256 + n.val = _ by omega))
  · refine (dif_neg h).trans (Eq.trans ?_ (if_neg (show ¬ 256 * t.val + n.val < 2304 by omega)).symm)
    by_cases h' : t.val * 256 + n.val - 2304 < 768
    · refine (dif_pos h').trans (Eq.trans ?_ (if_pos (show 256 * t.val + n.val < 3072 by omega)).symm)
      exact (g1_ix b _).trans (congrArg (g1 b) (show t.val * 256 + n.val - 2304 = _ by omega))
    · refine (dif_neg h').trans (Eq.trans ?_ (if_neg (show ¬ 256 * t.val + n.val < 3072 by omega)).symm)
      exact (g1_ix d _).trans (congrArg (g1 d) (show t.val * 256 + n.val - 2304 - 768 = _ by omega))

/-- The query weights, as the kernel is handed them. -/
theorem vv13 : (V m c main_v13 : S96x16x2304.Idx → BitVec 8) = transpose S96x16x2304 [1, 2, 0] (Wq m c) transposes_S2304x96x16_S96x16x2304_1_2_0 := by
  show StableHlo.after _ _ _ = _
  simp only [List.flatten_cons, List.flatten_nil, List.append_nil]
  after_results

/-- The key weights, as the kernel is handed them. -/
theorem vv14 : (V m c main_v14 : S96x16x768.Idx → BitVec 8) = transpose S96x16x768 [1, 2, 0] (Wk m c) transposes_S768x96x16_S96x16x768_1_2_0 := by
  show StableHlo.after _ _ _ = _
  simp only [List.flatten_cons, List.flatten_nil, List.append_nil]
  after_results

/-- The value weights, as the kernel is handed them. -/
theorem vv15 : (V m c main_v15 : S96x16x768.Idx → BitVec 8) = transpose S96x16x768 [1, 2, 0] (Wv m c) transposes_S768x96x16_S96x16x768_1_2_0 := by
  show StableHlo.after _ _ _ = _
  simp only [List.flatten_cons, List.flatten_nil, List.append_nil]
  after_results

/-- The activations, as the kernel is handed them. -/
theorem vv0 : (V m c main_v0 : S768x3072.Idx → EReal) = shapeCast S768x3072 (m ((c : Thread nD τ).loc main_arg0) : S3x256x3072.Idx → EReal) shapeCasts_S3x256x3072_S768x3072 := by
  show StableHlo.after _ _ _ = _
  simp only [List.flatten_cons, List.flatten_nil, List.append_nil]
  after_results
  rfl

/-- The norm's weights, as the kernel is handed them. -/
theorem vv16 : (V m c main_v16 : S1x3072.Idx → EReal) = shapeCast S1x3072 (m ((c : Thread nD τ).loc main_arg1) : S3072.Idx → EReal) shapeCasts_S3072_S1x3072 := by
  show StableHlo.after _ _ _ = _
  simp only [List.flatten_cons, List.flatten_nil, List.append_nil]
  after_results
  rfl

/-- The inverse frequencies: 10000 to the power of minus twice the pair's number over 96. -/
def frq : S48.Idx → EReal :=
  Host.powf (broadcastInDim S48 ![] bcast_S_S48 (constant (F := Ideal) S_ .f32 0x461C4000#32))
    (Host.divf (Host.negf (mulf (F := Ideal) (φ := .f32) (broadcastInDim S48 ![] bcast_S_S48 (constant (F := Ideal) S_ .f32 0x40000000#32)) (sitofp .f32 (iotaInDim S48 32 0))))
      (broadcastInDim S48 ![] bcast_S_S48 (constant (F := Ideal) S_ .f32 0x42C00000#32)))

/-- The frequencies, as the kernel is handed them: every lane the same. -/
theorem vv10 : (V m c main_v10 : S48x128.Idx → EReal) = broadcastInDim S48x128 ![0, 1] bcast_S48x1_S48x128_0_1 (broadcastInDim S48x1 ![0] bcast_S48_S48x1_0 frq) := by
  show StableHlo.after _ _ _ = _
  simp only [List.flatten_cons, List.flatten_nil, List.append_nil]
  after_results
  rfl

/-- The query weights, transposed, at an index. -/
theorem trq (W : S2304x96x16.Idx → BitVec 8) (i : Fin 96) (j : Fin 16) (n : Fin 2304) :
    transpose S96x16x2304 [1, 2, 0] W transposes_S2304x96x16_S96x16x2304_1_2_0 (ix3 i j n) = W (ix3 n i j) := by
  pointwise
/-- The key or value weights, transposed, at an index. -/
theorem trk (W : S768x96x16.Idx → BitVec 8) (i : Fin 96) (j : Fin 16) (n : Fin 768) :
    transpose S96x16x768 [1, 2, 0] W transposes_S768x96x16_S96x16x768_1_2_0 (ix3 i j n) = W (ix3 n i j) := by
  pointwise

/-- A byte of transposed weights, at a place known by its coordinates. -/
theorem at_tr {N : ℕ} (A : (⟨3, ![96, 16, N]⟩ : Shape).Idx → BitVec 8) (W : (⟨3, ![N, 96, 16]⟩ : Shape).Idx → BitVec 8) (hA : ∀ i j n, A (ix3 i j n) = W (ix3 n i j))
    (z : (⟨3, ![96, 16, N]⟩ : Shape).Idx) (i j n : ℕ) (h0 : (z 0).val = i) (h1 : (z 1).val = j) (h2 : (z 2).val = n) : A z = g3 W n i j := by
  rw [eq_ix3 (n0 := 96) (n1 := 16) (n2 := N) z]
  refine (hA (z 0) (z 1) (z 2)).trans ?_
  rw [g3_ix W (z 2) (z 0) (z 1), h0, h1, h2]

/-- The block of window 4 at a point. -/
theorem ixw4 : ∀ (t : Fin cfg0.N) (a : Fin 3), (cfg0.win 4).index t a = (![0, 0, 2 * min t.val 8] : Fin 3 → ℕ) a := by decide +kernel
/-- What a point is handed in window 4. -/
theorem iblk4 (t : Fin cfg0.N) (i : Fin 96) (j : Fin 16) (l : Fin 128) : (iblk m c 4 t : S96x16x128.Idx → BitVec 8) (ix3 i j l)
    = g3 (Wq m c) (256 * min t.val 8 + l.val) i.val j.val := by
  have h := fun a => (cfg0.win 4).rect_emb_val t (ix3 i j l) a
  have h2 : ((((cfg0.win 4).rect t).emb (ix3 i j l) 2 : Fin _) : ℕ) = (2 * min t.val 8) * 128 + l.val := (h 2).trans (by rw [ixw4]; rfl)
  refine at_tr (V m c main_v13 : S96x16x2304.Idx → BitVec 8) (Wq m c) (fun i j n => (congrFun (vv13 m c) _).trans (trq (Wq m c) i j n))
    (((cfg0.win 4).rect t).emb (ix3 i j l)) i.val j.val _ ?_ ?_ (h2.trans (by omega))
  · exact (h 0).trans (by rw [ixw4]; exact (show 0 * 96 + i.val = i.val by omega))
  · exact (h 1).trans (by rw [ixw4]; exact (show 0 * 16 + j.val = j.val by omega))

/-- The block of window 5 at a point. -/
theorem ixw5 : ∀ (t : Fin cfg0.N) (a : Fin 3), (cfg0.win 5).index t a = (![0, 0, 2 * min t.val 8 + 1] : Fin 3 → ℕ) a := by decide +kernel
/-- What a point is handed in window 5. -/
theorem iblk5 (t : Fin cfg0.N) (i : Fin 96) (j : Fin 16) (l : Fin 128) : (iblk m c 5 t : S96x16x128.Idx → BitVec 8) (ix3 i j l)
    = g3 (Wq m c) (256 * min t.val 8 + 128 + l.val) i.val j.val := by
  have h := fun a => (cfg0.win 5).rect_emb_val t (ix3 i j l) a
  have h2 : ((((cfg0.win 5).rect t).emb (ix3 i j l) 2 : Fin _) : ℕ) = (2 * min t.val 8 + 1) * 128 + l.val := (h 2).trans (by rw [ixw5]; rfl)
  refine at_tr (V m c main_v13 : S96x16x2304.Idx → BitVec 8) (Wq m c) (fun i j n => (congrFun (vv13 m c) _).trans (trq (Wq m c) i j n))
    (((cfg0.win 5).rect t).emb (ix3 i j l)) i.val j.val _ ?_ ?_ (h2.trans (by omega))
  · exact (h 0).trans (by rw [ixw5]; exact (show 0 * 96 + i.val = i.val by omega))
  · exact (h 1).trans (by rw [ixw5]; exact (show 0 * 16 + j.val = j.val by omega))

/-- The block of window 6 at a point. -/
theorem ixw6 : ∀ (t : Fin cfg0.N) (a : Fin 3), (cfg0.win 6).index t a = (![0, 0, 2 * min (t.val - 9) 2] : Fin 3 → ℕ) a := by decide +kernel
/-- What a point is handed in window 6. -/
theorem iblk6 (t : Fin cfg0.N) (i : Fin 96) (j : Fin 16) (l : Fin 128) : (iblk m c 6 t : S96x16x128.Idx → BitVec 8) (ix3 i j l)
    = g3 (Wk m c) (256 * min (t.val - 9) 2 + l.val) i.val j.val := by
  have h := fun a => (cfg0.win 6).rect_emb_val t (ix3 i j l) a
  have h2 : ((((cfg0.win 6).rect t).emb (ix3 i j l) 2 : Fin _) : ℕ) = (2 * min (t.val - 9) 2) * 128 + l.val := (h 2).trans (by rw [ixw6]; rfl)
  refine at_tr (V m c main_v14 : S96x16x768.Idx → BitVec 8) (Wk m c) (fun i j n => (congrFun (vv14 m c) _).trans (trk (Wk m c) i j n))
    (((cfg0.win 6).rect t).emb (ix3 i j l)) i.val j.val _ ?_ ?_ (h2.trans (by omega))
  · exact (h 0).trans (by rw [ixw6]; exact (show 0 * 96 + i.val = i.val by omega))
  · exact (h 1).trans (by rw [ixw6]; exact (show 0 * 16 + j.val = j.val by omega))

/-- The block of window 7 at a point. -/
theorem ixw7 : ∀ (t : Fin cfg0.N) (a : Fin 3), (cfg0.win 7).index t a = (![0, 0, 2 * min (t.val - 9) 2 + 1] : Fin 3 → ℕ) a := by decide +kernel
/-- What a point is handed in window 7. -/
theorem iblk7 (t : Fin cfg0.N) (i : Fin 96) (j : Fin 16) (l : Fin 128) : (iblk m c 7 t : S96x16x128.Idx → BitVec 8) (ix3 i j l)
    = g3 (Wk m c) (256 * min (t.val - 9) 2 + 128 + l.val) i.val j.val := by
  have h := fun a => (cfg0.win 7).rect_emb_val t (ix3 i j l) a
  have h2 : ((((cfg0.win 7).rect t).emb (ix3 i j l) 2 : Fin _) : ℕ) = (2 * min (t.val - 9) 2 + 1) * 128 + l.val := (h 2).trans (by rw [ixw7]; rfl)
  refine at_tr (V m c main_v14 : S96x16x768.Idx → BitVec 8) (Wk m c) (fun i j n => (congrFun (vv14 m c) _).trans (trk (Wk m c) i j n))
    (((cfg0.win 7).rect t).emb (ix3 i j l)) i.val j.val _ ?_ ?_ (h2.trans (by omega))
  · exact (h 0).trans (by rw [ixw7]; exact (show 0 * 96 + i.val = i.val by omega))
  · exact (h 1).trans (by rw [ixw7]; exact (show 0 * 16 + j.val = j.val by omega))

/-- The block of window 8 at a point. -/
theorem ixw8 : ∀ (t : Fin cfg0.N) (a : Fin 3), (cfg0.win 8).index t a = (![0, 0, 2 * (t.val - 12)] : Fin 3 → ℕ) a := by decide +kernel
/-- What a point is handed in window 8. -/
theorem iblk8 (t : Fin cfg0.N) (i : Fin 96) (j : Fin 16) (l : Fin 128) : (iblk m c 8 t : S96x16x128.Idx → BitVec 8) (ix3 i j l)
    = g3 (Wv m c) (256 * (t.val - 12) + l.val) i.val j.val := by
  have h := fun a => (cfg0.win 8).rect_emb_val t (ix3 i j l) a
  have h2 : ((((cfg0.win 8).rect t).emb (ix3 i j l) 2 : Fin _) : ℕ) = (2 * (t.val - 12)) * 128 + l.val := (h 2).trans (by rw [ixw8]; rfl)
  refine at_tr (V m c main_v15 : S96x16x768.Idx → BitVec 8) (Wv m c) (fun i j n => (congrFun (vv15 m c) _).trans (trk (Wv m c) i j n))
    (((cfg0.win 8).rect t).emb (ix3 i j l)) i.val j.val _ ?_ ?_ (h2.trans (by omega))
  · exact (h 0).trans (by rw [ixw8]; exact (show 0 * 96 + i.val = i.val by omega))
  · exact (h 1).trans (by rw [ixw8]; exact (show 0 * 16 + j.val = j.val by omega))

/-- The block of window 9 at a point. -/
theorem ixw9 : ∀ (t : Fin cfg0.N) (a : Fin 3), (cfg0.win 9).index t a = (![0, 0, 2 * (t.val - 12) + 1] : Fin 3 → ℕ) a := by decide +kernel
/-- What a point is handed in window 9. -/
theorem iblk9 (t : Fin cfg0.N) (i : Fin 96) (j : Fin 16) (l : Fin 128) : (iblk m c 9 t : S96x16x128.Idx → BitVec 8) (ix3 i j l)
    = g3 (Wv m c) (256 * (t.val - 12) + 128 + l.val) i.val j.val := by
  have h := fun a => (cfg0.win 9).rect_emb_val t (ix3 i j l) a
  have h2 : ((((cfg0.win 9).rect t).emb (ix3 i j l) 2 : Fin _) : ℕ) = (2 * (t.val - 12) + 1) * 128 + l.val := (h 2).trans (by rw [ixw9]; rfl)
  refine at_tr (V m c main_v15 : S96x16x768.Idx → BitVec 8) (Wv m c) (fun i j n => (congrFun (vv15 m c) _).trans (trk (Wv m c) i j n))
    (((cfg0.win 9).rect t).emb (ix3 i j l)) i.val j.val _ ?_ ?_ (h2.trans (by omega))
  · exact (h 0).trans (by rw [ixw9]; exact (show 0 * 96 + i.val = i.val by omega))
  · exact (h 1).trans (by rw [ixw9]; exact (show 0 * 16 + j.val = j.val by omega))

/-- The block of window 10 at a point. -/
theorem ixw10 : ∀ (t : Fin cfg0.N) (a : Fin 3), (cfg0.win 10).index t a = (![t.val, 0, 0] : Fin 3 → ℕ) a := by decide +kernel
/-- The scales a point is handed. -/
theorem iblk10 (t : Fin cfg0.N) (n : Fin 256) : (iblk m c 10 t : S1x1x256.Idx → EReal) (ix3 0 0 n)
    = if 256 * t.val + n.val < 2304 then g1 (Sq m c) (256 * t.val + n.val) else if 256 * t.val + n.val < 3072 then g1 (Sk m c) (256 * t.val + n.val - 2304)
      else g1 (Sv m c) (256 * t.val + n.val - 3072) := by
  have hN : t.val < 15 := lt_of_lt_of_eq t.isLt (show cfg0.N = 15 from N_0)
  have e : (iblk m c 10 t : S1x1x256.Idx → EReal) (ix3 0 0 n) = (V m c main_v12 : S15x1x256.Idx → EReal) (((cfg0.win 10).rect t).emb (ix3 0 0 n)) := rfl
  rw [e, vv12]
  have h := fun a => (cfg0.win 10).rect_emb_val t (ix3 0 0 n) a
  have h0 : ((((cfg0.win 10).rect t).emb (ix3 0 0 n) 0 : Fin _) : ℕ) = t.val * 1 + 0 := (h 0).trans (by rw [ixw10]; rfl)
  have h1 : ((((cfg0.win 10).rect t).emb (ix3 0 0 n) 1 : Fin _) : ℕ) = 0 * 1 + 0 := (h 1).trans (by rw [ixw10]; rfl)
  have h2 : ((((cfg0.win 10).rect t).emb (ix3 0 0 n) 2 : Fin _) : ℕ) = 0 * 256 + n.val := (h 2).trans (by rw [ixw10]; rfl)
  have hy : ((cfg0.win 10).rect t).emb (ix3 0 0 n) = (ix3 (⟨t.val, hN⟩ : Fin 15) (0 : Fin 1) n : S15x1x256.Idx) := by
    refine (eq_ix3 (n0 := 15) (n1 := 1) (n2 := 256) _).trans ?_
    congr 1
    · exact Fin.ext (h0.trans (show _ = t.val by omega))
    · exact Fin.ext (h2.trans (by omega))
  rw [hy]
  exact cat_ix (Sq m c) (Sk m c) (Sv m c) ⟨t.val, hN⟩ n

/-- The activations are handed whole. -/
theorem whole0 : (iblk m c 0 p0 : (⟨2, ![768, 3072]⟩ : Shape).Idx → EReal) = V m c main_v0 := by
  funext y
  have hix : ∀ (t : Fin cfg0.N) (a : Fin 2), (cfg0.win 0).index t a = 0 := by decide +kernel
  have e : (iblk m c 0 p0 : (⟨2, ![768, 3072]⟩ : Shape).Idx → EReal) y = (V m c main_v0 : (⟨2, ![768, 3072]⟩ : Shape).Idx → EReal) (((cfg0.win 0).rect p0).emb y) := rfl
  rw [e]
  congr 1
  funext a
  exact Fin.ext (Pipeline.Window.rect_emb_val_of_index_zero (cfg0.win 0) p0 a (hix p0 a) y)

/-- The norm's weights are handed whole. -/
theorem whole1 : (iblk m c 1 p0 : (⟨2, ![1, 3072]⟩ : Shape).Idx → EReal) = V m c main_v16 := by
  funext y
  have hix : ∀ (t : Fin cfg0.N) (a : Fin 2), (cfg0.win 1).index t a = 0 := by decide +kernel
  have e : (iblk m c 1 p0 : (⟨2, ![1, 3072]⟩ : Shape).Idx → EReal) y = (V m c main_v16 : (⟨2, ![1, 3072]⟩ : Shape).Idx → EReal) (((cfg0.win 1).rect p0).emb y) := rfl
  rw [e]
  congr 1
  funext a
  exact Fin.ext (Pipeline.Window.rect_emb_val_of_index_zero (cfg0.win 1) p0 a (hix p0 a) y)

/-- The positions are handed whole. -/
theorem whole2 : (iblk m c 2 p0 : (⟨2, ![3, 256]⟩ : Shape).Idx → BitVec 32) = V m c main_arg2 := by
  funext y
  have hix : ∀ (t : Fin cfg0.N) (a : Fin 2), (cfg0.win 2).index t a = 0 := by decide +kernel
  have e : (iblk m c 2 p0 : (⟨2, ![3, 256]⟩ : Shape).Idx → BitVec 32) y = (V m c main_arg2 : (⟨2, ![3, 256]⟩ : Shape).Idx → BitVec 32) (((cfg0.win 2).rect p0).emb y) := rfl
  rw [e]
  congr 1
  funext a
  exact Fin.ext (Pipeline.Window.rect_emb_val_of_index_zero (cfg0.win 2) p0 a (hix p0 a) y)

/-- The frequencies are handed whole. -/
theorem whole3 : (iblk m c 3 p0 : (⟨2, ![48, 128]⟩ : Shape).Idx → EReal) = V m c main_v10 := by
  funext y
  have hix : ∀ (t : Fin cfg0.N) (a : Fin 2), (cfg0.win 3).index t a = 0 := by decide +kernel
  have e : (iblk m c 3 p0 : (⟨2, ![48, 128]⟩ : Shape).Idx → EReal) y = (V m c main_v10 : (⟨2, ![48, 128]⟩ : Shape).Idx → EReal) (((cfg0.win 3).rect p0).emb y) := rfl
  rw [e]
  congr 1
  funext a
  exact Fin.ext (Pipeline.Window.rect_emb_val_of_index_zero (cfg0.win 3) p0 a (hix p0 a) y)

/-- The activations laid out as rows, at an index. -/
theorem x0_ix (A : S3x256x3072.Idx → EReal) (b : Fin 3) (s : Fin 256) (d : Fin 3072) (r : Fin 768) (hr : r.val = 256 * b.val + s.val) :
    shapeCast S768x3072 A shapeCasts_S3x256x3072_S768x3072 (ix2 r d) = A (ix3 b s d) := by
  have hb : (⟨r.val / 256, by omega⟩ : Fin 3) = b := Fin.ext (show r.val / 256 = b.val by omega)
  have hs : (⟨r.val % 256, by omega⟩ : Fin 256) = s := Fin.ext (show r.val % 256 = s.val by omega)
  have h : shapeCast S768x3072 A shapeCasts_S3x256x3072_S768x3072 (ix2 r d) = A (ix3 (⟨r.val / 256, by omega⟩ : Fin 3) (⟨r.val % 256, by omega⟩ : Fin 256) d) := by pointwise
  rw [h, hb, hs]

/-- The norm's weights laid out as a row, at an index. -/
theorem x1_ix (A : S3072.Idx → EReal) (d : Fin 3072) : shapeCast S1x3072 A shapeCasts_S3072_S1x3072 (ix2 0 d) = A (ix1 d) := by
  pointwise

/-- The activations at an index. -/
theorem X0_ix (b : Fin 3) (s : Fin 256) (d : Fin 3072) : (m ((c : Thread nD τ).loc main_arg0) : S3x256x3072.Idx → EReal) (ix3 b s d) = g2 (X0 m c) (256 * b.val + s.val) d.val := by
  have h : (X0 m c : S768x3072.Idx → EReal) = _ := (whole0 m c).trans (vv0 m c)
  rw [h]
  have hr : 256 * b.val + s.val < 768 := by omega
  rw [← x0_ix (m ((c : Thread nD τ).loc main_arg0) : S3x256x3072.Idx → EReal) b s d ⟨256 * b.val + s.val, hr⟩ rfl]
  exact g2_ix _ _ _

/-- The norm's weights at an index. -/
theorem X1_ix (d : Fin 3072) : (m ((c : Thread nD τ).loc main_arg1) : S3072.Idx → EReal) (ix1 d) = g2 (X1 m c) 0 d.val := by
  have h : (X1 m c : S1x3072.Idx → EReal) = _ := (whole1 m c).trans (vv16 m c)
  rw [h, ← x1_ix (m ((c : Thread nD τ).loc main_arg1) : S3072.Idx → EReal) d]
  exact g2_ix _ _ _

/-- The positions are the argument. -/
theorem X2_eq : (X2 m c : S3x256.Idx → BitVec 32) = m ((c : Thread nD τ).loc main_arg2) := (whole2 m c).trans (V_main_arg2 m c)

/-- The frequencies at an index. -/
theorem X3_ix (p : Fin 48) : g2 (X3 m c) p.val 0 = frq (ix1 p) := by
  have h : (X3 m c : S48x128.Idx → EReal) = _ := (whole3 m c).trans (vv10 m c)
  rw [h]
  generalize frq = A
  refine (g2_ix _ p (0 : Fin 128)).symm.trans ?_
  pointwise

end Cert.KernelIdeal.Gen

end
-- ==== Proof.RVal.lean ====
/- The reference's payloads at an index: scales, codes, and the codes laid out for the two products. -/
module

public import proofs.«01_k».proof.Proof.LoopA
public import proofs.«01_k».proof.Proof.Gen.ReferenceIdeal.Skeleton

@[expose] public section

noncomputable section

namespace Cert.ReferenceIdeal.Gen

open Cert.Nat01
open Idealize.ShloMosaic Idealize.ShloMosaic.TcCoe
open Cert.KernelIdeal.Gen (nrm amx scl cod cdf ang)

section Steps
variable (V : FVec Ideal S3x256x3072 .f32) (Z U : FVec Ideal S3x256 .f32) (W : IVec S3x256 1) (b : Fin 3) (s : Fin 256) (d : Fin 3072)

/-- Conversion to a code. -/
theorem st_fptosi : fptosi 8 V (ix3 b s d) = FloatOps.fptosi (F := Ideal) (φ := .f32) 8 (V (ix3 b s d)) := by pointwise
/-- Clipping from above. -/
theorem st_min : minimumf (broadcast S3x256x3072 (Scalar.ofBits (F := Ideal) .f32 0x42FE0000#32)) V (ix3 b s d) = min (Ideal.ofBits FTy.f32 1123942400#32) (V (ix3 b s d)) := by
  pointwise
/-- Clipping from below. -/
theorem st_max : maximumf (broadcast S3x256x3072 (Scalar.ofBits (F := Ideal) .f32 0xC2FE0000#32)) V (ix3 b s d) = max (Ideal.ofBits FTy.f32 3271426048#32) (V (ix3 b s d)) := by
  pointwise
/-- Rounding to the nearest integer. -/
theorem st_round : roundeven V (ix3 b s d) = Ideal.liftRound Ideal.roundHalfEven (V (ix3 b s d)) := by pointwise
/-- Division by the row's scale. -/
theorem st_div : divf V (broadcastTo S3x256x3072 (shapeCast S3x256x1 Z shapeCasts_S3x256_S3x256x1) broadcasts_S3x256x1_S3x256x3072) (ix3 b s d)
    = Ideal.div (V (ix3 b s d)) (Z (ix2 b s)) := by pointwise
/-- Absolute values. -/
theorem st_abs : absf V (ix3 b s d) = FloatOps.absf (F := Ideal) (φ := .f32) (V (ix3 b s d)) := by pointwise
/-- The largest entry of a row. -/
theorem st_fold : multiReduction .maximumf [2] S3x256 V 0xFF800000#32 reduces_S3x256x3072_S3x256 (.inl rfl) rfl (ix2 b s)
    = Finset.fold max (Ideal.ofBits FTy.f32 4286578688#32) (fun j : Fin 3072 => V (ix3 b s j)) Finset.univ := by pointwise
/-- A zero scale becomes 1. -/
theorem st_select : select W (broadcast S3x256 (Scalar.ofBits (F := Ideal) .f32 0x3F800000#32)) Z (ix2 b s) = Scalar.select (W (ix2 b s)) 1 (Z (ix2 b s)) := by
  pointwise
/-- The test for zero. -/
theorem st_cmp : cmpf .oeq Z (broadcast S3x256 (Scalar.ofBits (F := Ideal) .f32 0x00000000#32)) (ix2 b s)
    = FloatOps.cmpf (F := Ideal) (φ := .f32) CmpFPredicate.oeq (Z (ix2 b s)) 0 := by pointwise
/-- Division by 127. -/
theorem st_div127 : divf Z (broadcast S3x256 (Scalar.ofBits (F := Ideal) .f32 0x42FE0000#32)) (ix2 b s)
    = Ideal.div (Z (ix2 b s)) (Ideal.ofBits FTy.f32 1123942400#32) := by pointwise
end Steps

/-- The scale, from any normalised rows. -/
theorem scale_ix (x : Vec Ideal S3x256x3072 .bf16) (w : Vec Ideal S3072 .f32) (b : Fin 3) (s : Fin 256) :
    k0_pay2 x w (ix2 b s) = Scalar.select (FloatOps.cmpf (F := Ideal) (φ := .f32) CmpFPredicate.oeq
        (Finset.fold max (Ideal.ofBits FTy.f32 4286578688#32) (fun j : Fin 3072 => FloatOps.absf (F := Ideal) (φ := .f32) (k0_pay1 x w (ix3 b s j))) Finset.univ) 0) 1
      (Ideal.div (Finset.fold max (Ideal.ofBits FTy.f32 4286578688#32) (fun j : Fin 3072 => FloatOps.absf (F := Ideal) (φ := .f32) (k0_pay1 x w (ix3 b s j))) Finset.univ)
        (Ideal.ofBits FTy.f32 1123942400#32)) := by
  have hm := fun Y : FVec Ideal S3x256x3072 .f32 => (st_fold (absf Y) b s).trans
    (congrArg (fun f => Finset.fold max (Ideal.ofBits FTy.f32 4286578688#32) f Finset.univ) (funext fun j => st_abs Y b s j))
  unfold k0_pay2
  generalize k0_pay1 x w = Y
  refine (st_select _ _ b s).trans ?_
  rw [st_cmp, st_div127]
  rw [hm Y]

/-- The code, from any normalised rows and scales. -/
theorem code_ix (x : Vec Ideal S3x256x3072 .bf16) (w : Vec Ideal S3072 .f32) (b : Fin 3) (s : Fin 256) (d : Fin 3072) :
    k0_pay3 x w (ix3 b s d) = FloatOps.fptosi (F := Ideal) (φ := .f32) 8 (min (Ideal.ofBits FTy.f32 1123942400#32)
    (max (Ideal.ofBits FTy.f32 3271426048#32) (Ideal.liftRound Ideal.roundHalfEven (Ideal.div (k0_pay1 x w (ix3 b s d)) (k0_pay2 x w (ix2 b s)))))) := by
  unfold k0_pay3
  generalize k0_pay1 x w = Y
  generalize k0_pay2 x w = Z
  refine (st_fptosi _ b s d).trans ?_
  rw [st_min, st_max, st_round, st_div]

variable (x : Vec Ideal S3x256x3072 .bf16) (w : Vec Ideal S3072 .f32)
  (X : Vec Ideal Cert.KernelIdeal.S768x3072 .bf16) (N : Vec Ideal Cert.KernelIdeal.S1x3072 .f32)
  (hx : ∀ (b : Fin 3) (s : Fin 256) (d : Fin 3072), x (ix3 b s d) = g2 X (256 * b.val + s.val) d.val)
  (hw : ∀ d : Fin 3072, w (ix1 d) = g2 N 0 d.val)
include hx hw

/-- The normalised activations. -/
theorem pay1_ix (b : Fin 3) (s : Fin 256) (d : Fin 3072) : k0_pay1 x w (ix3 b s d) = nrm X N (256 * b.val + s.val) d.val := by
  generalize hv : nrm X N (256 * b.val + s.val) d.val = v
  unfold k0_pay1
  pointwise
  simp only [hx, hw]
  rw [← hv, nrm]

/-- The scales. -/
theorem pay2_ix (b : Fin 3) (s : Fin 256) : k0_pay2 x w (ix2 b s) = scl X N (256 * b.val + s.val) := by
  rw [scale_ix, scl, amx]
  simp only [pay1_ix x w X N hx hw]

/-- The codes. -/
theorem pay3_ix (b : Fin 3) (s : Fin 256) (d : Fin 3072) : k0_pay3 x w (ix3 b s d) = cod X N (256 * b.val + s.val) d.val := by
  rw [code_ix, pay1_ix x w X N hx hw, pay2_ix x w X N hx hw, cod]

/-- The codes in runs of sixteen. -/
theorem pay4_ix (r : Fin 768) (g : Fin 96) (h : Fin 2) (j : Fin 16) :
    k0_pay4 x w (ix4 r g h j) = cdf X N r.val (32 * g.val + 16 * h.val + j.val) := by
  have hh := pay3_ix x w X N hx hw
  unfold k0_pay4
  generalize k0_pay3 x w = Y at hh ⊢
  pointwise
  rw [hh]
  show FloatOps.sitofp (F := Ideal) FTy.bf16 (cod X N (256 * (r.val / 256) + r.val % 256) (g.val * 32 + h.val * 16 + j.val)) = _
  rw [show 256 * (r.val / 256) + r.val % 256 = r.val by omega, show g.val * 32 + h.val * 16 + j.val = 32 * g.val + 16 * h.val + j.val by omega]
  rfl

/-- The codes that meet the low halves of the bytes. -/
theorem pay5_ix (r : Fin 768) (z : Fin 1536) :
    k0_pay5 x w (ix2 r z) = cdf X N r.val (32 * (z.val / 16) + z.val % 16) := by
  have hh := pay4_ix x w X N hx hw
  unfold k0_pay5
  generalize k0_pay4 x w = Y at hh ⊢
  pointwise
  exact hh _ _ _ _

/-- The codes that meet the high halves of the bytes. -/
theorem pay6_ix (r : Fin 768) (z : Fin 1536) :
    k0_pay6 (k0_pay4 x w) (ix2 r z) = cdf X N r.val (32 * (z.val / 16) + 16 + z.val % 16) := by
  have hh := pay4_ix x w X N hx hw
  unfold k0_pay6
  generalize k0_pay4 x w = Y at hh ⊢
  pointwise
  exact hh _ _ _ _

/-- The scales as one column. -/
theorem pay7_ix (r : Fin 768) : k0_pay7 (k0_pay2 x w) (ix1 r) = scl X N r.val := by
  have hh := pay2_ix x w X N hx hw
  unfold k0_pay7
  generalize k0_pay2 x w = Y at hh ⊢
  pointwise
  refine (hh _ _).trans ?_
  show scl X N (256 * (r.val / 256) + r.val % 256) = _
  rw [show 256 * (r.val / 256) + r.val % 256 = r.val by omega]

omit hx hw

/-- The angles. -/
theorem pay14_ix (P : Vec Ideal S3x256 .i32) (Q : Vec Ideal S48 .f32) (b : Fin 3) (s : Fin 256) (p : Fin 48) :
    k0_pay14 P Q (ix3 b s p) = FloatOps.sitofp (F := Ideal) FTy.f32 (P (ix2 b s)) * Q (ix1 p) := by
  unfold k0_pay14
  pointwise

/-- The cosines. -/
theorem pay15_ix (P : Vec Ideal S3x256 .i32) (Q : Vec Ideal S48 .f32) (b : Fin 3) (s : Fin 256) (z : Fin 1) (p : Fin 48) :
    k0_pay15 P Q (ix4 b s z p) = Ideal.cos (FloatOps.sitofp (F := Ideal) FTy.f32 (P (ix2 b s)) * Q (ix1 p)) := by
  have hh := pay14_ix P Q
  unfold k0_pay15
  generalize k0_pay14 P Q = Y at hh ⊢
  pointwise
  exact congrArg Ideal.cos (hh _ _ _)

/-- The sines. -/
theorem pay16_ix (Y : FVec Ideal S3x256x48 .f32) (b : Fin 3) (s : Fin 256) (z : Fin 1) (p : Fin 48) :
    k0_pay16 Y (ix4 b s z p) = Ideal.sin (Y (ix3 b s p)) := by
  unfold k0_pay16
  pointwise

end Cert.ReferenceIdeal.Gen

end
-- ==== Proof.RRope.lean ====
/- The reference's payloads at an index: the rotation of a query or key. -/
module

public import proofs.«01_k».proof.Proof.Base
public import Idealize.ShloMosaic.Lib.Pointwise.SelectCore
public import proofs.«01_k».proof.Proof.Gen.ReferenceIdeal.Skeleton

@[expose] public section

noncomputable section

namespace Cert.ReferenceIdeal.Gen

open Cert.Nat01
open Idealize.ShloMosaic Idealize.ShloMosaic.TcCoe

/-- The rotation of queries, at an entry of a head. -/
theorem pay17_ix (Y : FVec Ideal S3x256x24x96 .f32) (A : FVec Ideal S3x256x48 .f32) (C : FVec Ideal S3x256x1x48 .f32) (b : Fin 3) (s : Fin 256) (h : Fin 24) (e : Fin 96) :
    k0_pay17 Y A C (ix4 b s h e) = if e.val % 2 = 0 then
        Y (ix4 b s h ⟨2 * (e.val / 2), by omega⟩) * C (ix4 b s 0 ⟨e.val / 2, by omega⟩) - Y (ix4 b s h ⟨2 * (e.val / 2) + 1, by omega⟩) * k0_pay16 A (ix4 b s 0 ⟨e.val / 2, by omega⟩)
      else Y (ix4 b s h ⟨2 * (e.val / 2), by omega⟩) * k0_pay16 A (ix4 b s 0 ⟨e.val / 2, by omega⟩) + Y (ix4 b s h ⟨2 * (e.val / 2) + 1, by omega⟩) * C (ix4 b s 0 ⟨e.val / 2, by omega⟩) := by
  unfold k0_pay17
  generalize k0_pay16 A = B
  pointwise
  by_cases he : e.val % 2 = 0
  · rw [dif_pos (show e.val % 2 < 1 by omega), if_pos he]
    simp only [Nat.mul_comm 2]
  · rw [dif_neg (show ¬ e.val % 2 < 1 by omega), if_neg he]
    simp only [Nat.mul_comm 2]

/-- The rotation of keys, at an entry of a head. -/
theorem pay18_ix (Y : FVec Ideal S3x256x8x96 .f32) (A : FVec Ideal S3x256x48 .f32) (C : FVec Ideal S3x256x1x48 .f32) (b : Fin 3) (s : Fin 256) (h : Fin 8) (e : Fin 96) :
    k0_pay18 Y A C (ix4 b s h e) = if e.val % 2 = 0 then
        Y (ix4 b s h ⟨2 * (e.val / 2), by omega⟩) * C (ix4 b s 0 ⟨e.val / 2, by omega⟩) - Y (ix4 b s h ⟨2 * (e.val / 2) + 1, by omega⟩) * k0_pay16 A (ix4 b s 0 ⟨e.val / 2, by omega⟩)
      else Y (ix4 b s h ⟨2 * (e.val / 2), by omega⟩) * k0_pay16 A (ix4 b s 0 ⟨e.val / 2, by omega⟩) + Y (ix4 b s h ⟨2 * (e.val / 2) + 1, by omega⟩) * C (ix4 b s 0 ⟨e.val / 2, by omega⟩) := by
  unfold k0_pay18
  generalize k0_pay16 A = B
  pointwise
  by_cases he : e.val % 2 = 0
  · rw [dif_pos (show e.val % 2 < 1 by omega), if_pos he]
    simp only [Nat.mul_comm 2]
  · rw [dif_neg (show ¬ e.val % 2 < 1 by omega), if_neg he]
    simp only [Nat.mul_comm 2]

/-- The values are stored as they are. -/
theorem pay19_ix (Y : FVec Ideal S3x256x8x96 .f32) (b : Fin 3) (s : Fin 256) (h : Fin 8) (e : Fin 96) : k0_pay19 Y (ix4 b s h e) = Y (ix4 b s h e) := by
  unfold k0_pay19
  pointwise

/-- The weight in the low half of a byte, as the reference reads it. -/
def wlo (v : BitVec 8) : EReal := FloatOps.sitofp (F := Ideal) FTy.bf16 (IntOp.andi (BitVec.setWidth 32 v) 15#32) - Ideal.ofBits FTy.bf16 16640#16
/-- The weight in the high half of a byte, as the reference reads it. -/
def whi (v : BitVec 8) : EReal := FloatOps.sitofp (F := Ideal) FTy.bf16 (IntOp.shrsi ArithUnit.vector (BitVec.setWidth 32 v) 4#32) - Ideal.ofBits FTy.bf16 16640#16

/-- The projection of one token on one column, from the codes that meet the low and the high halves of the bytes. -/
def proj {N : ℕ} (L H : FVec Ideal S768x1536 .bf16) (Z : FVec Ideal S768 .f32) (W : (⟨3, ![N, 96, 16]⟩ : Shape).Idx → BitVec 8) (Q : (⟨1, ![N]⟩ : Shape).Idx → EReal)
    (r : Fin 768) (n : Fin N) : EReal :=
  (∑ x : Fin 1536, L (ix2 r x) * wlo (W (ix3 n ⟨x.val / 16, by omega⟩ ⟨x.val % 16, by omega⟩))
    + ∑ x : Fin 1536, H (ix2 r x) * whi (W (ix3 n ⟨x.val / 16, by omega⟩ ⟨x.val % 16, by omega⟩))) * Z (ix1 r) * Q (ix1 n)

/-- The queries before the rotation are a projection. -/
theorem pay8_ix (v23 : FVec Ideal S3x256 .f32) (v36 : FVec Ideal S768x96x2x16 .bf16) (v39 : FVec Ideal S768x1536 .bf16) (v44 : Vec Ideal S2304x96x16 .i8) (v45 : Vec Ideal S2304 .f32) (b : Fin 3) (s : Fin 256) (h : Fin 24) (e : Fin 96) :
    k0_pay8 v23 v36 v39 v44 v45 (ix4 b s h e) = proj v39 (k0_pay6 v36) (k0_pay7 v23) v44 v45 ⟨b.val * 256 + s.val, by omega⟩ ⟨h.val * 96 + e.val, by omega⟩ := by
  generalize hv : proj v39 (k0_pay6 v36) (k0_pay7 v23) v44 v45 ⟨b.val * 256 + s.val, by omega⟩ ⟨h.val * 96 + e.val, by omega⟩ = v
  unfold k0_pay8
  generalize k0_pay6 v36 = Y at hv ⊢
  generalize k0_pay7 v23 = Z at hv ⊢
  pointwise
  rw [← hv]
  rfl

/-- The keys before the rotation are a projection. -/
theorem pay12_ix (L H : FVec Ideal S768x1536 .bf16) (Z : FVec Ideal S768 .f32) (Q : Vec Ideal S768 .f32) (W : Vec Ideal S768x96x16 .i8) (b : Fin 3) (s : Fin 256) (h : Fin 8) (e : Fin 96) :
    k0_pay12 L H Z Q (k0_pay10 W) (k0_pay11 W) (ix4 b s h e) = proj L H Z W Q ⟨b.val * 256 + s.val, by omega⟩ ⟨h.val * 96 + e.val, by omega⟩ := by
  generalize hv : proj L H Z W Q ⟨b.val * 256 + s.val, by omega⟩ ⟨h.val * 96 + e.val, by omega⟩ = v
  unfold k0_pay12 k0_pay10 k0_pay11 k0_pay9
  pointwise
  rw [← hv]
  rfl

/-- The values are a projection. -/
theorem pay13_ix (L H : FVec Ideal S768x1536 .bf16) (Z : FVec Ideal S768 .f32) (Q : Vec Ideal S768 .f32) (W : Vec Ideal S768x96x16 .i8) (b : Fin 3) (s : Fin 256) (h : Fin 8) (e : Fin 96) :
    k0_pay13 L H Z W Q (ix4 b s h e) = proj L H Z W Q ⟨b.val * 256 + s.val, by omega⟩ ⟨h.val * 96 + e.val, by omega⟩ := by
  generalize hv : proj L H Z W Q ⟨b.val * 256 + s.val, by omega⟩ ⟨h.val * 96 + e.val, by omega⟩ = v
  unfold k0_pay13
  pointwise
  rw [← hv]
  rfl

end Cert.ReferenceIdeal.Gen

end
-- ==== Proof.RMath.lean ====
/- The projection both programs compute, in one form: the kernel's weights are sixteen times the reference's, and the
   kernel's weight scale is divided by sixteen. -/
module

public import proofs.«01_k».proof.Proof.RVal
public import proofs.«01_k».proof.Proof.RRope
public import proofs.«01_k».proof.Proof.RunLib
public import Idealize.ShloMosaic.Lib.IdealHost

@[expose] public section

set_option maxRecDepth 16384

noncomputable section

namespace Cert.KernelIdeal.Gen

open Cert.Nat01
open Idealize.ShloMosaic Idealize.ShloMosaic.TcCoe
open Cert.ReferenceIdeal.Gen (wlo whi proj)

/-- A finite sum of reals, taken in the extended reals. -/
theorem coe_sum {ι : Type} (s : Finset ι) (f : ι → ℝ) : (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

/-- A sum over the rows, split into the rows that read low halves and the rows that read high halves. -/
theorem sum_halves (f : ℕ → ℝ) : ∑ x : Fin 3072, f x.val
    = ∑ z : Fin 1536, f (32 * (z.val / 16) + z.val % 16) + ∑ z : Fin 1536, f (32 * (z.val / 16) + 16 + z.val % 16) := by
  rw [← Finset.sum_filter_add_sum_filter_not Finset.univ (fun x : Fin 3072 => x.val % 32 < 16)]
  refine congrArg₂ (· + ·) ?_ ?_
  · refine Finset.sum_bij' (fun x hx => (⟨16 * (x.val / 32) + x.val % 32 % 16, by omega⟩ : Fin 1536)) (fun z hz => (⟨32 * (z.val / 16) + z.val % 16, by omega⟩ : Fin 3072)) ?_ ?_ ?_ ?_ ?_
    · intro x hx; exact Finset.mem_univ _
    · intro z hz; simp only [Finset.mem_filter, Finset.mem_univ, true_and]; omega
    · intro x hx; simp only [Finset.mem_filter, Finset.mem_univ, true_and] at hx; apply Fin.ext; dsimp only; omega
    · intro z hz; apply Fin.ext; dsimp only; omega
    · intro x hx; simp only [Finset.mem_filter, Finset.mem_univ, true_and] at hx; exact congrArg f (by dsimp only; omega)
  · refine Finset.sum_bij' (fun x hx => (⟨16 * (x.val / 32) + x.val % 32 % 16, by omega⟩ : Fin 1536)) (fun z hz => (⟨32 * (z.val / 16) + 16 + z.val % 16, by omega⟩ : Fin 3072)) ?_ ?_ ?_ ?_ ?_
    · intro x hx; exact Finset.mem_univ _
    · intro z hz; simp only [Finset.mem_filter, Finset.mem_univ, true_and]; omega
    · intro x hx; simp only [Finset.mem_filter, Finset.mem_univ, true_and] at hx; apply Fin.ext; dsimp only; omega
    · intro z hz; apply Fin.ext; dsimp only; omega
    · intro x hx; simp only [Finset.mem_filter, Finset.mem_univ, true_and] at hx; exact congrArg f (by dsimp only; omega)

/-- The offset of a weight is eight. -/
theorem ofBits_eight : Ideal.ofBits FTy.bf16 16640#16 = (((8 : ℝ)) : EReal) := by
  rw [show (16640#16 : BitVec 16) = 0x4100#16 from rfl]
  simp [Ideal.ofBits, Ideal.ieee, -EReal.coe_mul]; norm_num

/-- The kernel's factor is one sixteenth. -/
theorem c16_eq : c16 = (((1 : ℝ) / 16 : ℝ) : EReal) := by
  rw [c16, show (1031798784#32 : BitVec 32) = 0x3D800000#32 from rfl]
  simp [Ideal.ofBits, Ideal.ieee, -EReal.coe_mul]; norm_num

/-- The kernel's low weight is 16 times the low half minus 8. -/
theorem low_int : ∀ v : BitVec 8, (low v).toInt = 16 * ((BitVec.setWidth 32 v &&& 15#32).toInt - 8) := by decide +kernel
/-- The kernel's high weight is 16 times the high half minus 8. -/
theorem hiw_int : ∀ v : BitVec 8, (hiw v).toInt = 16 * (((BitVec.setWidth 32 v).sshiftRight' 4#32).toInt - 8) := by decide +kernel

/-- The low half of a byte as a real. -/
def rlo (v : BitVec 8) : ℝ := (((BitVec.setWidth 32 v &&& 15#32).toInt : ℤ) : ℝ) - 8
/-- The high half of a byte as a real. -/
def rhi (v : BitVec 8) : ℝ := ((((BitVec.setWidth 32 v).sshiftRight' 4#32).toInt : ℤ) : ℝ) - 8

/-- The reference's low weight is a real. -/
theorem wlo_eq (v : BitVec 8) : wlo v = (rlo v : EReal) := by
  rw [wlo, ofBits_eight, rlo, EReal.coe_sub]
  rfl
/-- The reference's high weight is a real. -/
theorem whi_eq (v : BitVec 8) : whi v = (rhi v : EReal) := by
  rw [whi, ofBits_eight, rhi, EReal.coe_sub, IntOp.shrsi, if_pos (by decide)]
  rfl

/-- The kernel's weight on a low row. -/
theorem wt_lo (r : ℕ) (v : BitVec 8) (h : r % 32 < 16) : wt r v = ((16 * rlo v : ℝ) : EReal) := by
  rw [wt, if_pos h, low_int, rlo]; push_cast; rfl
/-- The kernel's weight on a high row. -/
theorem wt_hi (r : ℕ) (v : BitVec 8) (h : ¬ r % 32 < 16) : wt r v = ((16 * rhi v : ℝ) : EReal) := by
  rw [wt, if_neg h, hiw_int, rhi]; push_cast; rfl

variable (X : Vec Ideal S768x3072 .bf16) (Nw : Vec Ideal S1x3072 .f32)

/-- The projection of token `s` of batch `b` on output column `n`, with the kernel's weights. -/
def Tf {N : ℕ} (W : (⟨3, ![N, 96, 16]⟩ : Shape).Idx → BitVec 8) (Q : (⟨1, ![N]⟩ : Shape).Idx → EReal) (b n s : ℕ) : EReal :=
  (∑ x : Fin 3072, cdf X Nw (256 * b + s) x.val * wt x.val (g3 W n (x.val / 32) (x.val % 16))) * (g1 Q n * c16) * scl X Nw (256 * b + s)

/-- The code of an activation as a real. -/
def rcd (r x : ℕ) : ℝ := (((cod X Nw r x).toInt : ℤ) : ℝ)

/-- The reference's projection is that same number. -/
theorem proj_eq {N : ℕ} (L H : FVec Ideal Cert.ReferenceIdeal.S768x1536 .bf16) (Z : FVec Ideal Cert.ReferenceIdeal.S768 .f32)
    (W : (⟨3, ![N, 96, 16]⟩ : Shape).Idx → BitVec 8) (Q : (⟨1, ![N]⟩ : Shape).Idx → EReal) (r : Fin 768) (n : Fin N) (b s : ℕ) (hr : r.val = 256 * b + s)
    (hL : ∀ (r : Fin 768) (z : Fin 1536), L (ix2 r z) = cdf X Nw r.val (32 * (z.val / 16) + z.val % 16))
    (hH : ∀ (r : Fin 768) (z : Fin 1536), H (ix2 r z) = cdf X Nw r.val (32 * (z.val / 16) + 16 + z.val % 16))
    (hZ : ∀ r : Fin 768, Z (ix1 r) = scl X Nw r.val) : proj L H Z W Q r n = Tf X Nw W Q b n.val s := by
  rw [proj, Tf, hZ, hr, g1_ix Q]
  let w : ℕ → ℝ := fun x => if x % 32 < 16 then rlo (g3 W n.val (x / 32) (x % 16)) else rhi (g3 W n.val (x / 32) (x % 16))
  have eL : (∑ x : Fin 1536, L (ix2 r x) * wlo (W (ix3 n ⟨x.val / 16, by omega⟩ ⟨x.val % 16, by omega⟩)))
      = ((∑ z : Fin 1536, rcd X Nw (256 * b + s) (32 * (z.val / 16) + z.val % 16) * w (32 * (z.val / 16) + z.val % 16) : ℝ) : EReal) := by
    rw [coe_sum]
    refine Finset.sum_congr rfl fun z _ => ?_
    rw [hL, wlo_eq, EReal.coe_mul, g3_ix W, hr]
    have e : w (32 * (z.val / 16) + z.val % 16) = rlo (g3 W n.val (z.val / 16) (z.val % 16)) := by
      show (if _ then _ else _) = _
      rw [if_pos (by omega), show (32 * (z.val / 16) + z.val % 16) / 32 = z.val / 16 by omega, show (32 * (z.val / 16) + z.val % 16) % 16 = z.val % 16 by omega]
    rw [e]
    rfl
  have eH : (∑ x : Fin 1536, H (ix2 r x) * whi (W (ix3 n ⟨x.val / 16, by omega⟩ ⟨x.val % 16, by omega⟩)))
      = ((∑ z : Fin 1536, rcd X Nw (256 * b + s) (32 * (z.val / 16) + 16 + z.val % 16) * w (32 * (z.val / 16) + 16 + z.val % 16) : ℝ) : EReal) := by
    rw [coe_sum]
    refine Finset.sum_congr rfl fun z _ => ?_
    rw [hH, whi_eq, EReal.coe_mul, g3_ix W, hr]
    have e : w (32 * (z.val / 16) + 16 + z.val % 16) = rhi (g3 W n.val (z.val / 16) (z.val % 16)) := by
      show (if _ then _ else _) = _
      rw [if_neg (by omega), show (32 * (z.val / 16) + 16 + z.val % 16) / 32 = z.val / 16 by omega, show (32 * (z.val / 16) + 16 + z.val % 16) % 16 = z.val % 16 by omega]
    rw [e]
    rfl
  have eK : (∑ x : Fin 3072, cdf X Nw (256 * b + s) x.val * wt x.val (g3 W n.val (x.val / 32) (x.val % 16)))
      = ((16 * ∑ x : Fin 3072, rcd X Nw (256 * b + s) x.val * w x.val : ℝ) : EReal) := by
    rw [Finset.mul_sum, coe_sum]
    refine Finset.sum_congr rfl fun z _ => ?_
    have e : wt z.val (g3 W n.val (z.val / 32) (z.val % 16)) = ((16 * w z.val : ℝ) : EReal) := by
      by_cases h : z.val % 32 < 16
      · rw [wt_lo _ _ h]; congr 2; exact (if_pos h).symm
      · rw [wt_hi _ _ h]; congr 2; exact (if_neg h).symm
    rw [e, mul_left_comm (16 : ℝ), EReal.coe_mul (rcd X Nw (256 * b + s) z.val)]
    rfl
  rw [eL, eH, eK, ← EReal.coe_add, ← sum_halves (fun x => rcd X Nw (256 * b + s) x * w x), c16_eq, mul_comm (g1 Q n.val), ← mul_assoc, ← EReal.coe_mul,
    show ∀ S : ℝ, 16 * S * (1 / 16) = S from fun S => by ring]
  rw [mul_assoc, mul_comm (scl X Nw _), ← mul_assoc]

/-- The rotated projection: the pair of columns of `n`, turned by the token's angle. -/
def Rf (P : Vec Ideal S3x256 .i32) (Q4 : Vec Ideal S48x128 .f32) {N : ℕ} (W : (⟨3, ![N, 96, 16]⟩ : Shape).Idx → BitVec 8) (Q : (⟨1, ![N]⟩ : Shape).Idx → EReal) (b n s : ℕ) : EReal :=
  if n % 2 = 0 then
    Tf X Nw W Q b (2 * (n / 2)) s * Ideal.cos (ang P Q4 b (n % 96 / 2) s) - Tf X Nw W Q b (2 * (n / 2) + 1) s * Ideal.sin (ang P Q4 b (n % 96 / 2) s)
  else
    Tf X Nw W Q b (2 * (n / 2)) s * Ideal.sin (ang P Q4 b (n % 96 / 2) s) + Tf X Nw W Q b (2 * (n / 2) + 1) s * Ideal.cos (ang P Q4 b (n % 96 / 2) s)

section Tile
variable {N : ℕ} (W : (⟨3, ![N, 96, 16]⟩ : Shape).Idx → BitVec 8) (Q : (⟨1, ![N]⟩ : Shape).Idx → EReal) (tile : ℕ)
  (a b : Vec Ideal S96x16x128 .i8) (ws : Vec Ideal S1x1x256 .f32)
  (ha : ∀ (i : Fin 96) (j : Fin 16) (l : Fin 128), a (ix3 i j l) = g3 W (256 * tile + l.val) i.val j.val)
  (hb : ∀ (i : Fin 96) (j : Fin 16) (l : Fin 128), b (ix3 i j l) = g3 W (256 * tile + 128 + l.val) i.val j.val)
  (hws : ∀ n : Fin 256, ws (ix3 0 0 n) = g1 Q (256 * tile + n.val))
include ha hb hws

/-- A value tile holds its columns of the projection. -/
theorem vfun_eq (bt n s : ℕ) (hbt : bt < 3) (hn : n < 256) (hs : s < 256) :
    vfun (xbV X Nw) a b ws (srV X Nw) bt n s = Tf X Nw W Q bt (256 * tile + n) s := by
  rw [vfun, tfun, Tf, srV, g2_m2 _ hbt hs]
  refine congrArg₂ (· * ·) (congrArg₂ (· * ·) ?_ ?_) rfl
  · refine Finset.sum_congr rfl fun x _ => ?_
    rw [xbV, g2_m2 _ (by omega) x.isLt]
    refine congrArg (_ * ·) ?_
    rw [wmat]
    by_cases h : n < 128
    · rw [if_pos h]
      have := (g3_ix a ⟨x.val / 32, by omega⟩ ⟨x.val % 16, by omega⟩ ⟨n, h⟩).symm.trans (ha _ _ _)
      exact congrArg _ this
    · rw [if_neg h]
      have := (g3_ix b ⟨x.val / 32, by omega⟩ ⟨x.val % 16, by omega⟩ ⟨n - 128, by omega⟩).symm.trans (hb _ _ _)
      refine congrArg _ (this.trans ?_)
      dsimp only
      rw [show 256 * tile + 128 + (n - 128) = 256 * tile + n by omega]
  · refine congrArg (· * c16) ?_
    exact (g3_ix ws 0 0 ⟨n, hn⟩).symm.trans (hws ⟨n, hn⟩)

/-- A query or key tile holds its columns of the rotated projection. -/
theorem qfun_eq (P : Vec Ideal S3x256 .i32) (Q4 : Vec Ideal S48x128 .f32) (bt n s : ℕ) (hbt : bt < 3) (hn : n < 256) (hs : s < 256) :
    qfun (xbV X Nw) a b ws (srV X Nw) (csV P Q4) (snV P Q4) tile bt n s = Rf X Nw P Q4 W Q bt (256 * tile + n) s := by
  have hr : ropeRow tile n = (256 * tile + n) % 96 / 2 := by rw [ropeRow]; omega
  have hr' : ropeRow tile n < 48 := by rw [hr]; omega
  rw [qfun, Rf, csV, snV, g3_m3 _ hbt hr' hs, g3_m3 _ hbt hr' hs, hr,
    vfun_eq X Nw W Q tile a b ws ha hb hws bt _ s hbt (by omega) hs, vfun_eq X Nw W Q tile a b ws ha hb hws bt _ s hbt (by omega) hs,
    show 256 * tile + 2 * (n / 2) = 2 * ((256 * tile + n) / 2) by omega, show 256 * tile + (2 * (n / 2) + 1) = 2 * ((256 * tile + n) / 2) + 1 by omega,
    show (256 * tile + n) % 2 = n % 2 by omega]

end Tile

end Cert.KernelIdeal.Gen

end
-- ==== Proof.KVal.lean ====
/- The kernel's output arrays after the run, at an index. -/
module

public import proofs.«01_k».proof.Proof.KHost
public import proofs.«01_k».proof.Proof.RMath

@[expose] public section

set_option maxRecDepth 16384

noncomputable section

namespace Cert.KernelIdeal.Gen

open Cert.Nat01
open Idealize.ShloMosaic Idealize.ShloMosaic.TcCoe Idealize.ShloMosaic.Tactic

variable (m : (ℓ : Loc nD τ sig) → Buf (Elt Ideal) ℓ) (c : Dev nD)

/-- The first coordinate of a point is its number. -/
theorem crd : ∀ t : Fin cfg0.N, ((grid0.coords t) 0).val = t.val := by decide +kernel

/-- A query tile. -/
theorem qt_eq (t : Fin cfg0.N) (ht : t.val < 9) (b : Fin 3) (n s : Fin 256) :
    Qt m c t (ix3 b n s) = Rf (X0 m c) (X1 m c) (X2 m c) (X3 m c) (Wq m c) (Sq m c) b.val (256 * t.val + n.val) s.val := by
  have h := qfun_eq (X0 m c) (X1 m c) (Wq m c) (Sq m c) t.val (iblk m c 4 t) (iblk m c 5 t) (iblk m c 10 t)
    (fun i j l => (iblk4 m c t i j l).trans (by rw [show min t.val 8 = t.val by omega]))
    (fun i j l => (iblk5 m c t i j l).trans (by rw [show min t.val 8 = t.val by omega]))
    (fun n => (iblk10 m c t n).trans (if_pos (by omega))) (X2 m c) (X3 m c) b.val n.val s.val b.isLt n.isLt s.isLt
  rw [← h, ← crd t]
  rfl

/-- A key tile. -/
theorem kt_eq (t : Fin cfg0.N) (ht : 9 ≤ t.val) (ht' : t.val < 12) (b : Fin 3) (n s : Fin 256) :
    Kt m c t (ix3 b n s) = Rf (X0 m c) (X1 m c) (X2 m c) (X3 m c) (Wk m c) (Sk m c) b.val (256 * (t.val - 9) + n.val) s.val := by
  have h := qfun_eq (X0 m c) (X1 m c) (Wk m c) (Sk m c) (t.val - 9) (iblk m c 6 t) (iblk m c 7 t) (iblk m c 10 t)
    (fun i j l => (iblk6 m c t i j l).trans (by rw [show min (t.val - 9) 2 = t.val - 9 by omega]))
    (fun i j l => (iblk7 m c t i j l).trans (by rw [show min (t.val - 9) 2 = t.val - 9 by omega]))
    (fun n => (iblk10 m c t n).trans (by rw [if_neg (by omega), if_pos (by omega), show 256 * t.val + n.val - 2304 = 256 * (t.val - 9) + n.val by omega]))
    (X2 m c) (X3 m c) b.val n.val s.val b.isLt n.isLt s.isLt
  rw [← h, ← crd t]
  rfl

/-- A value tile. -/
theorem vt_eq (t : Fin cfg0.N) (ht : 12 ≤ t.val) (b : Fin 3) (n s : Fin 256) :
    Vt m c t (ix3 b n s) = Tf (X0 m c) (X1 m c) (Wv m c) (Sv m c) b.val (256 * (t.val - 12) + n.val) s.val := by
  have h := vfun_eq (X0 m c) (X1 m c) (Wv m c) (Sv m c) (t.val - 12) (iblk m c 8 t) (iblk m c 9 t) (iblk m c 10 t)
    (fun i j l => iblk8 m c t i j l) (fun i j l => iblk9 m c t i j l)
    (fun n => (iblk10 m c t n).trans (by rw [if_neg (by omega), if_neg (by omega), show 256 * t.val + n.val - 3072 = 256 * (t.val - 12) + n.val by omega]))
    b.val n.val s.val b.isLt n.isLt s.isLt
  rw [← h]
  rfl

/-- The block of window 11 at a point. -/
theorem ixw11 : ∀ (t : Fin cfg0.N) (a : Fin 3), (cfg0.win 11).index t a = (![0, min t.val 8, 0] : Fin 3 → ℕ) a := by decide +kernel
/-- The queries after the run. -/
theorem fin11 : (dats m 0 c).arrAt 11 cfg0.N = (m3 (Rf (X0 m c) (X1 m c) (X2 m c) (X3 m c) (Wq m c) (Sq m c)) : S3x2304x256.Idx → EReal) := by
  refine (dats m 0 c).arrAt_eq_of_covers 11 _ (by decide +kernel) fun t hf y => ?_
  skip
  have h := fun a => (cfg0.win 11).rect_emb_val t y a
  have h0 : ((((cfg0.win 11).rect t).emb y 0 : Fin _) : ℕ) = 0 * 3 + (y 0).val := (h 0).trans (by rw [ixw11]; rfl)
  have h1 : ((((cfg0.win 11).rect t).emb y 1 : Fin _) : ℕ) = (min t.val 8) * 256 + (y 1).val := (h 1).trans (by rw [ixw11]; rfl)
  have h2 : ((((cfg0.win 11).rect t).emb y 2 : Fin _) : ℕ) = 0 * 256 + (y 2).val := (h 2).trans (by rw [ixw11]; rfl)
  have e := qt_eq m c (pt (min t.val 8) (by omega)) (show min t.val 8 < 9 by omega) (y 0) (y 1) (y 2)
  rw [after0_11]
  show Qt m c _ y = Rf (X0 m c) (X1 m c) (X2 m c) (X3 m c) (Wq m c) (Sq m c) (((cfg0.win 11).rect t).emb y 0).val (((cfg0.win 11).rect t).emb y 1).val (((cfg0.win 11).rect t).emb y 2).val
  rw [h0, h1, h2, Nat.zero_mul, Nat.zero_add, Nat.zero_add, Nat.mul_comm (min t.val 8)]
  refine Eq.trans ?_ e
  exact congrArg (Qt m c _) (eq_ix3 (n0 := 3) (n1 := 256) (n2 := 256) y)

/-- The block of window 12 at a point. -/
theorem ixw12 : ∀ (t : Fin cfg0.N) (a : Fin 3), (cfg0.win 12).index t a = (![0, min t.val 11 - 9, 0] : Fin 3 → ℕ) a := by decide +kernel
/-- Window 12 is written back only from its own points on. -/
theorem fl12 : ∀ t : Fin cfg0.N, (cfg0.win 12).flush t = true → 9 ≤ t.val := by decide +kernel
/-- The keys after the run. -/
theorem fin12 : (dats m 0 c).arrAt 12 cfg0.N = (m3 (Rf (X0 m c) (X1 m c) (X2 m c) (X3 m c) (Wk m c) (Sk m c)) : S3x768x256.Idx → EReal) := by
  refine (dats m 0 c).arrAt_eq_of_covers 12 _ (by decide +kernel) fun t hf y => ?_
  have hl := fl12 t hf
  have h := fun a => (cfg0.win 12).rect_emb_val t y a
  have h0 : ((((cfg0.win 12).rect t).emb y 0 : Fin _) : ℕ) = 0 * 3 + (y 0).val := (h 0).trans (by rw [ixw12]; rfl)
  have h1 : ((((cfg0.win 12).rect t).emb y 1 : Fin _) : ℕ) = (min t.val 11 - 9) * 256 + (y 1).val := (h 1).trans (by rw [ixw12]; rfl)
  have h2 : ((((cfg0.win 12).rect t).emb y 2 : Fin _) : ℕ) = 0 * 256 + (y 2).val := (h 2).trans (by rw [ixw12]; rfl)
  have e := kt_eq m c (pt (min t.val 11) (by omega)) (show 9 ≤ min t.val 11 by omega) (show min t.val 11 < 12 by omega) (y 0) (y 1) (y 2)
  rw [after0_12]
  show Kt m c _ y = Rf (X0 m c) (X1 m c) (X2 m c) (X3 m c) (Wk m c) (Sk m c) (((cfg0.win 12).rect t).emb y 0).val (((cfg0.win 12).rect t).emb y 1).val (((cfg0.win 12).rect t).emb y 2).val
  rw [h0, h1, h2, Nat.zero_mul, Nat.zero_add, Nat.zero_add, Nat.mul_comm (min t.val 11 - 9)]
  refine Eq.trans ?_ e
  exact congrArg (Kt m c _) (eq_ix3 (n0 := 3) (n1 := 256) (n2 := 256) y)

/-- The block of window 13 at a point. -/
theorem ixw13 : ∀ (t : Fin cfg0.N) (a : Fin 3), (cfg0.win 13).index t a = (![0, t.val - 12, 0] : Fin 3 → ℕ) a := by decide +kernel
/-- Window 13 is written back only from its own points on. -/
theorem fl13 : ∀ t : Fin cfg0.N, (cfg0.win 13).flush t = true → 12 ≤ t.val := by decide +kernel
/-- The values after the run. -/
theorem fin13 : (dats m 0 c).arrAt 13 cfg0.N = (m3 (Tf (X0 m c) (X1 m c) (Wv m c) (Sv m c)) : S3x768x256.Idx → EReal) := by
  refine (dats m 0 c).arrAt_eq_of_covers 13 _ (by decide +kernel) fun t hf y => ?_
  have hl := fl13 t hf
  have h := fun a => (cfg0.win 13).rect_emb_val t y a
  have h0 : ((((cfg0.win 13).rect t).emb y 0 : Fin _) : ℕ) = 0 * 3 + (y 0).val := (h 0).trans (by rw [ixw13]; rfl)
  have h1 : ((((cfg0.win 13).rect t).emb y 1 : Fin _) : ℕ) = (t.val - 12) * 256 + (y 1).val := (h 1).trans (by rw [ixw13]; rfl)
  have h2 : ((((cfg0.win 13).rect t).emb y 2 : Fin _) : ℕ) = 0 * 256 + (y 2).val := (h 2).trans (by rw [ixw13]; rfl)
  have e := vt_eq m c t hl (y 0) (y 1) (y 2)
  rw [after0_13]
  show Vt m c _ y = Tf (X0 m c) (X1 m c) (Wv m c) (Sv m c) (((cfg0.win 13).rect t).emb y 0).val (((cfg0.win 13).rect t).emb y 1).val (((cfg0.win 13).rect t).emb y 2).val
  rw [h0, h1, h2, Nat.zero_mul, Nat.zero_add, Nat.zero_add, Nat.mul_comm (t.val - 12)]
  refine Eq.trans ?_ e
  exact congrArg (Vt m c _) (eq_ix3 (n0 := 3) (n1 := 256) (n2 := 256) y)

/-- The codes after the run. -/
theorem fin14 : (dats m 0 c).arrAt 14 cfg0.N = (cdV (X0 m c) (X1 m c) : S768x3072.Idx → BitVec 8) := by
  have hix : ∀ (t : Fin cfg0.N) (a : Fin 2), (cfg0.win 14).index t a = 0 := by decide +kernel
  refine (dats m 0 c).arrAt_eq_of_covers 14 _ (by decide +kernel) fun t hf y => ?_
  rw [after0_14]
  show (cdV (X0 m c) (X1 m c) : S768x3072.Idx → BitVec 8) y = (cdV (X0 m c) (X1 m c) : S768x3072.Idx → BitVec 8) (((cfg0.win 14).rect t).emb y)
  congr 1
  funext a
  exact Fin.ext (Pipeline.Window.rect_emb_val_of_index_zero (cfg0.win 14) t a (hix t a) y).symm

/-- The scales after the run. -/
theorem fin15 : (dats m 0 c).arrAt 15 cfg0.N = (srV (X0 m c) (X1 m c) : S3x256.Idx → EReal) := by
  have hix : ∀ (t : Fin cfg0.N) (a : Fin 2), (cfg0.win 15).index t a = 0 := by decide +kernel
  refine (dats m 0 c).arrAt_eq_of_covers 15 _ (by decide +kernel) fun t hf y => ?_
  rw [after0_15]
  show (srV (X0 m c) (X1 m c) : S3x256.Idx → EReal) y = (srV (X0 m c) (X1 m c) : S3x256.Idx → EReal) (((cfg0.win 15).rect t).emb y)
  congr 1
  funext a
  exact Fin.ext (Pipeline.Window.rect_emb_val_of_index_zero (cfg0.win 15) t a (hix t a) y).symm

end Cert.KernelIdeal.Gen

end
-- ==== Proof.KEnd.lean ====
/- The kernel's results after the run, in closed form: the lines after the kernel read at an index. -/
module

public import proofs.«01_k».proof.Proof.KVal

@[expose] public section

set_option maxRecDepth 16384

noncomputable section

namespace Cert.KernelIdeal.Gen

open Cert.Nat01
open Idealize.ShloMosaic Idealize.ShloMosaic.TcCoe Idealize.ShloMosaic.Tactic

section Reads
/-- The queries' layout change at an index. -/
theorem lay24 (A : S3x2304x256.Idx → EReal) (b : Fin 3) (s : Fin 256) (h : Fin 24) (e : Fin 96) :
    transpose S3x256x24x96 [0, 3, 1, 2] (shapeCast S3x24x96x256 A shapeCasts_S3x2304x256_S3x24x96x256) transposes_S3x24x96x256_S3x256x24x96_0_3_1_2 (ix4 b s h e)
     = A (ix3 b (⟨h.val * 96 + e.val, by omega⟩ : Fin 2304) s) := by
  pointwise
/-- The keys' and values' layout change at an index. -/
theorem lay8 (A : S3x768x256.Idx → EReal) (b : Fin 3) (s : Fin 256) (h : Fin 8) (e : Fin 96) :
    transpose S3x256x8x96 [0, 3, 1, 2] (shapeCast S3x8x96x256 A shapeCasts_S3x768x256_S3x8x96x256) transposes_S3x8x96x256_S3x256x8x96_0_3_1_2 (ix4 b s h e)
     = A (ix3 b (⟨h.val * 96 + e.val, by omega⟩ : Fin 768) s) := by
  pointwise
/-- The codes' layout change at an index. -/
theorem layc (A : S768x3072.Idx → BitVec 8) (b : Fin 3) (s : Fin 256) (d : Fin 3072) :
    shapeCast S3x256x3072 A shapeCasts_S768x3072_S3x256x3072 (ix3 b s d) = A (ix2 (⟨b.val * 256 + s.val, by omega⟩ : Fin 768) d) := by
  pointwise
end Reads

variable (m : (ℓ : Loc nD τ sig) → Buf (Elt Ideal) ℓ) (ρ : Dev nD → PrngReg) (c : Dev nD)

/-- The queries the kernel ends with. -/
def qEnd : S3x256x24x96.Idx → EReal := fun y => Rf (X0 m c) (X1 m c) (X2 m c) (X3 m c) (Wq m c) (Sq m c) (y 0).val ((y 2).val * 96 + (y 3).val) (y 1).val
/-- The keys. -/
def kEnd : S3x256x8x96.Idx → EReal := fun y => Rf (X0 m c) (X1 m c) (X2 m c) (X3 m c) (Wk m c) (Sk m c) (y 0).val ((y 2).val * 96 + (y 3).val) (y 1).val
/-- The values. -/
def vEnd : S3x256x8x96.Idx → EReal := fun y => Tf (X0 m c) (X1 m c) (Wv m c) (Sv m c) (y 0).val ((y 2).val * 96 + (y 3).val) (y 1).val
/-- The codes. -/
def cEnd : S3x256x3072.Idx → BitVec 8 := fun y => cod (X0 m c) (X1 m c) (256 * (y 0).val + (y 1).val) (y 2).val
/-- The scales. -/
def sEnd : S3x256.Idx → EReal := fun y => scl (X0 m c) (X1 m c) (256 * (y 0).val + (y 1).val)

/-- The contents a core's buffers hold after the lines that follow the kernel. -/
abbrev tailV := Pipeline.afterTail₀ cfgs (dats m) 0 (V0 m) [hostOps1]

/-- The queries after the lines that follow the kernel. -/
theorem tail19 : (tailV m c main_v19 : S3x256x24x96.Idx → EReal) = qEnd m c := by
  have e : (tailV m c main_v19 : S3x256x24x96.Idx → EReal) = transpose S3x256x24x96 [0, 3, 1, 2] (shapeCast S3x24x96x256 ((dats m 0 c).arrAt 11 cfg0.N : S3x2304x256.Idx → EReal) shapeCasts_S3x2304x256_S3x24x96x256) transposes_S3x24x96x256_S3x256x24x96_0_3_1_2 := by
    rw [← (dats m 0 c).withArrays_arrAt sharedIn0 (V0 m c) (A_eq m c) 11]
    show StableHlo.after _ _ _ = _
    simp only [List.flatten_cons, List.flatten_nil, List.append_nil]
    after_results
    rfl
  rw [e, fin11]
  funext y
  have hy := eq_ix4 (n0 := 3) (n1 := 256) (n2 := 24) (n3 := 96) y
  rw [hy]
  exact (lay24 _ (y 0) (y 1) (y 2) (y 3)).trans rfl

/-- The keys after the lines that follow the kernel. -/
theorem tail21 : (tailV m c main_v21 : S3x256x8x96.Idx → EReal) = kEnd m c := by
  have e : (tailV m c main_v21 : S3x256x8x96.Idx → EReal) = transpose S3x256x8x96 [0, 3, 1, 2] (shapeCast S3x8x96x256 ((dats m 0 c).arrAt 12 cfg0.N : S3x768x256.Idx → EReal) shapeCasts_S3x768x256_S3x8x96x256) transposes_S3x8x96x256_S3x256x8x96_0_3_1_2 := by
    rw [← (dats m 0 c).withArrays_arrAt sharedIn0 (V0 m c) (A_eq m c) 12]
    show StableHlo.after _ _ _ = _
    simp only [List.flatten_cons, List.flatten_nil, List.append_nil]
    after_results
    rfl
  rw [e, fin12]
  funext y
  have hy := eq_ix4 (n0 := 3) (n1 := 256) (n2 := 8) (n3 := 96) y
  rw [hy]
  exact (lay8 _ (y 0) (y 1) (y 2) (y 3)).trans rfl

/-- The values after the lines that follow the kernel. -/
theorem tail23 : (tailV m c main_v23 : S3x256x8x96.Idx → EReal) = vEnd m c := by
  have e : (tailV m c main_v23 : S3x256x8x96.Idx → EReal) = transpose S3x256x8x96 [0, 3, 1, 2] (shapeCast S3x8x96x256 ((dats m 0 c).arrAt 13 cfg0.N : S3x768x256.Idx → EReal) shapeCasts_S3x768x256_S3x8x96x256) transposes_S3x8x96x256_S3x256x8x96_0_3_1_2 := by
    rw [← (dats m 0 c).withArrays_arrAt sharedIn0 (V0 m c) (A_eq m c) 13]
    show StableHlo.after _ _ _ = _
    simp only [List.flatten_cons, List.flatten_nil, List.append_nil]
    after_results
    rfl
  rw [e, fin13]
  funext y
  have hy := eq_ix4 (n0 := 3) (n1 := 256) (n2 := 8) (n3 := 96) y
  rw [hy]
  exact (lay8 _ (y 0) (y 1) (y 2) (y 3)).trans rfl

/-- The codes after the lines that follow the kernel. -/
theorem tail24 : (tailV m c main_v24 : S3x256x3072.Idx → BitVec 8) = cEnd m c := by
  have e : (tailV m c main_v24 : S3x256x3072.Idx → BitVec 8) = shapeCast S3x256x3072 ((dats m 0 c).arrAt 14 cfg0.N : S768x3072.Idx → BitVec 8) shapeCasts_S768x3072_S3x256x3072 := by
    rw [← (dats m 0 c).withArrays_arrAt sharedIn0 (V0 m c) (A_eq m c) 14]
    show StableHlo.after _ _ _ = _
    simp only [List.flatten_cons, List.flatten_nil, List.append_nil]
    after_results
    rfl
  rw [e, fin14]
  funext y
  have hy := eq_ix3 (n0 := 3) (n1 := 256) (n2 := 3072) y
  rw [hy]
  refine (layc _ (y 0) (y 1) (y 2)).trans ?_
  show cod (X0 m c) (X1 m c) ((y 0).val * 256 + (y 1).val) (y 2).val = cod (X0 m c) (X1 m c) (256 * (y 0).val + (y 1).val) (y 2).val
  rw [Nat.mul_comm]

/-- The scales after the run. -/
theorem tail15 : ((dats m 0 c).arrAt 15 cfg0.N : S3x256.Idx → EReal) = sEnd m c := by
  rw [fin15]
  rfl

/-- The kernel runs, its five results end at the closed forms above, and its arguments are unchanged. -/
theorem run_values : θ_run defs (onTc (τ := τ) (main (F := Ideal))) ⟨m, fun _ => 0, ρ⟩ (fun r => ∀ c : Dev nD,
      r.2.mem ((c.tc : Thread nD τ).loc main_v19) = qEnd m c
      ∧ r.2.mem ((c.tc : Thread nD τ).loc main_v21) = kEnd m c
      ∧ r.2.mem ((c.tc : Thread nD τ).loc main_v23) = vEnd m c
      ∧ r.2.mem ((c.tc : Thread nD τ).loc main_v24) = cEnd m c
      ∧ r.2.mem ((c.tc : Thread nD τ).loc main_v17_4) = sEnd m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h.1.rest_eq c main_v19 (by decide)).trans (tail19 m c), (h.1.rest_eq c main_v21 (by decide)).trans (tail21 m c),
      (h.1.rest_eq c main_v23 (by decide)).trans (tail23 m c), (h.1.rest_eq c main_v24 (by decide)).trans (tail24 m c),
      (h.1.out_eq c 15).trans (tail15 m c), h.2 c⟩) (θ_run_and (run_main m ρ) (unchanged m ρ))

end Cert.KernelIdeal.Gen

end
-- ==== Proof.RFin.lean ====
/- The reference's results after the run, in the same closed forms as the kernel's. -/
module

public import proofs.«01_k».proof.Proof.RMath
public import proofs.«01_k».proof.Proof.Gen.ReferenceIdeal.Frame
public import Idealize.ShloMosaic.Lib.Pipeline.ValueKit

@[expose] public section

set_option maxRecDepth 16384

noncomputable section

namespace Cert.ReferenceIdeal.Gen

open Cert.Nat01
open Idealize.ShloMosaic Idealize.ShloMosaic.TcCoe Idealize.ShloMosaic.Tactic
open Cert.KernelIdeal.Gen (scl cod cdf ang Tf Rf proj_eq)

section Out
variable (x : Vec Ideal S3x256x3072 .bf16) (w : Vec Ideal S3072 .f32) (P : Vec Ideal S3x256 .i32) (Q : Vec Ideal S48 .f32)
  (wq : Vec Ideal S2304x96x16 .i8) (sq : Vec Ideal S2304 .f32) (wk : Vec Ideal S768x96x16 .i8) (sk : Vec Ideal S768 .f32) (wv : Vec Ideal S768x96x16 .i8) (sv : Vec Ideal S768 .f32)

/-- Result 0 is its payload. -/
theorem open10 : out0_10 x w P Q wq sq wk sk wv sv = k0_pay17 (k0_pay8 (k0_pay2 x w) (k0_pay4 x w) (k0_pay5 x w) wq sq) (k0_pay14 P Q) (k0_pay15 P Q) := by
  unfold_out out0_10
  have l0 : View.ld x r0_0 = x := View.ld_unit_zero (by funext a; fin_cases a <;> rfl) _ _
  have l1 : View.ld w r0_1 = w := View.ld_unit_zero (by funext a; fin_cases a; rfl) _ _
  have l2 : View.ld P r0_2 = P := View.ld_unit_zero (by funext a; fin_cases a <;> rfl) _ _
  have l3 : View.ld Q r0_7 = Q := View.ld_unit_zero (by funext a; fin_cases a; rfl) _ _
  have l4 : View.ld wq r0_3 = wq := View.ld_unit_zero (by funext a; fin_cases a <;> rfl) _ _
  have l5 : View.ld sq r0_4 = sq := View.ld_unit_zero (by funext a; fin_cases a; rfl) _ _
  rw [l0, l1, l2, l3, l4, l5]
  exact View.canon_unit_zero (by funext a; fin_cases a <;> rfl) _ _

/-- Result 1 is its payload. -/
theorem open11 : out0_11 x w P Q wq sq wk sk wv sv = k0_pay18 (k0_pay12 (k0_pay5 x w) (k0_pay6 (k0_pay4 x w)) (k0_pay7 (k0_pay2 x w)) sk (k0_pay10 wk) (k0_pay11 wk)) (k0_pay14 P Q) (k0_pay15 P Q) := by
  unfold_out out0_11
  have l0 : View.ld x r0_0 = x := View.ld_unit_zero (by funext a; fin_cases a <;> rfl) _ _
  have l1 : View.ld w r0_1 = w := View.ld_unit_zero (by funext a; fin_cases a; rfl) _ _
  have l2 : View.ld P r0_2 = P := View.ld_unit_zero (by funext a; fin_cases a <;> rfl) _ _
  have l3 : View.ld Q r0_7 = Q := View.ld_unit_zero (by funext a; fin_cases a; rfl) _ _
  have l4 : View.ld wk r0_5 = wk := View.ld_unit_zero (by funext a; fin_cases a <;> rfl) _ _
  have l5 : View.ld sk r0_6 = sk := View.ld_unit_zero (by funext a; fin_cases a; rfl) _ _
  rw [l0, l1, l2, l3, l4, l5]
  exact View.canon_unit_zero (by funext a; fin_cases a <;> rfl) _ _

/-- Result 2 is its payload. -/
theorem open12 : out0_12 x w P Q wq sq wk sk wv sv = k0_pay19 (k0_pay13 (k0_pay5 x w) (k0_pay6 (k0_pay4 x w)) (k0_pay7 (k0_pay2 x w)) wv sv) := by
  unfold_out out0_12
  have l0 : View.ld x r0_0 = x := View.ld_unit_zero (by funext a; fin_cases a <;> rfl) _ _
  have l1 : View.ld w r0_1 = w := View.ld_unit_zero (by funext a; fin_cases a; rfl) _ _
  have l4 : View.ld wv r0_5 = wv := View.ld_unit_zero (by funext a; fin_cases a <;> rfl) _ _
  have l5 : View.ld sv r0_6 = sv := View.ld_unit_zero (by funext a; fin_cases a; rfl) _ _
  rw [l0, l1, l4, l5]
  exact View.canon_unit_zero (by funext a; fin_cases a <;> rfl) _ _

/-- Result 3 is its payload. -/
theorem open13 : out0_13 x w P Q wq sq wk sk wv sv = k0_pay3 x w := by
  unfold_out out0_13
  have l0 : View.ld x r0_0 = x := View.ld_unit_zero (by funext a; fin_cases a <;> rfl) _ _
  have l1 : View.ld w r0_1 = w := View.ld_unit_zero (by funext a; fin_cases a; rfl) _ _
  rw [l0, l1]
  exact View.canon_unit_zero (by funext a; fin_cases a <;> rfl) _ _

/-- Result 4 is its payload. -/
theorem open14 : out0_14 x w P Q wq sq wk sk wv sv = k0_pay2 x w := by
  unfold_out out0_14
  have l0 : View.ld x r0_0 = x := View.ld_unit_zero (by funext a; fin_cases a <;> rfl) _ _
  have l1 : View.ld w r0_1 = w := View.ld_unit_zero (by funext a; fin_cases a; rfl) _ _
  rw [l0, l1]
  exact View.canon_unit_zero (by funext a; fin_cases a <;> rfl) _ _

variable (X : Vec Ideal Cert.KernelIdeal.S768x3072 .bf16) (N : Vec Ideal Cert.KernelIdeal.S1x3072 .f32) (Q4 : Vec Ideal Cert.KernelIdeal.S48x128 .f32)
  (hx : ∀ b s d, x (ix3 b s d) = g2 X (256 * b.val + s.val) d.val) (hw : ∀ d, w (ix1 d) = g2 N 0 d.val) (hQ : ∀ p : Fin 48, g2 Q4 p.val 0 = Q (ix1 p))

include hQ in
/-- The angle of a token's pair. -/
theorem ang_ix (b : Fin 3) (s : Fin 256) (p : Fin 48) : FloatOps.sitofp (F := Ideal) FTy.f32 (P (ix2 b s)) * Q (ix1 p) = ang P Q4 b.val p.val s.val := by
  rw [ang, hQ, g2_ix P]

include hx hw in
/-- A projection, before any rotation. -/
theorem prj {M : ℕ} (W : (⟨3, ![M, 96, 16]⟩ : Shape).Idx → BitVec 8) (S : (⟨1, ![M]⟩ : Shape).Idx → EReal) (b : Fin 3) (s : Fin 256) (n : Fin M) (hr : b.val * 256 + s.val < 768) :
    proj (k0_pay5 x w) (k0_pay6 (k0_pay4 x w)) (k0_pay7 (k0_pay2 x w)) W S ⟨b.val * 256 + s.val, hr⟩ n = Tf X N W S b.val n.val s.val :=
  proj_eq X N _ _ _ W S _ n b.val s.val (show b.val * 256 + s.val = _ by omega) (pay5_ix x w X N hx hw) (pay6_ix x w X N hx hw) (pay7_ix x w X N hx hw)

include hx hw in
/-- The queries before the rotation. -/
theorem pre10 (b : Fin 3) (s : Fin 256) (h : Fin 24) (e : Fin 96) : k0_pay8 (k0_pay2 x w) (k0_pay4 x w) (k0_pay5 x w) wq sq (ix4 b s h e) = Tf X N wq sq b.val (h.val * 96 + e.val) s.val := by
  rw [pay8_ix]
  exact prj x w X N hx hw wq sq b s ⟨h.val * 96 + e.val, by omega⟩ (by omega)

include hx hw hQ in
/-- The reference's queries at an index. -/
theorem val10 (b : Fin 3) (s : Fin 256) (h : Fin 24) (e : Fin 96) : out0_10 x w P Q wq sq wk sk wv sv (ix4 b s h e) = Rf X N P Q4 wq sq b.val (h.val * 96 + e.val) s.val := by
  rw [open10, pay17_ix, Rf, pre10 x w wq sq X N hx hw, pre10 x w wq sq X N hx hw, pay15_ix, pay16_ix, pay14_ix, ang_ix P Q Q4 hQ]
  dsimp only
  have a1 : (h.val * 96 + e.val) % 2 = e.val % 2 := by omega
  have a2 : 2 * ((h.val * 96 + e.val) / 2) = h.val * 96 + 2 * (e.val / 2) := by omega
  have a3 : (h.val * 96 + e.val) % 96 / 2 = e.val / 2 := by omega
  rw [a1, a2, a3, Nat.add_assoc]

include hx hw in
/-- The keys before the rotation. -/
theorem pre11 (b : Fin 3) (s : Fin 256) (h : Fin 8) (e : Fin 96) : k0_pay12 (k0_pay5 x w) (k0_pay6 (k0_pay4 x w)) (k0_pay7 (k0_pay2 x w)) sk (k0_pay10 wk) (k0_pay11 wk) (ix4 b s h e) = Tf X N wk sk b.val (h.val * 96 + e.val) s.val := by
  rw [pay12_ix]
  exact prj x w X N hx hw wk sk b s ⟨h.val * 96 + e.val, by omega⟩ (by omega)

include hx hw hQ in
/-- The reference's keys at an index. -/
theorem val11 (b : Fin 3) (s : Fin 256) (h : Fin 8) (e : Fin 96) : out0_11 x w P Q wq sq wk sk wv sv (ix4 b s h e) = Rf X N P Q4 wk sk b.val (h.val * 96 + e.val) s.val := by
  rw [open11, pay18_ix, Rf, pre11 x w wk sk X N hx hw, pre11 x w wk sk X N hx hw, pay15_ix, pay16_ix, pay14_ix, ang_ix P Q Q4 hQ]
  dsimp only
  have a1 : (h.val * 96 + e.val) % 2 = e.val % 2 := by omega
  have a2 : 2 * ((h.val * 96 + e.val) / 2) = h.val * 96 + 2 * (e.val / 2) := by omega
  have a3 : (h.val * 96 + e.val) % 96 / 2 = e.val / 2 := by omega
  rw [a1, a2, a3, Nat.add_assoc]

include hx hw in
/-- The reference's values at an index. -/
theorem val12 (b : Fin 3) (s : Fin 256) (h : Fin 8) (e : Fin 96) : out0_12 x w P Q wq sq wk sk wv sv (ix4 b s h e) = Tf X N wv sv b.val (h.val * 96 + e.val) s.val := by
  rw [open12, pay19_ix, pay13_ix]
  exact prj x w X N hx hw wv sv b s ⟨h.val * 96 + e.val, by omega⟩ (by omega)

include hx hw in
/-- The reference's codes at an index. -/
theorem val13 (b : Fin 3) (s : Fin 256) (d : Fin 3072) : out0_13 x w P Q wq sq wk sk wv sv (ix3 b s d) = cod X N (256 * b.val + s.val) d.val := by
  rw [open13]
  exact pay3_ix x w X N hx hw b s d

include hx hw in
/-- The reference's scales at an index. -/
theorem val14 (b : Fin 3) (s : Fin 256) : out0_14 x w P Q wq sq wk sk wv sv (ix2 b s) = scl X N (256 * b.val + s.val) := by
  rw [open14]
  exact pay2_ix x w X N hx hw b s
end Out

variable (m : (ℓ : Loc nD τ sig) → Buf (Elt Ideal) ℓ) (c : Dev nD)

/-- Every window is its whole array. -/
theorem idx0 : ∀ (w : Fin cfg0.W) (t : Fin cfg0.N) (a : Fin (cfg0.win w).shape.rank), (cfg0.win w).index t a = 0 := by decide +kernel
/-- A point of a window's block is that point of the array. -/
theorem emb_self (w : Fin cfg0.W) (t : Fin cfg0.N) (y : ((cfg0.win w).xblock (cfg0.grid.coords t)).Idx) (a : Fin (cfg0.win w).shape.rank) :
    (((cfg0.win w).rect t).emb y a).val = (y a).val :=
  Pipeline.Window.rect_emb_val_of_index_zero (cfg0.win w) t a (idx0 w t a) y

/-- Window 0 is handed whole. -/
theorem blk0 (t : Fin cfg0.N) : (iblk m c 0 t : S3x256x3072.Idx → EReal) = m ((c : Thread nD τ).loc main_arg0) :=
  (funext fun y => congrArg (V m c main_arg0 : S3x256x3072.Idx → EReal) (funext fun a => Fin.ext (emb_self 0 t y a))).trans (V_main_arg0 m c)
/-- Window 1 is handed whole. -/
theorem blk1 (t : Fin cfg0.N) : (iblk m c 1 t : S3072.Idx → EReal) = m ((c : Thread nD τ).loc main_arg1) :=
  (funext fun y => congrArg (V m c main_arg1 : S3072.Idx → EReal) (funext fun a => Fin.ext (emb_self 1 t y a))).trans (V_main_arg1 m c)
/-- Window 2 is handed whole. -/
theorem blk2 (t : Fin cfg0.N) : (iblk m c 2 t : S3x256.Idx → BitVec 32) = m ((c : Thread nD τ).loc main_arg2) :=
  (funext fun y => congrArg (V m c main_arg2 : S3x256.Idx → BitVec 32) (funext fun a => Fin.ext (emb_self 2 t y a))).trans (V_main_arg2 m c)
/-- Window 3 is handed whole. -/
theorem blk3 (t : Fin cfg0.N) : (iblk m c 3 t : S48.Idx → EReal) = V m c main_v7 :=
  (funext fun y => congrArg (V m c main_v7 : S48.Idx → EReal) (funext fun a => Fin.ext (emb_self 3 t y a)))
/-- Window 4 is handed whole. -/
theorem blk4 (t : Fin cfg0.N) : (iblk m c 4 t : S2304x96x16.Idx → BitVec 8) = m ((c : Thread nD τ).loc main_arg3) :=
  (funext fun y => congrArg (V m c main_arg3 : S2304x96x16.Idx → BitVec 8) (funext fun a => Fin.ext (emb_self 4 t y a))).trans (V_main_arg3 m c)
/-- Window 5 is handed whole. -/
theorem blk5 (t : Fin cfg0.N) : (iblk m c 5 t : S2304.Idx → EReal) = m ((c : Thread nD τ).loc main_arg4) :=
  (funext fun y => congrArg (V m c main_arg4 : S2304.Idx → EReal) (funext fun a => Fin.ext (emb_self 5 t y a))).trans (V_main_arg4 m c)
/-- Window 6 is handed whole. -/
theorem blk6 (t : Fin cfg0.N) : (iblk m c 6 t : S768x96x16.Idx → BitVec 8) = m ((c : Thread nD τ).loc main_arg5) :=
  (funext fun y => congrArg (V m c main_arg5 : S768x96x16.Idx → BitVec 8) (funext fun a => Fin.ext (emb_self 6 t y a))).trans (V_main_arg5 m c)
/-- Window 7 is handed whole. -/
theorem blk7 (t : Fin cfg0.N) : (iblk m c 7 t : S768.Idx → EReal) = m ((c : Thread nD τ).loc main_arg6) :=
  (funext fun y => congrArg (V m c main_arg6 : S768.Idx → EReal) (funext fun a => Fin.ext (emb_self 7 t y a))).trans (V_main_arg6 m c)
/-- Window 8 is handed whole. -/
theorem blk8 (t : Fin cfg0.N) : (iblk m c 8 t : S768x96x16.Idx → BitVec 8) = m ((c : Thread nD τ).loc main_arg7) :=
  (funext fun y => congrArg (V m c main_arg7 : S768x96x16.Idx → BitVec 8) (funext fun a => Fin.ext (emb_self 8 t y a))).trans (V_main_arg7 m c)
/-- Window 9 is handed whole. -/
theorem blk9 (t : Fin cfg0.N) : (iblk m c 9 t : S768.Idx → EReal) = m ((c : Thread nD τ).loc main_arg8) :=
  (funext fun y => congrArg (V m c main_arg8 : S768.Idx → EReal) (funext fun a => Fin.ext (emb_self 9 t y a))).trans (V_main_arg8 m c)

/-- Result 0 after the run. -/
theorem arr10 : ((dats m 0 c).arrAt 10 cfg0.N : S3x256x24x96.Idx → EReal) = out0_10 (m ((c : Thread nD τ).loc main_arg0)) (m ((c : Thread nD τ).loc main_arg1)) (m ((c : Thread nD τ).loc main_arg2)) (V m c main_v7) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 10 _ (by decide +kernel) fun t hf y => ?_
  rw [after0_10, blk0, blk1, blk2, blk3, blk4, blk5, blk6, blk7, blk8, blk9]
  generalize (out0_10 (m ((c : Thread nD τ).loc main_arg0)) (m ((c : Thread nD τ).loc main_arg1)) (m ((c : Thread nD τ).loc main_arg2)) (V m c main_v7) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S3x256x24x96.Idx → EReal) = G
  show G y = G (((cfg0.win 10).rect t).emb y)
  exact congrArg G (funext fun a => Fin.ext (emb_self 10 t y a).symm)
/-- Result 1 after the run. -/
theorem arr11 : ((dats m 0 c).arrAt 11 cfg0.N : S3x256x8x96.Idx → EReal) = out0_11 (m ((c : Thread nD τ).loc main_arg0)) (m ((c : Thread nD τ).loc main_arg1)) (m ((c : Thread nD τ).loc main_arg2)) (V m c main_v7) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 11 _ (by decide +kernel) fun t hf y => ?_
  rw [after0_11, blk0, blk1, blk2, blk3, blk4, blk5, blk6, blk7, blk8, blk9]
  generalize (out0_11 (m ((c : Thread nD τ).loc main_arg0)) (m ((c : Thread nD τ).loc main_arg1)) (m ((c : Thread nD τ).loc main_arg2)) (V m c main_v7) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S3x256x8x96.Idx → EReal) = G
  show G y = G (((cfg0.win 11).rect t).emb y)
  exact congrArg G (funext fun a => Fin.ext (emb_self 11 t y a).symm)
/-- Result 2 after the run. -/
theorem arr12 : ((dats m 0 c).arrAt 12 cfg0.N : S3x256x8x96.Idx → EReal) = out0_12 (m ((c : Thread nD τ).loc main_arg0)) (m ((c : Thread nD τ).loc main_arg1)) (m ((c : Thread nD τ).loc main_arg2)) (V m c main_v7) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 12 _ (by decide +kernel) fun t hf y => ?_
  rw [after0_12, blk0, blk1, blk2, blk3, blk4, blk5, blk6, blk7, blk8, blk9]
  generalize (out0_12 (m ((c : Thread nD τ).loc main_arg0)) (m ((c : Thread nD τ).loc main_arg1)) (m ((c : Thread nD τ).loc main_arg2)) (V m c main_v7) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S3x256x8x96.Idx → EReal) = G
  show G y = G (((cfg0.win 12).rect t).emb y)
  exact congrArg G (funext fun a => Fin.ext (emb_self 12 t y a).symm)
/-- Result 3 after the run. -/
theorem arr13 : ((dats m 0 c).arrAt 13 cfg0.N : S3x256x3072.Idx → BitVec 8) = out0_13 (m ((c : Thread nD τ).loc main_arg0)) (m ((c : Thread nD τ).loc main_arg1)) (m ((c : Thread nD τ).loc main_arg2)) (V m c main_v7) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  rw [after0_13, blk0, blk1, blk2, blk3, blk4, blk5, blk6, blk7, blk8, blk9]
  generalize (out0_13 (m ((c : Thread nD τ).loc main_arg0)) (m ((c : Thread nD τ).loc main_arg1)) (m ((c : Thread nD τ).loc main_arg2)) (V m c main_v7) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S3x256x3072.Idx → BitVec 8) = G
  show G y = G (((cfg0.win 13).rect t).emb y)
  exact congrArg G (funext fun a => Fin.ext (emb_self 13 t y a).symm)
/-- Result 4 after the run. -/
theorem arr14 : ((dats m 0 c).arrAt 14 cfg0.N : S3x256.Idx → EReal) = out0_14 (m ((c : Thread nD τ).loc main_arg0)) (m ((c : Thread nD τ).loc main_arg1)) (m ((c : Thread nD τ).loc main_arg2)) (V m c main_v7) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 14 _ (by decide +kernel) fun t hf y => ?_
  rw [after0_14, blk0, blk1, blk2, blk3, blk4, blk5, blk6, blk7, blk8, blk9]
  generalize (out0_14 (m ((c : Thread nD τ).loc main_arg0)) (m ((c : Thread nD τ).loc main_arg1)) (m ((c : Thread nD τ).loc main_arg2)) (V m c main_v7) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) : S3x256.Idx → EReal) = G
  show G y = G (((cfg0.win 14).rect t).emb y)
  exact congrArg G (funext fun a => Fin.ext (emb_self 14 t y a).symm)

end Cert.ReferenceIdeal.Gen

end
-- ==== Proof.Final.lean ====
/- The kernel and the reference, from memories that agree on the arguments, end with the same five results. -/
module

public import proofs.«01_k».proof.Defs
public import proofs.«01_k».proof.Proof.KEnd
public import proofs.«01_k».proof.Proof.RFin

@[expose] public section

set_option maxRecDepth 16384

noncomputable section

namespace Cert.Final

open Cert.Nat01
open Idealize.ShloMosaic Idealize.ShloMosaic.TcCoe Idealize.ShloMosaic.Tactic
open Cert.KernelIdeal.Gen (X0 X1 X2 X3 X0_ix X1_ix X2_eq X3_ix frq Wq Sq Wk Sk Wv Sv qEnd kEnd vEnd cEnd sEnd)

/-- The reference computes the same frequencies. -/
theorem freq (m' : (ℓ : Loc Cert.ReferenceIdeal.nD Cert.ReferenceIdeal.τ Cert.ReferenceIdeal.sig) → Buf (Elt Ideal) ℓ) (c : Dev Cert.ReferenceIdeal.nD) :
    (Cert.ReferenceIdeal.Gen.V m' c Cert.ReferenceIdeal.main_v7 : Cert.ReferenceIdeal.S48.Idx → EReal) = frq := by
  show StableHlo.after _ _ _ = _
  after_results
  rfl

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD)

/-- The two memories hold the same arguments on core `c`. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
    ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
    ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
    ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)

/-- Result 0 of the reference is the kernel's. -/
theorem res10 (h : Agree m m' c) : ((Cert.ReferenceIdeal.Gen.dats m' 0 c).arrAt 10 Cert.ReferenceIdeal.cfg0.N : Cert.ReferenceIdeal.S3x256x24x96.Idx → EReal) = qEnd m c := by
  obtain ⟨h0, h1, h2, h3, h4, h5, h6, h7, h8⟩ := h
  rw [Cert.ReferenceIdeal.Gen.arr10, freq, h0, h1, h2, h3, h4, h5, h6, h7, h8, ← X2_eq m c]
  funext y
  have hy := eq_ix4 (n0 := 3) (n1 := 256) (n2 := 24) (n3 := 96) y
  rw [hy]
  exact Cert.ReferenceIdeal.Gen.val10 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (X2 m c) frq (Wq m c) (Sq m c) (Wk m c) (Sk m c) (Wv m c) (Sv m c) (X0 m c) (X1 m c) (X3 m c) (X0_ix m c) (X1_ix m c) (X3_ix m c) (y 0) (y 1) (y 2) (y 3)

/-- Result 1 of the reference is the kernel's. -/
theorem res11 (h : Agree m m' c) : ((Cert.ReferenceIdeal.Gen.dats m' 0 c).arrAt 11 Cert.ReferenceIdeal.cfg0.N : Cert.ReferenceIdeal.S3x256x8x96.Idx → EReal) = kEnd m c := by
  obtain ⟨h0, h1, h2, h3, h4, h5, h6, h7, h8⟩ := h
  rw [Cert.ReferenceIdeal.Gen.arr11, freq, h0, h1, h2, h3, h4, h5, h6, h7, h8, ← X2_eq m c]
  funext y
  have hy := eq_ix4 (n0 := 3) (n1 := 256) (n2 := 8) (n3 := 96) y
  rw [hy]
  exact Cert.ReferenceIdeal.Gen.val11 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (X2 m c) frq (Wq m c) (Sq m c) (Wk m c) (Sk m c) (Wv m c) (Sv m c) (X0 m c) (X1 m c) (X3 m c) (X0_ix m c) (X1_ix m c) (X3_ix m c) (y 0) (y 1) (y 2) (y 3)

/-- Result 2 of the reference is the kernel's. -/
theorem res12 (h : Agree m m' c) : ((Cert.ReferenceIdeal.Gen.dats m' 0 c).arrAt 12 Cert.ReferenceIdeal.cfg0.N : Cert.ReferenceIdeal.S3x256x8x96.Idx → EReal) = vEnd m c := by
  obtain ⟨h0, h1, h2, h3, h4, h5, h6, h7, h8⟩ := h
  rw [Cert.ReferenceIdeal.Gen.arr12, freq, h0, h1, h2, h3, h4, h5, h6, h7, h8, ← X2_eq m c]
  funext y
  have hy := eq_ix4 (n0 := 3) (n1 := 256) (n2 := 8) (n3 := 96) y
  rw [hy]
  exact Cert.ReferenceIdeal.Gen.val12 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (X2 m c) frq (Wq m c) (Sq m c) (Wk m c) (Sk m c) (Wv m c) (Sv m c) (X0 m c) (X1 m c) (X0_ix m c) (X1_ix m c) (y 0) (y 1) (y 2) (y 3)

/-- Result 3 of the reference is the kernel's. -/
theorem res13 (h : Agree m m' c) : ((Cert.ReferenceIdeal.Gen.dats m' 0 c).arrAt 13 Cert.ReferenceIdeal.cfg0.N : Cert.ReferenceIdeal.S3x256x3072.Idx → BitVec 8) = cEnd m c := by
  obtain ⟨h0, h1, h2, h3, h4, h5, h6, h7, h8⟩ := h
  rw [Cert.ReferenceIdeal.Gen.arr13, freq, h0, h1, h2, h3, h4, h5, h6, h7, h8, ← X2_eq m c]
  funext y
  have hy := eq_ix3 (n0 := 3) (n1 := 256) (n2 := 3072) y
  rw [hy]
  exact Cert.ReferenceIdeal.Gen.val13 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (X2 m c) frq (Wq m c) (Sq m c) (Wk m c) (Sk m c) (Wv m c) (Sv m c) (X0 m c) (X1 m c) (X0_ix m c) (X1_ix m c) (y 0) (y 1) (y 2)

/-- Result 4 of the reference is the kernel's. -/
theorem res14 (h : Agree m m' c) : ((Cert.ReferenceIdeal.Gen.dats m' 0 c).arrAt 14 Cert.ReferenceIdeal.cfg0.N : Cert.ReferenceIdeal.S3x256.Idx → EReal) = sEnd m c := by
  obtain ⟨h0, h1, h2, h3, h4, h5, h6, h7, h8⟩ := h
  rw [Cert.ReferenceIdeal.Gen.arr14, freq, h0, h1, h2, h3, h4, h5, h6, h7, h8, ← X2_eq m c]
  funext y
  have hy := eq_ix2 (n0 := 3) (n1 := 256) y
  rw [hy]
  exact Cert.ReferenceIdeal.Gen.val14 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (X2 m c) frq (Wq m c) (Sq m c) (Wk m c) (Sk m c) (Wv m c) (Sv m c) (X0 m c) (X1 m c) (X0_ix m c) (X1_ix m c) (y 0) (y 1)

/-- The idealized kernel and the reference end with equal results and unchanged arguments. -/
theorem algebraic : Cert.algebraic_KernelIdeal_ReferenceIdeal (hKernelIdeal := Cert.KernelIdeal.Gen.facts) (hReferenceIdeal := Cert.ReferenceIdeal.Gen.facts) := by
  intro m g m' g' _ hag
  refine ⟨qEnd m, kEnd m, vEnd m, cEnd m, sEnd m, Cert.KernelIdeal.Gen.run_values m g, ?_⟩
  exact (θ_run _ _ _).mono (fun _ h c =>
    ⟨(h.1.out_eq c 10).trans (res10 m m' c (hag c)), (h.1.out_eq c 11).trans (res11 m m' c (hag c)), (h.1.out_eq c 12).trans (res12 m m' c (hag c)),
      (h.1.out_eq c 13).trans (res13 m m' c (hag c)), (h.1.out_eq c 14).trans (res14 m m' c (hag c)), h.2 c⟩)
    (θ_run_and (Cert.ReferenceIdeal.Gen.run_main m' g') (Cert.ReferenceIdeal.Gen.unchanged m' g'))

end Cert.Final

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.FrameK
public import proofs.«01_k».proof.Proof.FrameI
public import proofs.«01_k».proof.Proof.Final
public import Idealize.ShloMosaic.Lib.Bf16Pair
public import Idealize.ShloMosaic.Adequacy
public import Idealize.ShloMosaic.Init

@[expose] public section

noncomputable section

namespace Cert.Proof

open Idealize Idealize.ShloMosaic Idealize.SL.Sem

/-- Every claim: the three frames, the soundness of the packed-pair rewriting, and the equality of the kernel's five
    results with the reference's. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  ⟨IdealRules.bf16_pair.packStatement _, IdealRules.bf16_pair.statement _ _⟩,
  Cert.Final.algebraic⟩

end Cert.Proof

end
